-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv_d" .f32 0x39AAAAAB#32 ((1 / 3072 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)) (v3 : (c : Dev Cert.KernelIdeal.nD) → Buf (Elt Ideal) ((c.tc : Thread Cert.KernelIdeal.nD Cert.KernelIdeal.τ).loc Cert.KernelIdeal.main_v15_3)) (v4 : (c : Dev Cert.KernelIdeal.nD) → Buf (Elt Ideal) ((c.tc : Thread Cert.KernelIdeal.nD Cert.KernelIdeal.τ).loc Cert.KernelIdeal.main_v15_4)) (v5 : (c : Dev Cert.KernelIdeal.nD) → Buf (Elt Ideal) ((c.tc : Thread Cert.KernelIdeal.nD Cert.KernelIdeal.τ).loc Cert.KernelIdeal.main_v15_5)) (v6 : (c : Dev Cert.KernelIdeal.nD) → Buf (Elt Ideal) ((c.tc : Thread Cert.KernelIdeal.nD Cert.KernelIdeal.τ).loc Cert.KernelIdeal.main_v15_6)) (v7 : (c : Dev Cert.KernelIdeal.nD) → Buf (Elt Ideal) ((c.tc : Thread Cert.KernelIdeal.nD Cert.KernelIdeal.τ).loc Cert.KernelIdeal.main_v15_7)) (v8 : (c : Dev Cert.KernelIdeal.nD) → Buf (Elt Ideal) ((c.tc : Thread Cert.KernelIdeal.nD Cert.KernelIdeal.τ).loc Cert.KernelIdeal.main_v15_8)) (v9 : (c : Dev Cert.KernelIdeal.nD) → Buf (Elt Ideal) ((c.tc : Thread Cert.KernelIdeal.nD Cert.KernelIdeal.τ).loc Cert.KernelIdeal.main_v15_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_v15_3) = v3 c
          ∧ r.2.mem ((c.tc : Thread Cert.KernelIdeal.nD Cert.KernelIdeal.τ).loc Cert.KernelIdeal.main_v15_4) = v4 c
          ∧ r.2.mem ((c.tc : Thread Cert.KernelIdeal.nD Cert.KernelIdeal.τ).loc Cert.KernelIdeal.main_v15_5) = v5 c
          ∧ r.2.mem ((c.tc : Thread Cert.KernelIdeal.nD Cert.KernelIdeal.τ).loc Cert.KernelIdeal.main_v15_6) = v6 c
          ∧ r.2.mem ((c.tc : Thread Cert.KernelIdeal.nD Cert.KernelIdeal.τ).loc Cert.KernelIdeal.main_v15_7) = v7 c
          ∧ r.2.mem ((c.tc : Thread Cert.KernelIdeal.nD Cert.KernelIdeal.τ).loc Cert.KernelIdeal.main_v15_8) = v8 c
          ∧ r.2.mem ((c.tc : Thread Cert.KernelIdeal.nD Cert.KernelIdeal.τ).loc Cert.KernelIdeal.main_v15_9) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14_0) = v0 c
          ∧ r.2.mem ((c.tc : Thread Cert.ReferenceIdeal.nD Cert.ReferenceIdeal.τ).loc Cert.ReferenceIdeal.main_v14_1) = v1 c
          ∧ r.2.mem ((c.tc : Thread Cert.ReferenceIdeal.nD Cert.ReferenceIdeal.τ).loc Cert.ReferenceIdeal.main_v14_2) = v2 c
          ∧ r.2.mem ((c.tc : Thread Cert.ReferenceIdeal.nD Cert.ReferenceIdeal.τ).loc Cert.ReferenceIdeal.main_v14_3) = v3 c
          ∧ r.2.mem ((c.tc : Thread Cert.ReferenceIdeal.nD Cert.ReferenceIdeal.τ).loc Cert.ReferenceIdeal.main_v14_4) = v4 c
          ∧ r.2.mem ((c.tc : Thread Cert.ReferenceIdeal.nD Cert.ReferenceIdeal.τ).loc Cert.ReferenceIdeal.main_v14_5) = v5 c
          ∧ r.2.mem ((c.tc : Thread Cert.ReferenceIdeal.nD Cert.ReferenceIdeal.τ).loc Cert.ReferenceIdeal.main_v14_6) = v6 c
          ∧ r.2.mem ((c.tc : Thread Cert.ReferenceIdeal.nD Cert.ReferenceIdeal.τ).loc Cert.ReferenceIdeal.main_v14_7) = v7 c
          ∧ r.2.mem ((c.tc : Thread Cert.ReferenceIdeal.nD Cert.ReferenceIdeal.τ).loc Cert.ReferenceIdeal.main_v14_8) = v8 c
          ∧ r.2.mem ((c.tc : Thread Cert.ReferenceIdeal.nD Cert.ReferenceIdeal.τ).loc Cert.ReferenceIdeal.main_v14_9) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x512x3072 : Shape := ⟨3, ![16, 512, 3072]⟩
abbrev S16x512 : Shape := ⟨2, ![16, 512]⟩
abbrev S3072 : Shape := ⟨1, ![3072]⟩
abbrev S3072x21504 : Shape := ⟨2, ![3072, 21504]⟩
abbrev S21504 : Shape := ⟨1, ![21504]⟩
abbrev S8192x3072 : Shape := ⟨2, ![8192, 3072]⟩
abbrev S64 : Shape := ⟨1, ![64]⟩
abbrev S_ : Shape := ⟨0, ![]⟩
abbrev S128 : Shape := ⟨1, ![128]⟩
abbrev S1x128 : Shape := ⟨2, ![1, 128]⟩
abbrev S16x1x512 : Shape := ⟨3, ![16, 1, 512]⟩
abbrev S1x21504 : Shape := ⟨2, ![1, 21504]⟩
abbrev S1x3072 : Shape := ⟨2, ![1, 3072]⟩
abbrev S8192x1024 : Shape := ⟨2, ![8192, 1024]⟩
abbrev S8192x8 : Shape := ⟨2, ![8192, 8]⟩
abbrev S8192x8192 : Shape := ⟨2, ![8192, 8192]⟩
abbrev S512x3072 : Shape := ⟨2, ![512, 3072]⟩
abbrev S1x1x512 : Shape := ⟨3, ![1, 1, 512]⟩
abbrev S3072x512 : Shape := ⟨2, ![3072, 512]⟩
abbrev S8192x512 : Shape := ⟨2, ![8192, 512]⟩
abbrev S1x512 : Shape := ⟨2, ![1, 512]⟩
abbrev S512x512 : Shape := ⟨2, ![512, 512]⟩
abbrev S512x8 : Shape := ⟨2, ![512, 8]⟩
abbrev S512x8192 : Shape := ⟨2, ![512, 8192]⟩
abbrev S16x512x512 : Shape := ⟨3, ![16, 512, 512]⟩
abbrev S512x128 : Shape := ⟨2, ![512, 128]⟩
abbrev S64x3072 : Shape := ⟨2, ![64, 3072]⟩
abbrev S64x1 : Shape := ⟨2, ![64, 1]⟩
abbrev S64x128 : Shape := ⟨2, ![64, 128]⟩
abbrev S128x128 : Shape := ⟨2, ![128, 128]⟩
abbrev S512x1 : Shape := ⟨2, ![512, 1]⟩
abbrev S1x512x512 : Shape := ⟨3, ![1, 512, 512]⟩
abbrev S512 : Shape := ⟨1, ![512]⟩

abbrev nBuf : Space → Nat
  | .hbm => 35
  | .vmem => 48
  | .smem => 0
  | _ => 0

abbrev bufTy : (tb : Table) → Fin (tcTables nBuf tb) → BufTy
  | .hbm, ⟨0, _⟩ => ⟨S16x512x3072, .bf16⟩
  | .hbm, ⟨1, _⟩ => ⟨S16x512, .i32⟩
  | .hbm, ⟨2, _⟩ => ⟨S3072, .f32⟩
  | .hbm, ⟨3, _⟩ => ⟨S3072x21504, .fp8e4m3⟩
  | .hbm, ⟨4, _⟩ => ⟨S21504, .f32⟩
  | .hbm, ⟨5, _⟩ => ⟨S8192x3072, .fp8e4m3⟩
  | .hbm, ⟨6, _⟩ => ⟨S3072, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S128, .f32⟩
  | .hbm, ⟨19, _⟩ => ⟨S1x128, .f32⟩
  | .hbm, ⟨20, _⟩ => ⟨S8192x3072, .bf16⟩
  | .hbm, ⟨21, _⟩ => ⟨S16x1x512, .i32⟩
  | .hbm, ⟨22, _⟩ => ⟨S1x21504, .f32⟩
  | .hbm, ⟨23, _⟩ => ⟨S1x3072, .f32⟩
  | .hbm, ⟨24, _⟩ => ⟨S1x3072, .f32⟩
  | .hbm, ⟨25, _⟩ => ⟨S8192x3072, .bf16⟩
  | .hbm, ⟨26, _⟩ => ⟨S8192x3072, .bf16⟩
  | .hbm, ⟨27, _⟩ => ⟨S8192x3072, .fp8e4m3⟩
  | .hbm, ⟨28, _⟩ => ⟨S16x1x512, .f32⟩
  | .hbm, ⟨29, _⟩ => ⟨S8192x1024, .fp8e4m3⟩
  | .hbm, ⟨30, _⟩ => ⟨S8192x8, .f32⟩
  | .hbm, ⟨31, _⟩ => ⟨S8192x1024, .fp8e4m3⟩
  | .hbm, ⟨32, _⟩ => ⟨S8192x8, .f32⟩
  | .hbm, ⟨33, _⟩ => ⟨S8192x8192, .fp8e4m3⟩
  | .hbm, ⟨34, _⟩ => ⟨S16x1x512, .f32⟩
  | .local _ .vmem, ⟨0, _⟩ => ⟨S512x3072, .bf16⟩
  | .local _ .vmem, ⟨1, _⟩ => ⟨S512x3072, .bf16⟩
  | .local _ .vmem, ⟨2, _⟩ => ⟨S1x1x512, .i32⟩
  | .local _ .vmem, ⟨3, _⟩ => ⟨S1x1x512, .i32⟩
  | .local _ .vmem, ⟨4, _⟩ => ⟨S1x128, .f32⟩
  | .local _ .vmem, ⟨5, _⟩ => ⟨S1x3072, .f32⟩
  | .local _ .vmem, ⟨6, _⟩ => ⟨S3072x512, .fp8e4m3⟩
  | .local _ .vmem, ⟨7, _⟩ => ⟨S3072x512, .fp8e4m3⟩
  | .local _ .vmem, ⟨8, _⟩ => ⟨S3072x512, .fp8e4m3⟩
  | .local _ .vmem, ⟨9, _⟩ => ⟨S3072x512, .fp8e4m3⟩
  | .local _ .vmem, ⟨10, _⟩ => ⟨S3072x512, .fp8e4m3⟩
  | .local _ .vmem, ⟨11, _⟩ => ⟨S3072x512, .fp8e4m3⟩
  | .local _ .vmem, ⟨12, _⟩ => ⟨S8192x512, .fp8e4m3⟩
  | .local _ .vmem, ⟨13, _⟩ => ⟨S8192x512, .fp8e4m3⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x3072, .fp8e4m3⟩
  | .local _ .vmem, ⟨27, _⟩ => ⟨S512x3072, .fp8e4m3⟩
  | .local _ .vmem, ⟨28, _⟩ => ⟨S1x1x512, .f32⟩
  | .local _ .vmem, ⟨29, _⟩ => ⟨S1x1x512, .f32⟩
  | .local _ .vmem, ⟨30, _⟩ => ⟨S512x512, .fp8e4m3⟩
  | .local _ .vmem, ⟨31, _⟩ => ⟨S512x512, .fp8e4m3⟩
  | .local _ .vmem, ⟨32, _⟩ => ⟨S512x8, .f32⟩
  | .local _ .vmem, ⟨33, _⟩ => ⟨S512x8, .f32⟩
  | .local _ .vmem, ⟨34, _⟩ => ⟨S512x512, .fp8e4m3⟩
  | .local _ .vmem, ⟨35, _⟩ => ⟨S512x512, .fp8e4m3⟩
  | .local _ .vmem, ⟨36, _⟩ => ⟨S512x8, .f32⟩
  | .local _ .vmem, ⟨37, _⟩ => ⟨S512x8, .f32⟩
  | .local _ .vmem, ⟨38, _⟩ => ⟨S512x8192, .fp8e4m3⟩
  | .local _ .vmem, ⟨39, _⟩ => ⟨S512x8192, .fp8e4m3⟩
  | .local _ .vmem, ⟨40, _⟩ => ⟨S1x1x512, .f32⟩
  | .local _ .vmem, ⟨41, _⟩ => ⟨S1x1x512, .f32⟩
  | .local _ .vmem, ⟨42, _⟩ => ⟨S16x512x512, .f32⟩
  | .local _ .vmem, ⟨43, _⟩ => ⟨S512x128, .f32⟩
  | .local _ .vmem, ⟨44, _⟩ => ⟨S512x128, .f32⟩
  | .local _ .vmem, ⟨45, _⟩ => ⟨S512x128, .f32⟩
  | .local _ .vmem, ⟨46, _⟩ => ⟨S512x128, .f32⟩
  | .local _ .vmem, ⟨47, _⟩ => ⟨S512x128, .f32⟩
  | _, _ => ⟨S16x512x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev main_v15_3 : Ref sig .tc := ⟨.hbm, 28, rfl⟩
abbrev main_v15_4 : Ref sig .tc := ⟨.hbm, 29, rfl⟩
abbrev main_v15_5 : Ref sig .tc := ⟨.hbm, 30, rfl⟩
abbrev main_v15_6 : Ref sig .tc := ⟨.hbm, 31, rfl⟩
abbrev main_v15_7 : Ref sig .tc := ⟨.hbm, 32, rfl⟩
abbrev main_v15_8 : Ref sig .tc := ⟨.hbm, 33, rfl⟩
abbrev main_v15_9 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg20_1 : Ref sig .tc := ⟨.vmem, 39, rfl⟩
abbrev cc0_stg21_0 : Ref sig .tc := ⟨.vmem, 40, rfl⟩
abbrev cc0_stg21_1 : Ref sig .tc := ⟨.vmem, 41, rfl⟩
abbrev cc0_scratch0 : Ref sig .tc := ⟨.vmem, 42, rfl⟩
abbrev cc0_scratch1 : Ref sig .tc := ⟨.vmem, 43, rfl⟩
abbrev cc0_scratch2 : Ref sig .tc := ⟨.vmem, 44, rfl⟩
abbrev cc0_scratch3 : Ref sig .tc := ⟨.vmem, 45, rfl⟩
abbrev cc0_scratch4 : Ref sig .tc := ⟨.vmem, 46, rfl⟩
abbrev cc0_scratch5 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38
abbrev cc0_sem20_1 : DmaSem sig := 39
abbrev cc0_sem21_0 : DmaSem sig := 40
abbrev cc0_sem21_1 : DmaSem sig := 41

abbrev nD : Nat := 1
abbrev τ : Topo := Topo.v7x

variable {F : FTy → Type} [FloatOps F]

abbrev grid0 : Pipeline.Grid := ⟨2, ![16, 32], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_12 : BitVec 32 := 0#32
  let c8_i32 : BitVec 32 := 8#32
  let v27 : BitVec 32 := Scalar.addi c0_i32_12 c8_i32
  let c1_i32 : BitVec 32 := 1#32
  ⟨c0_i32_12, v27, c1_i32⟩
def k0_off1 (k0_t1 : Fin k0_t1_loop.trips) : Fin 2 → Nat :=
  let c0_i32_12 : BitVec 32 := 0#32
  let c1_i32 : BitVec 32 := 1#32
  let arg30 : BitVec 32 := Scf.iv c0_i32_12 c1_i32 k0_t1
  let c64_i32_51 : BitVec 32 := 64#32
  let v139 : BitVec 32 := Scalar.muli arg30 c64_i32_51
  let v140 : Index := Scalar.indexCast v139
  let c0_52 : Index := 0#32
  ![v140.toNat, 0]
def k0_off2 (k0_t1 : Fin k0_t1_loop.trips) : Fin 2 → Nat :=
  let c0_i32_12 : BitVec 32 := 0#32
  let c1_i32 : BitVec 32 := 1#32
  let arg30 : BitVec 32 := Scf.iv c0_i32_12 c1_i32 k0_t1
  let c64_i32_51 : BitVec 32 := 64#32
  let v139 : BitVec 32 := Scalar.muli arg30 c64_i32_51
  let v234 : Index := Scalar.indexCast v139
  let c0_69 : Index := 0#32
  ![v234.toNat, 0]
def k0_cond2 (i : grid0.Coords) : BitVec 1 :=
  let arg1 : BitVec 32 := BitVec.ofNat 32 (i 1).val
  let c16_i32 : BitVec 32 := 16#32
  let v3 : BitVec 1 := Scalar.cmpi .slt arg1 c16_i32
  let v4 : BitVec 32 := Scalar.extui v3
  let c0_i32_1 : BitVec 32 := 0#32
  let v5 : BitVec 1 := Scalar.cmpi .ne v4 c0_i32_1
  v5

def k0_off3 (i : grid0.Coords) : Fin 3 → Nat :=
  let arg1 : BitVec 32 := BitVec.ofNat 32 (i 1).val
  let v52 : Index := Scalar.indexCast arg1
  let c0_28 : Index := 0#32
  let c0_29 : Index := 0#32
  ![v52.toNat, 0, 0]
def k0_cond3 (i : grid0.Coords) : BitVec 1 :=
  let arg1 : BitVec 32 := BitVec.ofNat 32 (i 1).val
  let c16_i32_2 : BitVec 32 := 16#32
  let v6 : BitVec 1 := Scalar.cmpi .sge arg1 c16_i32_2
  let c22_i32 : BitVec 32 := 22#32
  let v7 : BitVec 1 := Scalar.cmpi .slt arg1 c22_i32
  let v8 : BitVec 1 := Scalar.andi v6 v7
  let v9 : BitVec 32 := Scalar.extui v8
  let c0_i32_3 : BitVec 32 := 0#32
  let v10 : BitVec 1 := Scalar.cmpi .ne v9 c0_i32_3
  v10

def k0_cond7 (i : grid0.Coords) : BitVec 1 :=
  let arg1 : BitVec 32 := BitVec.ofNat 32 (i 1).val
  let c26_i32_10 : BitVec 32 := 26#32
  let v24 : BitVec 1 := Scalar.cmpi .sge arg1 c26_i32_10
  let v25 : BitVec 32 := Scalar.extui v24
  let c0_i32_11 : BitVec 32 := 0#32
  let v26 : BitVec 1 := Scalar.cmpi .ne v25 c0_i32_11
  v26

def k0_cond8 (i : grid0.Coords) : BitVec 1 :=
  let arg1 : BitVec 32 := BitVec.ofNat 32 (i 1).val
  let c26_i32_19 : BitVec 32 := 26#32
  let v38 : BitVec 1 := Scalar.cmpi .eq arg1 c26_i32_19
  let v39 : BitVec 32 := Scalar.extui v38
  let c0_i32_20 : BitVec 32 := 0#32
  let v40 : BitVec 1 := Scalar.cmpi .ne v39 c0_i32_20
  v40

def k0_cond9 (i : grid0.Coords) : BitVec 1 :=
  let arg1 : BitVec 32 := BitVec.ofNat 32 (i 1).val
  let c27_i32 : BitVec 32 := 27#32
  let v41 : BitVec 1 := Scalar.cmpi .eq arg1 c27_i32
  let v42 : BitVec 32 := Scalar.extui v41
  let c0_i32_21 : BitVec 32 := 0#32
  let v43 : BitVec 1 := Scalar.cmpi .ne v42 c0_i32_21
  v43

def k0_cond10 (i : grid0.Coords) : BitVec 1 :=
  let arg1 : BitVec 32 := BitVec.ofNat 32 (i 1).val
  let c28_i32 : BitVec 32 := 28#32
  let v44 : BitVec 1 := Scalar.cmpi .eq arg1 c28_i32
  let v45 : BitVec 32 := Scalar.extui v44
  let c0_i32_22 : BitVec 32 := 0#32
  let v46 : BitVec 1 := Scalar.cmpi .ne v45 c0_i32_22
  v46

def k0_cond11 (i : grid0.Coords) : BitVec 1 :=
  let arg1 : BitVec 32 := BitVec.ofNat 32 (i 1).val
  let c29_i32 : BitVec 32 := 29#32
  let v47 : BitVec 1 := Scalar.cmpi .eq arg1 c29_i32
  let v48 : BitVec 32 := Scalar.extui v47
  let c0_i32_23 : BitVec 32 := 0#32
  let v49 : BitVec 1 := Scalar.cmpi .ne v48 c0_i32_23
  v49

def k0_cond12 (i : grid0.Coords) : BitVec 1 :=
  let arg1 : BitVec 32 := BitVec.ofNat 32 (i 1).val
  let c30_i32 : BitVec 32 := 30#32
  let v50 : BitVec 1 := Scalar.cmpi .eq arg1 c30_i32
  let v51 : BitVec 32 := Scalar.extui v50
  let c0_i32_24 : BitVec 32 := 0#32
  let v52 : BitVec 1 := Scalar.cmpi .ne v51 c0_i32_24
  v52

def k0_cond13 (i : grid0.Coords) : BitVec 1 :=
  let arg1 : BitVec 32 := BitVec.ofNat 32 (i 1).val
  let c31_i32 : BitVec 32 := 31#32
  let v53 : BitVec 1 := Scalar.cmpi .eq arg1 c31_i32
  let v54 : BitVec 32 := Scalar.extui v53
  let c0_i32_25 : BitVec 32 := 0#32
  let v55 : BitVec 1 := Scalar.cmpi .ne v54 c0_i32_25
  v55

def k0_cond4 (i : grid0.Coords) : BitVec 1 :=
  let arg1 : BitVec 32 := BitVec.ofNat 32 (i 1).val
  let c22_i32_4 : BitVec 32 := 22#32
  let v11 : BitVec 1 := Scalar.cmpi .sge arg1 c22_i32_4
  let c24_i32 : BitVec 32 := 24#32
  let v12 : BitVec 1 := Scalar.cmpi .slt arg1 c24_i32
  let v13 : BitVec 1 := Scalar.andi v11 v12
  let v14 : BitVec 32 := Scalar.extui v13
  let c0_i32_5 : BitVec 32 := 0#32
  let v15 : BitVec 1 := Scalar.cmpi .ne v14 c0_i32_5
  v15

def k0_cond5 (i : grid0.Coords) : BitVec 1 :=
  let arg1 : BitVec 32 := BitVec.ofNat 32 (i 1).val
  let c24_i32_6 : BitVec 32 := 24#32
  let v16 : BitVec 1 := Scalar.cmpi .sge arg1 c24_i32_6
  let c26_i32 : BitVec 32 := 26#32
  let v17 : BitVec 1 := Scalar.cmpi .slt arg1 c26_i32
  let v18 : BitVec 1 := Scalar.andi v16 v17
  let v19 : BitVec 32 := Scalar.extui v18
  let c0_i32_7 : BitVec 32 := 0#32
  let v20 : BitVec 1 := Scalar.cmpi .ne v19 c0_i32_7
  v20

def k0_cond6 (i : grid0.Coords) : BitVec 1 :=
  let arg1 : BitVec 32 := BitVec.ofNat 32 (i 1).val
  let c16_i32_8 : BitVec 32 := 16#32
  let v21 : BitVec 1 := Scalar.cmpi .eq arg1 c16_i32_8
  let v22 : BitVec 32 := Scalar.extui v21
  let c0_i32_9 : BitVec 32 := 0#32
  let v23 : BitVec 1 := Scalar.cmpi .ne v22 c0_i32_9
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c9_i32 : BitVec 32 := 9#32
  let v1 : BitVec 32 := Scalar.maxsi c0_i32 v0
  let v2 : BitVec 32 := Scalar.minsi c9_i32 v1
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c15_i32 : BitVec 32 := 15#32
  let v0 : BitVec 32 := Scalar.maxsi c0_i32 arg1
  let v1 : BitVec 32 := Scalar.minsi c15_i32 v0
  let c10_i32 : BitVec 32 := 10#32
  let v2 : BitVec 32 := Scalar.addi c10_i32 v1
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c15_i32 : BitVec 32 := 15#32
  let v0 : BitVec 32 := Scalar.maxsi c0_i32 arg1
  let v1 : BitVec 32 := Scalar.minsi c15_i32 v0
  let c26_i32 : BitVec 32 := 26#32
  let v2 : BitVec 32 := Scalar.addi c26_i32 v1
  let c0_i32_0 : BitVec 32 := 0#32
  let c0_i32_1 : BitVec 32 := 0#32
  ![c0_i32_0.toNat, v2.toNat]

def cc0_transform_7 (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.subi arg1 c26_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  let c0_i32_1 : BitVec 32 := 0#32
  ![c0_i32_0.toNat, v2.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c9_i32 : BitVec 32 := 9#32
  let v1 : BitVec 32 := Scalar.maxsi c0_i32 v0
  let v2 : BitVec 32 := Scalar.minsi c9_i32 v1
  let c0_i32_0 : BitVec 32 := 0#32
  let c0_i32_1 : BitVec 32 := 0#32
  ![c0_i32_0.toNat, v2.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c15_i32 : BitVec 32 := 15#32
  let v0 : BitVec 32 := Scalar.maxsi c0_i32 arg1
  let v1 : BitVec 32 := Scalar.minsi c15_i32 v0
  let c10_i32 : BitVec 32 := 10#32
  let v2 : BitVec 32 := Scalar.addi c10_i32 v1
  let c0_i32_0 : BitVec 32 := 0#32
  let c0_i32_1 : BitVec 32 := 0#32
  ![c0_i32_0.toNat, v2.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c15_i32 : BitVec 32 := 15#32
  let v0 : BitVec 32 := Scalar.maxsi c0_i32 arg1
  let v1 : BitVec 32 := Scalar.minsi c15_i32 v0
  let c26_i32 : BitVec 32 := 26#32
  let v2 : BitVec 32 := Scalar.addi c26_i32 v1
  let c0_i32_0 : BitVec 32 := 0#32
  let c0_i32_1 : BitVec 32 := 0#32
  ![c0_i32_0.toNat, v2.toNat]

def cc0_transform_11 (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.subi arg1 c26_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  let c0_i32_1 : BitVec 32 := 0#32
  ![c0_i32_0.toNat, v2.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  ![arg0.toNat, v2.toNat]

def cc0_transform_13 (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.subi arg1 c26_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  ![arg0.toNat, v2.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.subi arg1 c22_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.subi arg1 c24_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S3072x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3072x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3072x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S8192x512 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x3072 .fp8e4m3 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x1x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S512x512 .fp8e4m3 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x8 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S512x512 .fp8e4m3 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S512x8 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S512x8192 .fp8e4m3 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]

abbrev stage0_21 : Fin 2 → Memref sig .tc .vmem S1x1x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]
-- ==== KernelIdeal.lean ====
variable {F : FTy → Type} [FloatOps F] [Named F]
def κ : String → Option EReal := fun
  | "inv_d" => some ((1 / 3072 : ℝ) : EReal)
  | _ => none
-- ==== ReferenceIdeal.lean ====
abbrev S16x512x3072 : Shape := ⟨3, ![16, 512, 3072]⟩
abbrev S16x512 : Shape := ⟨2, ![16, 512]⟩
abbrev S3072 : Shape := ⟨1, ![3072]⟩
abbrev S3072x21504 : Shape := ⟨2, ![3072, 21504]⟩
abbrev S21504 : Shape := ⟨1, ![21504]⟩
abbrev S8192x3072 : Shape := ⟨2, ![8192, 3072]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S1x3072 : Shape := ⟨2, ![1, 3072]⟩
abbrev S1x21504 : Shape := ⟨2, ![1, 21504]⟩
abbrev S16x1x512 : Shape := ⟨3, ![16, 1, 512]⟩
abbrev S8192x1024 : Shape := ⟨2, ![8192, 1024]⟩
abbrev S8192x8 : Shape := ⟨2, ![8192, 8]⟩
abbrev S8192x8192 : Shape := ⟨2, ![8192, 8192]⟩
abbrev S8192 : Shape := ⟨1, ![8192]⟩
abbrev S8192x252 : Shape := ⟨2, ![8192, 252]⟩
abbrev S8192x21504 : Shape := ⟨2, ![8192, 21504]⟩
abbrev S8192x24x128 : Shape := ⟨3, ![8192, 24, 128]⟩
abbrev S8192x8x128 : Shape := ⟨3, ![8192, 8, 128]⟩
abbrev S8192x64 : Shape := ⟨2, ![8192, 64]⟩
abbrev S8192x1x64 : Shape := ⟨3, ![8192, 1, 64]⟩
abbrev S8192x8x64 : Shape := ⟨3, ![8192, 8, 64]⟩
abbrev S8192x8x1 : Shape := ⟨3, ![8192, 8, 1]⟩
abbrev S8192x8x252 : Shape := ⟨3, ![8192, 8, 252]⟩
abbrev S8192x24x64 : Shape := ⟨3, ![8192, 24, 64]⟩

abbrev nBuf : Space → Nat
  | .hbm => 34
  | .vmem => 18
  | .smem => 0
  | _ => 0

abbrev bufTy : (tb : Table) → Fin (tcTables nBuf tb) → BufTy
  | .hbm, ⟨0, _⟩ => ⟨S16x512x3072, .bf16⟩
  | .hbm, ⟨1, _⟩ => ⟨S16x512, .i32⟩
  | .hbm, ⟨2, _⟩ => ⟨S3072, .f32⟩
  | .hbm, ⟨3, _⟩ => ⟨S3072x21504, .fp8e4m3⟩
  | .hbm, ⟨4, _⟩ => ⟨S21504, .f32⟩
  | .hbm, ⟨5, _⟩ => ⟨S8192x3072, .fp8e4m3⟩
  | .hbm, ⟨6, _⟩ => ⟨S3072, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S8192x3072, .bf16⟩
  | .hbm, ⟨19, _⟩ => ⟨S8192x1, .i32⟩
  | .hbm, ⟨20, _⟩ => ⟨S1x64, .f32⟩
  | .hbm, ⟨21, _⟩ => ⟨S1x3072, .f32⟩
  | .hbm, ⟨22, _⟩ => ⟨S1x21504, .f32⟩
  | .hbm, ⟨23, _⟩ => ⟨S1x3072, .f32⟩
  | .hbm, ⟨24, _⟩ => ⟨S8192x3072, .bf16⟩
  | .hbm, ⟨25, _⟩ => ⟨S8192x3072, .bf16⟩
  | .hbm, ⟨26, _⟩ => ⟨S8192x3072, .fp8e4m3⟩
  | .hbm, ⟨27, _⟩ => ⟨S16x1x512, .f32⟩
  | .hbm, ⟨28, _⟩ => ⟨S8192x1024, .fp8e4m3⟩
  | .hbm, ⟨29, _⟩ => ⟨S8192x8, .f32⟩
  | .hbm, ⟨30, _⟩ => ⟨S8192x1024, .fp8e4m3⟩
  | .hbm, ⟨31, _⟩ => ⟨S8192x8, .f32⟩
  | .hbm, ⟨32, _⟩ => ⟨S8192x8192, .fp8e4m3⟩
  | .hbm, ⟨33, _⟩ => ⟨S16x1x512, .f32⟩
  | .local _ .vmem, ⟨0, _⟩ => ⟨S8192x3072, .bf16⟩
  | .local _ .vmem, ⟨1, _⟩ => ⟨S8192x1, .i32⟩
  | .local _ .vmem, ⟨2, _⟩ => ⟨S1x64, .f32⟩
  | .local _ .vmem, ⟨3, _⟩ => ⟨S1x3072, .f32⟩
  | .local _ .vmem, ⟨4, _⟩ => ⟨S3072x21504, .fp8e4m3⟩
  | .local _ .vmem, ⟨5, _⟩ => ⟨S1x21504, .f32⟩
  | .local _ .vmem, ⟨6, _⟩ => ⟨S8192x3072, .fp8e4m3⟩
  | .local _ .vmem, ⟨7, _⟩ => ⟨S1x3072, .f32⟩
  | .local _ .vmem, ⟨8, _⟩ => ⟨S8192x3072, .bf16⟩
  | .local _ .vmem, ⟨9, _⟩ => ⟨S8192x3072, .bf16⟩
  | .local _ .vmem, ⟨10, _⟩ => ⟨S8192x3072, .fp8e4m3⟩
  | .local _ .vmem, ⟨11, _⟩ => ⟨S16x1x512, .f32⟩
  | .local _ .vmem, ⟨12, _⟩ => ⟨S8192x1024, .fp8e4m3⟩
  | .local _ .vmem, ⟨13, _⟩ => ⟨S8192x8, .f32⟩
  | .local _ .vmem, ⟨14, _⟩ => ⟨S8192x1024, .fp8e4m3⟩
  | .local _ .vmem, ⟨15, _⟩ => ⟨S8192x8, .f32⟩
  | .local _ .vmem, ⟨16, _⟩ => ⟨S8192x8192, .fp8e4m3⟩
  | .local _ .vmem, ⟨17, _⟩ => ⟨S16x1x512, .f32⟩
  | _, _ => ⟨S16x512x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev main_v14_3 : Ref sig .tc := ⟨.hbm, 27, rfl⟩
abbrev main_v14_4 : Ref sig .tc := ⟨.hbm, 28, rfl⟩
abbrev main_v14_5 : Ref sig .tc := ⟨.hbm, 29, rfl⟩
abbrev main_v14_6 : Ref sig .tc := ⟨.hbm, 30, rfl⟩
abbrev main_v14_7 : Ref sig .tc := ⟨.hbm, 31, rfl⟩
abbrev main_v14_8 : Ref sig .tc := ⟨.hbm, 32, rfl⟩
abbrev main_v14_9 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .vmem S8192x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x21504 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x21504 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x3072 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x3072 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8192x3072 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16x1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8192x1024 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8192x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S8192x1024 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S8192x8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S8192x8192 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S16x1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== Proof.KFrame.lean ====
/- The frame of `Kernel`: what the kernel's body needs and returns at each of the tile's steps, with what it leaves in its
   results and scratch left unnamed. -/
module

public import proofs.«01_k».proof.Proof.Gen.Kernel.Frame
public import proofs.«01_k».proof.Proof.Gen.Kernel.Loops
public import proofs.«01_k».proof.Proof.Gen.Kernel.Skeleton
public import Idealize.ShloMosaic.Lib.Pipeline.Frame
public import Idealize.ShloMosaic.Lib.Pipeline.DatRel
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

theorem cond1_iff (i : grid0.Coords) : k0_cond1 i = 1#1 ↔ (i 1).val = 0 := by
  unfold k0_cond1; generalize i 1 = j; revert j; decide
theorem cond2_iff (i : grid0.Coords) : k0_cond2 i = 1#1 ↔ (i 1).val < 16 := by
  unfold k0_cond2; generalize i 1 = j; revert j; decide
theorem cond3_iff (i : grid0.Coords) : k0_cond3 i = 1#1 ↔ 16 ≤ (i 1).val ∧ (i 1).val < 22 := by
  unfold k0_cond3; generalize i 1 = j; revert j; decide
theorem cond4_iff (i : grid0.Coords) : k0_cond4 i = 1#1 ↔ 22 ≤ (i 1).val ∧ (i 1).val < 24 := by
  unfold k0_cond4; generalize i 1 = j; revert j; decide
theorem cond5_iff (i : grid0.Coords) : k0_cond5 i = 1#1 ↔ 24 ≤ (i 1).val ∧ (i 1).val < 26 := by
  unfold k0_cond5; generalize i 1 = j; revert j; decide
theorem cond6_iff (i : grid0.Coords) : k0_cond6 i = 1#1 ↔ (i 1).val = 16 := by
  unfold k0_cond6; generalize i 1 = j; revert j; decide
theorem cond7_iff (i : grid0.Coords) : k0_cond7 i = 1#1 ↔ 26 ≤ (i 1).val := by
  unfold k0_cond7; generalize i 1 = j; revert j; decide
theorem cond8_iff (i : grid0.Coords) : k0_cond8 i = 1#1 ↔ (i 1).val = 26 := by
  unfold k0_cond8; generalize i 1 = j; revert j; decide
theorem cond9_iff (i : grid0.Coords) : k0_cond9 i = 1#1 ↔ (i 1).val = 27 := by
  unfold k0_cond9; generalize i 1 = j; revert j; decide
theorem cond10_iff (i : grid0.Coords) : k0_cond10 i = 1#1 ↔ (i 1).val = 28 := by
  unfold k0_cond10; generalize i 1 = j; revert j; decide
theorem cond11_iff (i : grid0.Coords) : k0_cond11 i = 1#1 ↔ (i 1).val = 29 := by
  unfold k0_cond11; generalize i 1 = j; revert j; decide
theorem cond12_iff (i : grid0.Coords) : k0_cond12 i = 1#1 ↔ (i 1).val = 30 := by
  unfold k0_cond12; generalize i 1 = j; revert j; decide
theorem cond13_iff (i : grid0.Coords) : k0_cond13 i = 1#1 ↔ (i 1).val = 31 := by
  unfold k0_cond13; generalize i 1 = j; revert j; decide

variable (c : Dev nD) (i : grid0.Coords) (arg2 : Memref sig .tc .vmem S512x3072 .bf16) (harg2 : arg2.IsWhole)
  (arg3 : Memref sig .tc .vmem S1x1x512 .i32) (harg3 : arg3.IsWhole) (arg4 : Memref sig .tc .vmem S1x128 .f32)
  (harg4 : arg4.IsWhole) (arg5 : Memref sig .tc .vmem S1x3072 .f32) (harg5 : arg5.IsWhole)
  (arg6 : Memref sig .tc .vmem S3072x512 .fp8e4m3) (harg6 : arg6.IsWhole)
  (arg7 : Memref sig .tc .vmem S3072x512 .fp8e4m3) (harg7 : arg7.IsWhole)
  (arg8 : Memref sig .tc .vmem S3072x512 .fp8e4m3) (harg8 : arg8.IsWhole)
  (arg9 : Memref sig .tc .vmem S8192x512 .fp8e4m3) (harg9 : arg9.IsWhole) (arg10 : Memref sig .tc .vmem S1x512 .f32)
  (harg10 : arg10.IsWhole) (arg11 : Memref sig .tc .vmem S1x512 .f32) (harg11 : arg11.IsWhole)
  (arg12 : Memref sig .tc .vmem S1x512 .f32) (harg12 : arg12.IsWhole) (arg13 : Memref sig .tc .vmem S1x512 .f32)
  (harg13 : arg13.IsWhole) (arg14 : Memref sig .tc .vmem S512x512 .bf16) (harg14 : arg14.IsWhole)
  (arg15 : Memref sig .tc .vmem S512x512 .bf16) (harg15 : arg15.IsWhole)
  (arg16 : Memref sig .tc .vmem S512x3072 .fp8e4m3) (harg16 : arg16.IsWhole)
  (arg17 : Memref sig .tc .vmem S1x1x512 .f32) (harg17 : arg17.IsWhole)
  (arg18 : Memref sig .tc .vmem S512x512 .fp8e4m3) (harg18 : arg18.IsWhole) (arg19 : Memref sig .tc .vmem S512x8 .f32)
  (harg19 : arg19.IsWhole) (arg20 : Memref sig .tc .vmem S512x512 .fp8e4m3) (harg20 : arg20.IsWhole)
  (arg21 : Memref sig .tc .vmem S512x8 .f32) (harg21 : arg21.IsWhole) (arg22 : Memref sig .tc .vmem S512x8192 .fp8e4m3)
  (harg22 : arg22.IsWhole) (arg23 : Memref sig .tc .vmem S1x1x512 .f32) (harg23 : arg23.IsWhole)
  (arg24 : Memref sig .tc .vmem S16x512x512 .f32) (harg24 : arg24.IsWhole) (arg25 : Memref sig .tc .vmem S512x128 .f32)
  (harg25 : arg25.IsWhole) (arg26 : Memref sig .tc .vmem S512x128 .f32) (harg26 : arg26.IsWhole)
  (arg27 : Memref sig .tc .vmem S512x128 .f32) (harg27 : arg27.IsWhole) (arg28 : Memref sig .tc .vmem S512x128 .f32)
  (harg28 : arg28.IsWhole) (arg29 : Memref sig .tc .vmem S512x128 .f32) (harg29 : arg29.IsWhole)
  (d2 : S512x3072.Idx → Elt F .bf16) (d3 : S1x1x512.Idx → Elt F .i32) (d4 : S1x128.Idx → Elt F .f32)
  (d5 : S1x3072.Idx → Elt F .f32) (d6 : S3072x512.Idx → Elt F .fp8e4m3) (d7 : S3072x512.Idx → Elt F .fp8e4m3)
  (d8 : S3072x512.Idx → Elt F .fp8e4m3) (d9 : S8192x512.Idx → Elt F .fp8e4m3) (d10 : S1x512.Idx → Elt F .f32)
  (d11 : S1x512.Idx → Elt F .f32) (d12 : S1x512.Idx → Elt F .f32) (d13 : S1x512.Idx → Elt F .f32)

/-- first -/
theorem run_first (hj : (i 1).val = 0) (K : PUnit → sProp 𝕄) :
    iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)) -∗ K ⟨⟩))
      ⊢ wp frame (wpE (defs₀ (F := F)) Variants.none c none) Set.univ
          (cc0_palm_block (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  have hc1 : k0_cond1 i = 1#1 := by rw [cond1_iff]; omega
  have hc2 : k0_cond2 i = 1#1 := by rw [cond2_iff]; omega
  have hc3 : ¬ k0_cond3 i = 1#1 := by rw [cond3_iff]; omega
  have hc4 : ¬ k0_cond4 i = 1#1 := by rw [cond4_iff]; omega
  have hc5 : ¬ k0_cond5 i = 1#1 := by rw [cond5_iff]; omega
  have hc6 : ¬ k0_cond6 i = 1#1 := by rw [cond6_iff]; omega
  have hc7 : ¬ k0_cond7 i = 1#1 := by rw [cond7_iff]; omega
  simp only [cc0_palm_block_eq_skeleton]; unfold cc0_palm_block_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, Hk⟩
  sl_exec
  sl_step
  iapply Hk
  isplitl [H2]
  · iexists f2; isplitr; swap; · iexact H2
    ipureintro; exact e2
  isplitl [H3]
  · iexists f3; isplitr; swap; · iexact H3
    ipureintro; exact e3
  isplitl [H4]
  · iexists f4; isplitr; swap; · iexact H4
    ipureintro; exact e4
  isplitl [H5]
  · iexists f5; isplitr; swap; · iexact H5
    ipureintro; exact e5
  isplitl [H6]
  · iexists f6; isplitr; swap; · iexact H6
    ipureintro; exact e6
  isplitl [H7]
  · iexists f7; isplitr; swap; · iexact H7
    ipureintro; exact e7
  isplitl [H8]
  · iexists f8; isplitr; swap; · iexact H8
    ipureintro; exact e8
  isplitl [H9]
  · iexists f9; isplitr; swap; · iexact H9
    ipureintro; exact e9
  isplitl [H10]
  · iexists f10; isplitr; swap; · iexact H10
    ipureintro; exact e10
  isplitl [H11]
  · iexists f11; isplitr; swap; · iexact H11
    ipureintro; exact e11
  isplitl [H12]
  · iexists f12; isplitr; swap; · iexact H12
    ipureintro; exact e12
  isplitl [H13]
  · iexists f13; isplitr; swap; · iexact H13
    ipureintro; exact e13
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  iexists _, _; isplitr; swap; · iexact H29
  ipureintro; rfl

/-- mlp -/
theorem run_mlp (hj : 0 < (i 1).val) (hj2 : (i 1).val < 16) (K : PUnit → sProp 𝕄) :
    iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)) -∗ K ⟨⟩))
      ⊢ wp frame (wpE (defs₀ (F := F)) Variants.none c none) Set.univ
          (cc0_palm_block (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  have hc1 : ¬ k0_cond1 i = 1#1 := by rw [cond1_iff]; omega
  have hc2 : k0_cond2 i = 1#1 := by rw [cond2_iff]; omega
  have hc3 : ¬ k0_cond3 i = 1#1 := by rw [cond3_iff]; omega
  have hc4 : ¬ k0_cond4 i = 1#1 := by rw [cond4_iff]; omega
  have hc5 : ¬ k0_cond5 i = 1#1 := by rw [cond5_iff]; omega
  have hc6 : ¬ k0_cond6 i = 1#1 := by rw [cond6_iff]; omega
  have hc7 : ¬ k0_cond7 i = 1#1 := by rw [cond7_iff]; omega
  simp only [cc0_palm_block_eq_skeleton]; unfold cc0_palm_block_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, Hk⟩
  sl_exec
  sl_step
  iapply Hk
  isplitl [H2]
  · iexists f2; isplitr; swap; · iexact H2
    ipureintro; exact e2
  isplitl [H3]
  · iexists f3; isplitr; swap; · iexact H3
    ipureintro; exact e3
  isplitl [H4]
  · iexists f4; isplitr; swap; · iexact H4
    ipureintro; exact e4
  isplitl [H5]
  · iexists f5; isplitr; swap; · iexact H5
    ipureintro; exact e5
  isplitl [H6]
  · iexists f6; isplitr; swap; · iexact H6
    ipureintro; exact e6
  isplitl [H7]
  · iexists f7; isplitr; swap; · iexact H7
    ipureintro; exact e7
  isplitl [H8]
  · iexists f8; isplitr; swap; · iexact H8
    ipureintro; exact e8
  isplitl [H9]
  · iexists f9; isplitr; swap; · iexact H9
    ipureintro; exact e9
  isplitl [H10]
  · iexists f10; isplitr; swap; · iexact H10
    ipureintro; exact e10
  isplitl [H11]
  · iexists f11; isplitr; swap; · iexact H11
    ipureintro; exact e11
  isplitl [H12]
  · iexists f12; isplitr; swap; · iexact H12
    ipureintro; exact e12
  isplitl [H13]
  · iexists f13; isplitr; swap; · iexact H13
    ipureintro; exact e13
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  iexists _, _; isplitr; swap; · iexact H29
  ipureintro; rfl

/-- quant -/
theorem run_quant (hj : (i 1).val = 16) (K : PUnit → sProp 𝕄) :
    iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)) -∗ K ⟨⟩))
      ⊢ wp frame (wpE (defs₀ (F := F)) Variants.none c none) Set.univ
          (cc0_palm_block (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  have hc1 : ¬ k0_cond1 i = 1#1 := by rw [cond1_iff]; omega
  have hc2 : ¬ k0_cond2 i = 1#1 := by rw [cond2_iff]; omega
  have hc3 : k0_cond3 i = 1#1 := by rw [cond3_iff]; omega
  have hc4 : ¬ k0_cond4 i = 1#1 := by rw [cond4_iff]; omega
  have hc5 : ¬ k0_cond5 i = 1#1 := by rw [cond5_iff]; omega
  have hc6 : k0_cond6 i = 1#1 := by rw [cond6_iff]; omega
  have hc7 : ¬ k0_cond7 i = 1#1 := by rw [cond7_iff]; omega
  simp only [cc0_palm_block_eq_skeleton]; unfold cc0_palm_block_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, Hk⟩
  sl_exec
  sl_step
  iapply Hk
  isplitl [H2]
  · iexists f2; isplitr; swap; · iexact H2
    ipureintro; exact e2
  isplitl [H3]
  · iexists f3; isplitr; swap; · iexact H3
    ipureintro; exact e3
  isplitl [H4]
  · iexists f4; isplitr; swap; · iexact H4
    ipureintro; exact e4
  isplitl [H5]
  · iexists f5; isplitr; swap; · iexact H5
    ipureintro; exact e5
  isplitl [H6]
  · iexists f6; isplitr; swap; · iexact H6
    ipureintro; exact e6
  isplitl [H7]
  · iexists f7; isplitr; swap; · iexact H7
    ipureintro; exact e7
  isplitl [H8]
  · iexists f8; isplitr; swap; · iexact H8
    ipureintro; exact e8
  isplitl [H9]
  · iexists f9; isplitr; swap; · iexact H9
    ipureintro; exact e9
  isplitl [H10]
  · iexists f10; isplitr; swap; · iexact H10
    ipureintro; exact e10
  isplitl [H11]
  · iexists f11; isplitr; swap; · iexact H11
    ipureintro; exact e11
  isplitl [H12]
  · iexists f12; isplitr; swap; · iexact H12
    ipureintro; exact e12
  isplitl [H13]
  · iexists f13; isplitr; swap; · iexact H13
    ipureintro; exact e13
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  iexists _, _; isplitr; swap; · iexact H29
  ipureintro; rfl

/-- q -/
theorem run_q (hj : 16 < (i 1).val) (hj2 : (i 1).val < 22) (K : PUnit → sProp 𝕄) :
    iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)) -∗ K ⟨⟩))
      ⊢ wp frame (wpE (defs₀ (F := F)) Variants.none c none) Set.univ
          (cc0_palm_block (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  have hc1 : ¬ k0_cond1 i = 1#1 := by rw [cond1_iff]; omega
  have hc2 : ¬ k0_cond2 i = 1#1 := by rw [cond2_iff]; omega
  have hc3 : k0_cond3 i = 1#1 := by rw [cond3_iff]; omega
  have hc4 : ¬ k0_cond4 i = 1#1 := by rw [cond4_iff]; omega
  have hc5 : ¬ k0_cond5 i = 1#1 := by rw [cond5_iff]; omega
  have hc6 : ¬ k0_cond6 i = 1#1 := by rw [cond6_iff]; omega
  have hc7 : ¬ k0_cond7 i = 1#1 := by rw [cond7_iff]; omega
  simp only [cc0_palm_block_eq_skeleton]; unfold cc0_palm_block_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, Hk⟩
  sl_exec
  sl_step
  iapply Hk
  isplitl [H2]
  · iexists f2; isplitr; swap; · iexact H2
    ipureintro; exact e2
  isplitl [H3]
  · iexists f3; isplitr; swap; · iexact H3
    ipureintro; exact e3
  isplitl [H4]
  · iexists f4; isplitr; swap; · iexact H4
    ipureintro; exact e4
  isplitl [H5]
  · iexists f5; isplitr; swap; · iexact H5
    ipureintro; exact e5
  isplitl [H6]
  · iexists f6; isplitr; swap; · iexact H6
    ipureintro; exact e6
  isplitl [H7]
  · iexists f7; isplitr; swap; · iexact H7
    ipureintro; exact e7
  isplitl [H8]
  · iexists f8; isplitr; swap; · iexact H8
    ipureintro; exact e8
  isplitl [H9]
  · iexists f9; isplitr; swap; · iexact H9
    ipureintro; exact e9
  isplitl [H10]
  · iexists f10; isplitr; swap; · iexact H10
    ipureintro; exact e10
  isplitl [H11]
  · iexists f11; isplitr; swap; · iexact H11
    ipureintro; exact e11
  isplitl [H12]
  · iexists f12; isplitr; swap; · iexact H12
    ipureintro; exact e12
  isplitl [H13]
  · iexists f13; isplitr; swap; · iexact H13
    ipureintro; exact e13
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  iexists _, _; isplitr; swap; · iexact H29
  ipureintro; rfl

/-- k -/
theorem run_k (hj : 22 ≤ (i 1).val) (hj2 : (i 1).val < 24) (K : PUnit → sProp 𝕄) :
    iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)) -∗ K ⟨⟩))
      ⊢ wp frame (wpE (defs₀ (F := F)) Variants.none c none) Set.univ
          (cc0_palm_block (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  have hc1 : ¬ k0_cond1 i = 1#1 := by rw [cond1_iff]; omega
  have hc2 : ¬ k0_cond2 i = 1#1 := by rw [cond2_iff]; omega
  have hc3 : ¬ k0_cond3 i = 1#1 := by rw [cond3_iff]; omega
  have hc4 : k0_cond4 i = 1#1 := by rw [cond4_iff]; omega
  have hc5 : ¬ k0_cond5 i = 1#1 := by rw [cond5_iff]; omega
  have hc6 : ¬ k0_cond6 i = 1#1 := by rw [cond6_iff]; omega
  have hc7 : ¬ k0_cond7 i = 1#1 := by rw [cond7_iff]; omega
  simp only [cc0_palm_block_eq_skeleton]; unfold cc0_palm_block_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, Hk⟩
  sl_exec
  sl_step
  iapply Hk
  isplitl [H2]
  · iexists f2; isplitr; swap; · iexact H2
    ipureintro; exact e2
  isplitl [H3]
  · iexists f3; isplitr; swap; · iexact H3
    ipureintro; exact e3
  isplitl [H4]
  · iexists f4; isplitr; swap; · iexact H4
    ipureintro; exact e4
  isplitl [H5]
  · iexists f5; isplitr; swap; · iexact H5
    ipureintro; exact e5
  isplitl [H6]
  · iexists f6; isplitr; swap; · iexact H6
    ipureintro; exact e6
  isplitl [H7]
  · iexists f7; isplitr; swap; · iexact H7
    ipureintro; exact e7
  isplitl [H8]
  · iexists f8; isplitr; swap; · iexact H8
    ipureintro; exact e8
  isplitl [H9]
  · iexists f9; isplitr; swap; · iexact H9
    ipureintro; exact e9
  isplitl [H10]
  · iexists f10; isplitr; swap; · iexact H10
    ipureintro; exact e10
  isplitl [H11]
  · iexists f11; isplitr; swap; · iexact H11
    ipureintro; exact e11
  isplitl [H12]
  · iexists f12; isplitr; swap; · iexact H12
    ipureintro; exact e12
  isplitl [H13]
  · iexists f13; isplitr; swap; · iexact H13
    ipureintro; exact e13
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  iexists _, _; isplitr; swap; · iexact H29
  ipureintro; rfl

/-- v -/
theorem run_v (hj : 24 ≤ (i 1).val) (hj2 : (i 1).val < 26) (K : PUnit → sProp 𝕄) :
    iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)) -∗ K ⟨⟩))
      ⊢ wp frame (wpE (defs₀ (F := F)) Variants.none c none) Set.univ
          (cc0_palm_block (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  have hc1 : ¬ k0_cond1 i = 1#1 := by rw [cond1_iff]; omega
  have hc2 : ¬ k0_cond2 i = 1#1 := by rw [cond2_iff]; omega
  have hc3 : ¬ k0_cond3 i = 1#1 := by rw [cond3_iff]; omega
  have hc4 : ¬ k0_cond4 i = 1#1 := by rw [cond4_iff]; omega
  have hc5 : k0_cond5 i = 1#1 := by rw [cond5_iff]; omega
  have hc6 : ¬ k0_cond6 i = 1#1 := by rw [cond6_iff]; omega
  have hc7 : ¬ k0_cond7 i = 1#1 := by rw [cond7_iff]; omega
  simp only [cc0_palm_block_eq_skeleton]; unfold cc0_palm_block_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, Hk⟩
  sl_exec
  sl_step
  iapply Hk
  isplitl [H2]
  · iexists f2; isplitr; swap; · iexact H2
    ipureintro; exact e2
  isplitl [H3]
  · iexists f3; isplitr; swap; · iexact H3
    ipureintro; exact e3
  isplitl [H4]
  · iexists f4; isplitr; swap; · iexact H4
    ipureintro; exact e4
  isplitl [H5]
  · iexists f5; isplitr; swap; · iexact H5
    ipureintro; exact e5
  isplitl [H6]
  · iexists f6; isplitr; swap; · iexact H6
    ipureintro; exact e6
  isplitl [H7]
  · iexists f7; isplitr; swap; · iexact H7
    ipureintro; exact e7
  isplitl [H8]
  · iexists f8; isplitr; swap; · iexact H8
    ipureintro; exact e8
  isplitl [H9]
  · iexists f9; isplitr; swap; · iexact H9
    ipureintro; exact e9
  isplitl [H10]
  · iexists f10; isplitr; swap; · iexact H10
    ipureintro; exact e10
  isplitl [H11]
  · iexists f11; isplitr; swap; · iexact H11
    ipureintro; exact e11
  isplitl [H12]
  · iexists f12; isplitr; swap; · iexact H12
    ipureintro; exact e12
  isplitl [H13]
  · iexists f13; isplitr; swap; · iexact H13
    ipureintro; exact e13
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  iexists _, _; isplitr; swap; · iexact H29
  ipureintro; rfl

/-- y0 -/
theorem run_y0 (hj : (i 1).val = 26) (K : PUnit → sProp 𝕄) :
    iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)) -∗ K ⟨⟩))
      ⊢ wp frame (wpE (defs₀ (F := F)) Variants.none c none) Set.univ
          (cc0_palm_block (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  have hc1 : ¬ k0_cond1 i = 1#1 := by rw [cond1_iff]; omega
  have hc2 : ¬ k0_cond2 i = 1#1 := by rw [cond2_iff]; omega
  have hc3 : ¬ k0_cond3 i = 1#1 := by rw [cond3_iff]; omega
  have hc4 : ¬ k0_cond4 i = 1#1 := by rw [cond4_iff]; omega
  have hc5 : ¬ k0_cond5 i = 1#1 := by rw [cond5_iff]; omega
  have hc6 : ¬ k0_cond6 i = 1#1 := by rw [cond6_iff]; omega
  have hc7 : k0_cond7 i = 1#1 := by rw [cond7_iff]; omega
  have hc8 : k0_cond8 i = 1#1 := by rw [cond8_iff]; omega
  have hc9 : ¬ k0_cond9 i = 1#1 := by rw [cond9_iff]; omega
  have hc10 : ¬ k0_cond10 i = 1#1 := by rw [cond10_iff]; omega
  have hc11 : ¬ k0_cond11 i = 1#1 := by rw [cond11_iff]; omega
  have hc12 : ¬ k0_cond12 i = 1#1 := by rw [cond12_iff]; omega
  have hc13 : ¬ k0_cond13 i = 1#1 := by rw [cond13_iff]; omega
  simp only [cc0_palm_block_eq_skeleton]; unfold cc0_palm_block_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, Hk⟩
  sl_exec
  sl_step
  iapply Hk
  isplitl [H2]
  · iexists f2; isplitr; swap; · iexact H2
    ipureintro; exact e2
  isplitl [H3]
  · iexists f3; isplitr; swap; · iexact H3
    ipureintro; exact e3
  isplitl [H4]
  · iexists f4; isplitr; swap; · iexact H4
    ipureintro; exact e4
  isplitl [H5]
  · iexists f5; isplitr; swap; · iexact H5
    ipureintro; exact e5
  isplitl [H6]
  · iexists f6; isplitr; swap; · iexact H6
    ipureintro; exact e6
  isplitl [H7]
  · iexists f7; isplitr; swap; · iexact H7
    ipureintro; exact e7
  isplitl [H8]
  · iexists f8; isplitr; swap; · iexact H8
    ipureintro; exact e8
  isplitl [H9]
  · iexists f9; isplitr; swap; · iexact H9
    ipureintro; exact e9
  isplitl [H10]
  · iexists f10; isplitr; swap; · iexact H10
    ipureintro; exact e10
  isplitl [H11]
  · iexists f11; isplitr; swap; · iexact H11
    ipureintro; exact e11
  isplitl [H12]
  · iexists f12; isplitr; swap; · iexact H12
    ipureintro; exact e12
  isplitl [H13]
  · iexists f13; isplitr; swap; · iexact H13
    ipureintro; exact e13
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  iexists _, _; isplitr; swap; · iexact H29
  ipureintro; rfl

/-- y1 -/
theorem run_y1 (hj : (i 1).val = 27) (K : PUnit → sProp 𝕄) :
    iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)) -∗ K ⟨⟩))
      ⊢ wp frame (wpE (defs₀ (F := F)) Variants.none c none) Set.univ
          (cc0_palm_block (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  have hc1 : ¬ k0_cond1 i = 1#1 := by rw [cond1_iff]; omega
  have hc2 : ¬ k0_cond2 i = 1#1 := by rw [cond2_iff]; omega
  have hc3 : ¬ k0_cond3 i = 1#1 := by rw [cond3_iff]; omega
  have hc4 : ¬ k0_cond4 i = 1#1 := by rw [cond4_iff]; omega
  have hc5 : ¬ k0_cond5 i = 1#1 := by rw [cond5_iff]; omega
  have hc6 : ¬ k0_cond6 i = 1#1 := by rw [cond6_iff]; omega
  have hc7 : k0_cond7 i = 1#1 := by rw [cond7_iff]; omega
  have hc8 : ¬ k0_cond8 i = 1#1 := by rw [cond8_iff]; omega
  have hc9 : k0_cond9 i = 1#1 := by rw [cond9_iff]; omega
  have hc10 : ¬ k0_cond10 i = 1#1 := by rw [cond10_iff]; omega
  have hc11 : ¬ k0_cond11 i = 1#1 := by rw [cond11_iff]; omega
  have hc12 : ¬ k0_cond12 i = 1#1 := by rw [cond12_iff]; omega
  have hc13 : ¬ k0_cond13 i = 1#1 := by rw [cond13_iff]; omega
  simp only [cc0_palm_block_eq_skeleton]; unfold cc0_palm_block_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, Hk⟩
  sl_exec
  sl_step
  iapply Hk
  isplitl [H2]
  · iexists f2; isplitr; swap; · iexact H2
    ipureintro; exact e2
  isplitl [H3]
  · iexists f3; isplitr; swap; · iexact H3
    ipureintro; exact e3
  isplitl [H4]
  · iexists f4; isplitr; swap; · iexact H4
    ipureintro; exact e4
  isplitl [H5]
  · iexists f5; isplitr; swap; · iexact H5
    ipureintro; exact e5
  isplitl [H6]
  · iexists f6; isplitr; swap; · iexact H6
    ipureintro; exact e6
  isplitl [H7]
  · iexists f7; isplitr; swap; · iexact H7
    ipureintro; exact e7
  isplitl [H8]
  · iexists f8; isplitr; swap; · iexact H8
    ipureintro; exact e8
  isplitl [H9]
  · iexists f9; isplitr; swap; · iexact H9
    ipureintro; exact e9
  isplitl [H10]
  · iexists f10; isplitr; swap; · iexact H10
    ipureintro; exact e10
  isplitl [H11]
  · iexists f11; isplitr; swap; · iexact H11
    ipureintro; exact e11
  isplitl [H12]
  · iexists f12; isplitr; swap; · iexact H12
    ipureintro; exact e12
  isplitl [H13]
  · iexists f13; isplitr; swap; · iexact H13
    ipureintro; exact e13
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  iexists _, _; isplitr; swap; · iexact H29
  ipureintro; rfl

/-- y2 -/
theorem run_y2 (hj : (i 1).val = 28) (K : PUnit → sProp 𝕄) :
    iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)) -∗ K ⟨⟩))
      ⊢ wp frame (wpE (defs₀ (F := F)) Variants.none c none) Set.univ
          (cc0_palm_block (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  have hc1 : ¬ k0_cond1 i = 1#1 := by rw [cond1_iff]; omega
  have hc2 : ¬ k0_cond2 i = 1#1 := by rw [cond2_iff]; omega
  have hc3 : ¬ k0_cond3 i = 1#1 := by rw [cond3_iff]; omega
  have hc4 : ¬ k0_cond4 i = 1#1 := by rw [cond4_iff]; omega
  have hc5 : ¬ k0_cond5 i = 1#1 := by rw [cond5_iff]; omega
  have hc6 : ¬ k0_cond6 i = 1#1 := by rw [cond6_iff]; omega
  have hc7 : k0_cond7 i = 1#1 := by rw [cond7_iff]; omega
  have hc8 : ¬ k0_cond8 i = 1#1 := by rw [cond8_iff]; omega
  have hc9 : ¬ k0_cond9 i = 1#1 := by rw [cond9_iff]; omega
  have hc10 : k0_cond10 i = 1#1 := by rw [cond10_iff]; omega
  have hc11 : ¬ k0_cond11 i = 1#1 := by rw [cond11_iff]; omega
  have hc12 : ¬ k0_cond12 i = 1#1 := by rw [cond12_iff]; omega
  have hc13 : ¬ k0_cond13 i = 1#1 := by rw [cond13_iff]; omega
  simp only [cc0_palm_block_eq_skeleton]; unfold cc0_palm_block_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, Hk⟩
  sl_exec
  sl_step
  iapply Hk
  isplitl [H2]
  · iexists f2; isplitr; swap; · iexact H2
    ipureintro; exact e2
  isplitl [H3]
  · iexists f3; isplitr; swap; · iexact H3
    ipureintro; exact e3
  isplitl [H4]
  · iexists f4; isplitr; swap; · iexact H4
    ipureintro; exact e4
  isplitl [H5]
  · iexists f5; isplitr; swap; · iexact H5
    ipureintro; exact e5
  isplitl [H6]
  · iexists f6; isplitr; swap; · iexact H6
    ipureintro; exact e6
  isplitl [H7]
  · iexists f7; isplitr; swap; · iexact H7
    ipureintro; exact e7
  isplitl [H8]
  · iexists f8; isplitr; swap; · iexact H8
    ipureintro; exact e8
  isplitl [H9]
  · iexists f9; isplitr; swap; · iexact H9
    ipureintro; exact e9
  isplitl [H10]
  · iexists f10; isplitr; swap; · iexact H10
    ipureintro; exact e10
  isplitl [H11]
  · iexists f11; isplitr; swap; · iexact H11
    ipureintro; exact e11
  isplitl [H12]
  · iexists f12; isplitr; swap; · iexact H12
    ipureintro; exact e12
  isplitl [H13]
  · iexists f13; isplitr; swap; · iexact H13
    ipureintro; exact e13
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  iexists _, _; isplitr; swap; · iexact H29
  ipureintro; rfl

/-- y3 -/
theorem run_y3 (hj : (i 1).val = 29) (K : PUnit → sProp 𝕄) :
    iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)) -∗ K ⟨⟩))
      ⊢ wp frame (wpE (defs₀ (F := F)) Variants.none c none) Set.univ
          (cc0_palm_block (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  have hc1 : ¬ k0_cond1 i = 1#1 := by rw [cond1_iff]; omega
  have hc2 : ¬ k0_cond2 i = 1#1 := by rw [cond2_iff]; omega
  have hc3 : ¬ k0_cond3 i = 1#1 := by rw [cond3_iff]; omega
  have hc4 : ¬ k0_cond4 i = 1#1 := by rw [cond4_iff]; omega
  have hc5 : ¬ k0_cond5 i = 1#1 := by rw [cond5_iff]; omega
  have hc6 : ¬ k0_cond6 i = 1#1 := by rw [cond6_iff]; omega
  have hc7 : k0_cond7 i = 1#1 := by rw [cond7_iff]; omega
  have hc8 : ¬ k0_cond8 i = 1#1 := by rw [cond8_iff]; omega
  have hc9 : ¬ k0_cond9 i = 1#1 := by rw [cond9_iff]; omega
  have hc10 : ¬ k0_cond10 i = 1#1 := by rw [cond10_iff]; omega
  have hc11 : k0_cond11 i = 1#1 := by rw [cond11_iff]; omega
  have hc12 : ¬ k0_cond12 i = 1#1 := by rw [cond12_iff]; omega
  have hc13 : ¬ k0_cond13 i = 1#1 := by rw [cond13_iff]; omega
  simp only [cc0_palm_block_eq_skeleton]; unfold cc0_palm_block_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, Hk⟩
  sl_exec
  sl_step
  iapply Hk
  isplitl [H2]
  · iexists f2; isplitr; swap; · iexact H2
    ipureintro; exact e2
  isplitl [H3]
  · iexists f3; isplitr; swap; · iexact H3
    ipureintro; exact e3
  isplitl [H4]
  · iexists f4; isplitr; swap; · iexact H4
    ipureintro; exact e4
  isplitl [H5]
  · iexists f5; isplitr; swap; · iexact H5
    ipureintro; exact e5
  isplitl [H6]
  · iexists f6; isplitr; swap; · iexact H6
    ipureintro; exact e6
  isplitl [H7]
  · iexists f7; isplitr; swap; · iexact H7
    ipureintro; exact e7
  isplitl [H8]
  · iexists f8; isplitr; swap; · iexact H8
    ipureintro; exact e8
  isplitl [H9]
  · iexists f9; isplitr; swap; · iexact H9
    ipureintro; exact e9
  isplitl [H10]
  · iexists f10; isplitr; swap; · iexact H10
    ipureintro; exact e10
  isplitl [H11]
  · iexists f11; isplitr; swap; · iexact H11
    ipureintro; exact e11
  isplitl [H12]
  · iexists f12; isplitr; swap; · iexact H12
    ipureintro; exact e12
  isplitl [H13]
  · iexists f13; isplitr; swap; · iexact H13
    ipureintro; exact e13
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  iexists _, _; isplitr; swap; · iexact H29
  ipureintro; rfl

/-- y4 -/
theorem run_y4 (hj : (i 1).val = 30) (K : PUnit → sProp 𝕄) :
    iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)) -∗ K ⟨⟩))
      ⊢ wp frame (wpE (defs₀ (F := F)) Variants.none c none) Set.univ
          (cc0_palm_block (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  have hc1 : ¬ k0_cond1 i = 1#1 := by rw [cond1_iff]; omega
  have hc2 : ¬ k0_cond2 i = 1#1 := by rw [cond2_iff]; omega
  have hc3 : ¬ k0_cond3 i = 1#1 := by rw [cond3_iff]; omega
  have hc4 : ¬ k0_cond4 i = 1#1 := by rw [cond4_iff]; omega
  have hc5 : ¬ k0_cond5 i = 1#1 := by rw [cond5_iff]; omega
  have hc6 : ¬ k0_cond6 i = 1#1 := by rw [cond6_iff]; omega
  have hc7 : k0_cond7 i = 1#1 := by rw [cond7_iff]; omega
  have hc8 : ¬ k0_cond8 i = 1#1 := by rw [cond8_iff]; omega
  have hc9 : ¬ k0_cond9 i = 1#1 := by rw [cond9_iff]; omega
  have hc10 : ¬ k0_cond10 i = 1#1 := by rw [cond10_iff]; omega
  have hc11 : ¬ k0_cond11 i = 1#1 := by rw [cond11_iff]; omega
  have hc12 : k0_cond12 i = 1#1 := by rw [cond12_iff]; omega
  have hc13 : ¬ k0_cond13 i = 1#1 := by rw [cond13_iff]; omega
  simp only [cc0_palm_block_eq_skeleton]; unfold cc0_palm_block_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, Hk⟩
  sl_exec
  sl_step
  iapply Hk
  isplitl [H2]
  · iexists f2; isplitr; swap; · iexact H2
    ipureintro; exact e2
  isplitl [H3]
  · iexists f3; isplitr; swap; · iexact H3
    ipureintro; exact e3
  isplitl [H4]
  · iexists f4; isplitr; swap; · iexact H4
    ipureintro; exact e4
  isplitl [H5]
  · iexists f5; isplitr; swap; · iexact H5
    ipureintro; exact e5
  isplitl [H6]
  · iexists f6; isplitr; swap; · iexact H6
    ipureintro; exact e6
  isplitl [H7]
  · iexists f7; isplitr; swap; · iexact H7
    ipureintro; exact e7
  isplitl [H8]
  · iexists f8; isplitr; swap; · iexact H8
    ipureintro; exact e8
  isplitl [H9]
  · iexists f9; isplitr; swap; · iexact H9
    ipureintro; exact e9
  isplitl [H10]
  · iexists f10; isplitr; swap; · iexact H10
    ipureintro; exact e10
  isplitl [H11]
  · iexists f11; isplitr; swap; · iexact H11
    ipureintro; exact e11
  isplitl [H12]
  · iexists f12; isplitr; swap; · iexact H12
    ipureintro; exact e12
  isplitl [H13]
  · iexists f13; isplitr; swap; · iexact H13
    ipureintro; exact e13
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  iexists _, _; isplitr; swap; · iexact H29
  ipureintro; rfl

/-- y5 -/
theorem run_y5 (hj : (i 1).val = 31) (K : PUnit → sProp 𝕄) :
    iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)) -∗ K ⟨⟩))
      ⊢ wp frame (wpE (defs₀ (F := F)) Variants.none c none) Set.univ
          (cc0_palm_block (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  have hc1 : ¬ k0_cond1 i = 1#1 := by rw [cond1_iff]; omega
  have hc2 : ¬ k0_cond2 i = 1#1 := by rw [cond2_iff]; omega
  have hc3 : ¬ k0_cond3 i = 1#1 := by rw [cond3_iff]; omega
  have hc4 : ¬ k0_cond4 i = 1#1 := by rw [cond4_iff]; omega
  have hc5 : ¬ k0_cond5 i = 1#1 := by rw [cond5_iff]; omega
  have hc6 : ¬ k0_cond6 i = 1#1 := by rw [cond6_iff]; omega
  have hc7 : k0_cond7 i = 1#1 := by rw [cond7_iff]; omega
  have hc8 : ¬ k0_cond8 i = 1#1 := by rw [cond8_iff]; omega
  have hc9 : ¬ k0_cond9 i = 1#1 := by rw [cond9_iff]; omega
  have hc10 : ¬ k0_cond10 i = 1#1 := by rw [cond10_iff]; omega
  have hc11 : ¬ k0_cond11 i = 1#1 := by rw [cond11_iff]; omega
  have hc12 : ¬ k0_cond12 i = 1#1 := by rw [cond12_iff]; omega
  have hc13 : k0_cond13 i = 1#1 := by rw [cond13_iff]; omega
  simp only [cc0_palm_block_eq_skeleton]; unfold cc0_palm_block_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, Hk⟩
  sl_exec
  sl_step
  iapply Hk
  isplitl [H2]
  · iexists f2; isplitr; swap; · iexact H2
    ipureintro; exact e2
  isplitl [H3]
  · iexists f3; isplitr; swap; · iexact H3
    ipureintro; exact e3
  isplitl [H4]
  · iexists f4; isplitr; swap; · iexact H4
    ipureintro; exact e4
  isplitl [H5]
  · iexists f5; isplitr; swap; · iexact H5
    ipureintro; exact e5
  isplitl [H6]
  · iexists f6; isplitr; swap; · iexact H6
    ipureintro; exact e6
  isplitl [H7]
  · iexists f7; isplitr; swap; · iexact H7
    ipureintro; exact e7
  isplitl [H8]
  · iexists f8; isplitr; swap; · iexact H8
    ipureintro; exact e8
  isplitl [H9]
  · iexists f9; isplitr; swap; · iexact H9
    ipureintro; exact e9
  isplitl [H10]
  · iexists f10; isplitr; swap; · iexact H10
    ipureintro; exact e10
  isplitl [H11]
  · iexists f11; isplitr; swap; · iexact H11
    ipureintro; exact e11
  isplitl [H12]
  · iexists f12; isplitr; swap; · iexact H12
    ipureintro; exact e12
  isplitl [H13]
  · iexists f13; isplitr; swap; · iexact H13
    ipureintro; exact e13
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  iexists _, _; isplitr; swap; · iexact H29
  ipureintro; rfl

end Cert.Kernel.Hand

end
-- ==== Proof.KLaunch.lean ====
/- The frame of `Kernel`: the launch from the body's steps. -/
module

public import proofs.«01_k».proof.Proof.Gen.Kernel.Frame
public import proofs.«01_k».proof.Proof.Gen.Kernel.Loops
public import proofs.«01_k».proof.Proof.Gen.Kernel.Skeleton
public import proofs.«01_k».proof.Proof.KFrame
public import Idealize.ShloMosaic.Lib.Pipeline.Frame
public import Idealize.ShloMosaic.Lib.Pipeline.DatRel
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The results' windows, whose contents the frame does not name. -/
def forgets0 : Fin 22 → Bool := fun | 0 => false | 1 => false | 2 => false | 3 => false | 4 => false | 5 => false | 6 => false | 7 => false | 8 => false | 9 => false | 10 => false | 11 => false | 12 => true | 13 => true | 14 => true | 15 => true | 16 => true | 17 => true | 18 => true | 19 => true | 20 => true | 21 => true | ⟨_ + 22, h⟩ => absurd h (Nat.not_lt.2 (Nat.le_add_left _ _))

abbrev scM0 : Memref sig .tc .vmem S16x512x512 .f32 := Memref.whole cc0_scratch0
abbrev scM1 : Memref sig .tc .vmem S512x128 .f32 := Memref.whole cc0_scratch1
abbrev scM2 : Memref sig .tc .vmem S512x128 .f32 := Memref.whole cc0_scratch2
abbrev scM3 : Memref sig .tc .vmem S512x128 .f32 := Memref.whole cc0_scratch3
abbrev scM4 : Memref sig .tc .vmem S512x128 .f32 := Memref.whole cc0_scratch4
abbrev scM5 : Memref sig .tc .vmem S512x128 .f32 := Memref.whole cc0_scratch5

theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d)) ∗ (∃ r, prngReg c r)) := by
  unfold Pipeline.ΦA; rw [scopedRest0_eq]; simp only [scM0, scM1, scM2, scM3, scM4, scM5, owns_whole]; try rfl

def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => iblk m c 9 t
    | 10 => iblk m c 10 t
    | 11 => iblk m c 11 t
    | 12 => Pipeline.Dat.unnamed (cfg := cfg0) 12 t
    | 13 => Pipeline.Dat.unnamed (cfg := cfg0) 13 t
    | 14 => Pipeline.Dat.unnamed (cfg := cfg0) 14 t
    | 15 => Pipeline.Dat.unnamed (cfg := cfg0) 15 t
    | 16 => Pipeline.Dat.unnamed (cfg := cfg0) 16 t
    | 17 => Pipeline.Dat.unnamed (cfg := cfg0) 17 t
    | 18 => Pipeline.Dat.unnamed (cfg := cfg0) 18 t
    | 19 => Pipeline.Dat.unnamed (cfg := cfg0) 19 t
    | 20 => Pipeline.Dat.unnamed (cfg := cfg0) 20 t
    | 21 => Pipeline.Dat.unnamed (cfg := cfg0) 21 t
    | ⟨_ + 22, h⟩ => absurd h (Nat.not_lt.2 (Nat.le_add_left _ _))
  Φ _ := Pipeline.ΦA spec0 c
  q := Pipeline.shareOf spec0
  owed _ := 0

theorem A_eq (c : Dev nD) (w : Fin cfg0.W) : (dats m 0 c).A w = V m c (Pipeline.arrRef spec0 w) := by dsimp only [dats]

def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare d) ∗ (∃ d, owns (c : Thread nD τ) (st0_13 t) fullShare d) ∗ (∃ d, owns (c : Thread nD τ) (st0_14 t) fullShare d) ∗ (∃ d, owns (c : Thread nD τ) (st0_15 t) fullShare d) ∗ (∃ d, owns (c : Thread nD τ) (st0_16 t) fullShare d) ∗ (∃ d, owns (c : Thread nD τ) (st0_17 t) fullShare d) ∗ (∃ d, owns (c : Thread nD τ) (st0_18 t) fullShare d) ∗ (∃ d, owns (c : Thread nD τ) (st0_19 t) fullShare d) ∗ (∃ d, owns (c : Thread nD τ) (st0_20 t) fullShare d) ∗ (∃ d, owns (c : Thread nD τ) (st0_21 t) fullShare d))
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ (∃ d, owns (c : Thread nD τ) (st0_12 t) fullShare d) ∗ (∃ d, owns (c : Thread nD τ) (st0_13 t) fullShare d) ∗ (∃ d, owns (c : Thread nD τ) (st0_14 t) fullShare d) ∗ (∃ d, owns (c : Thread nD τ) (st0_15 t) fullShare d) ∗ (∃ d, owns (c : Thread nD τ) (st0_16 t) fullShare d) ∗ (∃ d, owns (c : Thread nD τ) (st0_17 t) fullShare d) ∗ (∃ d, owns (c : Thread nD τ) (st0_18 t) fullShare d) ∗ (∃ d, owns (c : Thread nD τ) (st0_19 t) fullShare d) ∗ (∃ d, owns (c : Thread nD τ) (st0_20 t) fullShare d) ∗ (∃ d, owns (c : Thread nD τ) (st0_21 t) fullShare d))

/-- The body at any step: one of the twelve cases of the step's number. -/
theorem run_any (c : Dev nD) (i : grid0.Coords) (arg2 : Memref sig .tc .vmem S512x3072 .bf16) (harg2 : arg2.IsWhole) (arg3 : Memref sig .tc .vmem S1x1x512 .i32) (harg3 : arg3.IsWhole) (arg4 : Memref sig .tc .vmem S1x128 .f32) (harg4 : arg4.IsWhole) (arg5 : Memref sig .tc .vmem S1x3072 .f32) (harg5 : arg5.IsWhole) (arg6 : Memref sig .tc .vmem S3072x512 .fp8e4m3) (harg6 : arg6.IsWhole) (arg7 : Memref sig .tc .vmem S3072x512 .fp8e4m3) (harg7 : arg7.IsWhole) (arg8 : Memref sig .tc .vmem S3072x512 .fp8e4m3) (harg8 : arg8.IsWhole) (arg9 : Memref sig .tc .vmem S8192x512 .fp8e4m3) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x3072 .fp8e4m3) (harg16 : arg16.IsWhole) (arg17 : Memref sig .tc .vmem S1x1x512 .f32) (harg17 : arg17.IsWhole) (arg18 : Memref sig .tc .vmem S512x512 .fp8e4m3) (harg18 : arg18.IsWhole) (arg19 : Memref sig .tc .vmem S512x8 .f32) (harg19 : arg19.IsWhole) (arg20 : Memref sig .tc .vmem S512x512 .fp8e4m3) (harg20 : arg20.IsWhole) (arg21 : Memref sig .tc .vmem S512x8 .f32) (harg21 : arg21.IsWhole) (arg22 : Memref sig .tc .vmem S512x8192 .fp8e4m3) (harg22 : arg22.IsWhole) (arg23 : Memref sig .tc .vmem S1x1x512 .f32) (harg23 : arg23.IsWhole) (arg24 : Memref sig .tc .vmem S16x512x512 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x128 .f32) (harg28 : arg28.IsWhole) (arg29 : Memref sig .tc .vmem S512x128 .f32) (harg29 : arg29.IsWhole) (d2 : S512x3072.Idx → Elt F .bf16) (d3 : S1x1x512.Idx → Elt F .i32) (d4 : S1x128.Idx → Elt F .f32) (d5 : S1x3072.Idx → Elt F .f32) (d6 : S3072x512.Idx → Elt F .fp8e4m3) (d7 : S3072x512.Idx → Elt F .fp8e4m3) (d8 : S3072x512.Idx → Elt F .fp8e4m3) (d9 : S8192x512.Idx → Elt F .fp8e4m3) (d10 : S1x512.Idx → Elt F .f32) (d11 : S1x512.Idx → Elt F .f32) (d12 : S1x512.Idx → Elt F .f32) (d13 : S1x512.Idx → Elt F .f32) (K : PUnit → sProp 𝕄) :
    iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)) -∗ K ⟨⟩))
      ⊢ wp frame (wpE (defs₀ (F := F)) Variants.none c none) Set.univ
          (cc0_palm_block (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  have h32 : (i 1).val < 32 := (i 1).isLt
  by_cases h_first : (i 1).val = 0
  · exact run_first c i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (by omega) _
  by_cases h_mlp : (i 1).val < 16
  · exact run_mlp c i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (by omega) (by omega) _
  by_cases h_quant : (i 1).val = 16
  · exact run_quant c i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (by omega) _
  by_cases h_q : (i 1).val < 22
  · exact run_q c i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (by omega) (by omega) _
  by_cases h_k : (i 1).val < 24
  · exact run_k c i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (by omega) (by omega) _
  by_cases h_v : (i 1).val < 26
  · exact run_v c i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (by omega) (by omega) _
  by_cases h_y0 : (i 1).val = 26
  · exact run_y0 c i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (by omega) _
  by_cases h_y1 : (i 1).val = 27
  · exact run_y1 c i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (by omega) _
  by_cases h_y2 : (i 1).val = 28
  · exact run_y2 c i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (by omega) _
  by_cases h_y3 : (i 1).val = 29
  · exact run_y3 c i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (by omega) _
  by_cases h_y4 : (i 1).val = 30
  · exact run_y4 c i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (by omega) _
  by_cases h_y5 : (i 1).val = 31
  · exact run_y5 c i _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (by omega) _
  · omega

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  have hb0 : ∀ d, (dats m 0 c).before 0 t d = (dats m 0 c).after 0 t := fun d => (before0_0_of m (dats m 0 c) (A_eq m c 0) (fun _ => rfl) t d).trans rfl
  have hb1 : ∀ d, (dats m 0 c).before 1 t d = (dats m 0 c).after 1 t := fun d => (before0_1_of m (dats m 0 c) (A_eq m c 1) (fun _ => rfl) t d).trans rfl
  have hb2 : ∀ d, (dats m 0 c).before 2 t d = (dats m 0 c).after 2 t := fun d => (before0_2_of m (dats m 0 c) (A_eq m c 2) (fun _ => rfl) t d).trans rfl
  have hb3 : ∀ d, (dats m 0 c).before 3 t d = (dats m 0 c).after 3 t := fun d => (before0_3_of m (dats m 0 c) (A_eq m c 3) (fun _ => rfl) t d).trans rfl
  have hb4 : ∀ d, (dats m 0 c).before 4 t d = (dats m 0 c).after 4 t := fun d => (before0_4_of m (dats m 0 c) (A_eq m c 4) (fun _ => rfl) t d).trans rfl
  have hb5 : ∀ d, (dats m 0 c).before 5 t d = (dats m 0 c).after 5 t := fun d => (before0_5_of m (dats m 0 c) (A_eq m c 5) (fun _ => rfl) t d).trans rfl
  have hb6 : ∀ d, (dats m 0 c).before 6 t d = (dats m 0 c).after 6 t := fun d => (before0_6_of m (dats m 0 c) (A_eq m c 6) (fun _ => rfl) t d).trans rfl
  have hb7 : ∀ d, (dats m 0 c).before 7 t d = (dats m 0 c).after 7 t := fun d => (before0_7_of m (dats m 0 c) (A_eq m c 7) (fun _ => rfl) t d).trans rfl
  have hb8 : ∀ d, (dats m 0 c).before 8 t d = (dats m 0 c).after 8 t := fun d => (before0_8_of m (dats m 0 c) (A_eq m c 8) (fun _ => rfl) t d).trans rfl
  have hb9 : ∀ d, (dats m 0 c).before 9 t d = (dats m 0 c).after 9 t := fun d => (before0_9_of m (dats m 0 c) (A_eq m c 9) (fun _ => rfl) t d).trans rfl
  have hb10 : ∀ d, (dats m 0 c).before 10 t d = (dats m 0 c).after 10 t := fun d => (before0_10_of m (dats m 0 c) (A_eq m c 10) (fun _ => rfl) t d).trans rfl
  have hb11 : ∀ d, (dats m 0 c).before 11 t d = (dats m 0 c).after 11 t := fun d => (before0_11_of m (dats m 0 c) (A_eq m c 11) (fun _ => rfl) t d).trans rfl
  simp only [hb0, hb1, hb2, hb3, hb4, hb5, hb6, hb7, hb8, hb9, hb10, hb11]
  iintro ⟨⟨⟨S0, S1, S2, S3, S4, S5⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12, H13, H14, H15, H16, H17, H18, H19, H20, H21⟩
  iapply (run_any (F := F) c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, H10, H11, H12, H13, H14, H15, H16, H17, H18, H19, H20, H21, S0, S1, S2, S3, S4, S5⟩
  isplitl [S0 S1 S2 S3 S4 S5 Hg]
  · isplitr [Hg]; swap; · iexact Hg
    isplitl [S0]; · iexact S0
    isplitl [S1]; · iexact S1
    isplitl [S2]; · iexact S2
    isplitl [S3]; · iexact S3
    isplitl [S4]; · iexact S4
    iexact S5
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m)
    (hin := fun _ => .rfl) (hout := fun _ => .rfl)

theorem frame_args :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (Pipeline.RDat.FramePost.arr_in h.1 c 6 rfl).trans ((A_eq m c 6).trans (V_main_arg3 m c)),
      ((h.1 c).2 main_arg4 (Pipeline.mem_restRefs_of main_arg4 (by decide) (by decide))).trans (V_main_arg4 m c),
      (Pipeline.RDat.FramePost.arr_in h.1 c 7 rfl).trans ((A_eq m c 7).trans (V_main_arg5 m c)),
      ((h.1 c).2 main_arg6 (Pipeline.mem_restRefs_of main_arg6 (by decide) (by decide))).trans (V_main_arg6 m c)⟩, h.2⟩) (run_main m ρ)

end Cert.Kernel.Hand

end
-- ==== Proof.KIVec.lean ====
/- The vector operations the kernel's body is made of: the scaling to eight bits, the rotary turn, a head's columns, a
   lane set, and what stores at fixed column or row blocks leave. Nothing here depends on how the program is run. -/
module

public import proofs.«01_k».proof.Proof.Gen.KernelIdeal.Frame
public import proofs.«01_k».proof.Proof.Gen.KernelIdeal.Skeleton
public import Idealize.ShloMosaic.Lib.VecWindow
public import Idealize.ShloMosaic.Lib.ValueIdxCore
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F] [Named F]

/-! ## Scaling to eight bits -/

/-- One bit of the exponent search: the bit is kept if the field with it is still at most `t`. -/
def qstep {s : Shape} (t : FVec F s .f32) (c : BitVec 32) (b : IVec s 32) : IVec s 32 :=
  select (cmpf .oge t (bitcastToFloat .f32 (ori b (broadcast s c)))) (ori b (broadcast s c)) b

/-- The eight bits, from the top. -/
def qbits {s : Shape} (t : FVec F s .f32) : IVec s 32 :=
  qstep t 8388608#32 (qstep t 16777216#32 (qstep t 33554432#32 (qstep t 67108864#32 (qstep t 134217728#32
    (qstep t 268435456#32 (qstep t 536870912#32 (qstep t 1073741824#32 (broadcast s 0#32))))))))

/-- The exponent field of `t` in place, or the largest field for what is too large. -/
def qfld {s : Shape} (t : FVec F s .f32) : IVec s 32 :=
  select (cmpf .olt t (broadcast s (Scalar.ofBits .f32 0x7E800000#32 : F .f32))) (qbits t) (broadcast s 2139095040#32)

/-- The rows whose scale is one. -/
def qspec {s : Shape} (t : FVec F s .f32) : IVec s 1 :=
  ori (cmpi .eq (qfld t) (broadcast s 0#32)) (cmpi .eq (qfld t) (broadcast s 2139095040#32))

/-- The scale of rows with `t` as the largest entry over 448. -/
def qscale {s : Shape} (t : FVec F s .f32) : FVec F s .f32 :=
  bitcastToFloat .f32 (select (qspec t) (broadcast s 1065353216#32) (addi (qfld t) (broadcast s 8388608#32)))

/-- What the rows are multiplied by. -/
def qinv {s : Shape} (t : FVec F s .f32) : FVec F s .f32 :=
  bitcastToFloat .f32 (select (qspec t) (broadcast s 1065353216#32) (subi (broadcast s 2122317824#32) (qfld t)))

/-- The eight-bit values of scaled entries. -/
def clampC {s : Shape} (v : FVec F s .f32) : FVec F s .fp8e4m3 :=
  truncf .fp8e4m3 (minimumf (broadcast s (Scalar.ofBits .f32 0x43E00000#32 : F .f32))
    (maximumf (broadcast s (Scalar.ofBits .f32 0xC3E00000#32 : F .f32)) v)) bitsLt_fp8e4m3_f32

/-- A head's largest magnitude over 448. -/
def tHead (u : FVec F S512x128 .f32) : FVec F S512x1 .f32 :=
  mulf (shapeCast S512x1 (multiReduction .maximumf [1] S512 (absf u) 0xFF800000#32 reduces_S512x128_S512 (.inl rfl) rfl) shapeCasts_S512_S512x1)
    (broadcast S512x1 (Scalar.ofBits .f32 0x3B124925#32 : F .f32))

/-- A head's eight-bit values. -/
def headCodes (u : FVec F S512x128 .f32) : FVec F S512x128 .fp8e4m3 :=
  clampC (mulf u (broadcastTo S512x128 (qinv (tHead u)) broadcasts_S512x1_S512x128))

/-- One lane of the scales set. -/
def laneSet (hd : BitVec 32) (sc : FVec F S512x1 .f32) (old : FVec F S512x8 .f32) : FVec F S512x8 .f32 :=
  select (cmpi .eq (iota .tc S512x8 32 [1] iota_S512x8_d1_w32) (broadcast S512x8 hd))
    (broadcastTo S512x8 (shapeCast S512x1 sc shapeCasts_S512x1_S512x1) broadcasts_S512x1_S512x8)
    (shapeCast S512x8 old shapeCasts_S512x8_S512x8)

/-- The rotary turn of a head. -/
def ropeC (u cs sn : FVec F S512x128 .f32) : FVec F S512x128 .f32 :=
  addf (mulf u cs) (mulf (dynamicRotate 1 64#32 none u rotates_S512x128_d1) sn)

/-- A head's columns of a block. -/
def headOf (n : Fin 4) (z : FVec F S512x512 .f32) : FVec F S512x128 .f32 :=
  match n with
  | 0 => extractStridedSlice S512x128 ![0, 0] z slices_S512x512_o0_0_S512x128
  | 1 => extractStridedSlice S512x128 ![0, 128] z slices_S512x512_o0_128_S512x128
  | 2 => extractStridedSlice S512x128 ![0, 256] z slices_S512x512_o0_256_S512x128
  | 3 => extractStridedSlice S512x128 ![0, 384] z slices_S512x512_o0_384_S512x128

/-- A block of hidden values against the running maxima. -/
def hmax (z : FVec F S512x512 .f32) (hm : FVec F S512x128 .f32) : FVec F S512x128 .f32 :=
  maximumf (maximumf (maximumf (maximumf hm (absf (headOf 0 z))) (absf (headOf 1 z))) (absf (headOf 2 z))) (absf (headOf 3 z))

/-- The first lane. -/
def col0 {α : Type} (x : S512x128.Idx → α) : S512x1.Idx → α := fun y => x (ix2 (y 0) 0)

/-- A hidden block scaled. -/
def hCodes (z : S512x512.Idx → F .f32) (inv : FVec F S512x1 .f32) : FVec F S512x512 .fp8e4m3 :=
  clampC (mulf z (broadcastTo S512x512 inv broadcasts_S512x1_S512x512))

/-- Block `n` of the hidden values. -/
def slot {α : Type} (x : S16x512x512.Idx → α) (n : Fin 16) : S512x512.Idx → α := fun y => x (ix3 n (y 0) (y 1))

/-! ## Blocks side by side -/

/-- Four heads side by side. -/
def cols4 {α : Type} (w : Fin 4 → S512x128.Idx → α) : S512x512.Idx → α :=
  fun y => w ⟨(y 1).val / 128, by have := idx2_lt1 (n0 := 512) (n1 := 512) y; omega⟩ (ix2 (y 0) ⟨(y 1).val % 128, Nat.mod_lt _ (by decide)⟩)

/-- Four row groups under each other. -/
def rows4 {α : Type} (w : Fin 4 → S128x128.Idx → α) : S512x128.Idx → α :=
  fun y => w ⟨(y 0).val / 128, by have := idx2_lt0 (n0 := 512) (n1 := 128) y; omega⟩ (ix2 ⟨(y 0).val % 128, Nat.mod_lt _ (by decide)⟩ (y 1))

/-- Sixteen blocks side by side. -/
def cols16 {α : Type} (w : Fin 16 → S512x512.Idx → α) : S512x8192.Idx → α :=
  fun y => w ⟨(y 1).val / 512, by have := idx2_lt1 (n0 := 512) (n1 := 8192) y; omega⟩ (ix2 (y 0) ⟨(y 1).val % 512, Nat.mod_lt _ (by decide)⟩)

/-- The hidden blocks with block `j` set. -/
def hput {α : Type} (j : ℕ) (w : S1x512x512.Idx → α) (x : S16x512x512.Idx → α) : S16x512x512.Idx → α :=
  fun y => if (y 0).val = j then w (ix3 0 (y 1) (y 2)) else x y

/-- Block `n` of the hidden values, with the leading axis. -/
def slotV {α : Type} (n : Fin 16) (x : S16x512x512.Idx → α) : S1x512x512.Idx → α := fun y => x (ix3 n (y 1) (y 2))

section Writes

variable {κ : Kind} {sp : Space} {e : EltTy} {Val : EltTy → Type} {sg : RefSig}

theorem readAt_col0 (v : View sg κ sp S512x128 e) (f : v.ty.Contents Val) (inb : ∀ a, (![0, 0] : Fin 2 → ℕ) a + S512x1.size a ≤ S512x128.size a) :
    v.readAt Val (Rect.unit (s := S512x128) ![0, 0] S512x1.size inb).toLoadRect f = col0 (v.read Val f) := by
  funext y
  refine congrArg (v.read Val f) (funext fun a => Fin.ext ?_)
  match a with
  | ⟨0, _⟩ => show 0 + 1 * (y 0).val = (y 0).val; omega
  | ⟨1, _⟩ =>
    have h : (y 1).val < 1 := (y 1).isLt
    show 0 + 1 * (y 1).val = 0; omega

theorem readAt_slot (v : View sg κ sp S16x512x512 e) (f : v.ty.Contents Val) (n : Fin 16)
    (inb : ∀ a, (![n.val, 0, 0] : Fin 3 → ℕ) a + S1x512x512.size a ≤ S16x512x512.size a) :
    v.readAt Val (Rect.unit (s := S16x512x512) ![n.val, 0, 0] S1x512x512.size inb).toLoadRect f = slotV n (v.read Val f) := by
  funext y
  refine congrArg (v.read Val f) (funext fun a => Fin.ext ?_)
  match a with
  | ⟨0, _⟩ =>
    have h : (y 0).val < 1 := (y 0).isLt
    show n.val + 1 * (y 0).val = n.val; omega
  | ⟨1, _⟩ => show 0 + 1 * (y 1).val = (y 1).val; omega
  | ⟨2, _⟩ => show 0 + 1 * (y 2).val = (y 2).val; omega

theorem writes_hput (v : View sg κ sp S16x512x512 e) (f : v.ty.Contents Val) (j : ℕ) (off : Fin 3 → ℕ) (heq : off = ![j, 0, 0])
    (inb : ∀ a, off a + S1x512x512.size a ≤ S16x512x512.size a) (w : S1x512x512.Idx → Val e) :
    v.read Val (v.writes Val f [⟨Rect.unit (s := S16x512x512) off S1x512x512.size inb, w⟩]) = hput j w (v.read Val f) := by
  funext y
  unfold hput
  have h1 : (y 1).val < 512 := (y 1).isLt
  have h2 : (y 2).val < 512 := (y 2).isLt
  by_cases h : (y 0).val = j
  · rw [if_pos h]
    refine View.read_writes_cons_unit_of_mem v f inb w [] y (ix3 0 (y 1) (y 2)) heq fun a => ?_
    match a with
    | ⟨0, _⟩ => show (y 0).val = j + 0; omega
    | ⟨1, _⟩ => show (y 1).val = 0 + (y 1).val; omega
    | ⟨2, _⟩ => show (y 2).val = 0 + (y 2).val; omega
  · rw [if_neg h]
    rw [View.read_writes_cons_unit_of_not_mem v f inb w [] y heq 0 (by show (y 0).val < j ∨ j + 1 ≤ (y 0).val; omega)]
    rfl

theorem writes_cols4 (v : View sg κ sp S512x512 e) (f : v.ty.Contents Val) (w : Fin 4 → S512x128.Idx → Val e)
    (i0 : ∀ a, (![0, 0] : Fin 2 → ℕ) a + S512x128.size a ≤ S512x512.size a)
    (i1 : ∀ a, (![0, 128] : Fin 2 → ℕ) a + S512x128.size a ≤ S512x512.size a)
    (i2 : ∀ a, (![0, 256] : Fin 2 → ℕ) a + S512x128.size a ≤ S512x512.size a)
    (i3 : ∀ a, (![0, 384] : Fin 2 → ℕ) a + S512x128.size a ≤ S512x512.size a)
    : v.read Val (v.writes Val f [⟨Rect.unit (s := S512x512) ![0, 384] S512x128.size i3, w 3⟩, ⟨Rect.unit (s := S512x512) ![0, 256] S512x128.size i2, w 2⟩, ⟨Rect.unit (s := S512x512) ![0, 128] S512x128.size i1, w 1⟩, ⟨Rect.unit (s := S512x512) ![0, 0] S512x128.size i0, w 0⟩]) = cols4 w := by
  funext y
  have h0 := idx2_lt0 (n0 := 512) (n1 := 512) y
  have h1 := idx2_lt1 (n0 := 512) (n1 := 512) y
  apply View.read_writes_apply_of_pieces v f (cols4 w)
  · have key : ∀ (n : Fin 4) (o : ℕ) (ho : o = 128 * n.val) (i : ∀ a, (![0, o] : Fin 2 → ℕ) a + S512x128.size a ≤ S512x512.size a) (x : S512x128.Idx),
        w n x = cols4 w ((Rect.unit (s := S512x512) ![0, o] S512x128.size i).emb x) := by
      intro n o ho i x
      have hn := n.isLt
      have hx0 := idx2_lt0 (n0 := 512) (n1 := 128) x
      have hx1 := idx2_lt1 (n0 := 512) (n1 := 128) x
      unfold cols4
      have e0 : (((Rect.unit (s := S512x512) ![0, o] S512x128.size i).emb x) 0).val = 0 + (x 0).val := by show 0 + 1 * (x 0).val = _; omega
      have e1 : (((Rect.unit (s := S512x512) ![0, o] S512x128.size i).emb x) 1).val = o + (x 1).val := by show o + 1 * (x 1).val = _; omega
      have hd : (⟨(((Rect.unit (s := S512x512) ![0, o] S512x128.size i).emb x) 1).val / 128, by rw [e1]; omega⟩ : Fin 4) = n := Fin.ext (by show _ / 128 = n.val; rw [e1]; omega)
      rw [hd]
      refine congrArg _ (funext fun a => Fin.ext ?_)
      match a with
      | ⟨0, _⟩ => show (x 0).val = (((Rect.unit (s := S512x512) ![0, o] S512x128.size i).emb x) 0).val; rw [e0]; omega
      | ⟨1, _⟩ => show (x 1).val = _ % 128; rw [e1]; omega
    intro p hp x
    simp only [List.mem_cons, List.not_mem_nil, or_false] at hp
    rcases hp with rfl | rfl | rfl | rfl
    · exact key 3 384 rfl i3 x
    · exact key 2 256 rfl i2 x
    · exact key 1 128 rfl i1 x
    · exact key 0 0 rfl i0 x
  · have hc : (0 ≤ (y 1).val ∧ (y 1).val < 128) ∨ (128 ≤ (y 1).val ∧ (y 1).val < 256) ∨ (256 ≤ (y 1).val ∧ (y 1).val < 384) ∨ (384 ≤ (y 1).val ∧ (y 1).val < 512) := by omega
    rcases hc with h | h | h | h
    · refine ⟨_, .tail _ (.tail _ (.tail _ (.head _))), ?_⟩
      rw [Rect.mem_set_unit]; intro a
      match a with
      | ⟨0, _⟩ => exact ⟨Nat.zero_le _, by show (y 0).val < 0 + 512; omega⟩
      | ⟨1, _⟩ => exact ⟨h.1, by have := h.2; show (y 1).val < 0 + 128; omega⟩
    · refine ⟨_, .tail _ (.tail _ (.head _)), ?_⟩
      rw [Rect.mem_set_unit]; intro a
      match a with
      | ⟨0, _⟩ => exact ⟨Nat.zero_le _, by show (y 0).val < 0 + 512; omega⟩
      | ⟨1, _⟩ => exact ⟨h.1, by have := h.2; show (y 1).val < 128 + 128; omega⟩
    · refine ⟨_, .tail _ (.head _), ?_⟩
      rw [Rect.mem_set_unit]; intro a
      match a with
      | ⟨0, _⟩ => exact ⟨Nat.zero_le _, by show (y 0).val < 0 + 512; omega⟩
      | ⟨1, _⟩ => exact ⟨h.1, by have := h.2; show (y 1).val < 256 + 128; omega⟩
    · refine ⟨_, .head _, ?_⟩
      rw [Rect.mem_set_unit]; intro a
      match a with
      | ⟨0, _⟩ => exact ⟨Nat.zero_le _, by show (y 0).val < 0 + 512; omega⟩
      | ⟨1, _⟩ => exact ⟨h.1, by have := h.2; show (y 1).val < 384 + 128; omega⟩

theorem writes_rows4 (v : View sg κ sp S512x128 e) (f : v.ty.Contents Val) (w : Fin 4 → S128x128.Idx → Val e)
    (i0 : ∀ a, (![0, 0] : Fin 2 → ℕ) a + S128x128.size a ≤ S512x128.size a)
    (i1 : ∀ a, (![128, 0] : Fin 2 → ℕ) a + S128x128.size a ≤ S512x128.size a)
    (i2 : ∀ a, (![256, 0] : Fin 2 → ℕ) a + S128x128.size a ≤ S512x128.size a)
    (i3 : ∀ a, (![384, 0] : Fin 2 → ℕ) a + S128x128.size a ≤ S512x128.size a)
    : v.read Val (v.writes Val f [⟨Rect.unit (s := S512x128) ![384, 0] S128x128.size i3, w 3⟩, ⟨Rect.unit (s := S512x128) ![256, 0] S128x128.size i2, w 2⟩, ⟨Rect.unit (s := S512x128) ![128, 0] S128x128.size i1, w 1⟩, ⟨Rect.unit (s := S512x128) ![0, 0] S128x128.size i0, w 0⟩]) = rows4 w := by
  funext y
  have h0 := idx2_lt0 (n0 := 512) (n1 := 128) y
  have h1 := idx2_lt1 (n0 := 512) (n1 := 128) y
  apply View.read_writes_apply_of_pieces v f (rows4 w)
  · have key : ∀ (n : Fin 4) (o : ℕ) (ho : o = 128 * n.val) (i : ∀ a, (![o, 0] : Fin 2 → ℕ) a + S128x128.size a ≤ S512x128.size a) (x : S128x128.Idx),
        w n x = rows4 w ((Rect.unit (s := S512x128) ![o, 0] S128x128.size i).emb x) := by
      intro n o ho i x
      have hn := n.isLt
      have hx0 := idx2_lt0 (n0 := 128) (n1 := 128) x
      have hx1 := idx2_lt1 (n0 := 128) (n1 := 128) x
      unfold rows4
      have e0 : (((Rect.unit (s := S512x128) ![o, 0] S128x128.size i).emb x) 0).val = o + (x 0).val := by show o + 1 * (x 0).val = _; omega
      have e1 : (((Rect.unit (s := S512x128) ![o, 0] S128x128.size i).emb x) 1).val = 0 + (x 1).val := by show 0 + 1 * (x 1).val = _; omega
      have hd : (⟨(((Rect.unit (s := S512x128) ![o, 0] S128x128.size i).emb x) 0).val / 128, by rw [e0]; omega⟩ : Fin 4) = n := Fin.ext (by show _ / 128 = n.val; rw [e0]; omega)
      rw [hd]
      refine congrArg _ (funext fun a => Fin.ext ?_)
      match a with
      | ⟨0, _⟩ => show (x 0).val = _ % 128; rw [e0]; omega
      | ⟨1, _⟩ => show (x 1).val = (((Rect.unit (s := S512x128) ![o, 0] S128x128.size i).emb x) 1).val; rw [e1]; omega
    intro p hp x
    simp only [List.mem_cons, List.not_mem_nil, or_false] at hp
    rcases hp with rfl | rfl | rfl | rfl
    · exact key 3 384 rfl i3 x
    · exact key 2 256 rfl i2 x
    · exact key 1 128 rfl i1 x
    · exact key 0 0 rfl i0 x
  · have hc : (0 ≤ (y 0).val ∧ (y 0).val < 128) ∨ (128 ≤ (y 0).val ∧ (y 0).val < 256) ∨ (256 ≤ (y 0).val ∧ (y 0).val < 384) ∨ (384 ≤ (y 0).val ∧ (y 0).val < 512) := by omega
    rcases hc with h | h | h | h
    · refine ⟨_, .tail _ (.tail _ (.tail _ (.head _))), ?_⟩
      rw [Rect.mem_set_unit]; intro a
      match a with
      | ⟨0, _⟩ => exact ⟨h.1, by have := h.2; show (y 0).val < 0 + 128; omega⟩
      | ⟨1, _⟩ => exact ⟨Nat.zero_le _, by show (y 1).val < 0 + 128; omega⟩
    · refine ⟨_, .tail _ (.tail _ (.head _)), ?_⟩
      rw [Rect.mem_set_unit]; intro a
      match a with
      | ⟨0, _⟩ => exact ⟨h.1, by have := h.2; show (y 0).val < 128 + 128; omega⟩
      | ⟨1, _⟩ => exact ⟨Nat.zero_le _, by show (y 1).val < 0 + 128; omega⟩
    · refine ⟨_, .tail _ (.head _), ?_⟩
      rw [Rect.mem_set_unit]; intro a
      match a with
      | ⟨0, _⟩ => exact ⟨h.1, by have := h.2; show (y 0).val < 256 + 128; omega⟩
      | ⟨1, _⟩ => exact ⟨Nat.zero_le _, by show (y 1).val < 0 + 128; omega⟩
    · refine ⟨_, .head _, ?_⟩
      rw [Rect.mem_set_unit]; intro a
      match a with
      | ⟨0, _⟩ => exact ⟨h.1, by have := h.2; show (y 0).val < 384 + 128; omega⟩
      | ⟨1, _⟩ => exact ⟨Nat.zero_le _, by show (y 1).val < 0 + 128; omega⟩

theorem writes_cols16 (v : View sg κ sp S512x8192 e) (f : v.ty.Contents Val) (w : Fin 16 → S512x512.Idx → Val e)
    (i0 : ∀ a, (![0, 0] : Fin 2 → ℕ) a + S512x512.size a ≤ S512x8192.size a)
    (i1 : ∀ a, (![0, 512] : Fin 2 → ℕ) a + S512x512.size a ≤ S512x8192.size a)
    (i2 : ∀ a, (![0, 1024] : Fin 2 → ℕ) a + S512x512.size a ≤ S512x8192.size a)
    (i3 : ∀ a, (![0, 1536] : Fin 2 → ℕ) a + S512x512.size a ≤ S512x8192.size a)
    (i4 : ∀ a, (![0, 2048] : Fin 2 → ℕ) a + S512x512.size a ≤ S512x8192.size a)
    (i5 : ∀ a, (![0, 2560] : Fin 2 → ℕ) a + S512x512.size a ≤ S512x8192.size a)
    (i6 : ∀ a, (![0, 3072] : Fin 2 → ℕ) a + S512x512.size a ≤ S512x8192.size a)
    (i7 : ∀ a, (![0, 3584] : Fin 2 → ℕ) a + S512x512.size a ≤ S512x8192.size a)
    (i8 : ∀ a, (![0, 4096] : Fin 2 → ℕ) a + S512x512.size a ≤ S512x8192.size a)
    (i9 : ∀ a, (![0, 4608] : Fin 2 → ℕ) a + S512x512.size a ≤ S512x8192.size a)
    (i10 : ∀ a, (![0, 5120] : Fin 2 → ℕ) a + S512x512.size a ≤ S512x8192.size a)
    (i11 : ∀ a, (![0, 5632] : Fin 2 → ℕ) a + S512x512.size a ≤ S512x8192.size a)
    (i12 : ∀ a, (![0, 6144] : Fin 2 → ℕ) a + S512x512.size a ≤ S512x8192.size a)
    (i13 : ∀ a, (![0, 6656] : Fin 2 → ℕ) a + S512x512.size a ≤ S512x8192.size a)
    (i14 : ∀ a, (![0, 7168] : Fin 2 → ℕ) a + S512x512.size a ≤ S512x8192.size a)
    (i15 : ∀ a, (![0, 7680] : Fin 2 → ℕ) a + S512x512.size a ≤ S512x8192.size a)
    : v.read Val (v.writes Val f [⟨Rect.unit (s := S512x8192) ![0, 7680] S512x512.size i15, w 15⟩, ⟨Rect.unit (s := S512x8192) ![0, 7168] S512x512.size i14, w 14⟩, ⟨Rect.unit (s := S512x8192) ![0, 6656] S512x512.size i13, w 13⟩, ⟨Rect.unit (s := S512x8192) ![0, 6144] S512x512.size i12, w 12⟩, ⟨Rect.unit (s := S512x8192) ![0, 5632] S512x512.size i11, w 11⟩, ⟨Rect.unit (s := S512x8192) ![0, 5120] S512x512.size i10, w 10⟩, ⟨Rect.unit (s := S512x8192) ![0, 4608] S512x512.size i9, w 9⟩, ⟨Rect.unit (s := S512x8192) ![0, 4096] S512x512.size i8, w 8⟩, ⟨Rect.unit (s := S512x8192) ![0, 3584] S512x512.size i7, w 7⟩, ⟨Rect.unit (s := S512x8192) ![0, 3072] S512x512.size i6, w 6⟩, ⟨Rect.unit (s := S512x8192) ![0, 2560] S512x512.size i5, w 5⟩, ⟨Rect.unit (s := S512x8192) ![0, 2048] S512x512.size i4, w 4⟩, ⟨Rect.unit (s := S512x8192) ![0, 1536] S512x512.size i3, w 3⟩, ⟨Rect.unit (s := S512x8192) ![0, 1024] S512x512.size i2, w 2⟩, ⟨Rect.unit (s := S512x8192) ![0, 512] S512x512.size i1, w 1⟩, ⟨Rect.unit (s := S512x8192) ![0, 0] S512x512.size i0, w 0⟩]) = cols16 w := by
  funext y
  have h0 := idx2_lt0 (n0 := 512) (n1 := 8192) y
  have h1 := idx2_lt1 (n0 := 512) (n1 := 8192) y
  apply View.read_writes_apply_of_pieces v f (cols16 w)
  · have key : ∀ (n : Fin 16) (o : ℕ) (ho : o = 512 * n.val) (i : ∀ a, (![0, o] : Fin 2 → ℕ) a + S512x512.size a ≤ S512x8192.size a) (x : S512x512.Idx),
        w n x = cols16 w ((Rect.unit (s := S512x8192) ![0, o] S512x512.size i).emb x) := by
      intro n o ho i x
      have hn := n.isLt
      have hx0 := idx2_lt0 (n0 := 512) (n1 := 512) x
      have hx1 := idx2_lt1 (n0 := 512) (n1 := 512) x
      unfold cols16
      have e0 : (((Rect.unit (s := S512x8192) ![0, o] S512x512.size i).emb x) 0).val = 0 + (x 0).val := by show 0 + 1 * (x 0).val = _; omega
      have e1 : (((Rect.unit (s := S512x8192) ![0, o] S512x512.size i).emb x) 1).val = o + (x 1).val := by show o + 1 * (x 1).val = _; omega
      have hd : (⟨(((Rect.unit (s := S512x8192) ![0, o] S512x512.size i).emb x) 1).val / 512, by rw [e1]; omega⟩ : Fin 16) = n := Fin.ext (by show _ / 512 = n.val; rw [e1]; omega)
      rw [hd]
      refine congrArg _ (funext fun a => Fin.ext ?_)
      match a with
      | ⟨0, _⟩ => show (x 0).val = (((Rect.unit (s := S512x8192) ![0, o] S512x512.size i).emb x) 0).val; rw [e0]; omega
      | ⟨1, _⟩ => show (x 1).val = _ % 512; rw [e1]; omega
    intro p hp x
    simp only [List.mem_cons, List.not_mem_nil, or_false] at hp
    rcases hp with rfl | rfl | rfl | rfl | rfl | rfl | rfl | rfl | rfl | rfl | rfl | rfl | rfl | rfl | rfl | rfl
    · exact key 15 7680 rfl i15 x
    · exact key 14 7168 rfl i14 x
    · exact key 13 6656 rfl i13 x
    · exact key 12 6144 rfl i12 x
    · exact key 11 5632 rfl i11 x
    · exact key 10 5120 rfl i10 x
    · exact key 9 4608 rfl i9 x
    · exact key 8 4096 rfl i8 x
    · exact key 7 3584 rfl i7 x
    · exact key 6 3072 rfl i6 x
    · exact key 5 2560 rfl i5 x
    · exact key 4 2048 rfl i4 x
    · exact key 3 1536 rfl i3 x
    · exact key 2 1024 rfl i2 x
    · exact key 1 512 rfl i1 x
    · exact key 0 0 rfl i0 x
  · have hc : (0 ≤ (y 1).val ∧ (y 1).val < 512) ∨ (512 ≤ (y 1).val ∧ (y 1).val < 1024) ∨ (1024 ≤ (y 1).val ∧ (y 1).val < 1536) ∨ (1536 ≤ (y 1).val ∧ (y 1).val < 2048) ∨ (2048 ≤ (y 1).val ∧ (y 1).val < 2560) ∨ (2560 ≤ (y 1).val ∧ (y 1).val < 3072) ∨ (3072 ≤ (y 1).val ∧ (y 1).val < 3584) ∨ (3584 ≤ (y 1).val ∧ (y 1).val < 4096) ∨ (4096 ≤ (y 1).val ∧ (y 1).val < 4608) ∨ (4608 ≤ (y 1).val ∧ (y 1).val < 5120) ∨ (5120 ≤ (y 1).val ∧ (y 1).val < 5632) ∨ (5632 ≤ (y 1).val ∧ (y 1).val < 6144) ∨ (6144 ≤ (y 1).val ∧ (y 1).val < 6656) ∨ (6656 ≤ (y 1).val ∧ (y 1).val < 7168) ∨ (7168 ≤ (y 1).val ∧ (y 1).val < 7680) ∨ (7680 ≤ (y 1).val ∧ (y 1).val < 8192) := by omega
    rcases hc with h | h | h | h | h | h | h | h | h | h | h | h | h | h | h | h
    · refine ⟨_, .tail _ (.tail _ (.tail _ (.tail _ (.tail _ (.tail _ (.tail _ (.tail _ (.tail _ (.tail _ (.tail _ (.tail _ (.tail _ (.tail _ (.tail _ (.head _))))))))))))))), ?_⟩
      rw [Rect.mem_set_unit]; intro a
      match a with
      | ⟨0, _⟩ => exact ⟨Nat.zero_le _, by show (y 0).val < 0 + 512; omega⟩
      | ⟨1, _⟩ => exact ⟨h.1, by have := h.2; show (y 1).val < 0 + 512; omega⟩
    · refine ⟨_, .tail _ (.tail _ (.tail _ (.tail _ (.tail _ (.tail _ (.tail _ (.tail _ (.tail _ (.tail _ (.tail _ (.tail _ (.tail _ (.tail _ (.head _)))))))))))))), ?_⟩
      rw [Rect.mem_set_unit]; intro a
      match a with
      | ⟨0, _⟩ => exact ⟨Nat.zero_le _, by show (y 0).val < 0 + 512; omega⟩
      | ⟨1, _⟩ => exact ⟨h.1, by have := h.2; show (y 1).val < 512 + 512; omega⟩
    · refine ⟨_, .tail _ (.tail _ (.tail _ (.tail _ (.tail _ (.tail _ (.tail _ (.tail _ (.tail _ (.tail _ (.tail _ (.tail _ (.tail _ (.head _))))))))))))), ?_⟩
      rw [Rect.mem_set_unit]; intro a
      match a with
      | ⟨0, _⟩ => exact ⟨Nat.zero_le _, by show (y 0).val < 0 + 512; omega⟩
      | ⟨1, _⟩ => exact ⟨h.1, by have := h.2; show (y 1).val < 1024 + 512; omega⟩
    · refine ⟨_, .tail _ (.tail _ (.tail _ (.tail _ (.tail _ (.tail _ (.tail _ (.tail _ (.tail _ (.tail _ (.tail _ (.tail _ (.head _)))))))))))), ?_⟩
      rw [Rect.mem_set_unit]; intro a
      match a with
      | ⟨0, _⟩ => exact ⟨Nat.zero_le _, by show (y 0).val < 0 + 512; omega⟩
      | ⟨1, _⟩ => exact ⟨h.1, by have := h.2; show (y 1).val < 1536 + 512; omega⟩
    · refine ⟨_, .tail _ (.tail _ (.tail _ (.tail _ (.tail _ (.tail _ (.tail _ (.tail _ (.tail _ (.tail _ (.tail _ (.head _))))))))))), ?_⟩
      rw [Rect.mem_set_unit]; intro a
      match a with
      | ⟨0, _⟩ => exact ⟨Nat.zero_le _, by show (y 0).val < 0 + 512; omega⟩
      | ⟨1, _⟩ => exact ⟨h.1, by have := h.2; show (y 1).val < 2048 + 512; omega⟩
    · refine ⟨_, .tail _ (.tail _ (.tail _ (.tail _ (.tail _ (.tail _ (.tail _ (.tail _ (.tail _ (.tail _ (.head _)))))))))), ?_⟩
      rw [Rect.mem_set_unit]; intro a
      match a with
      | ⟨0, _⟩ => exact ⟨Nat.zero_le _, by show (y 0).val < 0 + 512; omega⟩
      | ⟨1, _⟩ => exact ⟨h.1, by have := h.2; show (y 1).val < 2560 + 512; omega⟩
    · refine ⟨_, .tail _ (.tail _ (.tail _ (.tail _ (.tail _ (.tail _ (.tail _ (.tail _ (.tail _ (.head _))))))))), ?_⟩
      rw [Rect.mem_set_unit]; intro a
      match a with
      | ⟨0, _⟩ => exact ⟨Nat.zero_le _, by show (y 0).val < 0 + 512; omega⟩
      | ⟨1, _⟩ => exact ⟨h.1, by have := h.2; show (y 1).val < 3072 + 512; omega⟩
    · refine ⟨_, .tail _ (.tail _ (.tail _ (.tail _ (.tail _ (.tail _ (.tail _ (.tail _ (.head _)))))))), ?_⟩
      rw [Rect.mem_set_unit]; intro a
      match a with
      | ⟨0, _⟩ => exact ⟨Nat.zero_le _, by show (y 0).val < 0 + 512; omega⟩
      | ⟨1, _⟩ => exact ⟨h.1, by have := h.2; show (y 1).val < 3584 + 512; omega⟩
    · refine ⟨_, .tail _ (.tail _ (.tail _ (.tail _ (.tail _ (.tail _ (.tail _ (.head _))))))), ?_⟩
      rw [Rect.mem_set_unit]; intro a
      match a with
      | ⟨0, _⟩ => exact ⟨Nat.zero_le _, by show (y 0).val < 0 + 512; omega⟩
      | ⟨1, _⟩ => exact ⟨h.1, by have := h.2; show (y 1).val < 4096 + 512; omega⟩
    · refine ⟨_, .tail _ (.tail _ (.tail _ (.tail _ (.tail _ (.tail _ (.head _)))))), ?_⟩
      rw [Rect.mem_set_unit]; intro a
      match a with
      | ⟨0, _⟩ => exact ⟨Nat.zero_le _, by show (y 0).val < 0 + 512; omega⟩
      | ⟨1, _⟩ => exact ⟨h.1, by have := h.2; show (y 1).val < 4608 + 512; omega⟩
    · refine ⟨_, .tail _ (.tail _ (.tail _ (.tail _ (.tail _ (.head _))))), ?_⟩
      rw [Rect.mem_set_unit]; intro a
      match a with
      | ⟨0, _⟩ => exact ⟨Nat.zero_le _, by show (y 0).val < 0 + 512; omega⟩
      | ⟨1, _⟩ => exact ⟨h.1, by have := h.2; show (y 1).val < 5120 + 512; omega⟩
    · refine ⟨_, .tail _ (.tail _ (.tail _ (.tail _ (.head _)))), ?_⟩
      rw [Rect.mem_set_unit]; intro a
      match a with
      | ⟨0, _⟩ => exact ⟨Nat.zero_le _, by show (y 0).val < 0 + 512; omega⟩
      | ⟨1, _⟩ => exact ⟨h.1, by have := h.2; show (y 1).val < 5632 + 512; omega⟩
    · refine ⟨_, .tail _ (.tail _ (.tail _ (.head _))), ?_⟩
      rw [Rect.mem_set_unit]; intro a
      match a with
      | ⟨0, _⟩ => exact ⟨Nat.zero_le _, by show (y 0).val < 0 + 512; omega⟩
      | ⟨1, _⟩ => exact ⟨h.1, by have := h.2; show (y 1).val < 6144 + 512; omega⟩
    · refine ⟨_, .tail _ (.tail _ (.head _)), ?_⟩
      rw [Rect.mem_set_unit]; intro a
      match a with
      | ⟨0, _⟩ => exact ⟨Nat.zero_le _, by show (y 0).val < 0 + 512; omega⟩
      | ⟨1, _⟩ => exact ⟨h.1, by have := h.2; show (y 1).val < 6656 + 512; omega⟩
    · refine ⟨_, .tail _ (.head _), ?_⟩
      rw [Rect.mem_set_unit]; intro a
      match a with
      | ⟨0, _⟩ => exact ⟨Nat.zero_le _, by show (y 0).val < 0 + 512; omega⟩
      | ⟨1, _⟩ => exact ⟨h.1, by have := h.2; show (y 1).val < 7168 + 512; omega⟩
    · refine ⟨_, .head _, ?_⟩
      rw [Rect.mem_set_unit]; intro a
      match a with
      | ⟨0, _⟩ => exact ⟨Nat.zero_le _, by show (y 0).val < 0 + 512; omega⟩
      | ⟨1, _⟩ => exact ⟨h.1, by have := h.2; show (y 1).val < 7680 + 512; omega⟩

/-! Whole loads and stores, with the sizes spelt out. -/

theorem ld_S512x3072 (v : View sg κ sp S512x3072 e) (f : v.ty.Contents Val) (i : ∀ a : Fin 2, (![0, 0] : Fin 2 → ℕ) a + (![512, 3072] : Fin 2 → ℕ) a ≤ S512x3072.size a) :
    v.readAt Val (Rect.unit (s := S512x3072) ![0, 0] ![512, 3072] i).toLoadRect f = v.read Val f := View.readAt_full v f i
theorem st_S512x3072 (v : View sg κ sp S512x3072 e) (f : v.ty.Contents Val) (i : ∀ a : Fin 2, (![0, 0] : Fin 2 → ℕ) a + (![512, 3072] : Fin 2 → ℕ) a ≤ S512x3072.size a) (w : S512x3072.Idx → Val e) (L : List (View.Piece Val S512x3072 e)) :
    v.read Val (v.writes Val f (⟨Rect.unit (s := S512x3072) ![0, 0] ![512, 3072] i, w⟩ :: L)) = w := View.read_writes_full v f i w L

theorem ld_S1x1x512 (v : View sg κ sp S1x1x512 e) (f : v.ty.Contents Val) (i : ∀ a : Fin 3, (![0, 0, 0] : Fin 3 → ℕ) a + (![1, 1, 512] : Fin 3 → ℕ) a ≤ S1x1x512.size a) :
    v.readAt Val (Rect.unit (s := S1x1x512) ![0, 0, 0] ![1, 1, 512] i).toLoadRect f = v.read Val f := View.readAt_full v f i
theorem st_S1x1x512 (v : View sg κ sp S1x1x512 e) (f : v.ty.Contents Val) (i : ∀ a : Fin 3, (![0, 0, 0] : Fin 3 → ℕ) a + (![1, 1, 512] : Fin 3 → ℕ) a ≤ S1x1x512.size a) (w : S1x1x512.Idx → Val e) (L : List (View.Piece Val S1x1x512 e)) :
    v.read Val (v.writes Val f (⟨Rect.unit (s := S1x1x512) ![0, 0, 0] ![1, 1, 512] i, w⟩ :: L)) = w := View.read_writes_full v f i w L

theorem ld_S1x128 (v : View sg κ sp S1x128 e) (f : v.ty.Contents Val) (i : ∀ a : Fin 2, (![0, 0] : Fin 2 → ℕ) a + (![1, 128] : Fin 2 → ℕ) a ≤ S1x128.size a) :
    v.readAt Val (Rect.unit (s := S1x128) ![0, 0] ![1, 128] i).toLoadRect f = v.read Val f := View.readAt_full v f i
theorem st_S1x128 (v : View sg κ sp S1x128 e) (f : v.ty.Contents Val) (i : ∀ a : Fin 2, (![0, 0] : Fin 2 → ℕ) a + (![1, 128] : Fin 2 → ℕ) a ≤ S1x128.size a) (w : S1x128.Idx → Val e) (L : List (View.Piece Val S1x128 e)) :
    v.read Val (v.writes Val f (⟨Rect.unit (s := S1x128) ![0, 0] ![1, 128] i, w⟩ :: L)) = w := View.read_writes_full v f i w L

theorem ld_S1x3072 (v : View sg κ sp S1x3072 e) (f : v.ty.Contents Val) (i : ∀ a : Fin 2, (![0, 0] : Fin 2 → ℕ) a + (![1, 3072] : Fin 2 → ℕ) a ≤ S1x3072.size a) :
    v.readAt Val (Rect.unit (s := S1x3072) ![0, 0] ![1, 3072] i).toLoadRect f = v.read Val f := View.readAt_full v f i
theorem st_S1x3072 (v : View sg κ sp S1x3072 e) (f : v.ty.Contents Val) (i : ∀ a : Fin 2, (![0, 0] : Fin 2 → ℕ) a + (![1, 3072] : Fin 2 → ℕ) a ≤ S1x3072.size a) (w : S1x3072.Idx → Val e) (L : List (View.Piece Val S1x3072 e)) :
    v.read Val (v.writes Val f (⟨Rect.unit (s := S1x3072) ![0, 0] ![1, 3072] i, w⟩ :: L)) = w := View.read_writes_full v f i w L

theorem ld_S3072x512 (v : View sg κ sp S3072x512 e) (f : v.ty.Contents Val) (i : ∀ a : Fin 2, (![0, 0] : Fin 2 → ℕ) a + (![3072, 512] : Fin 2 → ℕ) a ≤ S3072x512.size a) :
    v.readAt Val (Rect.unit (s := S3072x512) ![0, 0] ![3072, 512] i).toLoadRect f = v.read Val f := View.readAt_full v f i
theorem st_S3072x512 (v : View sg κ sp S3072x512 e) (f : v.ty.Contents Val) (i : ∀ a : Fin 2, (![0, 0] : Fin 2 → ℕ) a + (![3072, 512] : Fin 2 → ℕ) a ≤ S3072x512.size a) (w : S3072x512.Idx → Val e) (L : List (View.Piece Val S3072x512 e)) :
    v.read Val (v.writes Val f (⟨Rect.unit (s := S3072x512) ![0, 0] ![3072, 512] i, w⟩ :: L)) = w := View.read_writes_full v f i w L

theorem ld_S8192x512 (v : View sg κ sp S8192x512 e) (f : v.ty.Contents Val) (i : ∀ a : Fin 2, (![0, 0] : Fin 2 → ℕ) a + (![8192, 512] : Fin 2 → ℕ) a ≤ S8192x512.size a) :
    v.readAt Val (Rect.unit (s := S8192x512) ![0, 0] ![8192, 512] i).toLoadRect f = v.read Val f := View.readAt_full v f i
theorem st_S8192x512 (v : View sg κ sp S8192x512 e) (f : v.ty.Contents Val) (i : ∀ a : Fin 2, (![0, 0] : Fin 2 → ℕ) a + (![8192, 512] : Fin 2 → ℕ) a ≤ S8192x512.size a) (w : S8192x512.Idx → Val e) (L : List (View.Piece Val S8192x512 e)) :
    v.read Val (v.writes Val f (⟨Rect.unit (s := S8192x512) ![0, 0] ![8192, 512] i, w⟩ :: L)) = w := View.read_writes_full v f i w L

theorem ld_S1x512 (v : View sg κ sp S1x512 e) (f : v.ty.Contents Val) (i : ∀ a : Fin 2, (![0, 0] : Fin 2 → ℕ) a + (![1, 512] : Fin 2 → ℕ) a ≤ S1x512.size a) :
    v.readAt Val (Rect.unit (s := S1x512) ![0, 0] ![1, 512] i).toLoadRect f = v.read Val f := View.readAt_full v f i
theorem st_S1x512 (v : View sg κ sp S1x512 e) (f : v.ty.Contents Val) (i : ∀ a : Fin 2, (![0, 0] : Fin 2 → ℕ) a + (![1, 512] : Fin 2 → ℕ) a ≤ S1x512.size a) (w : S1x512.Idx → Val e) (L : List (View.Piece Val S1x512 e)) :
    v.read Val (v.writes Val f (⟨Rect.unit (s := S1x512) ![0, 0] ![1, 512] i, w⟩ :: L)) = w := View.read_writes_full v f i w L

theorem ld_S512x512 (v : View sg κ sp S512x512 e) (f : v.ty.Contents Val) (i : ∀ a : Fin 2, (![0, 0] : Fin 2 → ℕ) a + (![512, 512] : Fin 2 → ℕ) a ≤ S512x512.size a) :
    v.readAt Val (Rect.unit (s := S512x512) ![0, 0] ![512, 512] i).toLoadRect f = v.read Val f := View.readAt_full v f i
theorem st_S512x512 (v : View sg κ sp S512x512 e) (f : v.ty.Contents Val) (i : ∀ a : Fin 2, (![0, 0] : Fin 2 → ℕ) a + (![512, 512] : Fin 2 → ℕ) a ≤ S512x512.size a) (w : S512x512.Idx → Val e) (L : List (View.Piece Val S512x512 e)) :
    v.read Val (v.writes Val f (⟨Rect.unit (s := S512x512) ![0, 0] ![512, 512] i, w⟩ :: L)) = w := View.read_writes_full v f i w L

theorem ld_S512x8 (v : View sg κ sp S512x8 e) (f : v.ty.Contents Val) (i : ∀ a : Fin 2, (![0, 0] : Fin 2 → ℕ) a + (![512, 8] : Fin 2 → ℕ) a ≤ S512x8.size a) :
    v.readAt Val (Rect.unit (s := S512x8) ![0, 0] ![512, 8] i).toLoadRect f = v.read Val f := View.readAt_full v f i
theorem st_S512x8 (v : View sg κ sp S512x8 e) (f : v.ty.Contents Val) (i : ∀ a : Fin 2, (![0, 0] : Fin 2 → ℕ) a + (![512, 8] : Fin 2 → ℕ) a ≤ S512x8.size a) (w : S512x8.Idx → Val e) (L : List (View.Piece Val S512x8 e)) :
    v.read Val (v.writes Val f (⟨Rect.unit (s := S512x8) ![0, 0] ![512, 8] i, w⟩ :: L)) = w := View.read_writes_full v f i w L
theorem lc_S512x8 [∀ e, Nonempty (Val e)] (v : View sg κ sp S512x8 e) (i : ∀ a : Fin 2, (![0, 0] : Fin 2 → ℕ) a + (![512, 8] : Fin 2 → ℕ) a ≤ S512x8.size a) (j : ∀ a : Fin 2, (![0, 0] : Fin 2 → ℕ) a + (![512, 8] : Fin 2 → ℕ) a ≤ S512x8.size a) (w : S512x8.Idx → Val e) (L : List (View.Piece Val S512x8 e)) :
    v.readCov (⟨Rect.unit (s := S512x8) ![0, 0] ![512, 8] j, w⟩ :: L) (Rect.unit (s := S512x8) ![0, 0] ![512, 8] i).toLoadRect = w := View.readCov_full v i j w L
theorem ls_S512x8 (v : View sg κ sp S512x8 e) (f : v.ty.Contents Val) (i : ∀ a : Fin 2, (![0, 0] : Fin 2 → ℕ) a + (![512, 8] : Fin 2 → ℕ) a ≤ S512x8.size a) (j : ∀ a : Fin 2, (![0, 0] : Fin 2 → ℕ) a + (![512, 8] : Fin 2 → ℕ) a ≤ S512x8.size a) (w : S512x8.Idx → Val e) (L : List (View.Piece Val S512x8 e)) :
    v.readAt Val (Rect.unit (s := S512x8) ![0, 0] ![512, 8] i).toLoadRect (v.writes Val f (⟨Rect.unit (s := S512x8) ![0, 0] ![512, 8] j, w⟩ :: L)) = w := View.readAt_writes_full v f i j w L

theorem ld_S512x8192 (v : View sg κ sp S512x8192 e) (f : v.ty.Contents Val) (i : ∀ a : Fin 2, (![0, 0] : Fin 2 → ℕ) a + (![512, 8192] : Fin 2 → ℕ) a ≤ S512x8192.size a) :
    v.readAt Val (Rect.unit (s := S512x8192) ![0, 0] ![512, 8192] i).toLoadRect f = v.read Val f := View.readAt_full v f i
theorem st_S512x8192 (v : View sg κ sp S512x8192 e) (f : v.ty.Contents Val) (i : ∀ a : Fin 2, (![0, 0] : Fin 2 → ℕ) a + (![512, 8192] : Fin 2 → ℕ) a ≤ S512x8192.size a) (w : S512x8192.Idx → Val e) (L : List (View.Piece Val S512x8192 e)) :
    v.read Val (v.writes Val f (⟨Rect.unit (s := S512x8192) ![0, 0] ![512, 8192] i, w⟩ :: L)) = w := View.read_writes_full v f i w L

theorem ld_S512x128 (v : View sg κ sp S512x128 e) (f : v.ty.Contents Val) (i : ∀ a : Fin 2, (![0, 0] : Fin 2 → ℕ) a + (![512, 128] : Fin 2 → ℕ) a ≤ S512x128.size a) :
    v.readAt Val (Rect.unit (s := S512x128) ![0, 0] ![512, 128] i).toLoadRect f = v.read Val f := View.readAt_full v f i
theorem st_S512x128 (v : View sg κ sp S512x128 e) (f : v.ty.Contents Val) (i : ∀ a : Fin 2, (![0, 0] : Fin 2 → ℕ) a + (![512, 128] : Fin 2 → ℕ) a ≤ S512x128.size a) (w : S512x128.Idx → Val e) (L : List (View.Piece Val S512x128 e)) :
    v.read Val (v.writes Val f (⟨Rect.unit (s := S512x128) ![0, 0] ![512, 128] i, w⟩ :: L)) = w := View.read_writes_full v f i w L
theorem lc_S512x128 [∀ e, Nonempty (Val e)] (v : View sg κ sp S512x128 e) (i : ∀ a : Fin 2, (![0, 0] : Fin 2 → ℕ) a + (![512, 128] : Fin 2 → ℕ) a ≤ S512x128.size a) (j : ∀ a : Fin 2, (![0, 0] : Fin 2 → ℕ) a + (![512, 128] : Fin 2 → ℕ) a ≤ S512x128.size a) (w : S512x128.Idx → Val e) (L : List (View.Piece Val S512x128 e)) :
    v.readCov (⟨Rect.unit (s := S512x128) ![0, 0] ![512, 128] j, w⟩ :: L) (Rect.unit (s := S512x128) ![0, 0] ![512, 128] i).toLoadRect = w := View.readCov_full v i j w L
theorem ls_S512x128 (v : View sg κ sp S512x128 e) (f : v.ty.Contents Val) (i : ∀ a : Fin 2, (![0, 0] : Fin 2 → ℕ) a + (![512, 128] : Fin 2 → ℕ) a ≤ S512x128.size a) (j : ∀ a : Fin 2, (![0, 0] : Fin 2 → ℕ) a + (![512, 128] : Fin 2 → ℕ) a ≤ S512x128.size a) (w : S512x128.Idx → Val e) (L : List (View.Piece Val S512x128 e)) :
    v.readAt Val (Rect.unit (s := S512x128) ![0, 0] ![512, 128] i).toLoadRect (v.writes Val f (⟨Rect.unit (s := S512x128) ![0, 0] ![512, 128] j, w⟩ :: L)) = w := View.readAt_writes_full v f i j w L

theorem ld0_S512x128 (v : View sg κ sp S512x128 e) (f : v.ty.Contents Val) (i : ∀ a : Fin 2, (![0, 0] : Fin 2 → ℕ) a + (![512, 1] : Fin 2 → ℕ) a ≤ S512x128.size a) :
    v.readAt Val (Rect.unit (s := S512x128) ![0, 0] ![512, 1] i).toLoadRect f = col0 (v.read Val f) := readAt_col0 v f i
theorem lc0_S512x128 [∀ e, Nonempty (Val e)] (v : View sg κ sp S512x128 e) (i : ∀ a : Fin 2, (![0, 0] : Fin 2 → ℕ) a + (![512, 1] : Fin 2 → ℕ) a ≤ S512x128.size a)
    (j : ∀ a : Fin 2, (![0, 0] : Fin 2 → ℕ) a + (![512, 128] : Fin 2 → ℕ) a ≤ S512x128.size a) (w : S512x128.Idx → Val e) (L : List (View.Piece Val S512x128 e)) :
    v.readCov (⟨Rect.unit (s := S512x128) ![0, 0] ![512, 128] j, w⟩ :: L) (Rect.unit (s := S512x128) ![0, 0] ![512, 1] i).toLoadRect = col0 w := by
  show v.readAt Val _ _ = _
  rw [ld0_S512x128, st_S512x128]
theorem ls0_S512x128 (v : View sg κ sp S512x128 e) (f : v.ty.Contents Val) (i : ∀ a : Fin 2, (![0, 0] : Fin 2 → ℕ) a + (![512, 1] : Fin 2 → ℕ) a ≤ S512x128.size a)
    (j : ∀ a : Fin 2, (![0, 0] : Fin 2 → ℕ) a + (![512, 128] : Fin 2 → ℕ) a ≤ S512x128.size a) (w : S512x128.Idx → Val e) (L : List (View.Piece Val S512x128 e)) :
    v.readAt Val (Rect.unit (s := S512x128) ![0, 0] ![512, 1] i).toLoadRect (v.writes Val f (⟨Rect.unit (s := S512x128) ![0, 0] ![512, 128] j, w⟩ :: L)) = col0 w := by
  rw [ld0_S512x128, st_S512x128]
theorem ldS0 (v : View sg κ sp S16x512x512 e) (f : v.ty.Contents Val) (i : ∀ a : Fin 3, (![0, 0, 0] : Fin 3 → ℕ) a + (![1, 512, 512] : Fin 3 → ℕ) a ≤ S16x512x512.size a) :
    v.readAt Val (Rect.unit (s := S16x512x512) ![0, 0, 0] ![1, 512, 512] i).toLoadRect f = slotV 0 (v.read Val f) := readAt_slot v f 0 i
theorem ldS1 (v : View sg κ sp S16x512x512 e) (f : v.ty.Contents Val) (i : ∀ a : Fin 3, (![1, 0, 0] : Fin 3 → ℕ) a + (![1, 512, 512] : Fin 3 → ℕ) a ≤ S16x512x512.size a) :
    v.readAt Val (Rect.unit (s := S16x512x512) ![1, 0, 0] ![1, 512, 512] i).toLoadRect f = slotV 1 (v.read Val f) := readAt_slot v f 1 i
theorem ldS2 (v : View sg κ sp S16x512x512 e) (f : v.ty.Contents Val) (i : ∀ a : Fin 3, (![2, 0, 0] : Fin 3 → ℕ) a + (![1, 512, 512] : Fin 3 → ℕ) a ≤ S16x512x512.size a) :
    v.readAt Val (Rect.unit (s := S16x512x512) ![2, 0, 0] ![1, 512, 512] i).toLoadRect f = slotV 2 (v.read Val f) := readAt_slot v f 2 i
theorem ldS3 (v : View sg κ sp S16x512x512 e) (f : v.ty.Contents Val) (i : ∀ a : Fin 3, (![3, 0, 0] : Fin 3 → ℕ) a + (![1, 512, 512] : Fin 3 → ℕ) a ≤ S16x512x512.size a) :
    v.readAt Val (Rect.unit (s := S16x512x512) ![3, 0, 0] ![1, 512, 512] i).toLoadRect f = slotV 3 (v.read Val f) := readAt_slot v f 3 i
theorem ldS4 (v : View sg κ sp S16x512x512 e) (f : v.ty.Contents Val) (i : ∀ a : Fin 3, (![4, 0, 0] : Fin 3 → ℕ) a + (![1, 512, 512] : Fin 3 → ℕ) a ≤ S16x512x512.size a) :
    v.readAt Val (Rect.unit (s := S16x512x512) ![4, 0, 0] ![1, 512, 512] i).toLoadRect f = slotV 4 (v.read Val f) := readAt_slot v f 4 i
theorem ldS5 (v : View sg κ sp S16x512x512 e) (f : v.ty.Contents Val) (i : ∀ a : Fin 3, (![5, 0, 0] : Fin 3 → ℕ) a + (![1, 512, 512] : Fin 3 → ℕ) a ≤ S16x512x512.size a) :
    v.readAt Val (Rect.unit (s := S16x512x512) ![5, 0, 0] ![1, 512, 512] i).toLoadRect f = slotV 5 (v.read Val f) := readAt_slot v f 5 i
theorem ldS6 (v : View sg κ sp S16x512x512 e) (f : v.ty.Contents Val) (i : ∀ a : Fin 3, (![6, 0, 0] : Fin 3 → ℕ) a + (![1, 512, 512] : Fin 3 → ℕ) a ≤ S16x512x512.size a) :
    v.readAt Val (Rect.unit (s := S16x512x512) ![6, 0, 0] ![1, 512, 512] i).toLoadRect f = slotV 6 (v.read Val f) := readAt_slot v f 6 i
theorem ldS7 (v : View sg κ sp S16x512x512 e) (f : v.ty.Contents Val) (i : ∀ a : Fin 3, (![7, 0, 0] : Fin 3 → ℕ) a + (![1, 512, 512] : Fin 3 → ℕ) a ≤ S16x512x512.size a) :
    v.readAt Val (Rect.unit (s := S16x512x512) ![7, 0, 0] ![1, 512, 512] i).toLoadRect f = slotV 7 (v.read Val f) := readAt_slot v f 7 i
theorem ldS8 (v : View sg κ sp S16x512x512 e) (f : v.ty.Contents Val) (i : ∀ a : Fin 3, (![8, 0, 0] : Fin 3 → ℕ) a + (![1, 512, 512] : Fin 3 → ℕ) a ≤ S16x512x512.size a) :
    v.readAt Val (Rect.unit (s := S16x512x512) ![8, 0, 0] ![1, 512, 512] i).toLoadRect f = slotV 8 (v.read Val f) := readAt_slot v f 8 i
theorem ldS9 (v : View sg κ sp S16x512x512 e) (f : v.ty.Contents Val) (i : ∀ a : Fin 3, (![9, 0, 0] : Fin 3 → ℕ) a + (![1, 512, 512] : Fin 3 → ℕ) a ≤ S16x512x512.size a) :
    v.readAt Val (Rect.unit (s := S16x512x512) ![9, 0, 0] ![1, 512, 512] i).toLoadRect f = slotV 9 (v.read Val f) := readAt_slot v f 9 i
theorem ldS10 (v : View sg κ sp S16x512x512 e) (f : v.ty.Contents Val) (i : ∀ a : Fin 3, (![10, 0, 0] : Fin 3 → ℕ) a + (![1, 512, 512] : Fin 3 → ℕ) a ≤ S16x512x512.size a) :
    v.readAt Val (Rect.unit (s := S16x512x512) ![10, 0, 0] ![1, 512, 512] i).toLoadRect f = slotV 10 (v.read Val f) := readAt_slot v f 10 i
theorem ldS11 (v : View sg κ sp S16x512x512 e) (f : v.ty.Contents Val) (i : ∀ a : Fin 3, (![11, 0, 0] : Fin 3 → ℕ) a + (![1, 512, 512] : Fin 3 → ℕ) a ≤ S16x512x512.size a) :
    v.readAt Val (Rect.unit (s := S16x512x512) ![11, 0, 0] ![1, 512, 512] i).toLoadRect f = slotV 11 (v.read Val f) := readAt_slot v f 11 i
theorem ldS12 (v : View sg κ sp S16x512x512 e) (f : v.ty.Contents Val) (i : ∀ a : Fin 3, (![12, 0, 0] : Fin 3 → ℕ) a + (![1, 512, 512] : Fin 3 → ℕ) a ≤ S16x512x512.size a) :
    v.readAt Val (Rect.unit (s := S16x512x512) ![12, 0, 0] ![1, 512, 512] i).toLoadRect f = slotV 12 (v.read Val f) := readAt_slot v f 12 i
theorem ldS13 (v : View sg κ sp S16x512x512 e) (f : v.ty.Contents Val) (i : ∀ a : Fin 3, (![13, 0, 0] : Fin 3 → ℕ) a + (![1, 512, 512] : Fin 3 → ℕ) a ≤ S16x512x512.size a) :
    v.readAt Val (Rect.unit (s := S16x512x512) ![13, 0, 0] ![1, 512, 512] i).toLoadRect f = slotV 13 (v.read Val f) := readAt_slot v f 13 i
theorem ldS14 (v : View sg κ sp S16x512x512 e) (f : v.ty.Contents Val) (i : ∀ a : Fin 3, (![14, 0, 0] : Fin 3 → ℕ) a + (![1, 512, 512] : Fin 3 → ℕ) a ≤ S16x512x512.size a) :
    v.readAt Val (Rect.unit (s := S16x512x512) ![14, 0, 0] ![1, 512, 512] i).toLoadRect f = slotV 14 (v.read Val f) := readAt_slot v f 14 i
theorem ldS15 (v : View sg κ sp S16x512x512 e) (f : v.ty.Contents Val) (i : ∀ a : Fin 3, (![15, 0, 0] : Fin 3 → ℕ) a + (![1, 512, 512] : Fin 3 → ℕ) a ≤ S16x512x512.size a) :
    v.readAt Val (Rect.unit (s := S16x512x512) ![15, 0, 0] ![1, 512, 512] i).toLoadRect f = slotV 15 (v.read Val f) := readAt_slot v f 15 i

/-- Columns from `o` on of the tile's rows. -/
def xcols {α : Type} (o : ℕ) (ho : o + 512 ≤ 3072) (x : S512x3072.Idx → α) : S512x512.Idx → α := fun y =>
  x (ix2 (y 0) ⟨o + (y 1).val, by have := idx2_lt1 (n0 := 512) (n1 := 512) y; omega⟩)
theorem ldX0 (v : View sg κ sp S512x3072 e) (f : v.ty.Contents Val) (i : ∀ a : Fin 2, (![0, 0] : Fin 2 → ℕ) a + (![512, 512] : Fin 2 → ℕ) a ≤ S512x3072.size a) :
    v.readAt Val (Rect.unit (s := S512x3072) ![0, 0] ![512, 512] i).toLoadRect f = xcols 0 (by decide) (v.read Val f) := by
  funext y
  refine congrArg (v.read Val f) (funext fun a => Fin.ext ?_)
  match a with
  | ⟨0, _⟩ => show 0 + 1 * (y 0).val = (y 0).val; omega
  | ⟨1, _⟩ => show 0 + 1 * (y 1).val = 0 + (y 1).val; omega
theorem ldX1 (v : View sg κ sp S512x3072 e) (f : v.ty.Contents Val) (i : ∀ a : Fin 2, (![0, 512] : Fin 2 → ℕ) a + (![512, 512] : Fin 2 → ℕ) a ≤ S512x3072.size a) :
    v.readAt Val (Rect.unit (s := S512x3072) ![0, 512] ![512, 512] i).toLoadRect f = xcols 512 (by decide) (v.read Val f) := by
  funext y
  refine congrArg (v.read Val f) (funext fun a => Fin.ext ?_)
  match a with
  | ⟨0, _⟩ => show 0 + 1 * (y 0).val = (y 0).val; omega
  | ⟨1, _⟩ => show 512 + 1 * (y 1).val = 512 + (y 1).val; omega
theorem ldX2 (v : View sg κ sp S512x3072 e) (f : v.ty.Contents Val) (i : ∀ a : Fin 2, (![0, 1024] : Fin 2 → ℕ) a + (![512, 512] : Fin 2 → ℕ) a ≤ S512x3072.size a) :
    v.readAt Val (Rect.unit (s := S512x3072) ![0, 1024] ![512, 512] i).toLoadRect f = xcols 1024 (by decide) (v.read Val f) := by
  funext y
  refine congrArg (v.read Val f) (funext fun a => Fin.ext ?_)
  match a with
  | ⟨0, _⟩ => show 0 + 1 * (y 0).val = (y 0).val; omega
  | ⟨1, _⟩ => show 1024 + 1 * (y 1).val = 1024 + (y 1).val; omega
theorem ldX3 (v : View sg κ sp S512x3072 e) (f : v.ty.Contents Val) (i : ∀ a : Fin 2, (![0, 1536] : Fin 2 → ℕ) a + (![512, 512] : Fin 2 → ℕ) a ≤ S512x3072.size a) :
    v.readAt Val (Rect.unit (s := S512x3072) ![0, 1536] ![512, 512] i).toLoadRect f = xcols 1536 (by decide) (v.read Val f) := by
  funext y
  refine congrArg (v.read Val f) (funext fun a => Fin.ext ?_)
  match a with
  | ⟨0, _⟩ => show 0 + 1 * (y 0).val = (y 0).val; omega
  | ⟨1, _⟩ => show 1536 + 1 * (y 1).val = 1536 + (y 1).val; omega
theorem ldX4 (v : View sg κ sp S512x3072 e) (f : v.ty.Contents Val) (i : ∀ a : Fin 2, (![0, 2048] : Fin 2 → ℕ) a + (![512, 512] : Fin 2 → ℕ) a ≤ S512x3072.size a) :
    v.readAt Val (Rect.unit (s := S512x3072) ![0, 2048] ![512, 512] i).toLoadRect f = xcols 2048 (by decide) (v.read Val f) := by
  funext y
  refine congrArg (v.read Val f) (funext fun a => Fin.ext ?_)
  match a with
  | ⟨0, _⟩ => show 0 + 1 * (y 0).val = (y 0).val; omega
  | ⟨1, _⟩ => show 2048 + 1 * (y 1).val = 2048 + (y 1).val; omega
theorem ldX5 (v : View sg κ sp S512x3072 e) (f : v.ty.Contents Val) (i : ∀ a : Fin 2, (![0, 2560] : Fin 2 → ℕ) a + (![512, 512] : Fin 2 → ℕ) a ≤ S512x3072.size a) :
    v.readAt Val (Rect.unit (s := S512x3072) ![0, 2560] ![512, 512] i).toLoadRect f = xcols 2560 (by decide) (v.read Val f) := by
  funext y
  refine congrArg (v.read Val f) (funext fun a => Fin.ext ?_)
  match a with
  | ⟨0, _⟩ => show 0 + 1 * (y 0).val = (y 0).val; omega
  | ⟨1, _⟩ => show 2560 + 1 * (y 1).val = 2560 + (y 1).val; omega

end Writes

end Cert.KernelIdeal.Hand

end
-- ==== Proof.KICond.lean ====
/- Which of the tile's steps each branch of the body runs in. -/
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

theorem cond1_iff (i : grid0.Coords) : k0_cond1 i = 1#1 ↔ (i 1).val = 0 := by
  unfold k0_cond1; generalize i 1 = j; revert j; decide
theorem cond2_iff (i : grid0.Coords) : k0_cond2 i = 1#1 ↔ (i 1).val < 16 := by
  unfold k0_cond2; generalize i 1 = j; revert j; decide
theorem cond3_iff (i : grid0.Coords) : k0_cond3 i = 1#1 ↔ 16 ≤ (i 1).val ∧ (i 1).val < 22 := by
  unfold k0_cond3; generalize i 1 = j; revert j; decide
theorem cond4_iff (i : grid0.Coords) : k0_cond4 i = 1#1 ↔ 22 ≤ (i 1).val ∧ (i 1).val < 24 := by
  unfold k0_cond4; generalize i 1 = j; revert j; decide
theorem cond5_iff (i : grid0.Coords) : k0_cond5 i = 1#1 ↔ 24 ≤ (i 1).val ∧ (i 1).val < 26 := by
  unfold k0_cond5; generalize i 1 = j; revert j; decide
theorem cond6_iff (i : grid0.Coords) : k0_cond6 i = 1#1 ↔ (i 1).val = 16 := by
  unfold k0_cond6; generalize i 1 = j; revert j; decide
theorem cond7_iff (i : grid0.Coords) : k0_cond7 i = 1#1 ↔ 26 ≤ (i 1).val := by
  unfold k0_cond7; generalize i 1 = j; revert j; decide
theorem cond8_iff (i : grid0.Coords) : k0_cond8 i = 1#1 ↔ (i 1).val = 26 := by
  unfold k0_cond8; generalize i 1 = j; revert j; decide
theorem cond9_iff (i : grid0.Coords) : k0_cond9 i = 1#1 ↔ (i 1).val = 27 := by
  unfold k0_cond9; generalize i 1 = j; revert j; decide
theorem cond10_iff (i : grid0.Coords) : k0_cond10 i = 1#1 ↔ (i 1).val = 28 := by
  unfold k0_cond10; generalize i 1 = j; revert j; decide
theorem cond11_iff (i : grid0.Coords) : k0_cond11 i = 1#1 ↔ (i 1).val = 29 := by
  unfold k0_cond11; generalize i 1 = j; revert j; decide
theorem cond12_iff (i : grid0.Coords) : k0_cond12 i = 1#1 ↔ (i 1).val = 30 := by
  unfold k0_cond12; generalize i 1 = j; revert j; decide
theorem cond13_iff (i : grid0.Coords) : k0_cond13 i = 1#1 ↔ (i 1).val = 31 := by
  unfold k0_cond13; generalize i 1 = j; revert j; decide

end Cert.KernelIdeal.Hand
-- ==== Proof.KIRun.lean ====
/- What the kernel's body leaves in its results and scratch at each of the tile's steps. -/
module

public import proofs.«01_k».proof.Proof.Gen.KernelIdeal.Frame
public import proofs.«01_k».proof.Proof.KIVec
public import proofs.«01_k».proof.Proof.KICond
public import Idealize.ShloMosaic.Lib.Pipeline.Value
public import proofs.«01_k».proof.Proof.Gen.KernelIdeal.Loops
public import proofs.«01_k».proof.Proof.Gen.KernelIdeal.Skeleton
public import Idealize.ShloMosaic.Lib.Pipeline.Frame
public import Idealize.ShloMosaic.Lib.Pipeline.DatRel
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

/-- The lane of head `n` of a block, as the kernel counts it. -/
def headWord (i : grid0.Coords) (b n : BitVec 32) : BitVec 32 :=
  Scalar.addi (Scalar.muli (Scalar.subi (BitVec.ofNat 32 (i 1).val) b) 4#32) n

/-- The rows of one trip. -/
def chunk {α : Type} (k : Fin 8) (x : S512x3072.Idx → α) : S64x3072.Idx → α := fun y =>
  x (ix2 ⟨64 * k.val + (y 0).val, by have := idx2_lt0 (n0 := 64) (n1 := 3072) y; omega⟩ (y 1))
/-- A trip's eight-bit rows. -/
def tripCodes (x : S64x3072.Idx → F .bf16) (g : S1x3072.Idx → F .f32) : FVec F S64x3072 .fp8e4m3 :=
  k0_pay25 (k0_pay19 x g) (k0_pay20 x g) (k0_pay21 x g)
/-- A trip's scales over the lanes. -/
def tripScale (x : S64x3072.Idx → F .bf16) (g : S1x3072.Idx → F .f32) : FVec F S64x128 .f32 :=
  k0_pay26 (k0_pay24 (k0_pay20 x g) (k0_pay21 x g))

theorem trip_pieces (c : Dev nD) (i : grid0.Coords) (k0_h1 : k0_cond1 i = 1#1) (arg2 : Memref sig .tc .vmem S512x3072 .bf16) (harg2 : arg2.IsWhole) (arg3 : Memref sig .tc .vmem S1x1x512 .i32) (harg3 : arg3.IsWhole) (arg4 : Memref sig .tc .vmem S1x128 .f32) (harg4 : arg4.IsWhole) (arg5 : Memref sig .tc .vmem S1x3072 .f32) (harg5 : arg5.IsWhole) (arg6 : Memref sig .tc .vmem S3072x512 .fp8e4m3) (harg6 : arg6.IsWhole) (arg7 : Memref sig .tc .vmem S3072x512 .fp8e4m3) (harg7 : arg7.IsWhole) (arg8 : Memref sig .tc .vmem S3072x512 .fp8e4m3) (harg8 : arg8.IsWhole) (arg9 : Memref sig .tc .vmem S8192x512 .fp8e4m3) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x3072 .fp8e4m3) (harg16 : arg16.IsWhole) (arg17 : Memref sig .tc .vmem S1x1x512 .f32) (harg17 : arg17.IsWhole) (arg18 : Memref sig .tc .vmem S512x512 .fp8e4m3) (harg18 : arg18.IsWhole) (arg19 : Memref sig .tc .vmem S512x8 .f32) (harg19 : arg19.IsWhole) (arg20 : Memref sig .tc .vmem S512x512 .fp8e4m3) (harg20 : arg20.IsWhole) (arg21 : Memref sig .tc .vmem S512x8 .f32) (harg21 : arg21.IsWhole) (arg22 : Memref sig .tc .vmem S512x8192 .fp8e4m3) (harg22 : arg22.IsWhole) (arg23 : Memref sig .tc .vmem S1x1x512 .f32) (harg23 : arg23.IsWhole) (arg24 : Memref sig .tc .vmem S16x512x512 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x128 .f32) (harg28 : arg28.IsWhole) (arg29 : Memref sig .tc .vmem S512x128 .f32) (harg29 : arg29.IsWhole) (X2 : BufTy.Contents (Elt F) arg2.view.ty) (X5 : BufTy.Contents (Elt F) arg5.view.ty) (k : Fin k0_t1_loop.trips) :
    tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 k0_h1 X2 X5 k
      = ([⟨Rect.unit (s := S512x3072) (k0_off1 k) S64x3072.size (k0_off1_inb i k k0_h1), tripCodes (arg2.view.readAt (Elt F) (Rect.unit (s := S512x3072) (k0_off1 k) S64x3072.size (k0_off1_inb i k k0_h1)).toLoadRect X2) (arg5.view.readAt (Elt F) (Rect.unit (s := S1x3072) ![0, 0] S1x3072.size (by decide)).toLoadRect X5)⟩],
         [⟨Rect.unit (s := S512x128) (k0_off2 k) S64x128.size (k0_off2_inb i k k0_h1), tripScale (arg2.view.readAt (Elt F) (Rect.unit (s := S512x3072) (k0_off1 k) S64x3072.size (k0_off1_inb i k k0_h1)).toLoadRect X2) (arg5.view.readAt (Elt F) (Rect.unit (s := S1x3072) ![0, 0] S1x3072.size (by decide)).toLoadRect X5)⟩]) := by
  unfold tripL_k0_t1 trip_k0_t1
  rfl

/-- Eight row groups under each other. -/
def rows8 {α : Type} (w : Fin 8 → S64x3072.Idx → α) : S512x3072.Idx → α :=
  fun y => w ⟨(y 0).val / 64, by have := idx2_lt0 (n0 := 512) (n1 := 3072) y; omega⟩ (ix2 ⟨(y 0).val % 64, Nat.mod_lt _ (by decide)⟩ (y 1))

/-- Eight row groups under each other. -/
def rows8b {α : Type} (w : Fin 8 → S64x128.Idx → α) : S512x128.Idx → α :=
  fun y => w ⟨(y 0).val / 64, by have := idx2_lt0 (n0 := 512) (n1 := 128) y; omega⟩ (ix2 ⟨(y 0).val % 64, Nat.mod_lt _ (by decide)⟩ (y 1))

theorem trips8 : k0_t1_loop.trips = 8 := by decide +kernel

theorem pb_mem (c : Dev nD) (i : grid0.Coords) (k0_h1 : k0_cond1 i = 1#1) (arg2 : Memref sig .tc .vmem S512x3072 .bf16) (harg2 : arg2.IsWhole) (arg3 : Memref sig .tc .vmem S1x1x512 .i32) (harg3 : arg3.IsWhole) (arg4 : Memref sig .tc .vmem S1x128 .f32) (harg4 : arg4.IsWhole) (arg5 : Memref sig .tc .vmem S1x3072 .f32) (harg5 : arg5.IsWhole) (arg6 : Memref sig .tc .vmem S3072x512 .fp8e4m3) (harg6 : arg6.IsWhole) (arg7 : Memref sig .tc .vmem S3072x512 .fp8e4m3) (harg7 : arg7.IsWhole) (arg8 : Memref sig .tc .vmem S3072x512 .fp8e4m3) (harg8 : arg8.IsWhole) (arg9 : Memref sig .tc .vmem S8192x512 .fp8e4m3) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x3072 .fp8e4m3) (harg16 : arg16.IsWhole) (arg17 : Memref sig .tc .vmem S1x1x512 .f32) (harg17 : arg17.IsWhole) (arg18 : Memref sig .tc .vmem S512x512 .fp8e4m3) (harg18 : arg18.IsWhole) (arg19 : Memref sig .tc .vmem S512x8 .f32) (harg19 : arg19.IsWhole) (arg20 : Memref sig .tc .vmem S512x512 .fp8e4m3) (harg20 : arg20.IsWhole) (arg21 : Memref sig .tc .vmem S512x8 .f32) (harg21 : arg21.IsWhole) (arg22 : Memref sig .tc .vmem S512x8192 .fp8e4m3) (harg22 : arg22.IsWhole) (arg23 : Memref sig .tc .vmem S1x1x512 .f32) (harg23 : arg23.IsWhole) (arg24 : Memref sig .tc .vmem S16x512x512 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x128 .f32) (harg28 : arg28.IsWhole) (arg29 : Memref sig .tc .vmem S512x128 .f32) (harg29 : arg29.IsWhole) (X2 : BufTy.Contents (Elt F) arg2.view.ty) (X5 : BufTy.Contents (Elt F) arg5.view.ty) :
    ∀ n : ℕ, n ≤ k0_t1_loop.trips →
      (∀ p, p ∈ (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 k0_h1 X2 X5 n).1 ↔ ∃ k : Fin k0_t1_loop.trips, k.val < n ∧ p ∈ (tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 k0_h1 X2 X5 k).1) ∧
      (∀ p, p ∈ (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 k0_h1 X2 X5 n).2 ↔ ∃ k : Fin k0_t1_loop.trips, k.val < n ∧ p ∈ (tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 k0_h1 X2 X5 k).2)
  | 0, _ => ⟨fun p => ⟨fun h => absurd h List.not_mem_nil, fun ⟨_, h, _⟩ => absurd h (Nat.not_lt_zero _)⟩,
      fun p => ⟨fun h => absurd h List.not_mem_nil, fun ⟨_, h, _⟩ => absurd h (Nat.not_lt_zero _)⟩⟩
  | n + 1, hn => by
    obtain ⟨ih1, ih2⟩ := pb_mem c i k0_h1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X2 X5 n (by omega)
    rw [pb_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 k0_h1 X2 X5 ⟨n, hn⟩]
    constructor
    · intro p
      rw [List.mem_append, ih1]
      constructor
      · rintro (h | ⟨k, hk, h⟩)
        · exact ⟨⟨n, hn⟩, Nat.lt_succ_self n, h⟩
        · exact ⟨k, by omega, h⟩
      · rintro ⟨k, hk, h⟩
        by_cases e : k.val = n
        · left; have : k = ⟨n, hn⟩ := Fin.ext e
          subst this; exact h
        · right; exact ⟨k, by omega, h⟩
    · intro p
      rw [List.mem_append, ih2]
      constructor
      · rintro (h | ⟨k, hk, h⟩)
        · exact ⟨⟨n, hn⟩, Nat.lt_succ_self n, h⟩
        · exact ⟨k, by omega, h⟩
      · rintro ⟨k, hk, h⟩
        by_cases e : k.val = n
        · left; have : k = ⟨n, hn⟩ := Fin.ext e
          subst this; exact h
        · right; exact ⟨k, by omega, h⟩

theorem readAt_chunk (v : View sig .tc .vmem S512x3072 .bf16) (f : v.ty.Contents (Elt F)) (k : Fin 8) (off : Fin 2 → ℕ) (heq : off = ![64 * k.val, 0])
    (inb : ∀ a, off a + S64x3072.size a ≤ S512x3072.size a) :
    v.readAt (Elt F) (Rect.unit (s := S512x3072) off S64x3072.size inb).toLoadRect f = chunk k (v.read (Elt F) f) := by
  subst heq
  funext y
  refine congrArg (v.read (Elt F) f) (funext fun a => Fin.ext ?_)
  match a with
  | ⟨0, _⟩ => show 64 * k.val + 1 * (y 0).val = 64 * k.val + (y 0).val; omega
  | ⟨1, _⟩ => show 0 + 1 * (y 1).val = (y 1).val; omega

theorem loop_16 (c : Dev nD) (i : grid0.Coords) (k0_h1 : k0_cond1 i = 1#1) (arg2 : Memref sig .tc .vmem S512x3072 .bf16) (harg2 : arg2.IsWhole) (arg3 : Memref sig .tc .vmem S1x1x512 .i32) (harg3 : arg3.IsWhole) (arg4 : Memref sig .tc .vmem S1x128 .f32) (harg4 : arg4.IsWhole) (arg5 : Memref sig .tc .vmem S1x3072 .f32) (harg5 : arg5.IsWhole) (arg6 : Memref sig .tc .vmem S3072x512 .fp8e4m3) (harg6 : arg6.IsWhole) (arg7 : Memref sig .tc .vmem S3072x512 .fp8e4m3) (harg7 : arg7.IsWhole) (arg8 : Memref sig .tc .vmem S3072x512 .fp8e4m3) (harg8 : arg8.IsWhole) (arg9 : Memref sig .tc .vmem S8192x512 .fp8e4m3) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x3072 .fp8e4m3) (harg16 : arg16.IsWhole) (arg17 : Memref sig .tc .vmem S1x1x512 .f32) (harg17 : arg17.IsWhole) (arg18 : Memref sig .tc .vmem S512x512 .fp8e4m3) (harg18 : arg18.IsWhole) (arg19 : Memref sig .tc .vmem S512x8 .f32) (harg19 : arg19.IsWhole) (arg20 : Memref sig .tc .vmem S512x512 .fp8e4m3) (harg20 : arg20.IsWhole) (arg21 : Memref sig .tc .vmem S512x8 .f32) (harg21 : arg21.IsWhole) (arg22 : Memref sig .tc .vmem S512x8192 .fp8e4m3) (harg22 : arg22.IsWhole) (arg23 : Memref sig .tc .vmem S1x1x512 .f32) (harg23 : arg23.IsWhole) (arg24 : Memref sig .tc .vmem S16x512x512 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x128 .f32) (harg28 : arg28.IsWhole) (arg29 : Memref sig .tc .vmem S512x128 .f32) (harg29 : arg29.IsWhole) (X2 : BufTy.Contents (Elt F) arg2.view.ty) (X5 : BufTy.Contents (Elt F) arg5.view.ty) (f : BufTy.Contents (Elt F) arg16.view.ty) :
    arg16.view.read (Elt F) (arg16.view.writes (Elt F) f (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 k0_h1 X2 X5 k0_t1_loop.trips).1)
      = rows8 (fun k => tripCodes (chunk k (arg2.view.read (Elt F) X2)) (arg5.view.read (Elt F) X5)) := by
  funext y
  have h0 := idx2_lt0 (n0 := 512) (n1 := 3072) y
  have h1 := idx2_lt1 (n0 := 512) (n1 := 3072) y
  have t8 := trips8
  apply View.read_writes_apply_of_pieces arg16.view f (rows8 (fun k => tripCodes (chunk k (arg2.view.read (Elt F) X2)) (arg5.view.read (Elt F) X5)))
  · intro p hp x
    obtain ⟨k, hk, hp⟩ := ((pb_mem c i k0_h1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X2 X5 _ le_rfl).1 p).1 hp
    rw [trip_pieces] at hp
    obtain rfl := List.mem_singleton.1 hp
    have hk8 : k.val < 8 := by omega
    have hx0 : (x 0).val < 64 := (x 0).isLt
    have hx1 : (x 1).val < 3072 := (x 1).isLt
    show tripCodes _ _ x = _
    rw [readAt_chunk arg2.view X2 ⟨k.val, hk8⟩ _ (k0_off1_eq k), ld_S1x3072]
    have e0 : (((Rect.unit (s := S512x3072) (k0_off1 k) S64x3072.size (k0_off1_inb i k k0_h1)).emb x) 0).val = 64 * k.val + (x 0).val := by
      have e := congrFun (k0_off1_eq k) 0
      show k0_off1 k 0 + 1 * (x 0).val = _; rw [show k0_off1 k 0 = 64 * k.val from e]; omega
    have e1 : (((Rect.unit (s := S512x3072) (k0_off1 k) S64x3072.size (k0_off1_inb i k k0_h1)).emb x) 1).val = (x 1).val := by
      have e := congrFun (k0_off1_eq k) 1
      show k0_off1 k 1 + 1 * (x 1).val = _; rw [show k0_off1 k 1 = 0 from e]; omega
    unfold rows8
    have hd : (⟨(((Rect.unit (s := S512x3072) (k0_off1 k) S64x3072.size (k0_off1_inb i k k0_h1)).emb x) 0).val / 64, by rw [e0]; omega⟩ : Fin 8) = ⟨k.val, hk8⟩ := Fin.ext (by show _ / 64 = k.val; rw [e0]; omega)
    show _ = tripCodes (chunk ⟨(((Rect.unit (s := S512x3072) (k0_off1 k) S64x3072.size (k0_off1_inb i k k0_h1)).emb x) 0).val / 64, _⟩ _) _ _
    rw [hd]
    refine congrArg _ (funext fun a => Fin.ext ?_)
    match a with
    | ⟨0, _⟩ => show (x 0).val = _ % 64; rw [e0]; omega
    | ⟨1, _⟩ => exact e1.symm
  · let k : Fin k0_t1_loop.trips := ⟨(y 0).val / 64, by omega⟩
    refine ⟨_, ((pb_mem c i k0_h1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X2 X5 _ le_rfl).1 _).2 ⟨k, k.isLt, by rw [trip_pieces]; exact List.mem_singleton.2 rfl⟩, ?_⟩
    rw [Rect.mem_set_unit]; intro a
    have e := k0_off1_eq k
    match a with
    | ⟨0, _⟩ =>
      constructor
      · show k0_off1 k 0 ≤ (y 0).val; rw [show k0_off1 k 0 = 64 * k.val from congrFun e 0]; show 64 * ((y 0).val / 64) ≤ (y 0).val; omega
      · show (y 0).val < k0_off1 k 0 + 64; rw [show k0_off1 k 0 = 64 * k.val from congrFun e 0]; show (y 0).val < 64 * ((y 0).val / 64) + 64; omega
    | ⟨1, _⟩ => rw [show k0_off1 k ⟨1, by decide⟩ = 0 from congrFun e 1]; exact ⟨Nat.zero_le _, by show (y 1).val < 0 + 3072; omega⟩

theorem loop_26 (c : Dev nD) (i : grid0.Coords) (k0_h1 : k0_cond1 i = 1#1) (arg2 : Memref sig .tc .vmem S512x3072 .bf16) (harg2 : arg2.IsWhole) (arg3 : Memref sig .tc .vmem S1x1x512 .i32) (harg3 : arg3.IsWhole) (arg4 : Memref sig .tc .vmem S1x128 .f32) (harg4 : arg4.IsWhole) (arg5 : Memref sig .tc .vmem S1x3072 .f32) (harg5 : arg5.IsWhole) (arg6 : Memref sig .tc .vmem S3072x512 .fp8e4m3) (harg6 : arg6.IsWhole) (arg7 : Memref sig .tc .vmem S3072x512 .fp8e4m3) (harg7 : arg7.IsWhole) (arg8 : Memref sig .tc .vmem S3072x512 .fp8e4m3) (harg8 : arg8.IsWhole) (arg9 : Memref sig .tc .vmem S8192x512 .fp8e4m3) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x3072 .fp8e4m3) (harg16 : arg16.IsWhole) (arg17 : Memref sig .tc .vmem S1x1x512 .f32) (harg17 : arg17.IsWhole) (arg18 : Memref sig .tc .vmem S512x512 .fp8e4m3) (harg18 : arg18.IsWhole) (arg19 : Memref sig .tc .vmem S512x8 .f32) (harg19 : arg19.IsWhole) (arg20 : Memref sig .tc .vmem S512x512 .fp8e4m3) (harg20 : arg20.IsWhole) (arg21 : Memref sig .tc .vmem S512x8 .f32) (harg21 : arg21.IsWhole) (arg22 : Memref sig .tc .vmem S512x8192 .fp8e4m3) (harg22 : arg22.IsWhole) (arg23 : Memref sig .tc .vmem S1x1x512 .f32) (harg23 : arg23.IsWhole) (arg24 : Memref sig .tc .vmem S16x512x512 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x128 .f32) (harg28 : arg28.IsWhole) (arg29 : Memref sig .tc .vmem S512x128 .f32) (harg29 : arg29.IsWhole) (X2 : BufTy.Contents (Elt F) arg2.view.ty) (X5 : BufTy.Contents (Elt F) arg5.view.ty) (f : BufTy.Contents (Elt F) arg26.view.ty) :
    arg26.view.read (Elt F) (arg26.view.writes (Elt F) f (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 k0_h1 X2 X5 k0_t1_loop.trips).2)
      = rows8b (fun k => tripScale (chunk k (arg2.view.read (Elt F) X2)) (arg5.view.read (Elt F) X5)) := by
  funext y
  have h0 := idx2_lt0 (n0 := 512) (n1 := 128) y
  have h1 := idx2_lt1 (n0 := 512) (n1 := 128) y
  have t8 := trips8
  apply View.read_writes_apply_of_pieces arg26.view f (rows8b (fun k => tripScale (chunk k (arg2.view.read (Elt F) X2)) (arg5.view.read (Elt F) X5)))
  · intro p hp x
    obtain ⟨k, hk, hp⟩ := ((pb_mem c i k0_h1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X2 X5 _ le_rfl).2 p).1 hp
    rw [trip_pieces] at hp
    obtain rfl := List.mem_singleton.1 hp
    have hk8 : k.val < 8 := by omega
    have hx0 : (x 0).val < 64 := (x 0).isLt
    have hx1 : (x 1).val < 128 := (x 1).isLt
    show tripScale _ _ x = _
    rw [readAt_chunk arg2.view X2 ⟨k.val, hk8⟩ _ (k0_off1_eq k), ld_S1x3072]
    have e0 : (((Rect.unit (s := S512x128) (k0_off2 k) S64x128.size (k0_off2_inb i k k0_h1)).emb x) 0).val = 64 * k.val + (x 0).val := by
      have e := congrFun (k0_off2_eq k) 0
      show k0_off2 k 0 + 1 * (x 0).val = _; rw [show k0_off2 k 0 = 64 * k.val from e]; omega
    have e1 : (((Rect.unit (s := S512x128) (k0_off2 k) S64x128.size (k0_off2_inb i k k0_h1)).emb x) 1).val = (x 1).val := by
      have e := congrFun (k0_off2_eq k) 1
      show k0_off2 k 1 + 1 * (x 1).val = _; rw [show k0_off2 k 1 = 0 from e]; omega
    unfold rows8b
    have hd : (⟨(((Rect.unit (s := S512x128) (k0_off2 k) S64x128.size (k0_off2_inb i k k0_h1)).emb x) 0).val / 64, by rw [e0]; omega⟩ : Fin 8) = ⟨k.val, hk8⟩ := Fin.ext (by show _ / 64 = k.val; rw [e0]; omega)
    show _ = tripScale (chunk ⟨(((Rect.unit (s := S512x128) (k0_off2 k) S64x128.size (k0_off2_inb i k k0_h1)).emb x) 0).val / 64, _⟩ _) _ _
    rw [hd]
    refine congrArg _ (funext fun a => Fin.ext ?_)
    match a with
    | ⟨0, _⟩ => show (x 0).val = _ % 64; rw [e0]; omega
    | ⟨1, _⟩ => exact e1.symm
  · let k : Fin k0_t1_loop.trips := ⟨(y 0).val / 64, by omega⟩
    refine ⟨_, ((pb_mem c i k0_h1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 X2 X5 _ le_rfl).2 _).2 ⟨k, k.isLt, by rw [trip_pieces]; exact List.mem_singleton.2 rfl⟩, ?_⟩
    rw [Rect.mem_set_unit]; intro a
    have e := k0_off2_eq k
    match a with
    | ⟨0, _⟩ =>
      constructor
      · show k0_off2 k 0 ≤ (y 0).val; rw [show k0_off2 k 0 = 64 * k.val from congrFun e 0]; show 64 * ((y 0).val / 64) ≤ (y 0).val; omega
      · show (y 0).val < k0_off2 k 0 + 64; rw [show k0_off2 k 0 = 64 * k.val from congrFun e 0]; show (y 0).val < 64 * ((y 0).val / 64) + 64; omega
    | ⟨1, _⟩ => rw [show k0_off2 k ⟨1, by decide⟩ = 0 from congrFun e 1]; exact ⟨Nat.zero_le _, by show (y 1).val < 0 + 128; omega⟩

theorem pay6_eq (z : FVec F S512x512 .f32) (hm : FVec F S512x128 .f32) :
    k0_pay6 z (maximumf (maximumf hm (absf (headOf 0 z))) (absf (headOf 1 z))) (headOf 2 z) = hmax z hm := by
  unfold k0_pay6
  exact shapeCast_self _ _

/-- What step `first` leaves. -/
theorem val_first (c : Dev nD) (i : grid0.Coords) (hj : (i 1).val = 0) (arg2 : Memref sig .tc .vmem S512x3072 .bf16) (harg2 : arg2.IsWhole) (arg3 : Memref sig .tc .vmem S1x1x512 .i32) (harg3 : arg3.IsWhole) (arg4 : Memref sig .tc .vmem S1x128 .f32) (harg4 : arg4.IsWhole) (arg5 : Memref sig .tc .vmem S1x3072 .f32) (harg5 : arg5.IsWhole) (arg6 : Memref sig .tc .vmem S3072x512 .fp8e4m3) (harg6 : arg6.IsWhole) (arg7 : Memref sig .tc .vmem S3072x512 .fp8e4m3) (harg7 : arg7.IsWhole) (arg8 : Memref sig .tc .vmem S3072x512 .fp8e4m3) (harg8 : arg8.IsWhole) (arg9 : Memref sig .tc .vmem S8192x512 .fp8e4m3) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x3072 .fp8e4m3) (harg16 : arg16.IsWhole) (arg17 : Memref sig .tc .vmem S1x1x512 .f32) (harg17 : arg17.IsWhole) (arg18 : Memref sig .tc .vmem S512x512 .fp8e4m3) (harg18 : arg18.IsWhole) (arg19 : Memref sig .tc .vmem S512x8 .f32) (harg19 : arg19.IsWhole) (arg20 : Memref sig .tc .vmem S512x512 .fp8e4m3) (harg20 : arg20.IsWhole) (arg21 : Memref sig .tc .vmem S512x8 .f32) (harg21 : arg21.IsWhole) (arg22 : Memref sig .tc .vmem S512x8192 .fp8e4m3) (harg22 : arg22.IsWhole) (arg23 : Memref sig .tc .vmem S1x1x512 .f32) (harg23 : arg23.IsWhole) (arg24 : Memref sig .tc .vmem S16x512x512 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x128 .f32) (harg28 : arg28.IsWhole) (arg29 : Memref sig .tc .vmem S512x128 .f32) (harg29 : arg29.IsWhole) (d2 : S512x3072.Idx → Elt F .bf16) (d3 : S1x1x512.Idx → Elt F .i32) (d4 : S1x128.Idx → Elt F .f32) (d5 : S1x3072.Idx → Elt F .f32) (d6 : S3072x512.Idx → Elt F .fp8e4m3) (d7 : S3072x512.Idx → Elt F .fp8e4m3) (d8 : S3072x512.Idx → Elt F .fp8e4m3) (d9 : S8192x512.Idx → Elt F .fp8e4m3) (d10 : S1x512.Idx → Elt F .f32) (d11 : S1x512.Idx → Elt F .f32) (d12 : S1x512.Idx → Elt F .f32) (d13 : S1x512.Idx → Elt F .f32) (d14 : S512x512.Idx → Elt F .bf16) (d15 : S512x512.Idx → Elt F .bf16) (d16 : S512x3072.Idx → Elt F .fp8e4m3) (d17 : S1x1x512.Idx → Elt F .f32) (d18 : S512x512.Idx → Elt F .fp8e4m3) (d19 : S512x8.Idx → Elt F .f32) (d20 : S512x512.Idx → Elt F .fp8e4m3) (d21 : S512x8.Idx → Elt F .f32) (d22 : S512x8192.Idx → Elt F .fp8e4m3) (d23 : S1x1x512.Idx → Elt F .f32) (d24 : S16x512x512.Idx → Elt F .f32) (d25 : S512x128.Idx → Elt F .f32) (d26 : S512x128.Idx → Elt F .f32) (d27 : S512x128.Idx → Elt F .f32) (d28 : S512x128.Idx → Elt F .f32) (d29 : S512x128.Idx → Elt F .f32) (K : PUnit → sProp 𝕄) :
    iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20 ∗ owns (c : Thread nD τ) arg21 fullShare d21 ∗ owns (c : Thread nD τ) arg22 fullShare d22 ∗ owns (c : Thread nD τ) arg23 fullShare d23 ∗ owns (c : Thread nD τ) arg24 fullShare d24 ∗ owns (c : Thread nD τ) arg25 fullShare d25 ∗ owns (c : Thread nD τ) arg26 fullShare d26 ∗ owns (c : Thread nD τ) arg27 fullShare d27 ∗ owns (c : Thread nD τ) arg28 fullShare d28 ∗ owns (c : Thread nD τ) arg29 fullShare d29 ∗ (iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare ((rows8 (fun k => tripCodes (chunk k d2) d5))) ∗ owns (c : Thread nD τ) arg17 fullShare (k0_pay27 (rows8b (fun k => tripScale (chunk k d2) d5))) ∗ owns (c : Thread nD τ) arg18 fullShare d18 ∗ owns (c : Thread nD τ) arg19 fullShare d19 ∗ owns (c : Thread nD τ) arg20 fullShare d20 ∗ owns (c : Thread nD τ) arg21 fullShare d21 ∗ owns (c : Thread nD τ) arg22 fullShare d22 ∗ owns (c : Thread nD τ) arg23 fullShare d23 ∗ owns (c : Thread nD τ) arg24 fullShare (hput (i 1).val (k0_pay41 (rows8 (fun k => tripCodes (chunk k d2) d5)) d7 (col0 (rows8b (fun k => tripScale (chunk k d2) d5))) d11 (rows8 (fun k => tripCodes (chunk k d2) d5)) d8 (col0 (rows8b (fun k => tripScale (chunk k d2) d5))) d12) d24) ∗ owns (c : Thread nD τ) arg25 fullShare (hmax (k0_pay40 (rows8 (fun k => tripCodes (chunk k d2) d5)) d7 (col0 (rows8b (fun k => tripScale (chunk k d2) d5))) d11 (rows8 (fun k => tripCodes (chunk k d2) d5)) d8 (col0 (rows8b (fun k => tripScale (chunk k d2) d5))) d12) k0_pay5) ∗ owns (c : Thread nD τ) arg26 fullShare ((rows8b (fun k => tripScale (chunk k d2) d5))) ∗ owns (c : Thread nD τ) arg27 fullShare d27 ∗ owns (c : Thread nD τ) arg28 fullShare (rows4 ![k0_pay30 d3 d4, k0_pay34 (k0_pay28 d3) d4, k0_pay38 (k0_pay28 d3) d4, k0_pay3 (k0_pay28 d3) d4]) ∗ owns (c : Thread nD τ) arg29 fullShare (rows4 ![k0_pay32 (k0_pay31 d3 d4), k0_pay35 (k0_pay28 d3) d4, k0_pay1 (k0_pay37 (k0_pay28 d3) d4) k0_pay39, k0_pay4 (k0_pay28 d3) d4])) -∗ K ⟨⟩))
      ⊢ wp frame (wpE (defs₀ (F := F)) Variants.none c none) Set.univ
          (cc0_palm_block (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  have hc1 : k0_cond1 i = 1#1 := by rw [cond1_iff]; omega
  have hc2 : k0_cond2 i = 1#1 := by rw [cond2_iff]; omega
  have hc3 : ¬ k0_cond3 i = 1#1 := by rw [cond3_iff]; omega
  have hc4 : ¬ k0_cond4 i = 1#1 := by rw [cond4_iff]; omega
  have hc5 : ¬ k0_cond5 i = 1#1 := by rw [cond5_iff]; omega
  have hc6 : ¬ k0_cond6 i = 1#1 := by rw [cond6_iff]; omega
  have hc7 : ¬ k0_cond7 i = 1#1 := by rw [cond7_iff]; omega
  simp only [cc0_palm_block_eq_skeleton]; unfold cc0_palm_block_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩, ⟨%f23, %e23, H23⟩, ⟨%f24, %e24, H24⟩, ⟨%f25, %e25, H25⟩, ⟨%f26, %e26, H26⟩, ⟨%f27, %e27, H27⟩, ⟨%f28, %e28, H28⟩, ⟨%f29, %e29, H29⟩, Hk⟩
  sl_exec
  sl_step
  iapply Hk
  isplitl [H2]
  · iexists _; isplitr; swap; · iexact H2
    ipureintro
    exact e2
  isplitl [H3]
  · iexists _; isplitr; swap; · iexact H3
    ipureintro
    exact e3
  isplitl [H4]
  · iexists _; isplitr; swap; · iexact H4
    ipureintro
    exact e4
  isplitl [H5]
  · iexists _; isplitr; swap; · iexact H5
    ipureintro
    exact e5
  isplitl [H6]
  · iexists _; isplitr; swap; · iexact H6
    ipureintro
    exact e6
  isplitl [H7]
  · iexists _; isplitr; swap; · iexact H7
    ipureintro
    exact e7
  isplitl [H8]
  · iexists _; isplitr; swap; · iexact H8
    ipureintro
    exact e8
  isplitl [H9]
  · iexists _; isplitr; swap; · iexact H9
    ipureintro
    exact e9
  isplitl [H10]
  · iexists _; isplitr; swap; · iexact H10
    ipureintro
    exact e10
  isplitl [H11]
  · iexists _; isplitr; swap; · iexact H11
    ipureintro
    exact e11
  isplitl [H12]
  · iexists _; isplitr; swap; · iexact H12
    ipureintro
    exact e12
  isplitl [H13]
  · iexists _; isplitr; swap; · iexact H13
    ipureintro
    exact e13
  isplitl [H14]
  · iexists _; isplitr; swap; · iexact H14
    ipureintro
    exact e14
  isplitl [H15]
  · iexists _; isplitr; swap; · iexact H15
    ipureintro
    exact e15
  isplitl [H16]
  · iexists _; isplitr; swap; · iexact H16
    ipureintro
    exact (loop_16 c i hc1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f2 f5 f16).trans (by rw [e2, e5])
  isplitl [H17]
  · iexists _; isplitr; swap; · iexact H17
    ipureintro
    refine (st_S1x1x512 arg17.view f17 _ _ _).trans (congrArg k0_pay27 ?_)
    exact (ld_S512x128 arg26.view _ _).trans ((loop_26 c i hc1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f2 f5 f26).trans (by rw [e2, e5]))
  isplitl [H18]
  · iexists _; isplitr; swap; · iexact H18
    ipureintro
    exact e18
  isplitl [H19]
  · iexists _; isplitr; swap; · iexact H19
    ipureintro
    exact e19
  isplitl [H20]
  · iexists _; isplitr; swap; · iexact H20
    ipureintro
    exact e20
  isplitl [H21]
  · iexists _; isplitr; swap; · iexact H21
    ipureintro
    exact e21
  isplitl [H22]
  · iexists _; isplitr; swap; · iexact H22
    ipureintro
    exact e22
  isplitl [H23]
  · iexists _; isplitr; swap; · iexact H23
    ipureintro
    exact e23
  isplitl [H24]
  · iexists _; isplitr; swap; · iexact H24
    ipureintro
    refine (writes_hput arg24.view f24 (i 1).val _ (k0_off3_eq i) _ _).trans ?_
    sl_unfold_words
    simp only [ld_S512x3072, ld_S1x1x512, ld_S1x128, ld_S1x3072, ld_S3072x512, ld_S8192x512, ld_S1x512, ld_S512x512, ld_S512x8, ld_S512x8192, ld_S512x128, st_S512x3072, st_S1x1x512, st_S1x128, st_S1x3072, st_S3072x512, st_S8192x512, st_S1x512, st_S512x512, st_S512x8, st_S512x8192, st_S512x128, lc_S512x8, lc_S512x128, ls_S512x8, ls_S512x128, ld0_S512x128, lc0_S512x128, ls0_S512x128, ldS0, ldS1, ldS2, ldS3, ldS4, ldS5, ldS6, ldS7, ldS8, ldS9, ldS10, ldS11, ldS12, ldS13, ldS14, ldS15, ldX0, ldX1, ldX2, ldX3, ldX4, ldX5, loop_16 c i hc1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29, loop_26 c i hc1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29, e7, e8, e11, e12, e2, e5, e24]
    rfl
  isplitl [H25]
  · iexists _; isplitr; swap; · iexact H25
    ipureintro
    sl_unfold_words
    simp only [ld_S512x3072, ld_S1x1x512, ld_S1x128, ld_S1x3072, ld_S3072x512, ld_S8192x512, ld_S1x512, ld_S512x512, ld_S512x8, ld_S512x8192, ld_S512x128, st_S512x3072, st_S1x1x512, st_S1x128, st_S1x3072, st_S3072x512, st_S8192x512, st_S1x512, st_S512x512, st_S512x8, st_S512x8192, st_S512x128, lc_S512x8, lc_S512x128, ls_S512x8, ls_S512x128, ld0_S512x128, lc0_S512x128, ls0_S512x128, ldS0, ldS1, ldS2, ldS3, ldS4, ldS5, ldS6, ldS7, ldS8, ldS9, ldS10, ldS11, ldS12, ldS13, ldS14, ldS15, ldX0, ldX1, ldX2, ldX3, ldX4, ldX5, loop_16 c i hc1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29, loop_26 c i hc1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29, e7, e8, e11, e12, e2, e5]
    generalize (rows8 (fun k => tripCodes (chunk k d2) d5)) = E16
    generalize (rows8b (fun k => tripScale (chunk k d2) d5)) = E26
    generalize k0_pay5 (F := F) = z0
    exact pay6_eq (k0_pay40 E16 d7 (col0 E26) d11 E16 d8 (col0 E26) d12) z0
  isplitl [H26]
  · iexists _; isplitr; swap; · iexact H26
    ipureintro
    exact (loop_26 c i hc1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 f2 f5 f26).trans (by rw [e2, e5])
  isplitl [H27]
  · iexists _; isplitr; swap; · iexact H27
    ipureintro
    exact e27
  isplitl [H28]
  · iexists _; isplitr; swap; · iexact H28
    ipureintro
    sl_unfold_words
    simp only [ld_S512x3072, ld_S1x1x512, ld_S1x128, ld_S1x3072, ld_S3072x512, ld_S8192x512, ld_S1x512, ld_S512x512, ld_S512x8, ld_S512x8192, ld_S512x128, st_S512x3072, st_S1x1x512, st_S1x128, st_S1x3072, st_S3072x512, st_S8192x512, st_S1x512, st_S512x512, st_S512x8, st_S512x8192, st_S512x128, lc_S512x8, lc_S512x128, ls_S512x8, ls_S512x128, ld0_S512x128, lc0_S512x128, ls0_S512x128, ldS0, ldS1, ldS2, ldS3, ldS4, ldS5, ldS6, ldS7, ldS8, ldS9, ldS10, ldS11, ldS12, ldS13, ldS14, ldS15, ldX0, ldX1, ldX2, ldX3, ldX4, ldX5, e3, e4]
    exact writes_rows4 arg28.view f28 ![k0_pay30 d3 d4, k0_pay34 (k0_pay28 d3) d4, k0_pay38 (k0_pay28 d3) d4, k0_pay3 (k0_pay28 d3) d4] _ _ _ _
  iexists _; isplitr; swap; · iexact H29
  ipureintro
  sl_unfold_words
  simp only [ld_S512x3072, ld_S1x1x512, ld_S1x128, ld_S1x3072, ld_S3072x512, ld_S8192x512, ld_S1x512, ld_S512x512, ld_S512x8, ld_S512x8192, ld_S512x128, st_S512x3072, st_S1x1x512, st_S1x128, st_S1x3072, st_S3072x512, st_S8192x512, st_S1x512, st_S512x512, st_S512x8, st_S512x8192, st_S512x128, lc_S512x8, lc_S512x128, ls_S512x8, ls_S512x128, ld0_S512x128, lc0_S512x128, ls0_S512x128, ldS0, ldS1, ldS2, ldS3, ldS4, ldS5, ldS6, ldS7, ldS8, ldS9, ldS10, ldS11, ldS12, ldS13, ldS14, ldS15, ldX0, ldX1, ldX2, ldX3, ldX4, ldX5, e3, e4]
  exact writes_rows4 arg29.view f29 ![k0_pay32 (k0_pay31 d3 d4), k0_pay35 (k0_pay28 d3) d4, k0_pay1 (k0_pay37 (k0_pay28 d3) d4) k0_pay39, k0_pay4 (k0_pay28 d3) d4] _ _ _ _

/-- What step `mlp` leaves. -/
theorem val_mlp (c : Dev nD) (i : grid0.Coords) (hj : 0 < (i 1).val) (hj2 : (i 1).val < 16) (arg2 : Memref sig .tc .vmem S512x3072 .bf16) (harg2 : arg2.IsWhole) (arg3 : Memref sig .tc .vmem S1x1x512 .i32) (harg3 : arg3.IsWhole) (arg4 : Memref sig .tc .vmem S1x128 .f32) (harg4 : arg4.IsWhole) (arg5 : Memref sig .tc .vmem S1x3072 .f32) (harg5 : arg5.IsWhole) (arg6 : Memref sig .tc .vmem S3072x512 .fp8e4m3) (harg6 : arg6.IsWhole) (arg7 : Memref sig .tc .vmem S3072x512 .fp8e4m3) (harg7 : arg7.IsWhole) (arg8 : Memref sig .tc .vmem S3072x512 .fp8e4m3) (harg8 : arg8.IsWhole) (arg9 : Memref sig .tc .vmem S8192x512 .fp8e4m3) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x3072 .fp8e4m3) (harg16 : arg16.IsWhole) (arg17 : Memref sig .tc .vmem S1x1x512 .f32) (harg17 : arg17.IsWhole) (arg18 : Memref sig .tc .vmem S512x512 .fp8e4m3) (harg18 : arg18.IsWhole) (arg19 : Memref sig .tc .vmem S512x8 .f32) (harg19 : arg19.IsWhole) (arg20 : Memref sig .tc .vmem S512x512 .fp8e4m3) (harg20 : arg20.IsWhole) (arg21 : Memref sig .tc .vmem S512x8 .f32) (harg21 : arg21.IsWhole) (arg22 : Memref sig .tc .vmem S512x8192 .fp8e4m3) (harg22 : arg22.IsWhole) (arg23 : Memref sig .tc .vmem S1x1x512 .f32) (harg23 : arg23.IsWhole) (arg24 : Memref sig .tc .vmem S16x512x512 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x128 .f32) (harg28 : arg28.IsWhole) (arg29 : Memref sig .tc .vmem S512x128 .f32) (harg29 : arg29.IsWhole) (d2 : S512x3072.Idx → Elt F .bf16) (d3 : S1x1x512.Idx → Elt F .i32) (d4 : S1x128.Idx → Elt F .f32) (d5 : S1x3072.Idx → Elt F .f32) (d6 : S3072x512.Idx → Elt F .fp8e4m3) (d7 : S3072x512.Idx → Elt F .fp8e4m3) (d8 : S3072x512.Idx → Elt F .fp8e4m3) (d9 : S8192x512.Idx → Elt F .fp8e4m3) (d10 : S1x512.Idx → Elt F .f32) (d11 : S1x512.Idx → Elt F .f32) (d12 : S1x512.Idx → Elt F .f32) (d13 : S1x512.Idx → Elt F .f32) (d14 : S512x512.Idx → Elt F .bf16) (d15 : S512x512.Idx → Elt F .bf16) (d16 : S512x3072.Idx → Elt F .fp8e4m3) (d17 : S1x1x512.Idx → Elt F .f32) (d18 : S512x512.Idx → Elt F .fp8e4m3) (d19 : S512x8.Idx → Elt F .f32) (d20 : S512x512.Idx → Elt F .fp8e4m3) (d21 : S512x8.Idx → Elt F .f32) (d22 : S512x8192.Idx → Elt F .fp8e4m3) (d23 : S1x1x512.Idx → Elt F .f32) (d24 : S16x512x512.Idx → Elt F .f32) (d25 : S512x128.Idx → Elt F .f32) (d26 : S512x128.Idx → Elt F .f32) (d27 : S512x128.Idx → Elt F .f32) (d28 : S512x128.Idx → Elt F .f32) (d29 : S512x128.Idx → Elt F .f32) (K : PUnit → sProp 𝕄) :
    iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20 ∗ owns (c : Thread nD τ) arg21 fullShare d21 ∗ owns (c : Thread nD τ) arg22 fullShare d22 ∗ owns (c : Thread nD τ) arg23 fullShare d23 ∗ owns (c : Thread nD τ) arg24 fullShare d24 ∗ owns (c : Thread nD τ) arg25 fullShare d25 ∗ owns (c : Thread nD τ) arg26 fullShare d26 ∗ owns (c : Thread nD τ) arg27 fullShare d27 ∗ owns (c : Thread nD τ) arg28 fullShare d28 ∗ owns (c : Thread nD τ) arg29 fullShare d29 ∗ (iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20 ∗ owns (c : Thread nD τ) arg21 fullShare d21 ∗ owns (c : Thread nD τ) arg22 fullShare d22 ∗ owns (c : Thread nD τ) arg23 fullShare d23 ∗ owns (c : Thread nD τ) arg24 fullShare (hput (i 1).val (k0_pay41 d16 d7 (col0 d26) d11 d16 d8 (col0 d26) d12) d24) ∗ owns (c : Thread nD τ) arg25 fullShare (hmax (k0_pay40 d16 d7 (col0 d26) d11 d16 d8 (col0 d26) d12) d25) ∗ owns (c : Thread nD τ) arg26 fullShare d26 ∗ owns (c : Thread nD τ) arg27 fullShare d27 ∗ owns (c : Thread nD τ) arg28 fullShare d28 ∗ owns (c : Thread nD τ) arg29 fullShare d29) -∗ K ⟨⟩))
      ⊢ wp frame (wpE (defs₀ (F := F)) Variants.none c none) Set.univ
          (cc0_palm_block (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  have hc1 : ¬ k0_cond1 i = 1#1 := by rw [cond1_iff]; omega
  have hc2 : k0_cond2 i = 1#1 := by rw [cond2_iff]; omega
  have hc3 : ¬ k0_cond3 i = 1#1 := by rw [cond3_iff]; omega
  have hc4 : ¬ k0_cond4 i = 1#1 := by rw [cond4_iff]; omega
  have hc5 : ¬ k0_cond5 i = 1#1 := by rw [cond5_iff]; omega
  have hc6 : ¬ k0_cond6 i = 1#1 := by rw [cond6_iff]; omega
  have hc7 : ¬ k0_cond7 i = 1#1 := by rw [cond7_iff]; omega
  simp only [cc0_palm_block_eq_skeleton]; unfold cc0_palm_block_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩, ⟨%f23, %e23, H23⟩, ⟨%f24, %e24, H24⟩, ⟨%f25, %e25, H25⟩, ⟨%f26, %e26, H26⟩, ⟨%f27, %e27, H27⟩, ⟨%f28, %e28, H28⟩, ⟨%f29, %e29, H29⟩, Hk⟩
  sl_exec
  sl_step
  iapply Hk
  isplitl [H2]
  · iexists _; isplitr; swap; · iexact H2
    ipureintro
    exact e2
  isplitl [H3]
  · iexists _; isplitr; swap; · iexact H3
    ipureintro
    exact e3
  isplitl [H4]
  · iexists _; isplitr; swap; · iexact H4
    ipureintro
    exact e4
  isplitl [H5]
  · iexists _; isplitr; swap; · iexact H5
    ipureintro
    exact e5
  isplitl [H6]
  · iexists _; isplitr; swap; · iexact H6
    ipureintro
    exact e6
  isplitl [H7]
  · iexists _; isplitr; swap; · iexact H7
    ipureintro
    exact e7
  isplitl [H8]
  · iexists _; isplitr; swap; · iexact H8
    ipureintro
    exact e8
  isplitl [H9]
  · iexists _; isplitr; swap; · iexact H9
    ipureintro
    exact e9
  isplitl [H10]
  · iexists _; isplitr; swap; · iexact H10
    ipureintro
    exact e10
  isplitl [H11]
  · iexists _; isplitr; swap; · iexact H11
    ipureintro
    exact e11
  isplitl [H12]
  · iexists _; isplitr; swap; · iexact H12
    ipureintro
    exact e12
  isplitl [H13]
  · iexists _; isplitr; swap; · iexact H13
    ipureintro
    exact e13
  isplitl [H14]
  · iexists _; isplitr; swap; · iexact H14
    ipureintro
    exact e14
  isplitl [H15]
  · iexists _; isplitr; swap; · iexact H15
    ipureintro
    exact e15
  isplitl [H16]
  · iexists _; isplitr; swap; · iexact H16
    ipureintro
    exact e16
  isplitl [H17]
  · iexists _; isplitr; swap; · iexact H17
    ipureintro
    exact e17
  isplitl [H18]
  · iexists _; isplitr; swap; · iexact H18
    ipureintro
    exact e18
  isplitl [H19]
  · iexists _; isplitr; swap; · iexact H19
    ipureintro
    exact e19
  isplitl [H20]
  · iexists _; isplitr; swap; · iexact H20
    ipureintro
    exact e20
  isplitl [H21]
  · iexists _; isplitr; swap; · iexact H21
    ipureintro
    exact e21
  isplitl [H22]
  · iexists _; isplitr; swap; · iexact H22
    ipureintro
    exact e22
  isplitl [H23]
  · iexists _; isplitr; swap; · iexact H23
    ipureintro
    exact e23
  isplitl [H24]
  · iexists _; isplitr; swap; · iexact H24
    ipureintro
    sl_unfold_words
    simp only [ld_S512x3072, ld_S1x1x512, ld_S1x128, ld_S1x3072, ld_S3072x512, ld_S8192x512, ld_S1x512, ld_S512x512, ld_S512x8, ld_S512x8192, ld_S512x128, st_S512x3072, st_S1x1x512, st_S1x128, st_S1x3072, st_S3072x512, st_S8192x512, st_S1x512, st_S512x512, st_S512x8, st_S512x8192, st_S512x128, lc_S512x8, lc_S512x128, ls_S512x8, ls_S512x128, ld0_S512x128, lc0_S512x128, ls0_S512x128, ldS0, ldS1, ldS2, ldS3, ldS4, ldS5, ldS6, ldS7, ldS8, ldS9, ldS10, ldS11, ldS12, ldS13, ldS14, ldS15, ldX0, ldX1, ldX2, ldX3, ldX4, ldX5, e7, e8, e11, e12, e16, e24, e26]
    exact (writes_hput arg24.view f24 (i 1).val _ (k0_off3_eq i) _ _).trans (by rw [e24]; rfl)
  isplitl [H25]
  · iexists _; isplitr; swap; · iexact H25
    ipureintro
    sl_unfold_words
    simp only [ld_S512x3072, ld_S1x1x512, ld_S1x128, ld_S1x3072, ld_S3072x512, ld_S8192x512, ld_S1x512, ld_S512x512, ld_S512x8, ld_S512x8192, ld_S512x128, st_S512x3072, st_S1x1x512, st_S1x128, st_S1x3072, st_S3072x512, st_S8192x512, st_S1x512, st_S512x512, st_S512x8, st_S512x8192, st_S512x128, lc_S512x8, lc_S512x128, ls_S512x8, ls_S512x128, ld0_S512x128, lc0_S512x128, ls0_S512x128, ldS0, ldS1, ldS2, ldS3, ldS4, ldS5, ldS6, ldS7, ldS8, ldS9, ldS10, ldS11, ldS12, ldS13, ldS14, ldS15, ldX0, ldX1, ldX2, ldX3, ldX4, ldX5, e7, e8, e11, e12, e16, e25, e26]
    exact pay6_eq (k0_pay40 d16 d7 (col0 d26) d11 d16 d8 (col0 d26) d12) d25
  isplitl [H26]
  · iexists _; isplitr; swap; · iexact H26
    ipureintro
    exact e26
  isplitl [H27]
  · iexists _; isplitr; swap; · iexact H27
    ipureintro
    exact e27
  isplitl [H28]
  · iexists _; isplitr; swap; · iexact H28
    ipureintro
    exact e28
  iexists _; isplitr; swap; · iexact H29
  ipureintro
  exact e29

/-- What step `quant` leaves. -/
theorem val_quant (c : Dev nD) (i : grid0.Coords) (hj : (i 1).val = 16) (arg2 : Memref sig .tc .vmem S512x3072 .bf16) (harg2 : arg2.IsWhole) (arg3 : Memref sig .tc .vmem S1x1x512 .i32) (harg3 : arg3.IsWhole) (arg4 : Memref sig .tc .vmem S1x128 .f32) (harg4 : arg4.IsWhole) (arg5 : Memref sig .tc .vmem S1x3072 .f32) (harg5 : arg5.IsWhole) (arg6 : Memref sig .tc .vmem S3072x512 .fp8e4m3) (harg6 : arg6.IsWhole) (arg7 : Memref sig .tc .vmem S3072x512 .fp8e4m3) (harg7 : arg7.IsWhole) (arg8 : Memref sig .tc .vmem S3072x512 .fp8e4m3) (harg8 : arg8.IsWhole) (arg9 : Memref sig .tc .vmem S8192x512 .fp8e4m3) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x3072 .fp8e4m3) (harg16 : arg16.IsWhole) (arg17 : Memref sig .tc .vmem S1x1x512 .f32) (harg17 : arg17.IsWhole) (arg18 : Memref sig .tc .vmem S512x512 .fp8e4m3) (harg18 : arg18.IsWhole) (arg19 : Memref sig .tc .vmem S512x8 .f32) (harg19 : arg19.IsWhole) (arg20 : Memref sig .tc .vmem S512x512 .fp8e4m3) (harg20 : arg20.IsWhole) (arg21 : Memref sig .tc .vmem S512x8 .f32) (harg21 : arg21.IsWhole) (arg22 : Memref sig .tc .vmem S512x8192 .fp8e4m3) (harg22 : arg22.IsWhole) (arg23 : Memref sig .tc .vmem S1x1x512 .f32) (harg23 : arg23.IsWhole) (arg24 : Memref sig .tc .vmem S16x512x512 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x128 .f32) (harg28 : arg28.IsWhole) (arg29 : Memref sig .tc .vmem S512x128 .f32) (harg29 : arg29.IsWhole) (d2 : S512x3072.Idx → Elt F .bf16) (d3 : S1x1x512.Idx → Elt F .i32) (d4 : S1x128.Idx → Elt F .f32) (d5 : S1x3072.Idx → Elt F .f32) (d6 : S3072x512.Idx → Elt F .fp8e4m3) (d7 : S3072x512.Idx → Elt F .fp8e4m3) (d8 : S3072x512.Idx → Elt F .fp8e4m3) (d9 : S8192x512.Idx → Elt F .fp8e4m3) (d10 : S1x512.Idx → Elt F .f32) (d11 : S1x512.Idx → Elt F .f32) (d12 : S1x512.Idx → Elt F .f32) (d13 : S1x512.Idx → Elt F .f32) (d14 : S512x512.Idx → Elt F .bf16) (d15 : S512x512.Idx → Elt F .bf16) (d16 : S512x3072.Idx → Elt F .fp8e4m3) (d17 : S1x1x512.Idx → Elt F .f32) (d18 : S512x512.Idx → Elt F .fp8e4m3) (d19 : S512x8.Idx → Elt F .f32) (d20 : S512x512.Idx → Elt F .fp8e4m3) (d21 : S512x8.Idx → Elt F .f32) (d22 : S512x8192.Idx → Elt F .fp8e4m3) (d23 : S1x1x512.Idx → Elt F .f32) (d24 : S16x512x512.Idx → Elt F .f32) (d25 : S512x128.Idx → Elt F .f32) (d26 : S512x128.Idx → Elt F .f32) (d27 : S512x128.Idx → Elt F .f32) (d28 : S512x128.Idx → Elt F .f32) (d29 : S512x128.Idx → Elt F .f32) (K : PUnit → sProp 𝕄) :
    iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20 ∗ owns (c : Thread nD τ) arg21 fullShare d21 ∗ owns (c : Thread nD τ) arg22 fullShare d22 ∗ owns (c : Thread nD τ) arg23 fullShare d23 ∗ owns (c : Thread nD τ) arg24 fullShare d24 ∗ owns (c : Thread nD τ) arg25 fullShare d25 ∗ owns (c : Thread nD τ) arg26 fullShare d26 ∗ owns (c : Thread nD τ) arg27 fullShare d27 ∗ owns (c : Thread nD τ) arg28 fullShare d28 ∗ owns (c : Thread nD τ) arg29 fullShare d29 ∗ (iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare (cols4 (fun n => truncf .bf16 (ropeC (headOf n (k0_pay44 d16 d6 (col0 d26) d10)) d28 d29) bitsLt_bf16_f32)) ∗ owns (c : Thread nD τ) arg15 fullShare d15 ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20 ∗ owns (c : Thread nD τ) arg21 fullShare d21 ∗ owns (c : Thread nD τ) arg22 fullShare (cols16 (fun n => k0_pay127 (slotV n d24) (col0 (k0_pay125 (k0_pay120 d25) (k0_pay121 d25) (Scalar.ofBits .f32 0x7E800000#32))))) ∗ owns (c : Thread nD τ) arg23 fullShare (k0_pay126 (k0_pay124 (k0_pay120 d25) (k0_pay121 d25) (Scalar.ofBits .f32 0x7E800000#32))) ∗ owns (c : Thread nD τ) arg24 fullShare d24 ∗ owns (c : Thread nD τ) arg25 fullShare ((k0_pay125 (k0_pay120 d25) (k0_pay121 d25) (Scalar.ofBits .f32 0x7E800000#32))) ∗ owns (c : Thread nD τ) arg26 fullShare d26 ∗ owns (c : Thread nD τ) arg27 fullShare ((k0_pay124 (k0_pay120 d25) (k0_pay121 d25) (Scalar.ofBits .f32 0x7E800000#32))) ∗ owns (c : Thread nD τ) arg28 fullShare d28 ∗ owns (c : Thread nD τ) arg29 fullShare d29) -∗ K ⟨⟩))
      ⊢ wp frame (wpE (defs₀ (F := F)) Variants.none c none) Set.univ
          (cc0_palm_block (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  have hc1 : ¬ k0_cond1 i = 1#1 := by rw [cond1_iff]; omega
  have hc2 : ¬ k0_cond2 i = 1#1 := by rw [cond2_iff]; omega
  have hc3 : k0_cond3 i = 1#1 := by rw [cond3_iff]; omega
  have hc4 : ¬ k0_cond4 i = 1#1 := by rw [cond4_iff]; omega
  have hc5 : ¬ k0_cond5 i = 1#1 := by rw [cond5_iff]; omega
  have hc6 : k0_cond6 i = 1#1 := by rw [cond6_iff]; omega
  have hc7 : ¬ k0_cond7 i = 1#1 := by rw [cond7_iff]; omega
  simp only [cc0_palm_block_eq_skeleton]; unfold cc0_palm_block_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩, ⟨%f23, %e23, H23⟩, ⟨%f24, %e24, H24⟩, ⟨%f25, %e25, H25⟩, ⟨%f26, %e26, H26⟩, ⟨%f27, %e27, H27⟩, ⟨%f28, %e28, H28⟩, ⟨%f29, %e29, H29⟩, Hk⟩
  sl_exec
  sl_step
  iapply Hk
  isplitl [H2]
  · iexists _; isplitr; swap; · iexact H2
    ipureintro
    exact e2
  isplitl [H3]
  · iexists _; isplitr; swap; · iexact H3
    ipureintro
    exact e3
  isplitl [H4]
  · iexists _; isplitr; swap; · iexact H4
    ipureintro
    exact e4
  isplitl [H5]
  · iexists _; isplitr; swap; · iexact H5
    ipureintro
    exact e5
  isplitl [H6]
  · iexists _; isplitr; swap; · iexact H6
    ipureintro
    exact e6
  isplitl [H7]
  · iexists _; isplitr; swap; · iexact H7
    ipureintro
    exact e7
  isplitl [H8]
  · iexists _; isplitr; swap; · iexact H8
    ipureintro
    exact e8
  isplitl [H9]
  · iexists _; isplitr; swap; · iexact H9
    ipureintro
    exact e9
  isplitl [H10]
  · iexists _; isplitr; swap; · iexact H10
    ipureintro
    exact e10
  isplitl [H11]
  · iexists _; isplitr; swap; · iexact H11
    ipureintro
    exact e11
  isplitl [H12]
  · iexists _; isplitr; swap; · iexact H12
    ipureintro
    exact e12
  isplitl [H13]
  · iexists _; isplitr; swap; · iexact H13
    ipureintro
    exact e13
  isplitl [H14]
  · iexists _; isplitr; swap; · iexact H14
    ipureintro
    sl_unfold_words
    simp only [ld_S512x3072, ld_S1x1x512, ld_S1x128, ld_S1x3072, ld_S3072x512, ld_S8192x512, ld_S1x512, ld_S512x512, ld_S512x8, ld_S512x8192, ld_S512x128, st_S512x3072, st_S1x1x512, st_S1x128, st_S1x3072, st_S3072x512, st_S8192x512, st_S1x512, st_S512x512, st_S512x8, st_S512x8192, st_S512x128, lc_S512x8, lc_S512x128, ls_S512x8, ls_S512x128, ld0_S512x128, lc0_S512x128, ls0_S512x128, ldS0, ldS1, ldS2, ldS3, ldS4, ldS5, ldS6, ldS7, ldS8, ldS9, ldS10, ldS11, ldS12, ldS13, ldS14, ldS15, ldX0, ldX1, ldX2, ldX3, ldX4, ldX5, e6, e10, e16, e26, e28, e29]
    exact writes_cols4 arg14.view f14 (fun n => truncf .bf16 (ropeC (headOf n (k0_pay44 d16 d6 (col0 d26) d10)) d28 d29) bitsLt_bf16_f32) _ _ _ _
  isplitl [H15]
  · iexists _; isplitr; swap; · iexact H15
    ipureintro
    exact e15
  isplitl [H16]
  · iexists _; isplitr; swap; · iexact H16
    ipureintro
    exact e16
  isplitl [H17]
  · iexists _; isplitr; swap; · iexact H17
    ipureintro
    exact e17
  isplitl [H18]
  · iexists _; isplitr; swap; · iexact H18
    ipureintro
    exact e18
  isplitl [H19]
  · iexists _; isplitr; swap; · iexact H19
    ipureintro
    exact e19
  isplitl [H20]
  · iexists _; isplitr; swap; · iexact H20
    ipureintro
    exact e20
  isplitl [H21]
  · iexists _; isplitr; swap; · iexact H21
    ipureintro
    exact e21
  isplitl [H22]
  · iexists _; isplitr; swap; · iexact H22
    ipureintro
    sl_unfold_words
    simp only [ld_S512x3072, ld_S1x1x512, ld_S1x128, ld_S1x3072, ld_S3072x512, ld_S8192x512, ld_S1x512, ld_S512x512, ld_S512x8, ld_S512x8192, ld_S512x128, st_S512x3072, st_S1x1x512, st_S1x128, st_S1x3072, st_S3072x512, st_S8192x512, st_S1x512, st_S512x512, st_S512x8, st_S512x8192, st_S512x128, lc_S512x8, lc_S512x128, ls_S512x8, ls_S512x128, ld0_S512x128, lc0_S512x128, ls0_S512x128, ldS0, ldS1, ldS2, ldS3, ldS4, ldS5, ldS6, ldS7, ldS8, ldS9, ldS10, ldS11, ldS12, ldS13, ldS14, ldS15, ldX0, ldX1, ldX2, ldX3, ldX4, ldX5, e24, e25]
    exact writes_cols16 arg22.view f22 (fun n => k0_pay127 (slotV n d24) (col0 (k0_pay125 (k0_pay120 d25) (k0_pay121 d25) (Scalar.ofBits .f32 0x7E800000#32)))) _ _ _ _ _ _ _ _ _ _ _ _ _ _ _ _
  isplitl [H23]
  · iexists _; isplitr; swap; · iexact H23
    ipureintro
    refine (st_S1x1x512 arg23.view f23 _ _ _).trans (congrArg k0_pay126 ?_)
    sl_unfold_words
    simp only [ld_S512x3072, ld_S1x1x512, ld_S1x128, ld_S1x3072, ld_S3072x512, ld_S8192x512, ld_S1x512, ld_S512x512, ld_S512x8, ld_S512x8192, ld_S512x128, st_S512x3072, st_S1x1x512, st_S1x128, st_S1x3072, st_S3072x512, st_S8192x512, st_S1x512, st_S512x512, st_S512x8, st_S512x8192, st_S512x128, lc_S512x8, lc_S512x128, ls_S512x8, ls_S512x128, ld0_S512x128, lc0_S512x128, ls0_S512x128, ldS0, ldS1, ldS2, ldS3, ldS4, ldS5, ldS6, ldS7, ldS8, ldS9, ldS10, ldS11, ldS12, ldS13, ldS14, ldS15, ldX0, ldX1, ldX2, ldX3, ldX4, ldX5, e25]
    rfl
  isplitl [H24]
  · iexists _; isplitr; swap; · iexact H24
    ipureintro
    exact e24
  isplitl [H25]
  · iexists _; isplitr; swap; · iexact H25
    ipureintro
    sl_unfold_words
    simp only [ld_S512x3072, ld_S1x1x512, ld_S1x128, ld_S1x3072, ld_S3072x512, ld_S8192x512, ld_S1x512, ld_S512x512, ld_S512x8, ld_S512x8192, ld_S512x128, st_S512x3072, st_S1x1x512, st_S1x128, st_S1x3072, st_S3072x512, st_S8192x512, st_S1x512, st_S512x512, st_S512x8, st_S512x8192, st_S512x128, lc_S512x8, lc_S512x128, ls_S512x8, ls_S512x128, ld0_S512x128, lc0_S512x128, ls0_S512x128, ldS0, ldS1, ldS2, ldS3, ldS4, ldS5, ldS6, ldS7, ldS8, ldS9, ldS10, ldS11, ldS12, ldS13, ldS14, ldS15, ldX0, ldX1, ldX2, ldX3, ldX4, ldX5, e25]
    rfl
  isplitl [H26]
  · iexists _; isplitr; swap; · iexact H26
    ipureintro
    exact e26
  isplitl [H27]
  · iexists _; isplitr; swap; · iexact H27
    ipureintro
    sl_unfold_words
    simp only [ld_S512x3072, ld_S1x1x512, ld_S1x128, ld_S1x3072, ld_S3072x512, ld_S8192x512, ld_S1x512, ld_S512x512, ld_S512x8, ld_S512x8192, ld_S512x128, st_S512x3072, st_S1x1x512, st_S1x128, st_S1x3072, st_S3072x512, st_S8192x512, st_S1x512, st_S512x512, st_S512x8, st_S512x8192, st_S512x128, lc_S512x8, lc_S512x128, ls_S512x8, ls_S512x128, ld0_S512x128, lc0_S512x128, ls0_S512x128, ldS0, ldS1, ldS2, ldS3, ldS4, ldS5, ldS6, ldS7, ldS8, ldS9, ldS10, ldS11, ldS12, ldS13, ldS14, ldS15, ldX0, ldX1, ldX2, ldX3, ldX4, ldX5, e25]
    rfl
  isplitl [H28]
  · iexists _; isplitr; swap; · iexact H28
    ipureintro
    exact e28
  iexists _; isplitr; swap; · iexact H29
  ipureintro
  exact e29

end Cert.KernelIdeal.Hand

end
-- ==== Proof.KIRun2.lean ====
/- What the kernel's body leaves in its results and scratch at each of the tile's steps. -/
module

public import proofs.«01_k».proof.Proof.Gen.KernelIdeal.Frame
public import proofs.«01_k».proof.Proof.KIVec
public import proofs.«01_k».proof.Proof.KIRun
public import proofs.«01_k».proof.Proof.KICond
public import Idealize.ShloMosaic.Lib.Pipeline.Value
public import proofs.«01_k».proof.Proof.Gen.KernelIdeal.Loops
public import proofs.«01_k».proof.Proof.Gen.KernelIdeal.Skeleton
public import Idealize.ShloMosaic.Lib.Pipeline.Frame
public import Idealize.ShloMosaic.Lib.Pipeline.DatRel
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

/-- What step `q` leaves. -/
theorem val_q (c : Dev nD) (i : grid0.Coords) (hj : 16 < (i 1).val) (hj2 : (i 1).val < 22) (arg2 : Memref sig .tc .vmem S512x3072 .bf16) (harg2 : arg2.IsWhole) (arg3 : Memref sig .tc .vmem S1x1x512 .i32) (harg3 : arg3.IsWhole) (arg4 : Memref sig .tc .vmem S1x128 .f32) (harg4 : arg4.IsWhole) (arg5 : Memref sig .tc .vmem S1x3072 .f32) (harg5 : arg5.IsWhole) (arg6 : Memref sig .tc .vmem S3072x512 .fp8e4m3) (harg6 : arg6.IsWhole) (arg7 : Memref sig .tc .vmem S3072x512 .fp8e4m3) (harg7 : arg7.IsWhole) (arg8 : Memref sig .tc .vmem S3072x512 .fp8e4m3) (harg8 : arg8.IsWhole) (arg9 : Memref sig .tc .vmem S8192x512 .fp8e4m3) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x3072 .fp8e4m3) (harg16 : arg16.IsWhole) (arg17 : Memref sig .tc .vmem S1x1x512 .f32) (harg17 : arg17.IsWhole) (arg18 : Memref sig .tc .vmem S512x512 .fp8e4m3) (harg18 : arg18.IsWhole) (arg19 : Memref sig .tc .vmem S512x8 .f32) (harg19 : arg19.IsWhole) (arg20 : Memref sig .tc .vmem S512x512 .fp8e4m3) (harg20 : arg20.IsWhole) (arg21 : Memref sig .tc .vmem S512x8 .f32) (harg21 : arg21.IsWhole) (arg22 : Memref sig .tc .vmem S512x8192 .fp8e4m3) (harg22 : arg22.IsWhole) (arg23 : Memref sig .tc .vmem S1x1x512 .f32) (harg23 : arg23.IsWhole) (arg24 : Memref sig .tc .vmem S16x512x512 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x128 .f32) (harg28 : arg28.IsWhole) (arg29 : Memref sig .tc .vmem S512x128 .f32) (harg29 : arg29.IsWhole) (d2 : S512x3072.Idx → Elt F .bf16) (d3 : S1x1x512.Idx → Elt F .i32) (d4 : S1x128.Idx → Elt F .f32) (d5 : S1x3072.Idx → Elt F .f32) (d6 : S3072x512.Idx → Elt F .fp8e4m3) (d7 : S3072x512.Idx → Elt F .fp8e4m3) (d8 : S3072x512.Idx → Elt F .fp8e4m3) (d9 : S8192x512.Idx → Elt F .fp8e4m3) (d10 : S1x512.Idx → Elt F .f32) (d11 : S1x512.Idx → Elt F .f32) (d12 : S1x512.Idx → Elt F .f32) (d13 : S1x512.Idx → Elt F .f32) (d14 : S512x512.Idx → Elt F .bf16) (d15 : S512x512.Idx → Elt F .bf16) (d16 : S512x3072.Idx → Elt F .fp8e4m3) (d17 : S1x1x512.Idx → Elt F .f32) (d18 : S512x512.Idx → Elt F .fp8e4m3) (d19 : S512x8.Idx → Elt F .f32) (d20 : S512x512.Idx → Elt F .fp8e4m3) (d21 : S512x8.Idx → Elt F .f32) (d22 : S512x8192.Idx → Elt F .fp8e4m3) (d23 : S1x1x512.Idx → Elt F .f32) (d24 : S16x512x512.Idx → Elt F .f32) (d25 : S512x128.Idx → Elt F .f32) (d26 : S512x128.Idx → Elt F .f32) (d27 : S512x128.Idx → Elt F .f32) (d28 : S512x128.Idx → Elt F .f32) (d29 : S512x128.Idx → Elt F .f32) (K : PUnit → sProp 𝕄) :
    iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20 ∗ owns (c : Thread nD τ) arg21 fullShare d21 ∗ owns (c : Thread nD τ) arg22 fullShare d22 ∗ owns (c : Thread nD τ) arg23 fullShare d23 ∗ owns (c : Thread nD τ) arg24 fullShare d24 ∗ owns (c : Thread nD τ) arg25 fullShare d25 ∗ owns (c : Thread nD τ) arg26 fullShare d26 ∗ owns (c : Thread nD τ) arg27 fullShare d27 ∗ owns (c : Thread nD τ) arg28 fullShare d28 ∗ owns (c : Thread nD τ) arg29 fullShare d29 ∗ (iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare (cols4 (fun n => truncf .bf16 (ropeC (headOf n (k0_pay44 d16 d6 (col0 d26) d10)) d28 d29) bitsLt_bf16_f32)) ∗ owns (c : Thread nD τ) arg15 fullShare d15 ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20 ∗ owns (c : Thread nD τ) arg21 fullShare d21 ∗ owns (c : Thread nD τ) arg22 fullShare d22 ∗ owns (c : Thread nD τ) arg23 fullShare d23 ∗ owns (c : Thread nD τ) arg24 fullShare d24 ∗ owns (c : Thread nD τ) arg25 fullShare d25 ∗ owns (c : Thread nD τ) arg26 fullShare d26 ∗ owns (c : Thread nD τ) arg27 fullShare d27 ∗ owns (c : Thread nD τ) arg28 fullShare d28 ∗ owns (c : Thread nD τ) arg29 fullShare d29) -∗ K ⟨⟩))
      ⊢ wp frame (wpE (defs₀ (F := F)) Variants.none c none) Set.univ
          (cc0_palm_block (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  have hc1 : ¬ k0_cond1 i = 1#1 := by rw [cond1_iff]; omega
  have hc2 : ¬ k0_cond2 i = 1#1 := by rw [cond2_iff]; omega
  have hc3 : k0_cond3 i = 1#1 := by rw [cond3_iff]; omega
  have hc4 : ¬ k0_cond4 i = 1#1 := by rw [cond4_iff]; omega
  have hc5 : ¬ k0_cond5 i = 1#1 := by rw [cond5_iff]; omega
  have hc6 : ¬ k0_cond6 i = 1#1 := by rw [cond6_iff]; omega
  have hc7 : ¬ k0_cond7 i = 1#1 := by rw [cond7_iff]; omega
  simp only [cc0_palm_block_eq_skeleton]; unfold cc0_palm_block_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩, ⟨%f23, %e23, H23⟩, ⟨%f24, %e24, H24⟩, ⟨%f25, %e25, H25⟩, ⟨%f26, %e26, H26⟩, ⟨%f27, %e27, H27⟩, ⟨%f28, %e28, H28⟩, ⟨%f29, %e29, H29⟩, Hk⟩
  sl_exec
  sl_step
  iapply Hk
  isplitl [H2]
  · iexists _; isplitr; swap; · iexact H2
    ipureintro
    exact e2
  isplitl [H3]
  · iexists _; isplitr; swap; · iexact H3
    ipureintro
    exact e3
  isplitl [H4]
  · iexists _; isplitr; swap; · iexact H4
    ipureintro
    exact e4
  isplitl [H5]
  · iexists _; isplitr; swap; · iexact H5
    ipureintro
    exact e5
  isplitl [H6]
  · iexists _; isplitr; swap; · iexact H6
    ipureintro
    exact e6
  isplitl [H7]
  · iexists _; isplitr; swap; · iexact H7
    ipureintro
    exact e7
  isplitl [H8]
  · iexists _; isplitr; swap; · iexact H8
    ipureintro
    exact e8
  isplitl [H9]
  · iexists _; isplitr; swap; · iexact H9
    ipureintro
    exact e9
  isplitl [H10]
  · iexists _; isplitr; swap; · iexact H10
    ipureintro
    exact e10
  isplitl [H11]
  · iexists _; isplitr; swap; · iexact H11
    ipureintro
    exact e11
  isplitl [H12]
  · iexists _; isplitr; swap; · iexact H12
    ipureintro
    exact e12
  isplitl [H13]
  · iexists _; isplitr; swap; · iexact H13
    ipureintro
    exact e13
  isplitl [H14]
  · iexists _; isplitr; swap; · iexact H14
    ipureintro
    sl_unfold_words
    simp only [ld_S512x3072, ld_S1x1x512, ld_S1x128, ld_S1x3072, ld_S3072x512, ld_S8192x512, ld_S1x512, ld_S512x512, ld_S512x8, ld_S512x8192, ld_S512x128, st_S512x3072, st_S1x1x512, st_S1x128, st_S1x3072, st_S3072x512, st_S8192x512, st_S1x512, st_S512x512, st_S512x8, st_S512x8192, st_S512x128, lc_S512x8, lc_S512x128, ls_S512x8, ls_S512x128, ld0_S512x128, lc0_S512x128, ls0_S512x128, ldS0, ldS1, ldS2, ldS3, ldS4, ldS5, ldS6, ldS7, ldS8, ldS9, ldS10, ldS11, ldS12, ldS13, ldS14, ldS15, ldX0, ldX1, ldX2, ldX3, ldX4, ldX5, e6, e10, e16, e26, e28, e29]
    exact writes_cols4 arg14.view f14 (fun n => truncf .bf16 (ropeC (headOf n (k0_pay44 d16 d6 (col0 d26) d10)) d28 d29) bitsLt_bf16_f32) _ _ _ _
  isplitl [H15]
  · iexists _; isplitr; swap; · iexact H15
    ipureintro
    exact e15
  isplitl [H16]
  · iexists _; isplitr; swap; · iexact H16
    ipureintro
    exact e16
  isplitl [H17]
  · iexists _; isplitr; swap; · iexact H17
    ipureintro
    exact e17
  isplitl [H18]
  · iexists _; isplitr; swap; · iexact H18
    ipureintro
    exact e18
  isplitl [H19]
  · iexists _; isplitr; swap; · iexact H19
    ipureintro
    exact e19
  isplitl [H20]
  · iexists _; isplitr; swap; · iexact H20
    ipureintro
    exact e20
  isplitl [H21]
  · iexists _; isplitr; swap; · iexact H21
    ipureintro
    exact e21
  isplitl [H22]
  · iexists _; isplitr; swap; · iexact H22
    ipureintro
    exact e22
  isplitl [H23]
  · iexists _; isplitr; swap; · iexact H23
    ipureintro
    exact e23
  isplitl [H24]
  · iexists _; isplitr; swap; · iexact H24
    ipureintro
    exact e24
  isplitl [H25]
  · iexists _; isplitr; swap; · iexact H25
    ipureintro
    exact e25
  isplitl [H26]
  · iexists _; isplitr; swap; · iexact H26
    ipureintro
    exact e26
  isplitl [H27]
  · iexists _; isplitr; swap; · iexact H27
    ipureintro
    exact e27
  isplitl [H28]
  · iexists _; isplitr; swap; · iexact H28
    ipureintro
    exact e28
  iexists _; isplitr; swap; · iexact H29
  ipureintro
  exact e29

/-- What step `k` leaves. -/
theorem val_k (c : Dev nD) (i : grid0.Coords) (hj : 22 ≤ (i 1).val) (hj2 : (i 1).val < 24) (arg2 : Memref sig .tc .vmem S512x3072 .bf16) (harg2 : arg2.IsWhole) (arg3 : Memref sig .tc .vmem S1x1x512 .i32) (harg3 : arg3.IsWhole) (arg4 : Memref sig .tc .vmem S1x128 .f32) (harg4 : arg4.IsWhole) (arg5 : Memref sig .tc .vmem S1x3072 .f32) (harg5 : arg5.IsWhole) (arg6 : Memref sig .tc .vmem S3072x512 .fp8e4m3) (harg6 : arg6.IsWhole) (arg7 : Memref sig .tc .vmem S3072x512 .fp8e4m3) (harg7 : arg7.IsWhole) (arg8 : Memref sig .tc .vmem S3072x512 .fp8e4m3) (harg8 : arg8.IsWhole) (arg9 : Memref sig .tc .vmem S8192x512 .fp8e4m3) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x3072 .fp8e4m3) (harg16 : arg16.IsWhole) (arg17 : Memref sig .tc .vmem S1x1x512 .f32) (harg17 : arg17.IsWhole) (arg18 : Memref sig .tc .vmem S512x512 .fp8e4m3) (harg18 : arg18.IsWhole) (arg19 : Memref sig .tc .vmem S512x8 .f32) (harg19 : arg19.IsWhole) (arg20 : Memref sig .tc .vmem S512x512 .fp8e4m3) (harg20 : arg20.IsWhole) (arg21 : Memref sig .tc .vmem S512x8 .f32) (harg21 : arg21.IsWhole) (arg22 : Memref sig .tc .vmem S512x8192 .fp8e4m3) (harg22 : arg22.IsWhole) (arg23 : Memref sig .tc .vmem S1x1x512 .f32) (harg23 : arg23.IsWhole) (arg24 : Memref sig .tc .vmem S16x512x512 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x128 .f32) (harg28 : arg28.IsWhole) (arg29 : Memref sig .tc .vmem S512x128 .f32) (harg29 : arg29.IsWhole) (d2 : S512x3072.Idx → Elt F .bf16) (d3 : S1x1x512.Idx → Elt F .i32) (d4 : S1x128.Idx → Elt F .f32) (d5 : S1x3072.Idx → Elt F .f32) (d6 : S3072x512.Idx → Elt F .fp8e4m3) (d7 : S3072x512.Idx → Elt F .fp8e4m3) (d8 : S3072x512.Idx → Elt F .fp8e4m3) (d9 : S8192x512.Idx → Elt F .fp8e4m3) (d10 : S1x512.Idx → Elt F .f32) (d11 : S1x512.Idx → Elt F .f32) (d12 : S1x512.Idx → Elt F .f32) (d13 : S1x512.Idx → Elt F .f32) (d14 : S512x512.Idx → Elt F .bf16) (d15 : S512x512.Idx → Elt F .bf16) (d16 : S512x3072.Idx → Elt F .fp8e4m3) (d17 : S1x1x512.Idx → Elt F .f32) (d18 : S512x512.Idx → Elt F .fp8e4m3) (d19 : S512x8.Idx → Elt F .f32) (d20 : S512x512.Idx → Elt F .fp8e4m3) (d21 : S512x8.Idx → Elt F .f32) (d22 : S512x8192.Idx → Elt F .fp8e4m3) (d23 : S1x1x512.Idx → Elt F .f32) (d24 : S16x512x512.Idx → Elt F .f32) (d25 : S512x128.Idx → Elt F .f32) (d26 : S512x128.Idx → Elt F .f32) (d27 : S512x128.Idx → Elt F .f32) (d28 : S512x128.Idx → Elt F .f32) (d29 : S512x128.Idx → Elt F .f32) (K : PUnit → sProp 𝕄) :
    iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20 ∗ owns (c : Thread nD τ) arg21 fullShare d21 ∗ owns (c : Thread nD τ) arg22 fullShare d22 ∗ owns (c : Thread nD τ) arg23 fullShare d23 ∗ owns (c : Thread nD τ) arg24 fullShare d24 ∗ owns (c : Thread nD τ) arg25 fullShare d25 ∗ owns (c : Thread nD τ) arg26 fullShare d26 ∗ owns (c : Thread nD τ) arg27 fullShare d27 ∗ owns (c : Thread nD τ) arg28 fullShare d28 ∗ owns (c : Thread nD τ) arg29 fullShare d29 ∗ (iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare (cols4 (fun n => headCodes (ropeC (headOf n (k0_pay44 d16 d6 (col0 d26) d10)) d28 d29))) ∗ owns (c : Thread nD τ) arg19 fullShare ((laneSet (headWord i 22#32 3#32) (qscale (tHead ((fun n => ropeC (headOf n (k0_pay44 d16 d6 (col0 d26) d10)) d28 d29) 3))) (laneSet (headWord i 22#32 2#32) (qscale (tHead ((fun n => ropeC (headOf n (k0_pay44 d16 d6 (col0 d26) d10)) d28 d29) 2))) (laneSet (headWord i 22#32 1#32) (qscale (tHead ((fun n => ropeC (headOf n (k0_pay44 d16 d6 (col0 d26) d10)) d28 d29) 1))) (laneSet (headWord i 22#32 0#32) (qscale (tHead ((fun n => ropeC (headOf n (k0_pay44 d16 d6 (col0 d26) d10)) d28 d29) 0))) d19))))) ∗ owns (c : Thread nD τ) arg20 fullShare d20 ∗ owns (c : Thread nD τ) arg21 fullShare d21 ∗ owns (c : Thread nD τ) arg22 fullShare d22 ∗ owns (c : Thread nD τ) arg23 fullShare d23 ∗ owns (c : Thread nD τ) arg24 fullShare d24 ∗ owns (c : Thread nD τ) arg25 fullShare d25 ∗ owns (c : Thread nD τ) arg26 fullShare d26 ∗ owns (c : Thread nD τ) arg27 fullShare d27 ∗ owns (c : Thread nD τ) arg28 fullShare d28 ∗ owns (c : Thread nD τ) arg29 fullShare d29) -∗ K ⟨⟩))
      ⊢ wp frame (wpE (defs₀ (F := F)) Variants.none c none) Set.univ
          (cc0_palm_block (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  have hc1 : ¬ k0_cond1 i = 1#1 := by rw [cond1_iff]; omega
  have hc2 : ¬ k0_cond2 i = 1#1 := by rw [cond2_iff]; omega
  have hc3 : ¬ k0_cond3 i = 1#1 := by rw [cond3_iff]; omega
  have hc4 : k0_cond4 i = 1#1 := by rw [cond4_iff]; omega
  have hc5 : ¬ k0_cond5 i = 1#1 := by rw [cond5_iff]; omega
  have hc6 : ¬ k0_cond6 i = 1#1 := by rw [cond6_iff]; omega
  have hc7 : ¬ k0_cond7 i = 1#1 := by rw [cond7_iff]; omega
  simp only [cc0_palm_block_eq_skeleton]; unfold cc0_palm_block_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩, ⟨%f23, %e23, H23⟩, ⟨%f24, %e24, H24⟩, ⟨%f25, %e25, H25⟩, ⟨%f26, %e26, H26⟩, ⟨%f27, %e27, H27⟩, ⟨%f28, %e28, H28⟩, ⟨%f29, %e29, H29⟩, Hk⟩
  sl_exec
  sl_step
  iapply Hk
  isplitl [H2]
  · iexists _; isplitr; swap; · iexact H2
    ipureintro
    exact e2
  isplitl [H3]
  · iexists _; isplitr; swap; · iexact H3
    ipureintro
    exact e3
  isplitl [H4]
  · iexists _; isplitr; swap; · iexact H4
    ipureintro
    exact e4
  isplitl [H5]
  · iexists _; isplitr; swap; · iexact H5
    ipureintro
    exact e5
  isplitl [H6]
  · iexists _; isplitr; swap; · iexact H6
    ipureintro
    exact e6
  isplitl [H7]
  · iexists _; isplitr; swap; · iexact H7
    ipureintro
    exact e7
  isplitl [H8]
  · iexists _; isplitr; swap; · iexact H8
    ipureintro
    exact e8
  isplitl [H9]
  · iexists _; isplitr; swap; · iexact H9
    ipureintro
    exact e9
  isplitl [H10]
  · iexists _; isplitr; swap; · iexact H10
    ipureintro
    exact e10
  isplitl [H11]
  · iexists _; isplitr; swap; · iexact H11
    ipureintro
    exact e11
  isplitl [H12]
  · iexists _; isplitr; swap; · iexact H12
    ipureintro
    exact e12
  isplitl [H13]
  · iexists _; isplitr; swap; · iexact H13
    ipureintro
    exact e13
  isplitl [H14]
  · iexists _; isplitr; swap; · iexact H14
    ipureintro
    exact e14
  isplitl [H15]
  · iexists _; isplitr; swap; · iexact H15
    ipureintro
    exact e15
  isplitl [H16]
  · iexists _; isplitr; swap; · iexact H16
    ipureintro
    exact e16
  isplitl [H17]
  · iexists _; isplitr; swap; · iexact H17
    ipureintro
    exact e17
  isplitl [H18]
  · iexists _; isplitr; swap; · iexact H18
    ipureintro
    sl_unfold_words
    simp only [ld_S512x3072, ld_S1x1x512, ld_S1x128, ld_S1x3072, ld_S3072x512, ld_S8192x512, ld_S1x512, ld_S512x512, ld_S512x8, ld_S512x8192, ld_S512x128, st_S512x3072, st_S1x1x512, st_S1x128, st_S1x3072, st_S3072x512, st_S8192x512, st_S1x512, st_S512x512, st_S512x8, st_S512x8192, st_S512x128, lc_S512x8, lc_S512x128, ls_S512x8, ls_S512x128, ld0_S512x128, lc0_S512x128, ls0_S512x128, ldS0, ldS1, ldS2, ldS3, ldS4, ldS5, ldS6, ldS7, ldS8, ldS9, ldS10, ldS11, ldS12, ldS13, ldS14, ldS15, ldX0, ldX1, ldX2, ldX3, ldX4, ldX5, e6, e10, e16, e26, e28, e29]
    exact writes_cols4 arg18.view f18 (fun n => headCodes (ropeC (headOf n (k0_pay44 d16 d6 (col0 d26) d10)) d28 d29)) _ _ _ _
  isplitl [H19]
  · iexists _; isplitr; swap; · iexact H19
    ipureintro
    sl_unfold_words
    simp only [ld_S512x3072, ld_S1x1x512, ld_S1x128, ld_S1x3072, ld_S3072x512, ld_S8192x512, ld_S1x512, ld_S512x512, ld_S512x8, ld_S512x8192, ld_S512x128, st_S512x3072, st_S1x1x512, st_S1x128, st_S1x3072, st_S3072x512, st_S8192x512, st_S1x512, st_S512x512, st_S512x8, st_S512x8192, st_S512x128, lc_S512x8, lc_S512x128, ls_S512x8, ls_S512x128, ld0_S512x128, lc0_S512x128, ls0_S512x128, ldS0, ldS1, ldS2, ldS3, ldS4, ldS5, ldS6, ldS7, ldS8, ldS9, ldS10, ldS11, ldS12, ldS13, ldS14, ldS15, ldX0, ldX1, ldX2, ldX3, ldX4, ldX5, e6, e10, e16, e26, e28, e29, e19]
    rfl
  isplitl [H20]
  · iexists _; isplitr; swap; · iexact H20
    ipureintro
    exact e20
  isplitl [H21]
  · iexists _; isplitr; swap; · iexact H21
    ipureintro
    exact e21
  isplitl [H22]
  · iexists _; isplitr; swap; · iexact H22
    ipureintro
    exact e22
  isplitl [H23]
  · iexists _; isplitr; swap; · iexact H23
    ipureintro
    exact e23
  isplitl [H24]
  · iexists _; isplitr; swap; · iexact H24
    ipureintro
    exact e24
  isplitl [H25]
  · iexists _; isplitr; swap; · iexact H25
    ipureintro
    exact e25
  isplitl [H26]
  · iexists _; isplitr; swap; · iexact H26
    ipureintro
    exact e26
  isplitl [H27]
  · iexists _; isplitr; swap; · iexact H27
    ipureintro
    exact e27
  isplitl [H28]
  · iexists _; isplitr; swap; · iexact H28
    ipureintro
    exact e28
  iexists _; isplitr; swap; · iexact H29
  ipureintro
  exact e29

/-- What step `v` leaves. -/
theorem val_v (c : Dev nD) (i : grid0.Coords) (hj : 24 ≤ (i 1).val) (hj2 : (i 1).val < 26) (arg2 : Memref sig .tc .vmem S512x3072 .bf16) (harg2 : arg2.IsWhole) (arg3 : Memref sig .tc .vmem S1x1x512 .i32) (harg3 : arg3.IsWhole) (arg4 : Memref sig .tc .vmem S1x128 .f32) (harg4 : arg4.IsWhole) (arg5 : Memref sig .tc .vmem S1x3072 .f32) (harg5 : arg5.IsWhole) (arg6 : Memref sig .tc .vmem S3072x512 .fp8e4m3) (harg6 : arg6.IsWhole) (arg7 : Memref sig .tc .vmem S3072x512 .fp8e4m3) (harg7 : arg7.IsWhole) (arg8 : Memref sig .tc .vmem S3072x512 .fp8e4m3) (harg8 : arg8.IsWhole) (arg9 : Memref sig .tc .vmem S8192x512 .fp8e4m3) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x3072 .fp8e4m3) (harg16 : arg16.IsWhole) (arg17 : Memref sig .tc .vmem S1x1x512 .f32) (harg17 : arg17.IsWhole) (arg18 : Memref sig .tc .vmem S512x512 .fp8e4m3) (harg18 : arg18.IsWhole) (arg19 : Memref sig .tc .vmem S512x8 .f32) (harg19 : arg19.IsWhole) (arg20 : Memref sig .tc .vmem S512x512 .fp8e4m3) (harg20 : arg20.IsWhole) (arg21 : Memref sig .tc .vmem S512x8 .f32) (harg21 : arg21.IsWhole) (arg22 : Memref sig .tc .vmem S512x8192 .fp8e4m3) (harg22 : arg22.IsWhole) (arg23 : Memref sig .tc .vmem S1x1x512 .f32) (harg23 : arg23.IsWhole) (arg24 : Memref sig .tc .vmem S16x512x512 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x128 .f32) (harg28 : arg28.IsWhole) (arg29 : Memref sig .tc .vmem S512x128 .f32) (harg29 : arg29.IsWhole) (d2 : S512x3072.Idx → Elt F .bf16) (d3 : S1x1x512.Idx → Elt F .i32) (d4 : S1x128.Idx → Elt F .f32) (d5 : S1x3072.Idx → Elt F .f32) (d6 : S3072x512.Idx → Elt F .fp8e4m3) (d7 : S3072x512.Idx → Elt F .fp8e4m3) (d8 : S3072x512.Idx → Elt F .fp8e4m3) (d9 : S8192x512.Idx → Elt F .fp8e4m3) (d10 : S1x512.Idx → Elt F .f32) (d11 : S1x512.Idx → Elt F .f32) (d12 : S1x512.Idx → Elt F .f32) (d13 : S1x512.Idx → Elt F .f32) (d14 : S512x512.Idx → Elt F .bf16) (d15 : S512x512.Idx → Elt F .bf16) (d16 : S512x3072.Idx → Elt F .fp8e4m3) (d17 : S1x1x512.Idx → Elt F .f32) (d18 : S512x512.Idx → Elt F .fp8e4m3) (d19 : S512x8.Idx → Elt F .f32) (d20 : S512x512.Idx → Elt F .fp8e4m3) (d21 : S512x8.Idx → Elt F .f32) (d22 : S512x8192.Idx → Elt F .fp8e4m3) (d23 : S1x1x512.Idx → Elt F .f32) (d24 : S16x512x512.Idx → Elt F .f32) (d25 : S512x128.Idx → Elt F .f32) (d26 : S512x128.Idx → Elt F .f32) (d27 : S512x128.Idx → Elt F .f32) (d28 : S512x128.Idx → Elt F .f32) (d29 : S512x128.Idx → Elt F .f32) (K : PUnit → sProp 𝕄) :
    iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20 ∗ owns (c : Thread nD τ) arg21 fullShare d21 ∗ owns (c : Thread nD τ) arg22 fullShare d22 ∗ owns (c : Thread nD τ) arg23 fullShare d23 ∗ owns (c : Thread nD τ) arg24 fullShare d24 ∗ owns (c : Thread nD τ) arg25 fullShare d25 ∗ owns (c : Thread nD τ) arg26 fullShare d26 ∗ owns (c : Thread nD τ) arg27 fullShare d27 ∗ owns (c : Thread nD τ) arg28 fullShare d28 ∗ owns (c : Thread nD τ) arg29 fullShare d29 ∗ (iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare (cols4 (fun n => headCodes (headOf n (k0_pay44 d16 d6 (col0 d26) d10)))) ∗ owns (c : Thread nD τ) arg21 fullShare ((laneSet (headWord i 24#32 3#32) (qscale (tHead ((fun n => headOf n (k0_pay44 d16 d6 (col0 d26) d10)) 3))) (laneSet (headWord i 24#32 2#32) (qscale (tHead ((fun n => headOf n (k0_pay44 d16 d6 (col0 d26) d10)) 2))) (laneSet (headWord i 24#32 1#32) (qscale (tHead ((fun n => headOf n (k0_pay44 d16 d6 (col0 d26) d10)) 1))) (laneSet (headWord i 24#32 0#32) (qscale (tHead ((fun n => headOf n (k0_pay44 d16 d6 (col0 d26) d10)) 0))) d21))))) ∗ owns (c : Thread nD τ) arg22 fullShare d22 ∗ owns (c : Thread nD τ) arg23 fullShare d23 ∗ owns (c : Thread nD τ) arg24 fullShare d24 ∗ owns (c : Thread nD τ) arg25 fullShare d25 ∗ owns (c : Thread nD τ) arg26 fullShare d26 ∗ owns (c : Thread nD τ) arg27 fullShare d27 ∗ owns (c : Thread nD τ) arg28 fullShare d28 ∗ owns (c : Thread nD τ) arg29 fullShare d29) -∗ K ⟨⟩))
      ⊢ wp frame (wpE (defs₀ (F := F)) Variants.none c none) Set.univ
          (cc0_palm_block (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  have hc1 : ¬ k0_cond1 i = 1#1 := by rw [cond1_iff]; omega
  have hc2 : ¬ k0_cond2 i = 1#1 := by rw [cond2_iff]; omega
  have hc3 : ¬ k0_cond3 i = 1#1 := by rw [cond3_iff]; omega
  have hc4 : ¬ k0_cond4 i = 1#1 := by rw [cond4_iff]; omega
  have hc5 : k0_cond5 i = 1#1 := by rw [cond5_iff]; omega
  have hc6 : ¬ k0_cond6 i = 1#1 := by rw [cond6_iff]; omega
  have hc7 : ¬ k0_cond7 i = 1#1 := by rw [cond7_iff]; omega
  simp only [cc0_palm_block_eq_skeleton]; unfold cc0_palm_block_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩, ⟨%f23, %e23, H23⟩, ⟨%f24, %e24, H24⟩, ⟨%f25, %e25, H25⟩, ⟨%f26, %e26, H26⟩, ⟨%f27, %e27, H27⟩, ⟨%f28, %e28, H28⟩, ⟨%f29, %e29, H29⟩, Hk⟩
  sl_exec
  sl_step
  iapply Hk
  isplitl [H2]
  · iexists _; isplitr; swap; · iexact H2
    ipureintro
    exact e2
  isplitl [H3]
  · iexists _; isplitr; swap; · iexact H3
    ipureintro
    exact e3
  isplitl [H4]
  · iexists _; isplitr; swap; · iexact H4
    ipureintro
    exact e4
  isplitl [H5]
  · iexists _; isplitr; swap; · iexact H5
    ipureintro
    exact e5
  isplitl [H6]
  · iexists _; isplitr; swap; · iexact H6
    ipureintro
    exact e6
  isplitl [H7]
  · iexists _; isplitr; swap; · iexact H7
    ipureintro
    exact e7
  isplitl [H8]
  · iexists _; isplitr; swap; · iexact H8
    ipureintro
    exact e8
  isplitl [H9]
  · iexists _; isplitr; swap; · iexact H9
    ipureintro
    exact e9
  isplitl [H10]
  · iexists _; isplitr; swap; · iexact H10
    ipureintro
    exact e10
  isplitl [H11]
  · iexists _; isplitr; swap; · iexact H11
    ipureintro
    exact e11
  isplitl [H12]
  · iexists _; isplitr; swap; · iexact H12
    ipureintro
    exact e12
  isplitl [H13]
  · iexists _; isplitr; swap; · iexact H13
    ipureintro
    exact e13
  isplitl [H14]
  · iexists _; isplitr; swap; · iexact H14
    ipureintro
    exact e14
  isplitl [H15]
  · iexists _; isplitr; swap; · iexact H15
    ipureintro
    exact e15
  isplitl [H16]
  · iexists _; isplitr; swap; · iexact H16
    ipureintro
    exact e16
  isplitl [H17]
  · iexists _; isplitr; swap; · iexact H17
    ipureintro
    exact e17
  isplitl [H18]
  · iexists _; isplitr; swap; · iexact H18
    ipureintro
    exact e18
  isplitl [H19]
  · iexists _; isplitr; swap; · iexact H19
    ipureintro
    exact e19
  isplitl [H20]
  · iexists _; isplitr; swap; · iexact H20
    ipureintro
    sl_unfold_words
    simp only [ld_S512x3072, ld_S1x1x512, ld_S1x128, ld_S1x3072, ld_S3072x512, ld_S8192x512, ld_S1x512, ld_S512x512, ld_S512x8, ld_S512x8192, ld_S512x128, st_S512x3072, st_S1x1x512, st_S1x128, st_S1x3072, st_S3072x512, st_S8192x512, st_S1x512, st_S512x512, st_S512x8, st_S512x8192, st_S512x128, lc_S512x8, lc_S512x128, ls_S512x8, ls_S512x128, ld0_S512x128, lc0_S512x128, ls0_S512x128, ldS0, ldS1, ldS2, ldS3, ldS4, ldS5, ldS6, ldS7, ldS8, ldS9, ldS10, ldS11, ldS12, ldS13, ldS14, ldS15, ldX0, ldX1, ldX2, ldX3, ldX4, ldX5, e6, e10, e16, e26]
    exact writes_cols4 arg20.view f20 (fun n => headCodes (headOf n (k0_pay44 d16 d6 (col0 d26) d10))) _ _ _ _
  isplitl [H21]
  · iexists _; isplitr; swap; · iexact H21
    ipureintro
    sl_unfold_words
    simp only [ld_S512x3072, ld_S1x1x512, ld_S1x128, ld_S1x3072, ld_S3072x512, ld_S8192x512, ld_S1x512, ld_S512x512, ld_S512x8, ld_S512x8192, ld_S512x128, st_S512x3072, st_S1x1x512, st_S1x128, st_S1x3072, st_S3072x512, st_S8192x512, st_S1x512, st_S512x512, st_S512x8, st_S512x8192, st_S512x128, lc_S512x8, lc_S512x128, ls_S512x8, ls_S512x128, ld0_S512x128, lc0_S512x128, ls0_S512x128, ldS0, ldS1, ldS2, ldS3, ldS4, ldS5, ldS6, ldS7, ldS8, ldS9, ldS10, ldS11, ldS12, ldS13, ldS14, ldS15, ldX0, ldX1, ldX2, ldX3, ldX4, ldX5, e6, e10, e16, e26, e21]
    rfl
  isplitl [H22]
  · iexists _; isplitr; swap; · iexact H22
    ipureintro
    exact e22
  isplitl [H23]
  · iexists _; isplitr; swap; · iexact H23
    ipureintro
    exact e23
  isplitl [H24]
  · iexists _; isplitr; swap; · iexact H24
    ipureintro
    exact e24
  isplitl [H25]
  · iexists _; isplitr; swap; · iexact H25
    ipureintro
    exact e25
  isplitl [H26]
  · iexists _; isplitr; swap; · iexact H26
    ipureintro
    exact e26
  isplitl [H27]
  · iexists _; isplitr; swap; · iexact H27
    ipureintro
    exact e27
  isplitl [H28]
  · iexists _; isplitr; swap; · iexact H28
    ipureintro
    exact e28
  iexists _; isplitr; swap; · iexact H29
  ipureintro
  exact e29

/-- What step `y0` leaves. -/
theorem val_y0 (c : Dev nD) (i : grid0.Coords) (hj : (i 1).val = 26) (arg2 : Memref sig .tc .vmem S512x3072 .bf16) (harg2 : arg2.IsWhole) (arg3 : Memref sig .tc .vmem S1x1x512 .i32) (harg3 : arg3.IsWhole) (arg4 : Memref sig .tc .vmem S1x128 .f32) (harg4 : arg4.IsWhole) (arg5 : Memref sig .tc .vmem S1x3072 .f32) (harg5 : arg5.IsWhole) (arg6 : Memref sig .tc .vmem S3072x512 .fp8e4m3) (harg6 : arg6.IsWhole) (arg7 : Memref sig .tc .vmem S3072x512 .fp8e4m3) (harg7 : arg7.IsWhole) (arg8 : Memref sig .tc .vmem S3072x512 .fp8e4m3) (harg8 : arg8.IsWhole) (arg9 : Memref sig .tc .vmem S8192x512 .fp8e4m3) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x3072 .fp8e4m3) (harg16 : arg16.IsWhole) (arg17 : Memref sig .tc .vmem S1x1x512 .f32) (harg17 : arg17.IsWhole) (arg18 : Memref sig .tc .vmem S512x512 .fp8e4m3) (harg18 : arg18.IsWhole) (arg19 : Memref sig .tc .vmem S512x8 .f32) (harg19 : arg19.IsWhole) (arg20 : Memref sig .tc .vmem S512x512 .fp8e4m3) (harg20 : arg20.IsWhole) (arg21 : Memref sig .tc .vmem S512x8 .f32) (harg21 : arg21.IsWhole) (arg22 : Memref sig .tc .vmem S512x8192 .fp8e4m3) (harg22 : arg22.IsWhole) (arg23 : Memref sig .tc .vmem S1x1x512 .f32) (harg23 : arg23.IsWhole) (arg24 : Memref sig .tc .vmem S16x512x512 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x128 .f32) (harg28 : arg28.IsWhole) (arg29 : Memref sig .tc .vmem S512x128 .f32) (harg29 : arg29.IsWhole) (d2 : S512x3072.Idx → Elt F .bf16) (d3 : S1x1x512.Idx → Elt F .i32) (d4 : S1x128.Idx → Elt F .f32) (d5 : S1x3072.Idx → Elt F .f32) (d6 : S3072x512.Idx → Elt F .fp8e4m3) (d7 : S3072x512.Idx → Elt F .fp8e4m3) (d8 : S3072x512.Idx → Elt F .fp8e4m3) (d9 : S8192x512.Idx → Elt F .fp8e4m3) (d10 : S1x512.Idx → Elt F .f32) (d11 : S1x512.Idx → Elt F .f32) (d12 : S1x512.Idx → Elt F .f32) (d13 : S1x512.Idx → Elt F .f32) (d14 : S512x512.Idx → Elt F .bf16) (d15 : S512x512.Idx → Elt F .bf16) (d16 : S512x3072.Idx → Elt F .fp8e4m3) (d17 : S1x1x512.Idx → Elt F .f32) (d18 : S512x512.Idx → Elt F .fp8e4m3) (d19 : S512x8.Idx → Elt F .f32) (d20 : S512x512.Idx → Elt F .fp8e4m3) (d21 : S512x8.Idx → Elt F .f32) (d22 : S512x8192.Idx → Elt F .fp8e4m3) (d23 : S1x1x512.Idx → Elt F .f32) (d24 : S16x512x512.Idx → Elt F .f32) (d25 : S512x128.Idx → Elt F .f32) (d26 : S512x128.Idx → Elt F .f32) (d27 : S512x128.Idx → Elt F .f32) (d28 : S512x128.Idx → Elt F .f32) (d29 : S512x128.Idx → Elt F .f32) (K : PUnit → sProp 𝕄) :
    iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20 ∗ owns (c : Thread nD τ) arg21 fullShare d21 ∗ owns (c : Thread nD τ) arg22 fullShare d22 ∗ owns (c : Thread nD τ) arg23 fullShare d23 ∗ owns (c : Thread nD τ) arg24 fullShare d24 ∗ owns (c : Thread nD τ) arg25 fullShare d25 ∗ owns (c : Thread nD τ) arg26 fullShare d26 ∗ owns (c : Thread nD τ) arg27 fullShare d27 ∗ owns (c : Thread nD τ) arg28 fullShare d28 ∗ owns (c : Thread nD τ) arg29 fullShare d29 ∗ (iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare (k0_pay13 d22 d9 (col0 d27) d13 (xcols 0 (by decide) d2)) ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20 ∗ owns (c : Thread nD τ) arg21 fullShare d21 ∗ owns (c : Thread nD τ) arg22 fullShare d22 ∗ owns (c : Thread nD τ) arg23 fullShare d23 ∗ owns (c : Thread nD τ) arg24 fullShare d24 ∗ owns (c : Thread nD τ) arg25 fullShare d25 ∗ owns (c : Thread nD τ) arg26 fullShare d26 ∗ owns (c : Thread nD τ) arg27 fullShare d27 ∗ owns (c : Thread nD τ) arg28 fullShare d28 ∗ owns (c : Thread nD τ) arg29 fullShare d29) -∗ K ⟨⟩))
      ⊢ wp frame (wpE (defs₀ (F := F)) Variants.none c none) Set.univ
          (cc0_palm_block (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  have hc1 : ¬ k0_cond1 i = 1#1 := by rw [cond1_iff]; omega
  have hc2 : ¬ k0_cond2 i = 1#1 := by rw [cond2_iff]; omega
  have hc3 : ¬ k0_cond3 i = 1#1 := by rw [cond3_iff]; omega
  have hc4 : ¬ k0_cond4 i = 1#1 := by rw [cond4_iff]; omega
  have hc5 : ¬ k0_cond5 i = 1#1 := by rw [cond5_iff]; omega
  have hc6 : ¬ k0_cond6 i = 1#1 := by rw [cond6_iff]; omega
  have hc7 : k0_cond7 i = 1#1 := by rw [cond7_iff]; omega
  have hc8 : k0_cond8 i = 1#1 := by rw [cond8_iff]; omega
  have hc9 : ¬ k0_cond9 i = 1#1 := by rw [cond9_iff]; omega
  have hc10 : ¬ k0_cond10 i = 1#1 := by rw [cond10_iff]; omega
  have hc11 : ¬ k0_cond11 i = 1#1 := by rw [cond11_iff]; omega
  have hc12 : ¬ k0_cond12 i = 1#1 := by rw [cond12_iff]; omega
  have hc13 : ¬ k0_cond13 i = 1#1 := by rw [cond13_iff]; omega
  simp only [cc0_palm_block_eq_skeleton]; unfold cc0_palm_block_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩, ⟨%f23, %e23, H23⟩, ⟨%f24, %e24, H24⟩, ⟨%f25, %e25, H25⟩, ⟨%f26, %e26, H26⟩, ⟨%f27, %e27, H27⟩, ⟨%f28, %e28, H28⟩, ⟨%f29, %e29, H29⟩, Hk⟩
  sl_exec
  sl_step
  iapply Hk
  isplitl [H2]
  · iexists _; isplitr; swap; · iexact H2
    ipureintro
    exact e2
  isplitl [H3]
  · iexists _; isplitr; swap; · iexact H3
    ipureintro
    exact e3
  isplitl [H4]
  · iexists _; isplitr; swap; · iexact H4
    ipureintro
    exact e4
  isplitl [H5]
  · iexists _; isplitr; swap; · iexact H5
    ipureintro
    exact e5
  isplitl [H6]
  · iexists _; isplitr; swap; · iexact H6
    ipureintro
    exact e6
  isplitl [H7]
  · iexists _; isplitr; swap; · iexact H7
    ipureintro
    exact e7
  isplitl [H8]
  · iexists _; isplitr; swap; · iexact H8
    ipureintro
    exact e8
  isplitl [H9]
  · iexists _; isplitr; swap; · iexact H9
    ipureintro
    exact e9
  isplitl [H10]
  · iexists _; isplitr; swap; · iexact H10
    ipureintro
    exact e10
  isplitl [H11]
  · iexists _; isplitr; swap; · iexact H11
    ipureintro
    exact e11
  isplitl [H12]
  · iexists _; isplitr; swap; · iexact H12
    ipureintro
    exact e12
  isplitl [H13]
  · iexists _; isplitr; swap; · iexact H13
    ipureintro
    exact e13
  isplitl [H14]
  · iexists _; isplitr; swap; · iexact H14
    ipureintro
    exact e14
  isplitl [H15]
  · iexists _; isplitr; swap; · iexact H15
    ipureintro
    sl_unfold_words
    simp only [ld_S512x3072, ld_S1x1x512, ld_S1x128, ld_S1x3072, ld_S3072x512, ld_S8192x512, ld_S1x512, ld_S512x512, ld_S512x8, ld_S512x8192, ld_S512x128, st_S512x3072, st_S1x1x512, st_S1x128, st_S1x3072, st_S3072x512, st_S8192x512, st_S1x512, st_S512x512, st_S512x8, st_S512x8192, st_S512x128, lc_S512x8, lc_S512x128, ls_S512x8, ls_S512x128, ld0_S512x128, lc0_S512x128, ls0_S512x128, ldS0, ldS1, ldS2, ldS3, ldS4, ldS5, ldS6, ldS7, ldS8, ldS9, ldS10, ldS11, ldS12, ldS13, ldS14, ldS15, ldX0, ldX1, ldX2, ldX3, ldX4, ldX5, e22, e9, e27, e13, e2]
    all_goals rfl
  isplitl [H16]
  · iexists _; isplitr; swap; · iexact H16
    ipureintro
    exact e16
  isplitl [H17]
  · iexists _; isplitr; swap; · iexact H17
    ipureintro
    exact e17
  isplitl [H18]
  · iexists _; isplitr; swap; · iexact H18
    ipureintro
    exact e18
  isplitl [H19]
  · iexists _; isplitr; swap; · iexact H19
    ipureintro
    exact e19
  isplitl [H20]
  · iexists _; isplitr; swap; · iexact H20
    ipureintro
    exact e20
  isplitl [H21]
  · iexists _; isplitr; swap; · iexact H21
    ipureintro
    exact e21
  isplitl [H22]
  · iexists _; isplitr; swap; · iexact H22
    ipureintro
    exact e22
  isplitl [H23]
  · iexists _; isplitr; swap; · iexact H23
    ipureintro
    exact e23
  isplitl [H24]
  · iexists _; isplitr; swap; · iexact H24
    ipureintro
    exact e24
  isplitl [H25]
  · iexists _; isplitr; swap; · iexact H25
    ipureintro
    exact e25
  isplitl [H26]
  · iexists _; isplitr; swap; · iexact H26
    ipureintro
    exact e26
  isplitl [H27]
  · iexists _; isplitr; swap; · iexact H27
    ipureintro
    exact e27
  isplitl [H28]
  · iexists _; isplitr; swap; · iexact H28
    ipureintro
    exact e28
  iexists _; isplitr; swap; · iexact H29
  ipureintro
  exact e29

/-- What step `y1` leaves. -/
theorem val_y1 (c : Dev nD) (i : grid0.Coords) (hj : (i 1).val = 27) (arg2 : Memref sig .tc .vmem S512x3072 .bf16) (harg2 : arg2.IsWhole) (arg3 : Memref sig .tc .vmem S1x1x512 .i32) (harg3 : arg3.IsWhole) (arg4 : Memref sig .tc .vmem S1x128 .f32) (harg4 : arg4.IsWhole) (arg5 : Memref sig .tc .vmem S1x3072 .f32) (harg5 : arg5.IsWhole) (arg6 : Memref sig .tc .vmem S3072x512 .fp8e4m3) (harg6 : arg6.IsWhole) (arg7 : Memref sig .tc .vmem S3072x512 .fp8e4m3) (harg7 : arg7.IsWhole) (arg8 : Memref sig .tc .vmem S3072x512 .fp8e4m3) (harg8 : arg8.IsWhole) (arg9 : Memref sig .tc .vmem S8192x512 .fp8e4m3) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x3072 .fp8e4m3) (harg16 : arg16.IsWhole) (arg17 : Memref sig .tc .vmem S1x1x512 .f32) (harg17 : arg17.IsWhole) (arg18 : Memref sig .tc .vmem S512x512 .fp8e4m3) (harg18 : arg18.IsWhole) (arg19 : Memref sig .tc .vmem S512x8 .f32) (harg19 : arg19.IsWhole) (arg20 : Memref sig .tc .vmem S512x512 .fp8e4m3) (harg20 : arg20.IsWhole) (arg21 : Memref sig .tc .vmem S512x8 .f32) (harg21 : arg21.IsWhole) (arg22 : Memref sig .tc .vmem S512x8192 .fp8e4m3) (harg22 : arg22.IsWhole) (arg23 : Memref sig .tc .vmem S1x1x512 .f32) (harg23 : arg23.IsWhole) (arg24 : Memref sig .tc .vmem S16x512x512 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x128 .f32) (harg28 : arg28.IsWhole) (arg29 : Memref sig .tc .vmem S512x128 .f32) (harg29 : arg29.IsWhole) (d2 : S512x3072.Idx → Elt F .bf16) (d3 : S1x1x512.Idx → Elt F .i32) (d4 : S1x128.Idx → Elt F .f32) (d5 : S1x3072.Idx → Elt F .f32) (d6 : S3072x512.Idx → Elt F .fp8e4m3) (d7 : S3072x512.Idx → Elt F .fp8e4m3) (d8 : S3072x512.Idx → Elt F .fp8e4m3) (d9 : S8192x512.Idx → Elt F .fp8e4m3) (d10 : S1x512.Idx → Elt F .f32) (d11 : S1x512.Idx → Elt F .f32) (d12 : S1x512.Idx → Elt F .f32) (d13 : S1x512.Idx → Elt F .f32) (d14 : S512x512.Idx → Elt F .bf16) (d15 : S512x512.Idx → Elt F .bf16) (d16 : S512x3072.Idx → Elt F .fp8e4m3) (d17 : S1x1x512.Idx → Elt F .f32) (d18 : S512x512.Idx → Elt F .fp8e4m3) (d19 : S512x8.Idx → Elt F .f32) (d20 : S512x512.Idx → Elt F .fp8e4m3) (d21 : S512x8.Idx → Elt F .f32) (d22 : S512x8192.Idx → Elt F .fp8e4m3) (d23 : S1x1x512.Idx → Elt F .f32) (d24 : S16x512x512.Idx → Elt F .f32) (d25 : S512x128.Idx → Elt F .f32) (d26 : S512x128.Idx → Elt F .f32) (d27 : S512x128.Idx → Elt F .f32) (d28 : S512x128.Idx → Elt F .f32) (d29 : S512x128.Idx → Elt F .f32) (K : PUnit → sProp 𝕄) :
    iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20 ∗ owns (c : Thread nD τ) arg21 fullShare d21 ∗ owns (c : Thread nD τ) arg22 fullShare d22 ∗ owns (c : Thread nD τ) arg23 fullShare d23 ∗ owns (c : Thread nD τ) arg24 fullShare d24 ∗ owns (c : Thread nD τ) arg25 fullShare d25 ∗ owns (c : Thread nD τ) arg26 fullShare d26 ∗ owns (c : Thread nD τ) arg27 fullShare d27 ∗ owns (c : Thread nD τ) arg28 fullShare d28 ∗ owns (c : Thread nD τ) arg29 fullShare d29 ∗ (iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare (k0_pay13 d22 d9 (col0 d27) d13 (xcols 512 (by decide) d2)) ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20 ∗ owns (c : Thread nD τ) arg21 fullShare d21 ∗ owns (c : Thread nD τ) arg22 fullShare d22 ∗ owns (c : Thread nD τ) arg23 fullShare d23 ∗ owns (c : Thread nD τ) arg24 fullShare d24 ∗ owns (c : Thread nD τ) arg25 fullShare d25 ∗ owns (c : Thread nD τ) arg26 fullShare d26 ∗ owns (c : Thread nD τ) arg27 fullShare d27 ∗ owns (c : Thread nD τ) arg28 fullShare d28 ∗ owns (c : Thread nD τ) arg29 fullShare d29) -∗ K ⟨⟩))
      ⊢ wp frame (wpE (defs₀ (F := F)) Variants.none c none) Set.univ
          (cc0_palm_block (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  have hc1 : ¬ k0_cond1 i = 1#1 := by rw [cond1_iff]; omega
  have hc2 : ¬ k0_cond2 i = 1#1 := by rw [cond2_iff]; omega
  have hc3 : ¬ k0_cond3 i = 1#1 := by rw [cond3_iff]; omega
  have hc4 : ¬ k0_cond4 i = 1#1 := by rw [cond4_iff]; omega
  have hc5 : ¬ k0_cond5 i = 1#1 := by rw [cond5_iff]; omega
  have hc6 : ¬ k0_cond6 i = 1#1 := by rw [cond6_iff]; omega
  have hc7 : k0_cond7 i = 1#1 := by rw [cond7_iff]; omega
  have hc8 : ¬ k0_cond8 i = 1#1 := by rw [cond8_iff]; omega
  have hc9 : k0_cond9 i = 1#1 := by rw [cond9_iff]; omega
  have hc10 : ¬ k0_cond10 i = 1#1 := by rw [cond10_iff]; omega
  have hc11 : ¬ k0_cond11 i = 1#1 := by rw [cond11_iff]; omega
  have hc12 : ¬ k0_cond12 i = 1#1 := by rw [cond12_iff]; omega
  have hc13 : ¬ k0_cond13 i = 1#1 := by rw [cond13_iff]; omega
  simp only [cc0_palm_block_eq_skeleton]; unfold cc0_palm_block_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩, ⟨%f23, %e23, H23⟩, ⟨%f24, %e24, H24⟩, ⟨%f25, %e25, H25⟩, ⟨%f26, %e26, H26⟩, ⟨%f27, %e27, H27⟩, ⟨%f28, %e28, H28⟩, ⟨%f29, %e29, H29⟩, Hk⟩
  sl_exec
  sl_step
  iapply Hk
  isplitl [H2]
  · iexists _; isplitr; swap; · iexact H2
    ipureintro
    exact e2
  isplitl [H3]
  · iexists _; isplitr; swap; · iexact H3
    ipureintro
    exact e3
  isplitl [H4]
  · iexists _; isplitr; swap; · iexact H4
    ipureintro
    exact e4
  isplitl [H5]
  · iexists _; isplitr; swap; · iexact H5
    ipureintro
    exact e5
  isplitl [H6]
  · iexists _; isplitr; swap; · iexact H6
    ipureintro
    exact e6
  isplitl [H7]
  · iexists _; isplitr; swap; · iexact H7
    ipureintro
    exact e7
  isplitl [H8]
  · iexists _; isplitr; swap; · iexact H8
    ipureintro
    exact e8
  isplitl [H9]
  · iexists _; isplitr; swap; · iexact H9
    ipureintro
    exact e9
  isplitl [H10]
  · iexists _; isplitr; swap; · iexact H10
    ipureintro
    exact e10
  isplitl [H11]
  · iexists _; isplitr; swap; · iexact H11
    ipureintro
    exact e11
  isplitl [H12]
  · iexists _; isplitr; swap; · iexact H12
    ipureintro
    exact e12
  isplitl [H13]
  · iexists _; isplitr; swap; · iexact H13
    ipureintro
    exact e13
  isplitl [H14]
  · iexists _; isplitr; swap; · iexact H14
    ipureintro
    exact e14
  isplitl [H15]
  · iexists _; isplitr; swap; · iexact H15
    ipureintro
    sl_unfold_words
    simp only [ld_S512x3072, ld_S1x1x512, ld_S1x128, ld_S1x3072, ld_S3072x512, ld_S8192x512, ld_S1x512, ld_S512x512, ld_S512x8, ld_S512x8192, ld_S512x128, st_S512x3072, st_S1x1x512, st_S1x128, st_S1x3072, st_S3072x512, st_S8192x512, st_S1x512, st_S512x512, st_S512x8, st_S512x8192, st_S512x128, lc_S512x8, lc_S512x128, ls_S512x8, ls_S512x128, ld0_S512x128, lc0_S512x128, ls0_S512x128, ldS0, ldS1, ldS2, ldS3, ldS4, ldS5, ldS6, ldS7, ldS8, ldS9, ldS10, ldS11, ldS12, ldS13, ldS14, ldS15, ldX0, ldX1, ldX2, ldX3, ldX4, ldX5, e22, e9, e27, e13, e2]
    all_goals rfl
  isplitl [H16]
  · iexists _; isplitr; swap; · iexact H16
    ipureintro
    exact e16
  isplitl [H17]
  · iexists _; isplitr; swap; · iexact H17
    ipureintro
    exact e17
  isplitl [H18]
  · iexists _; isplitr; swap; · iexact H18
    ipureintro
    exact e18
  isplitl [H19]
  · iexists _; isplitr; swap; · iexact H19
    ipureintro
    exact e19
  isplitl [H20]
  · iexists _; isplitr; swap; · iexact H20
    ipureintro
    exact e20
  isplitl [H21]
  · iexists _; isplitr; swap; · iexact H21
    ipureintro
    exact e21
  isplitl [H22]
  · iexists _; isplitr; swap; · iexact H22
    ipureintro
    exact e22
  isplitl [H23]
  · iexists _; isplitr; swap; · iexact H23
    ipureintro
    exact e23
  isplitl [H24]
  · iexists _; isplitr; swap; · iexact H24
    ipureintro
    exact e24
  isplitl [H25]
  · iexists _; isplitr; swap; · iexact H25
    ipureintro
    exact e25
  isplitl [H26]
  · iexists _; isplitr; swap; · iexact H26
    ipureintro
    exact e26
  isplitl [H27]
  · iexists _; isplitr; swap; · iexact H27
    ipureintro
    exact e27
  isplitl [H28]
  · iexists _; isplitr; swap; · iexact H28
    ipureintro
    exact e28
  iexists _; isplitr; swap; · iexact H29
  ipureintro
  exact e29

/-- What step `y2` leaves. -/
theorem val_y2 (c : Dev nD) (i : grid0.Coords) (hj : (i 1).val = 28) (arg2 : Memref sig .tc .vmem S512x3072 .bf16) (harg2 : arg2.IsWhole) (arg3 : Memref sig .tc .vmem S1x1x512 .i32) (harg3 : arg3.IsWhole) (arg4 : Memref sig .tc .vmem S1x128 .f32) (harg4 : arg4.IsWhole) (arg5 : Memref sig .tc .vmem S1x3072 .f32) (harg5 : arg5.IsWhole) (arg6 : Memref sig .tc .vmem S3072x512 .fp8e4m3) (harg6 : arg6.IsWhole) (arg7 : Memref sig .tc .vmem S3072x512 .fp8e4m3) (harg7 : arg7.IsWhole) (arg8 : Memref sig .tc .vmem S3072x512 .fp8e4m3) (harg8 : arg8.IsWhole) (arg9 : Memref sig .tc .vmem S8192x512 .fp8e4m3) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x3072 .fp8e4m3) (harg16 : arg16.IsWhole) (arg17 : Memref sig .tc .vmem S1x1x512 .f32) (harg17 : arg17.IsWhole) (arg18 : Memref sig .tc .vmem S512x512 .fp8e4m3) (harg18 : arg18.IsWhole) (arg19 : Memref sig .tc .vmem S512x8 .f32) (harg19 : arg19.IsWhole) (arg20 : Memref sig .tc .vmem S512x512 .fp8e4m3) (harg20 : arg20.IsWhole) (arg21 : Memref sig .tc .vmem S512x8 .f32) (harg21 : arg21.IsWhole) (arg22 : Memref sig .tc .vmem S512x8192 .fp8e4m3) (harg22 : arg22.IsWhole) (arg23 : Memref sig .tc .vmem S1x1x512 .f32) (harg23 : arg23.IsWhole) (arg24 : Memref sig .tc .vmem S16x512x512 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x128 .f32) (harg28 : arg28.IsWhole) (arg29 : Memref sig .tc .vmem S512x128 .f32) (harg29 : arg29.IsWhole) (d2 : S512x3072.Idx → Elt F .bf16) (d3 : S1x1x512.Idx → Elt F .i32) (d4 : S1x128.Idx → Elt F .f32) (d5 : S1x3072.Idx → Elt F .f32) (d6 : S3072x512.Idx → Elt F .fp8e4m3) (d7 : S3072x512.Idx → Elt F .fp8e4m3) (d8 : S3072x512.Idx → Elt F .fp8e4m3) (d9 : S8192x512.Idx → Elt F .fp8e4m3) (d10 : S1x512.Idx → Elt F .f32) (d11 : S1x512.Idx → Elt F .f32) (d12 : S1x512.Idx → Elt F .f32) (d13 : S1x512.Idx → Elt F .f32) (d14 : S512x512.Idx → Elt F .bf16) (d15 : S512x512.Idx → Elt F .bf16) (d16 : S512x3072.Idx → Elt F .fp8e4m3) (d17 : S1x1x512.Idx → Elt F .f32) (d18 : S512x512.Idx → Elt F .fp8e4m3) (d19 : S512x8.Idx → Elt F .f32) (d20 : S512x512.Idx → Elt F .fp8e4m3) (d21 : S512x8.Idx → Elt F .f32) (d22 : S512x8192.Idx → Elt F .fp8e4m3) (d23 : S1x1x512.Idx → Elt F .f32) (d24 : S16x512x512.Idx → Elt F .f32) (d25 : S512x128.Idx → Elt F .f32) (d26 : S512x128.Idx → Elt F .f32) (d27 : S512x128.Idx → Elt F .f32) (d28 : S512x128.Idx → Elt F .f32) (d29 : S512x128.Idx → Elt F .f32) (K : PUnit → sProp 𝕄) :
    iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20 ∗ owns (c : Thread nD τ) arg21 fullShare d21 ∗ owns (c : Thread nD τ) arg22 fullShare d22 ∗ owns (c : Thread nD τ) arg23 fullShare d23 ∗ owns (c : Thread nD τ) arg24 fullShare d24 ∗ owns (c : Thread nD τ) arg25 fullShare d25 ∗ owns (c : Thread nD τ) arg26 fullShare d26 ∗ owns (c : Thread nD τ) arg27 fullShare d27 ∗ owns (c : Thread nD τ) arg28 fullShare d28 ∗ owns (c : Thread nD τ) arg29 fullShare d29 ∗ (iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare (k0_pay13 d22 d9 (col0 d27) d13 (xcols 1024 (by decide) d2)) ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20 ∗ owns (c : Thread nD τ) arg21 fullShare d21 ∗ owns (c : Thread nD τ) arg22 fullShare d22 ∗ owns (c : Thread nD τ) arg23 fullShare d23 ∗ owns (c : Thread nD τ) arg24 fullShare d24 ∗ owns (c : Thread nD τ) arg25 fullShare d25 ∗ owns (c : Thread nD τ) arg26 fullShare d26 ∗ owns (c : Thread nD τ) arg27 fullShare d27 ∗ owns (c : Thread nD τ) arg28 fullShare d28 ∗ owns (c : Thread nD τ) arg29 fullShare d29) -∗ K ⟨⟩))
      ⊢ wp frame (wpE (defs₀ (F := F)) Variants.none c none) Set.univ
          (cc0_palm_block (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  have hc1 : ¬ k0_cond1 i = 1#1 := by rw [cond1_iff]; omega
  have hc2 : ¬ k0_cond2 i = 1#1 := by rw [cond2_iff]; omega
  have hc3 : ¬ k0_cond3 i = 1#1 := by rw [cond3_iff]; omega
  have hc4 : ¬ k0_cond4 i = 1#1 := by rw [cond4_iff]; omega
  have hc5 : ¬ k0_cond5 i = 1#1 := by rw [cond5_iff]; omega
  have hc6 : ¬ k0_cond6 i = 1#1 := by rw [cond6_iff]; omega
  have hc7 : k0_cond7 i = 1#1 := by rw [cond7_iff]; omega
  have hc8 : ¬ k0_cond8 i = 1#1 := by rw [cond8_iff]; omega
  have hc9 : ¬ k0_cond9 i = 1#1 := by rw [cond9_iff]; omega
  have hc10 : k0_cond10 i = 1#1 := by rw [cond10_iff]; omega
  have hc11 : ¬ k0_cond11 i = 1#1 := by rw [cond11_iff]; omega
  have hc12 : ¬ k0_cond12 i = 1#1 := by rw [cond12_iff]; omega
  have hc13 : ¬ k0_cond13 i = 1#1 := by rw [cond13_iff]; omega
  simp only [cc0_palm_block_eq_skeleton]; unfold cc0_palm_block_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩, ⟨%f23, %e23, H23⟩, ⟨%f24, %e24, H24⟩, ⟨%f25, %e25, H25⟩, ⟨%f26, %e26, H26⟩, ⟨%f27, %e27, H27⟩, ⟨%f28, %e28, H28⟩, ⟨%f29, %e29, H29⟩, Hk⟩
  sl_exec
  sl_step
  iapply Hk
  isplitl [H2]
  · iexists _; isplitr; swap; · iexact H2
    ipureintro
    exact e2
  isplitl [H3]
  · iexists _; isplitr; swap; · iexact H3
    ipureintro
    exact e3
  isplitl [H4]
  · iexists _; isplitr; swap; · iexact H4
    ipureintro
    exact e4
  isplitl [H5]
  · iexists _; isplitr; swap; · iexact H5
    ipureintro
    exact e5
  isplitl [H6]
  · iexists _; isplitr; swap; · iexact H6
    ipureintro
    exact e6
  isplitl [H7]
  · iexists _; isplitr; swap; · iexact H7
    ipureintro
    exact e7
  isplitl [H8]
  · iexists _; isplitr; swap; · iexact H8
    ipureintro
    exact e8
  isplitl [H9]
  · iexists _; isplitr; swap; · iexact H9
    ipureintro
    exact e9
  isplitl [H10]
  · iexists _; isplitr; swap; · iexact H10
    ipureintro
    exact e10
  isplitl [H11]
  · iexists _; isplitr; swap; · iexact H11
    ipureintro
    exact e11
  isplitl [H12]
  · iexists _; isplitr; swap; · iexact H12
    ipureintro
    exact e12
  isplitl [H13]
  · iexists _; isplitr; swap; · iexact H13
    ipureintro
    exact e13
  isplitl [H14]
  · iexists _; isplitr; swap; · iexact H14
    ipureintro
    exact e14
  isplitl [H15]
  · iexists _; isplitr; swap; · iexact H15
    ipureintro
    sl_unfold_words
    simp only [ld_S512x3072, ld_S1x1x512, ld_S1x128, ld_S1x3072, ld_S3072x512, ld_S8192x512, ld_S1x512, ld_S512x512, ld_S512x8, ld_S512x8192, ld_S512x128, st_S512x3072, st_S1x1x512, st_S1x128, st_S1x3072, st_S3072x512, st_S8192x512, st_S1x512, st_S512x512, st_S512x8, st_S512x8192, st_S512x128, lc_S512x8, lc_S512x128, ls_S512x8, ls_S512x128, ld0_S512x128, lc0_S512x128, ls0_S512x128, ldS0, ldS1, ldS2, ldS3, ldS4, ldS5, ldS6, ldS7, ldS8, ldS9, ldS10, ldS11, ldS12, ldS13, ldS14, ldS15, ldX0, ldX1, ldX2, ldX3, ldX4, ldX5, e22, e9, e27, e13, e2]
    all_goals rfl
  isplitl [H16]
  · iexists _; isplitr; swap; · iexact H16
    ipureintro
    exact e16
  isplitl [H17]
  · iexists _; isplitr; swap; · iexact H17
    ipureintro
    exact e17
  isplitl [H18]
  · iexists _; isplitr; swap; · iexact H18
    ipureintro
    exact e18
  isplitl [H19]
  · iexists _; isplitr; swap; · iexact H19
    ipureintro
    exact e19
  isplitl [H20]
  · iexists _; isplitr; swap; · iexact H20
    ipureintro
    exact e20
  isplitl [H21]
  · iexists _; isplitr; swap; · iexact H21
    ipureintro
    exact e21
  isplitl [H22]
  · iexists _; isplitr; swap; · iexact H22
    ipureintro
    exact e22
  isplitl [H23]
  · iexists _; isplitr; swap; · iexact H23
    ipureintro
    exact e23
  isplitl [H24]
  · iexists _; isplitr; swap; · iexact H24
    ipureintro
    exact e24
  isplitl [H25]
  · iexists _; isplitr; swap; · iexact H25
    ipureintro
    exact e25
  isplitl [H26]
  · iexists _; isplitr; swap; · iexact H26
    ipureintro
    exact e26
  isplitl [H27]
  · iexists _; isplitr; swap; · iexact H27
    ipureintro
    exact e27
  isplitl [H28]
  · iexists _; isplitr; swap; · iexact H28
    ipureintro
    exact e28
  iexists _; isplitr; swap; · iexact H29
  ipureintro
  exact e29

/-- What step `y3` leaves. -/
theorem val_y3 (c : Dev nD) (i : grid0.Coords) (hj : (i 1).val = 29) (arg2 : Memref sig .tc .vmem S512x3072 .bf16) (harg2 : arg2.IsWhole) (arg3 : Memref sig .tc .vmem S1x1x512 .i32) (harg3 : arg3.IsWhole) (arg4 : Memref sig .tc .vmem S1x128 .f32) (harg4 : arg4.IsWhole) (arg5 : Memref sig .tc .vmem S1x3072 .f32) (harg5 : arg5.IsWhole) (arg6 : Memref sig .tc .vmem S3072x512 .fp8e4m3) (harg6 : arg6.IsWhole) (arg7 : Memref sig .tc .vmem S3072x512 .fp8e4m3) (harg7 : arg7.IsWhole) (arg8 : Memref sig .tc .vmem S3072x512 .fp8e4m3) (harg8 : arg8.IsWhole) (arg9 : Memref sig .tc .vmem S8192x512 .fp8e4m3) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x3072 .fp8e4m3) (harg16 : arg16.IsWhole) (arg17 : Memref sig .tc .vmem S1x1x512 .f32) (harg17 : arg17.IsWhole) (arg18 : Memref sig .tc .vmem S512x512 .fp8e4m3) (harg18 : arg18.IsWhole) (arg19 : Memref sig .tc .vmem S512x8 .f32) (harg19 : arg19.IsWhole) (arg20 : Memref sig .tc .vmem S512x512 .fp8e4m3) (harg20 : arg20.IsWhole) (arg21 : Memref sig .tc .vmem S512x8 .f32) (harg21 : arg21.IsWhole) (arg22 : Memref sig .tc .vmem S512x8192 .fp8e4m3) (harg22 : arg22.IsWhole) (arg23 : Memref sig .tc .vmem S1x1x512 .f32) (harg23 : arg23.IsWhole) (arg24 : Memref sig .tc .vmem S16x512x512 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x128 .f32) (harg28 : arg28.IsWhole) (arg29 : Memref sig .tc .vmem S512x128 .f32) (harg29 : arg29.IsWhole) (d2 : S512x3072.Idx → Elt F .bf16) (d3 : S1x1x512.Idx → Elt F .i32) (d4 : S1x128.Idx → Elt F .f32) (d5 : S1x3072.Idx → Elt F .f32) (d6 : S3072x512.Idx → Elt F .fp8e4m3) (d7 : S3072x512.Idx → Elt F .fp8e4m3) (d8 : S3072x512.Idx → Elt F .fp8e4m3) (d9 : S8192x512.Idx → Elt F .fp8e4m3) (d10 : S1x512.Idx → Elt F .f32) (d11 : S1x512.Idx → Elt F .f32) (d12 : S1x512.Idx → Elt F .f32) (d13 : S1x512.Idx → Elt F .f32) (d14 : S512x512.Idx → Elt F .bf16) (d15 : S512x512.Idx → Elt F .bf16) (d16 : S512x3072.Idx → Elt F .fp8e4m3) (d17 : S1x1x512.Idx → Elt F .f32) (d18 : S512x512.Idx → Elt F .fp8e4m3) (d19 : S512x8.Idx → Elt F .f32) (d20 : S512x512.Idx → Elt F .fp8e4m3) (d21 : S512x8.Idx → Elt F .f32) (d22 : S512x8192.Idx → Elt F .fp8e4m3) (d23 : S1x1x512.Idx → Elt F .f32) (d24 : S16x512x512.Idx → Elt F .f32) (d25 : S512x128.Idx → Elt F .f32) (d26 : S512x128.Idx → Elt F .f32) (d27 : S512x128.Idx → Elt F .f32) (d28 : S512x128.Idx → Elt F .f32) (d29 : S512x128.Idx → Elt F .f32) (K : PUnit → sProp 𝕄) :
    iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20 ∗ owns (c : Thread nD τ) arg21 fullShare d21 ∗ owns (c : Thread nD τ) arg22 fullShare d22 ∗ owns (c : Thread nD τ) arg23 fullShare d23 ∗ owns (c : Thread nD τ) arg24 fullShare d24 ∗ owns (c : Thread nD τ) arg25 fullShare d25 ∗ owns (c : Thread nD τ) arg26 fullShare d26 ∗ owns (c : Thread nD τ) arg27 fullShare d27 ∗ owns (c : Thread nD τ) arg28 fullShare d28 ∗ owns (c : Thread nD τ) arg29 fullShare d29 ∗ (iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare (k0_pay13 d22 d9 (col0 d27) d13 (xcols 1536 (by decide) d2)) ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20 ∗ owns (c : Thread nD τ) arg21 fullShare d21 ∗ owns (c : Thread nD τ) arg22 fullShare d22 ∗ owns (c : Thread nD τ) arg23 fullShare d23 ∗ owns (c : Thread nD τ) arg24 fullShare d24 ∗ owns (c : Thread nD τ) arg25 fullShare d25 ∗ owns (c : Thread nD τ) arg26 fullShare d26 ∗ owns (c : Thread nD τ) arg27 fullShare d27 ∗ owns (c : Thread nD τ) arg28 fullShare d28 ∗ owns (c : Thread nD τ) arg29 fullShare d29) -∗ K ⟨⟩))
      ⊢ wp frame (wpE (defs₀ (F := F)) Variants.none c none) Set.univ
          (cc0_palm_block (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  have hc1 : ¬ k0_cond1 i = 1#1 := by rw [cond1_iff]; omega
  have hc2 : ¬ k0_cond2 i = 1#1 := by rw [cond2_iff]; omega
  have hc3 : ¬ k0_cond3 i = 1#1 := by rw [cond3_iff]; omega
  have hc4 : ¬ k0_cond4 i = 1#1 := by rw [cond4_iff]; omega
  have hc5 : ¬ k0_cond5 i = 1#1 := by rw [cond5_iff]; omega
  have hc6 : ¬ k0_cond6 i = 1#1 := by rw [cond6_iff]; omega
  have hc7 : k0_cond7 i = 1#1 := by rw [cond7_iff]; omega
  have hc8 : ¬ k0_cond8 i = 1#1 := by rw [cond8_iff]; omega
  have hc9 : ¬ k0_cond9 i = 1#1 := by rw [cond9_iff]; omega
  have hc10 : ¬ k0_cond10 i = 1#1 := by rw [cond10_iff]; omega
  have hc11 : k0_cond11 i = 1#1 := by rw [cond11_iff]; omega
  have hc12 : ¬ k0_cond12 i = 1#1 := by rw [cond12_iff]; omega
  have hc13 : ¬ k0_cond13 i = 1#1 := by rw [cond13_iff]; omega
  simp only [cc0_palm_block_eq_skeleton]; unfold cc0_palm_block_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩, ⟨%f23, %e23, H23⟩, ⟨%f24, %e24, H24⟩, ⟨%f25, %e25, H25⟩, ⟨%f26, %e26, H26⟩, ⟨%f27, %e27, H27⟩, ⟨%f28, %e28, H28⟩, ⟨%f29, %e29, H29⟩, Hk⟩
  sl_exec
  sl_step
  iapply Hk
  isplitl [H2]
  · iexists _; isplitr; swap; · iexact H2
    ipureintro
    exact e2
  isplitl [H3]
  · iexists _; isplitr; swap; · iexact H3
    ipureintro
    exact e3
  isplitl [H4]
  · iexists _; isplitr; swap; · iexact H4
    ipureintro
    exact e4
  isplitl [H5]
  · iexists _; isplitr; swap; · iexact H5
    ipureintro
    exact e5
  isplitl [H6]
  · iexists _; isplitr; swap; · iexact H6
    ipureintro
    exact e6
  isplitl [H7]
  · iexists _; isplitr; swap; · iexact H7
    ipureintro
    exact e7
  isplitl [H8]
  · iexists _; isplitr; swap; · iexact H8
    ipureintro
    exact e8
  isplitl [H9]
  · iexists _; isplitr; swap; · iexact H9
    ipureintro
    exact e9
  isplitl [H10]
  · iexists _; isplitr; swap; · iexact H10
    ipureintro
    exact e10
  isplitl [H11]
  · iexists _; isplitr; swap; · iexact H11
    ipureintro
    exact e11
  isplitl [H12]
  · iexists _; isplitr; swap; · iexact H12
    ipureintro
    exact e12
  isplitl [H13]
  · iexists _; isplitr; swap; · iexact H13
    ipureintro
    exact e13
  isplitl [H14]
  · iexists _; isplitr; swap; · iexact H14
    ipureintro
    exact e14
  isplitl [H15]
  · iexists _; isplitr; swap; · iexact H15
    ipureintro
    sl_unfold_words
    simp only [ld_S512x3072, ld_S1x1x512, ld_S1x128, ld_S1x3072, ld_S3072x512, ld_S8192x512, ld_S1x512, ld_S512x512, ld_S512x8, ld_S512x8192, ld_S512x128, st_S512x3072, st_S1x1x512, st_S1x128, st_S1x3072, st_S3072x512, st_S8192x512, st_S1x512, st_S512x512, st_S512x8, st_S512x8192, st_S512x128, lc_S512x8, lc_S512x128, ls_S512x8, ls_S512x128, ld0_S512x128, lc0_S512x128, ls0_S512x128, ldS0, ldS1, ldS2, ldS3, ldS4, ldS5, ldS6, ldS7, ldS8, ldS9, ldS10, ldS11, ldS12, ldS13, ldS14, ldS15, ldX0, ldX1, ldX2, ldX3, ldX4, ldX5, e22, e9, e27, e13, e2]
    all_goals rfl
  isplitl [H16]
  · iexists _; isplitr; swap; · iexact H16
    ipureintro
    exact e16
  isplitl [H17]
  · iexists _; isplitr; swap; · iexact H17
    ipureintro
    exact e17
  isplitl [H18]
  · iexists _; isplitr; swap; · iexact H18
    ipureintro
    exact e18
  isplitl [H19]
  · iexists _; isplitr; swap; · iexact H19
    ipureintro
    exact e19
  isplitl [H20]
  · iexists _; isplitr; swap; · iexact H20
    ipureintro
    exact e20
  isplitl [H21]
  · iexists _; isplitr; swap; · iexact H21
    ipureintro
    exact e21
  isplitl [H22]
  · iexists _; isplitr; swap; · iexact H22
    ipureintro
    exact e22
  isplitl [H23]
  · iexists _; isplitr; swap; · iexact H23
    ipureintro
    exact e23
  isplitl [H24]
  · iexists _; isplitr; swap; · iexact H24
    ipureintro
    exact e24
  isplitl [H25]
  · iexists _; isplitr; swap; · iexact H25
    ipureintro
    exact e25
  isplitl [H26]
  · iexists _; isplitr; swap; · iexact H26
    ipureintro
    exact e26
  isplitl [H27]
  · iexists _; isplitr; swap; · iexact H27
    ipureintro
    exact e27
  isplitl [H28]
  · iexists _; isplitr; swap; · iexact H28
    ipureintro
    exact e28
  iexists _; isplitr; swap; · iexact H29
  ipureintro
  exact e29

/-- What step `y4` leaves. -/
theorem val_y4 (c : Dev nD) (i : grid0.Coords) (hj : (i 1).val = 30) (arg2 : Memref sig .tc .vmem S512x3072 .bf16) (harg2 : arg2.IsWhole) (arg3 : Memref sig .tc .vmem S1x1x512 .i32) (harg3 : arg3.IsWhole) (arg4 : Memref sig .tc .vmem S1x128 .f32) (harg4 : arg4.IsWhole) (arg5 : Memref sig .tc .vmem S1x3072 .f32) (harg5 : arg5.IsWhole) (arg6 : Memref sig .tc .vmem S3072x512 .fp8e4m3) (harg6 : arg6.IsWhole) (arg7 : Memref sig .tc .vmem S3072x512 .fp8e4m3) (harg7 : arg7.IsWhole) (arg8 : Memref sig .tc .vmem S3072x512 .fp8e4m3) (harg8 : arg8.IsWhole) (arg9 : Memref sig .tc .vmem S8192x512 .fp8e4m3) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x3072 .fp8e4m3) (harg16 : arg16.IsWhole) (arg17 : Memref sig .tc .vmem S1x1x512 .f32) (harg17 : arg17.IsWhole) (arg18 : Memref sig .tc .vmem S512x512 .fp8e4m3) (harg18 : arg18.IsWhole) (arg19 : Memref sig .tc .vmem S512x8 .f32) (harg19 : arg19.IsWhole) (arg20 : Memref sig .tc .vmem S512x512 .fp8e4m3) (harg20 : arg20.IsWhole) (arg21 : Memref sig .tc .vmem S512x8 .f32) (harg21 : arg21.IsWhole) (arg22 : Memref sig .tc .vmem S512x8192 .fp8e4m3) (harg22 : arg22.IsWhole) (arg23 : Memref sig .tc .vmem S1x1x512 .f32) (harg23 : arg23.IsWhole) (arg24 : Memref sig .tc .vmem S16x512x512 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x128 .f32) (harg28 : arg28.IsWhole) (arg29 : Memref sig .tc .vmem S512x128 .f32) (harg29 : arg29.IsWhole) (d2 : S512x3072.Idx → Elt F .bf16) (d3 : S1x1x512.Idx → Elt F .i32) (d4 : S1x128.Idx → Elt F .f32) (d5 : S1x3072.Idx → Elt F .f32) (d6 : S3072x512.Idx → Elt F .fp8e4m3) (d7 : S3072x512.Idx → Elt F .fp8e4m3) (d8 : S3072x512.Idx → Elt F .fp8e4m3) (d9 : S8192x512.Idx → Elt F .fp8e4m3) (d10 : S1x512.Idx → Elt F .f32) (d11 : S1x512.Idx → Elt F .f32) (d12 : S1x512.Idx → Elt F .f32) (d13 : S1x512.Idx → Elt F .f32) (d14 : S512x512.Idx → Elt F .bf16) (d15 : S512x512.Idx → Elt F .bf16) (d16 : S512x3072.Idx → Elt F .fp8e4m3) (d17 : S1x1x512.Idx → Elt F .f32) (d18 : S512x512.Idx → Elt F .fp8e4m3) (d19 : S512x8.Idx → Elt F .f32) (d20 : S512x512.Idx → Elt F .fp8e4m3) (d21 : S512x8.Idx → Elt F .f32) (d22 : S512x8192.Idx → Elt F .fp8e4m3) (d23 : S1x1x512.Idx → Elt F .f32) (d24 : S16x512x512.Idx → Elt F .f32) (d25 : S512x128.Idx → Elt F .f32) (d26 : S512x128.Idx → Elt F .f32) (d27 : S512x128.Idx → Elt F .f32) (d28 : S512x128.Idx → Elt F .f32) (d29 : S512x128.Idx → Elt F .f32) (K : PUnit → sProp 𝕄) :
    iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20 ∗ owns (c : Thread nD τ) arg21 fullShare d21 ∗ owns (c : Thread nD τ) arg22 fullShare d22 ∗ owns (c : Thread nD τ) arg23 fullShare d23 ∗ owns (c : Thread nD τ) arg24 fullShare d24 ∗ owns (c : Thread nD τ) arg25 fullShare d25 ∗ owns (c : Thread nD τ) arg26 fullShare d26 ∗ owns (c : Thread nD τ) arg27 fullShare d27 ∗ owns (c : Thread nD τ) arg28 fullShare d28 ∗ owns (c : Thread nD τ) arg29 fullShare d29 ∗ (iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare (k0_pay13 d22 d9 (col0 d27) d13 (xcols 2048 (by decide) d2)) ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20 ∗ owns (c : Thread nD τ) arg21 fullShare d21 ∗ owns (c : Thread nD τ) arg22 fullShare d22 ∗ owns (c : Thread nD τ) arg23 fullShare d23 ∗ owns (c : Thread nD τ) arg24 fullShare d24 ∗ owns (c : Thread nD τ) arg25 fullShare d25 ∗ owns (c : Thread nD τ) arg26 fullShare d26 ∗ owns (c : Thread nD τ) arg27 fullShare d27 ∗ owns (c : Thread nD τ) arg28 fullShare d28 ∗ owns (c : Thread nD τ) arg29 fullShare d29) -∗ K ⟨⟩))
      ⊢ wp frame (wpE (defs₀ (F := F)) Variants.none c none) Set.univ
          (cc0_palm_block (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  have hc1 : ¬ k0_cond1 i = 1#1 := by rw [cond1_iff]; omega
  have hc2 : ¬ k0_cond2 i = 1#1 := by rw [cond2_iff]; omega
  have hc3 : ¬ k0_cond3 i = 1#1 := by rw [cond3_iff]; omega
  have hc4 : ¬ k0_cond4 i = 1#1 := by rw [cond4_iff]; omega
  have hc5 : ¬ k0_cond5 i = 1#1 := by rw [cond5_iff]; omega
  have hc6 : ¬ k0_cond6 i = 1#1 := by rw [cond6_iff]; omega
  have hc7 : k0_cond7 i = 1#1 := by rw [cond7_iff]; omega
  have hc8 : ¬ k0_cond8 i = 1#1 := by rw [cond8_iff]; omega
  have hc9 : ¬ k0_cond9 i = 1#1 := by rw [cond9_iff]; omega
  have hc10 : ¬ k0_cond10 i = 1#1 := by rw [cond10_iff]; omega
  have hc11 : ¬ k0_cond11 i = 1#1 := by rw [cond11_iff]; omega
  have hc12 : k0_cond12 i = 1#1 := by rw [cond12_iff]; omega
  have hc13 : ¬ k0_cond13 i = 1#1 := by rw [cond13_iff]; omega
  simp only [cc0_palm_block_eq_skeleton]; unfold cc0_palm_block_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩, ⟨%f23, %e23, H23⟩, ⟨%f24, %e24, H24⟩, ⟨%f25, %e25, H25⟩, ⟨%f26, %e26, H26⟩, ⟨%f27, %e27, H27⟩, ⟨%f28, %e28, H28⟩, ⟨%f29, %e29, H29⟩, Hk⟩
  sl_exec
  sl_step
  iapply Hk
  isplitl [H2]
  · iexists _; isplitr; swap; · iexact H2
    ipureintro
    exact e2
  isplitl [H3]
  · iexists _; isplitr; swap; · iexact H3
    ipureintro
    exact e3
  isplitl [H4]
  · iexists _; isplitr; swap; · iexact H4
    ipureintro
    exact e4
  isplitl [H5]
  · iexists _; isplitr; swap; · iexact H5
    ipureintro
    exact e5
  isplitl [H6]
  · iexists _; isplitr; swap; · iexact H6
    ipureintro
    exact e6
  isplitl [H7]
  · iexists _; isplitr; swap; · iexact H7
    ipureintro
    exact e7
  isplitl [H8]
  · iexists _; isplitr; swap; · iexact H8
    ipureintro
    exact e8
  isplitl [H9]
  · iexists _; isplitr; swap; · iexact H9
    ipureintro
    exact e9
  isplitl [H10]
  · iexists _; isplitr; swap; · iexact H10
    ipureintro
    exact e10
  isplitl [H11]
  · iexists _; isplitr; swap; · iexact H11
    ipureintro
    exact e11
  isplitl [H12]
  · iexists _; isplitr; swap; · iexact H12
    ipureintro
    exact e12
  isplitl [H13]
  · iexists _; isplitr; swap; · iexact H13
    ipureintro
    exact e13
  isplitl [H14]
  · iexists _; isplitr; swap; · iexact H14
    ipureintro
    exact e14
  isplitl [H15]
  · iexists _; isplitr; swap; · iexact H15
    ipureintro
    sl_unfold_words
    simp only [ld_S512x3072, ld_S1x1x512, ld_S1x128, ld_S1x3072, ld_S3072x512, ld_S8192x512, ld_S1x512, ld_S512x512, ld_S512x8, ld_S512x8192, ld_S512x128, st_S512x3072, st_S1x1x512, st_S1x128, st_S1x3072, st_S3072x512, st_S8192x512, st_S1x512, st_S512x512, st_S512x8, st_S512x8192, st_S512x128, lc_S512x8, lc_S512x128, ls_S512x8, ls_S512x128, ld0_S512x128, lc0_S512x128, ls0_S512x128, ldS0, ldS1, ldS2, ldS3, ldS4, ldS5, ldS6, ldS7, ldS8, ldS9, ldS10, ldS11, ldS12, ldS13, ldS14, ldS15, ldX0, ldX1, ldX2, ldX3, ldX4, ldX5, e22, e9, e27, e13, e2]
    all_goals rfl
  isplitl [H16]
  · iexists _; isplitr; swap; · iexact H16
    ipureintro
    exact e16
  isplitl [H17]
  · iexists _; isplitr; swap; · iexact H17
    ipureintro
    exact e17
  isplitl [H18]
  · iexists _; isplitr; swap; · iexact H18
    ipureintro
    exact e18
  isplitl [H19]
  · iexists _; isplitr; swap; · iexact H19
    ipureintro
    exact e19
  isplitl [H20]
  · iexists _; isplitr; swap; · iexact H20
    ipureintro
    exact e20
  isplitl [H21]
  · iexists _; isplitr; swap; · iexact H21
    ipureintro
    exact e21
  isplitl [H22]
  · iexists _; isplitr; swap; · iexact H22
    ipureintro
    exact e22
  isplitl [H23]
  · iexists _; isplitr; swap; · iexact H23
    ipureintro
    exact e23
  isplitl [H24]
  · iexists _; isplitr; swap; · iexact H24
    ipureintro
    exact e24
  isplitl [H25]
  · iexists _; isplitr; swap; · iexact H25
    ipureintro
    exact e25
  isplitl [H26]
  · iexists _; isplitr; swap; · iexact H26
    ipureintro
    exact e26
  isplitl [H27]
  · iexists _; isplitr; swap; · iexact H27
    ipureintro
    exact e27
  isplitl [H28]
  · iexists _; isplitr; swap; · iexact H28
    ipureintro
    exact e28
  iexists _; isplitr; swap; · iexact H29
  ipureintro
  exact e29

/-- What step `y5` leaves. -/
theorem val_y5 (c : Dev nD) (i : grid0.Coords) (hj : (i 1).val = 31) (arg2 : Memref sig .tc .vmem S512x3072 .bf16) (harg2 : arg2.IsWhole) (arg3 : Memref sig .tc .vmem S1x1x512 .i32) (harg3 : arg3.IsWhole) (arg4 : Memref sig .tc .vmem S1x128 .f32) (harg4 : arg4.IsWhole) (arg5 : Memref sig .tc .vmem S1x3072 .f32) (harg5 : arg5.IsWhole) (arg6 : Memref sig .tc .vmem S3072x512 .fp8e4m3) (harg6 : arg6.IsWhole) (arg7 : Memref sig .tc .vmem S3072x512 .fp8e4m3) (harg7 : arg7.IsWhole) (arg8 : Memref sig .tc .vmem S3072x512 .fp8e4m3) (harg8 : arg8.IsWhole) (arg9 : Memref sig .tc .vmem S8192x512 .fp8e4m3) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x3072 .fp8e4m3) (harg16 : arg16.IsWhole) (arg17 : Memref sig .tc .vmem S1x1x512 .f32) (harg17 : arg17.IsWhole) (arg18 : Memref sig .tc .vmem S512x512 .fp8e4m3) (harg18 : arg18.IsWhole) (arg19 : Memref sig .tc .vmem S512x8 .f32) (harg19 : arg19.IsWhole) (arg20 : Memref sig .tc .vmem S512x512 .fp8e4m3) (harg20 : arg20.IsWhole) (arg21 : Memref sig .tc .vmem S512x8 .f32) (harg21 : arg21.IsWhole) (arg22 : Memref sig .tc .vmem S512x8192 .fp8e4m3) (harg22 : arg22.IsWhole) (arg23 : Memref sig .tc .vmem S1x1x512 .f32) (harg23 : arg23.IsWhole) (arg24 : Memref sig .tc .vmem S16x512x512 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x128 .f32) (harg28 : arg28.IsWhole) (arg29 : Memref sig .tc .vmem S512x128 .f32) (harg29 : arg29.IsWhole) (d2 : S512x3072.Idx → Elt F .bf16) (d3 : S1x1x512.Idx → Elt F .i32) (d4 : S1x128.Idx → Elt F .f32) (d5 : S1x3072.Idx → Elt F .f32) (d6 : S3072x512.Idx → Elt F .fp8e4m3) (d7 : S3072x512.Idx → Elt F .fp8e4m3) (d8 : S3072x512.Idx → Elt F .fp8e4m3) (d9 : S8192x512.Idx → Elt F .fp8e4m3) (d10 : S1x512.Idx → Elt F .f32) (d11 : S1x512.Idx → Elt F .f32) (d12 : S1x512.Idx → Elt F .f32) (d13 : S1x512.Idx → Elt F .f32) (d14 : S512x512.Idx → Elt F .bf16) (d15 : S512x512.Idx → Elt F .bf16) (d16 : S512x3072.Idx → Elt F .fp8e4m3) (d17 : S1x1x512.Idx → Elt F .f32) (d18 : S512x512.Idx → Elt F .fp8e4m3) (d19 : S512x8.Idx → Elt F .f32) (d20 : S512x512.Idx → Elt F .fp8e4m3) (d21 : S512x8.Idx → Elt F .f32) (d22 : S512x8192.Idx → Elt F .fp8e4m3) (d23 : S1x1x512.Idx → Elt F .f32) (d24 : S16x512x512.Idx → Elt F .f32) (d25 : S512x128.Idx → Elt F .f32) (d26 : S512x128.Idx → Elt F .f32) (d27 : S512x128.Idx → Elt F .f32) (d28 : S512x128.Idx → Elt F .f32) (d29 : S512x128.Idx → Elt F .f32) (K : PUnit → sProp 𝕄) :
    iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20 ∗ owns (c : Thread nD τ) arg21 fullShare d21 ∗ owns (c : Thread nD τ) arg22 fullShare d22 ∗ owns (c : Thread nD τ) arg23 fullShare d23 ∗ owns (c : Thread nD τ) arg24 fullShare d24 ∗ owns (c : Thread nD τ) arg25 fullShare d25 ∗ owns (c : Thread nD τ) arg26 fullShare d26 ∗ owns (c : Thread nD τ) arg27 fullShare d27 ∗ owns (c : Thread nD τ) arg28 fullShare d28 ∗ owns (c : Thread nD τ) arg29 fullShare d29 ∗ (iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare (k0_pay13 d22 d9 (col0 d27) d13 (xcols 2560 (by decide) d2)) ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20 ∗ owns (c : Thread nD τ) arg21 fullShare d21 ∗ owns (c : Thread nD τ) arg22 fullShare d22 ∗ owns (c : Thread nD τ) arg23 fullShare d23 ∗ owns (c : Thread nD τ) arg24 fullShare d24 ∗ owns (c : Thread nD τ) arg25 fullShare d25 ∗ owns (c : Thread nD τ) arg26 fullShare d26 ∗ owns (c : Thread nD τ) arg27 fullShare d27 ∗ owns (c : Thread nD τ) arg28 fullShare d28 ∗ owns (c : Thread nD τ) arg29 fullShare d29) -∗ K ⟨⟩))
      ⊢ wp frame (wpE (defs₀ (F := F)) Variants.none c none) Set.univ
          (cc0_palm_block (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  have hc1 : ¬ k0_cond1 i = 1#1 := by rw [cond1_iff]; omega
  have hc2 : ¬ k0_cond2 i = 1#1 := by rw [cond2_iff]; omega
  have hc3 : ¬ k0_cond3 i = 1#1 := by rw [cond3_iff]; omega
  have hc4 : ¬ k0_cond4 i = 1#1 := by rw [cond4_iff]; omega
  have hc5 : ¬ k0_cond5 i = 1#1 := by rw [cond5_iff]; omega
  have hc6 : ¬ k0_cond6 i = 1#1 := by rw [cond6_iff]; omega
  have hc7 : k0_cond7 i = 1#1 := by rw [cond7_iff]; omega
  have hc8 : ¬ k0_cond8 i = 1#1 := by rw [cond8_iff]; omega
  have hc9 : ¬ k0_cond9 i = 1#1 := by rw [cond9_iff]; omega
  have hc10 : ¬ k0_cond10 i = 1#1 := by rw [cond10_iff]; omega
  have hc11 : ¬ k0_cond11 i = 1#1 := by rw [cond11_iff]; omega
  have hc12 : ¬ k0_cond12 i = 1#1 := by rw [cond12_iff]; omega
  have hc13 : k0_cond13 i = 1#1 := by rw [cond13_iff]; omega
  simp only [cc0_palm_block_eq_skeleton]; unfold cc0_palm_block_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩, ⟨%f23, %e23, H23⟩, ⟨%f24, %e24, H24⟩, ⟨%f25, %e25, H25⟩, ⟨%f26, %e26, H26⟩, ⟨%f27, %e27, H27⟩, ⟨%f28, %e28, H28⟩, ⟨%f29, %e29, H29⟩, Hk⟩
  sl_exec
  sl_step
  iapply Hk
  isplitl [H2]
  · iexists _; isplitr; swap; · iexact H2
    ipureintro
    exact e2
  isplitl [H3]
  · iexists _; isplitr; swap; · iexact H3
    ipureintro
    exact e3
  isplitl [H4]
  · iexists _; isplitr; swap; · iexact H4
    ipureintro
    exact e4
  isplitl [H5]
  · iexists _; isplitr; swap; · iexact H5
    ipureintro
    exact e5
  isplitl [H6]
  · iexists _; isplitr; swap; · iexact H6
    ipureintro
    exact e6
  isplitl [H7]
  · iexists _; isplitr; swap; · iexact H7
    ipureintro
    exact e7
  isplitl [H8]
  · iexists _; isplitr; swap; · iexact H8
    ipureintro
    exact e8
  isplitl [H9]
  · iexists _; isplitr; swap; · iexact H9
    ipureintro
    exact e9
  isplitl [H10]
  · iexists _; isplitr; swap; · iexact H10
    ipureintro
    exact e10
  isplitl [H11]
  · iexists _; isplitr; swap; · iexact H11
    ipureintro
    exact e11
  isplitl [H12]
  · iexists _; isplitr; swap; · iexact H12
    ipureintro
    exact e12
  isplitl [H13]
  · iexists _; isplitr; swap; · iexact H13
    ipureintro
    exact e13
  isplitl [H14]
  · iexists _; isplitr; swap; · iexact H14
    ipureintro
    exact e14
  isplitl [H15]
  · iexists _; isplitr; swap; · iexact H15
    ipureintro
    sl_unfold_words
    simp only [ld_S512x3072, ld_S1x1x512, ld_S1x128, ld_S1x3072, ld_S3072x512, ld_S8192x512, ld_S1x512, ld_S512x512, ld_S512x8, ld_S512x8192, ld_S512x128, st_S512x3072, st_S1x1x512, st_S1x128, st_S1x3072, st_S3072x512, st_S8192x512, st_S1x512, st_S512x512, st_S512x8, st_S512x8192, st_S512x128, lc_S512x8, lc_S512x128, ls_S512x8, ls_S512x128, ld0_S512x128, lc0_S512x128, ls0_S512x128, ldS0, ldS1, ldS2, ldS3, ldS4, ldS5, ldS6, ldS7, ldS8, ldS9, ldS10, ldS11, ldS12, ldS13, ldS14, ldS15, ldX0, ldX1, ldX2, ldX3, ldX4, ldX5, e22, e9, e27, e13, e2]
    all_goals rfl
  isplitl [H16]
  · iexists _; isplitr; swap; · iexact H16
    ipureintro
    exact e16
  isplitl [H17]
  · iexists _; isplitr; swap; · iexact H17
    ipureintro
    exact e17
  isplitl [H18]
  · iexists _; isplitr; swap; · iexact H18
    ipureintro
    exact e18
  isplitl [H19]
  · iexists _; isplitr; swap; · iexact H19
    ipureintro
    exact e19
  isplitl [H20]
  · iexists _; isplitr; swap; · iexact H20
    ipureintro
    exact e20
  isplitl [H21]
  · iexists _; isplitr; swap; · iexact H21
    ipureintro
    exact e21
  isplitl [H22]
  · iexists _; isplitr; swap; · iexact H22
    ipureintro
    exact e22
  isplitl [H23]
  · iexists _; isplitr; swap; · iexact H23
    ipureintro
    exact e23
  isplitl [H24]
  · iexists _; isplitr; swap; · iexact H24
    ipureintro
    exact e24
  isplitl [H25]
  · iexists _; isplitr; swap; · iexact H25
    ipureintro
    exact e25
  isplitl [H26]
  · iexists _; isplitr; swap; · iexact H26
    ipureintro
    exact e26
  isplitl [H27]
  · iexists _; isplitr; swap; · iexact H27
    ipureintro
    exact e27
  isplitl [H28]
  · iexists _; isplitr; swap; · iexact H28
    ipureintro
    exact e28
  iexists _; isplitr; swap; · iexact H29
  ipureintro
  exact e29

end Cert.KernelIdeal.Hand

end
-- ==== Proof.KBufs.lean ====
/- The kernel's blocks gathered in one place, and what one step makes of them. -/
module

public import proofs.«01_k».proof.Proof.Gen.KernelIdeal.Frame
public import proofs.«01_k».proof.Proof.KIVec
public import proofs.«01_k».proof.Proof.KIRun
public import Idealize.ShloMosaic.Lib.Pipeline.Value
public import proofs.«01_k».proof.Proof.Gen.KernelIdeal.Loops
public import proofs.«01_k».proof.Proof.Gen.KernelIdeal.Skeleton
public import Idealize.ShloMosaic.Lib.Pipeline.Frame
public import Idealize.ShloMosaic.Lib.Pipeline.DatRel
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

/-- The input blocks. -/
structure Ins (F : FTy → Type) where
  d2 : S512x3072.Idx → Elt F .bf16
  d3 : S1x1x512.Idx → Elt F .i32
  d4 : S1x128.Idx → Elt F .f32
  d5 : S1x3072.Idx → Elt F .f32
  d6 : S3072x512.Idx → Elt F .fp8e4m3
  d7 : S3072x512.Idx → Elt F .fp8e4m3
  d8 : S3072x512.Idx → Elt F .fp8e4m3
  d9 : S8192x512.Idx → Elt F .fp8e4m3
  d10 : S1x512.Idx → Elt F .f32
  d11 : S1x512.Idx → Elt F .f32
  d12 : S1x512.Idx → Elt F .f32
  d13 : S1x512.Idx → Elt F .f32

/-- The result blocks and the scratch. -/
structure Bufs (F : FTy → Type) where
  d14 : S512x512.Idx → Elt F .bf16
  d15 : S512x512.Idx → Elt F .bf16
  d16 : S512x3072.Idx → Elt F .fp8e4m3
  d17 : S1x1x512.Idx → Elt F .f32
  d18 : S512x512.Idx → Elt F .fp8e4m3
  d19 : S512x8.Idx → Elt F .f32
  d20 : S512x512.Idx → Elt F .fp8e4m3
  d21 : S512x8.Idx → Elt F .f32
  d22 : S512x8192.Idx → Elt F .fp8e4m3
  d23 : S1x1x512.Idx → Elt F .f32
  d24 : S16x512x512.Idx → Elt F .f32
  d25 : S512x128.Idx → Elt F .f32
  d26 : S512x128.Idx → Elt F .f32
  d27 : S512x128.Idx → Elt F .f32
  d28 : S512x128.Idx → Elt F .f32
  d29 : S512x128.Idx → Elt F .f32

theorem xcols_congr {α : Type} {o o' : ℕ} (h : o = o') (ho : o + 512 ≤ 3072) (ho' : o' + 512 ≤ 3072) (x : S512x3072.Idx → α) :
    xcols o ho x = xcols o' ho' x := by subst h; rfl

/-- The first step's eight-bit rows. -/
def codes0 (I : Ins F) : S512x3072.Idx → F .fp8e4m3 := rows8 (fun k => tripCodes (chunk k I.d2) I.d5)

/-- The first step's scales. -/
def scales0 (I : Ins F) : S512x128.Idx → F .f32 := rows8b (fun k => tripScale (chunk k I.d2) I.d5)

/-- The rotary angles' cosines. -/
def cos0 (I : Ins F) : S512x128.Idx → F .f32 :=
  rows4 ![k0_pay30 I.d3 I.d4, k0_pay34 (k0_pay28 I.d3) I.d4, k0_pay38 (k0_pay28 I.d3) I.d4, k0_pay3 (k0_pay28 I.d3) I.d4]

/-- The rotary angles' sines, signed. -/
def sin0 (I : Ins F) : S512x128.Idx → F .f32 :=
  rows4 ![k0_pay32 (k0_pay31 I.d3 I.d4), k0_pay35 (k0_pay28 I.d3) I.d4, k0_pay1 (k0_pay37 (k0_pay28 I.d3) I.d4) k0_pay39, k0_pay4 (k0_pay28 I.d3) I.d4]

def stepFirst (i : grid0.Coords) (I : Ins F) (b : Bufs F) : Bufs F :=
  { b with
    d16 := codes0 I
    d17 := k0_pay27 (scales0 I)
    d24 := hput (i 1).val (k0_pay41 (codes0 I) I.d7 (col0 (scales0 I)) I.d11 (codes0 I) I.d8 (col0 (scales0 I)) I.d12) b.d24
    d25 := hmax (k0_pay40 (codes0 I) I.d7 (col0 (scales0 I)) I.d11 (codes0 I) I.d8 (col0 (scales0 I)) I.d12) k0_pay5
    d26 := scales0 I
    d28 := cos0 I
    d29 := sin0 I }

def stepMlp (i : grid0.Coords) (I : Ins F) (b : Bufs F) : Bufs F :=
  { b with
    d24 := hput (i 1).val (k0_pay41 b.d16 I.d7 (col0 b.d26) I.d11 b.d16 I.d8 (col0 b.d26) I.d12) b.d24
    d25 := hmax (k0_pay40 b.d16 I.d7 (col0 b.d26) I.d11 b.d16 I.d8 (col0 b.d26) I.d12) b.d25 }

/-- The block of the query, key and value product. -/
def zblk (I : Ins F) (b : Bufs F) : S512x512.Idx → F .f32 := k0_pay44 b.d16 I.d6 (col0 b.d26) I.d10

def stepQ (i : grid0.Coords) (I : Ins F) (b : Bufs F) : Bufs F :=
  { b with d14 := cols4 (fun n => truncf .bf16 (ropeC (headOf n (zblk I b)) b.d28 b.d29) bitsLt_bf16_f32) }

/-- The hidden rows' scales over the lanes. -/
def hscl (b : Bufs F) : S512x128.Idx → F .f32 := k0_pay124 (k0_pay120 b.d25) (k0_pay121 b.d25) (Scalar.ofBits .f32 0x7E800000#32)

/-- What the hidden rows are multiplied by, over the lanes. -/
def hinv (b : Bufs F) : S512x128.Idx → F .f32 := k0_pay125 (k0_pay120 b.d25) (k0_pay121 b.d25) (Scalar.ofBits .f32 0x7E800000#32)

def stepQuant (i : grid0.Coords) (I : Ins F) (b : Bufs F) : Bufs F :=
  { b with
    d14 := cols4 (fun n => truncf .bf16 (ropeC (headOf n (zblk I b)) b.d28 b.d29) bitsLt_bf16_f32)
    d22 := cols16 (fun n => k0_pay127 (slotV n b.d24) (col0 (hinv b)))
    d23 := k0_pay126 (hscl b)
    d25 := hinv b
    d27 := hscl b }

/-- Four lanes of the scales set, one a head. -/
def lanes4 (i : grid0.Coords) (w : BitVec 32) (u : Fin 4 → S512x128.Idx → F .f32) (o : S512x8.Idx → F .f32) : S512x8.Idx → F .f32 :=
  laneSet (headWord i w 3#32) (qscale (tHead (u 3))) (laneSet (headWord i w 2#32) (qscale (tHead (u 2)))
    (laneSet (headWord i w 1#32) (qscale (tHead (u 1))) (laneSet (headWord i w 0#32) (qscale (tHead (u 0))) o)))

def stepK (i : grid0.Coords) (I : Ins F) (b : Bufs F) : Bufs F :=
  { b with
    d18 := cols4 (fun n => headCodes (ropeC (headOf n (zblk I b)) b.d28 b.d29))
    d19 := lanes4 i 22#32 (fun n => ropeC (headOf n (zblk I b)) b.d28 b.d29) b.d19 }

def stepV (i : grid0.Coords) (I : Ins F) (b : Bufs F) : Bufs F :=
  { b with
    d20 := cols4 (fun n => headCodes (headOf n (zblk I b)))
    d21 := lanes4 i 24#32 (fun n => headOf n (zblk I b)) b.d21 }

theorem yoff_le (i : grid0.Coords) : 512 * ((i 1).val - 26) + 512 ≤ 3072 := by
  have h : (i 1).val < 32 := (i 1).isLt
  omega

def stepY (i : grid0.Coords) (I : Ins F) (b : Bufs F) : Bufs F :=
  { b with d15 := k0_pay13 b.d22 I.d9 (col0 b.d27) I.d13 (xcols (512 * ((i 1).val - 26)) (yoff_le i) I.d2) }

/-- What a step makes of the blocks. -/
def stepOf (i : grid0.Coords) (I : Ins F) (b : Bufs F) : Bufs F :=
  if (i 1).val = 0 then stepFirst i I b else if (i 1).val < 16 then stepMlp i I b else if (i 1).val = 16 then stepQuant i I b
  else if (i 1).val < 22 then stepQ i I b else if (i 1).val < 24 then stepK i I b else if (i 1).val < 26 then stepV i I b else stepY i I b

end Cert.KernelIdeal.Hand
-- ==== Proof.KAny.lean ====
/- The kernel's body at any step: from blocks holding anything to the blocks one step makes of them. -/
module

public import proofs.«01_k».proof.Proof.Gen.KernelIdeal.Frame
public import proofs.«01_k».proof.Proof.KIVec
public import proofs.«01_k».proof.Proof.KIRun2
public import proofs.«01_k».proof.Proof.KBufs
public import proofs.«01_k».proof.Proof.KICond
public import Idealize.ShloMosaic.Lib.Pipeline.Value
public import proofs.«01_k».proof.Proof.Gen.KernelIdeal.Loops
public import proofs.«01_k».proof.Proof.Gen.KernelIdeal.Skeleton
public import Idealize.ShloMosaic.Lib.Pipeline.Frame
public import Idealize.ShloMosaic.Lib.Pipeline.DatRel
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

theorem val_any (c : Dev nD) (i : grid0.Coords) (arg2 : Memref sig .tc .vmem S512x3072 .bf16) (harg2 : arg2.IsWhole) (arg3 : Memref sig .tc .vmem S1x1x512 .i32) (harg3 : arg3.IsWhole) (arg4 : Memref sig .tc .vmem S1x128 .f32) (harg4 : arg4.IsWhole) (arg5 : Memref sig .tc .vmem S1x3072 .f32) (harg5 : arg5.IsWhole) (arg6 : Memref sig .tc .vmem S3072x512 .fp8e4m3) (harg6 : arg6.IsWhole) (arg7 : Memref sig .tc .vmem S3072x512 .fp8e4m3) (harg7 : arg7.IsWhole) (arg8 : Memref sig .tc .vmem S3072x512 .fp8e4m3) (harg8 : arg8.IsWhole) (arg9 : Memref sig .tc .vmem S8192x512 .fp8e4m3) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x3072 .fp8e4m3) (harg16 : arg16.IsWhole) (arg17 : Memref sig .tc .vmem S1x1x512 .f32) (harg17 : arg17.IsWhole) (arg18 : Memref sig .tc .vmem S512x512 .fp8e4m3) (harg18 : arg18.IsWhole) (arg19 : Memref sig .tc .vmem S512x8 .f32) (harg19 : arg19.IsWhole) (arg20 : Memref sig .tc .vmem S512x512 .fp8e4m3) (harg20 : arg20.IsWhole) (arg21 : Memref sig .tc .vmem S512x8 .f32) (harg21 : arg21.IsWhole) (arg22 : Memref sig .tc .vmem S512x8192 .fp8e4m3) (harg22 : arg22.IsWhole) (arg23 : Memref sig .tc .vmem S1x1x512 .f32) (harg23 : arg23.IsWhole) (arg24 : Memref sig .tc .vmem S16x512x512 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x128 .f32) (harg28 : arg28.IsWhole) (arg29 : Memref sig .tc .vmem S512x128 .f32) (harg29 : arg29.IsWhole) (I : Ins F) (b : Bufs F) (K : PUnit → sProp 𝕄) :
    iprop(owns (c : Thread nD τ) arg2 fullShare I.d2 ∗ owns (c : Thread nD τ) arg3 fullShare I.d3 ∗ owns (c : Thread nD τ) arg4 fullShare I.d4 ∗ owns (c : Thread nD τ) arg5 fullShare I.d5 ∗ owns (c : Thread nD τ) arg6 fullShare I.d6 ∗ owns (c : Thread nD τ) arg7 fullShare I.d7 ∗ owns (c : Thread nD τ) arg8 fullShare I.d8 ∗ owns (c : Thread nD τ) arg9 fullShare I.d9 ∗ owns (c : Thread nD τ) arg10 fullShare I.d10 ∗ owns (c : Thread nD τ) arg11 fullShare I.d11 ∗ owns (c : Thread nD τ) arg12 fullShare I.d12 ∗ owns (c : Thread nD τ) arg13 fullShare I.d13 ∗ owns (c : Thread nD τ) arg14 fullShare b.d14 ∗ owns (c : Thread nD τ) arg15 fullShare b.d15 ∗ owns (c : Thread nD τ) arg16 fullShare b.d16 ∗ owns (c : Thread nD τ) arg17 fullShare b.d17 ∗ owns (c : Thread nD τ) arg18 fullShare b.d18 ∗ owns (c : Thread nD τ) arg19 fullShare b.d19 ∗ owns (c : Thread nD τ) arg20 fullShare b.d20 ∗ owns (c : Thread nD τ) arg21 fullShare b.d21 ∗ owns (c : Thread nD τ) arg22 fullShare b.d22 ∗ owns (c : Thread nD τ) arg23 fullShare b.d23 ∗ owns (c : Thread nD τ) arg24 fullShare b.d24 ∗ owns (c : Thread nD τ) arg25 fullShare b.d25 ∗ owns (c : Thread nD τ) arg26 fullShare b.d26 ∗ owns (c : Thread nD τ) arg27 fullShare b.d27 ∗ owns (c : Thread nD τ) arg28 fullShare b.d28 ∗ owns (c : Thread nD τ) arg29 fullShare b.d29 ∗ (iprop(owns (c : Thread nD τ) arg2 fullShare I.d2 ∗ owns (c : Thread nD τ) arg3 fullShare I.d3 ∗ owns (c : Thread nD τ) arg4 fullShare I.d4 ∗ owns (c : Thread nD τ) arg5 fullShare I.d5 ∗ owns (c : Thread nD τ) arg6 fullShare I.d6 ∗ owns (c : Thread nD τ) arg7 fullShare I.d7 ∗ owns (c : Thread nD τ) arg8 fullShare I.d8 ∗ owns (c : Thread nD τ) arg9 fullShare I.d9 ∗ owns (c : Thread nD τ) arg10 fullShare I.d10 ∗ owns (c : Thread nD τ) arg11 fullShare I.d11 ∗ owns (c : Thread nD τ) arg12 fullShare I.d12 ∗ owns (c : Thread nD τ) arg13 fullShare I.d13 ∗ owns (c : Thread nD τ) arg14 fullShare (stepOf i I b).d14 ∗ owns (c : Thread nD τ) arg15 fullShare (stepOf i I b).d15 ∗ owns (c : Thread nD τ) arg16 fullShare (stepOf i I b).d16 ∗ owns (c : Thread nD τ) arg17 fullShare (stepOf i I b).d17 ∗ owns (c : Thread nD τ) arg18 fullShare (stepOf i I b).d18 ∗ owns (c : Thread nD τ) arg19 fullShare (stepOf i I b).d19 ∗ owns (c : Thread nD τ) arg20 fullShare (stepOf i I b).d20 ∗ owns (c : Thread nD τ) arg21 fullShare (stepOf i I b).d21 ∗ owns (c : Thread nD τ) arg22 fullShare (stepOf i I b).d22 ∗ owns (c : Thread nD τ) arg23 fullShare (stepOf i I b).d23 ∗ owns (c : Thread nD τ) arg24 fullShare (stepOf i I b).d24 ∗ owns (c : Thread nD τ) arg25 fullShare (stepOf i I b).d25 ∗ owns (c : Thread nD τ) arg26 fullShare (stepOf i I b).d26 ∗ owns (c : Thread nD τ) arg27 fullShare (stepOf i I b).d27 ∗ owns (c : Thread nD τ) arg28 fullShare (stepOf i I b).d28 ∗ owns (c : Thread nD τ) arg29 fullShare (stepOf i I b).d29) -∗ K ⟨⟩))
      ⊢ wp frame (wpE (defs₀ (F := F)) Variants.none c none) Set.univ
          (cc0_palm_block (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  have hlt : (i 1).val < 32 := (i 1).isLt
  by_cases h0 : (i 1).val = 0
  · have e : stepOf i I b = stepFirst i I b := if_pos h0
    rw [e]
    exact val_first c i h0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 I.d2 I.d3 I.d4 I.d5 I.d6 I.d7 I.d8 I.d9 I.d10 I.d11 I.d12 I.d13 b.d14 b.d15 b.d16 b.d17 b.d18 b.d19 b.d20 b.d21 b.d22 b.d23 b.d24 b.d25 b.d26 b.d27 b.d28 b.d29 K
  by_cases h1 : (i 1).val < 16
  · have e : stepOf i I b = stepMlp i I b := by unfold stepOf; rw [if_neg h0, if_pos h1]
    rw [e]
    exact val_mlp c i (by omega) h1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 I.d2 I.d3 I.d4 I.d5 I.d6 I.d7 I.d8 I.d9 I.d10 I.d11 I.d12 I.d13 b.d14 b.d15 b.d16 b.d17 b.d18 b.d19 b.d20 b.d21 b.d22 b.d23 b.d24 b.d25 b.d26 b.d27 b.d28 b.d29 K
  by_cases h2 : (i 1).val = 16
  · have e : stepOf i I b = stepQuant i I b := by unfold stepOf; rw [if_neg h0, if_neg h1, if_pos h2]
    rw [e]
    exact val_quant c i h2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 I.d2 I.d3 I.d4 I.d5 I.d6 I.d7 I.d8 I.d9 I.d10 I.d11 I.d12 I.d13 b.d14 b.d15 b.d16 b.d17 b.d18 b.d19 b.d20 b.d21 b.d22 b.d23 b.d24 b.d25 b.d26 b.d27 b.d28 b.d29 K
  by_cases h3 : (i 1).val < 22
  · have e : stepOf i I b = stepQ i I b := by unfold stepOf; rw [if_neg h0, if_neg h1, if_neg h2, if_pos h3]
    rw [e]
    exact val_q c i (by omega) h3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 I.d2 I.d3 I.d4 I.d5 I.d6 I.d7 I.d8 I.d9 I.d10 I.d11 I.d12 I.d13 b.d14 b.d15 b.d16 b.d17 b.d18 b.d19 b.d20 b.d21 b.d22 b.d23 b.d24 b.d25 b.d26 b.d27 b.d28 b.d29 K
  by_cases h4 : (i 1).val < 24
  · have e : stepOf i I b = stepK i I b := by unfold stepOf; rw [if_neg h0, if_neg h1, if_neg h2, if_neg h3, if_pos h4]
    rw [e]
    exact val_k c i (by omega) h4 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 I.d2 I.d3 I.d4 I.d5 I.d6 I.d7 I.d8 I.d9 I.d10 I.d11 I.d12 I.d13 b.d14 b.d15 b.d16 b.d17 b.d18 b.d19 b.d20 b.d21 b.d22 b.d23 b.d24 b.d25 b.d26 b.d27 b.d28 b.d29 K
  by_cases h5 : (i 1).val < 26
  · have e : stepOf i I b = stepV i I b := by unfold stepOf; rw [if_neg h0, if_neg h1, if_neg h2, if_neg h3, if_neg h4, if_pos h5]
    rw [e]
    exact val_v c i (by omega) h5 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 I.d2 I.d3 I.d4 I.d5 I.d6 I.d7 I.d8 I.d9 I.d10 I.d11 I.d12 I.d13 b.d14 b.d15 b.d16 b.d17 b.d18 b.d19 b.d20 b.d21 b.d22 b.d23 b.d24 b.d25 b.d26 b.d27 b.d28 b.d29 K
  have e : stepOf i I b = stepY i I b := by unfold stepOf; rw [if_neg h0, if_neg h1, if_neg h2, if_neg h3, if_neg h4, if_neg h5]
  rw [e]
  obtain h6 | h6 | h6 | h6 | h6 | h6 : (i 1).val = 26 ∨ (i 1).val = 27 ∨ (i 1).val = 28 ∨ (i 1).val = 29 ∨ (i 1).val = 30 ∨ (i 1).val = 31 := by omega
  · have e' : xcols (512 * ((i 1).val - 26)) (yoff_le i) I.d2 = xcols 0 (by decide) I.d2 := xcols_congr (by omega) _ _ _
    simp only [stepY, e']
    exact val_y0 c i h6 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 I.d2 I.d3 I.d4 I.d5 I.d6 I.d7 I.d8 I.d9 I.d10 I.d11 I.d12 I.d13 b.d14 b.d15 b.d16 b.d17 b.d18 b.d19 b.d20 b.d21 b.d22 b.d23 b.d24 b.d25 b.d26 b.d27 b.d28 b.d29 K
  · have e' : xcols (512 * ((i 1).val - 26)) (yoff_le i) I.d2 = xcols 512 (by decide) I.d2 := xcols_congr (by omega) _ _ _
    simp only [stepY, e']
    exact val_y1 c i h6 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 I.d2 I.d3 I.d4 I.d5 I.d6 I.d7 I.d8 I.d9 I.d10 I.d11 I.d12 I.d13 b.d14 b.d15 b.d16 b.d17 b.d18 b.d19 b.d20 b.d21 b.d22 b.d23 b.d24 b.d25 b.d26 b.d27 b.d28 b.d29 K
  · have e' : xcols (512 * ((i 1).val - 26)) (yoff_le i) I.d2 = xcols 1024 (by decide) I.d2 := xcols_congr (by omega) _ _ _
    simp only [stepY, e']
    exact val_y2 c i h6 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 I.d2 I.d3 I.d4 I.d5 I.d6 I.d7 I.d8 I.d9 I.d10 I.d11 I.d12 I.d13 b.d14 b.d15 b.d16 b.d17 b.d18 b.d19 b.d20 b.d21 b.d22 b.d23 b.d24 b.d25 b.d26 b.d27 b.d28 b.d29 K
  · have e' : xcols (512 * ((i 1).val - 26)) (yoff_le i) I.d2 = xcols 1536 (by decide) I.d2 := xcols_congr (by omega) _ _ _
    simp only [stepY, e']
    exact val_y3 c i h6 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 I.d2 I.d3 I.d4 I.d5 I.d6 I.d7 I.d8 I.d9 I.d10 I.d11 I.d12 I.d13 b.d14 b.d15 b.d16 b.d17 b.d18 b.d19 b.d20 b.d21 b.d22 b.d23 b.d24 b.d25 b.d26 b.d27 b.d28 b.d29 K
  · have e' : xcols (512 * ((i 1).val - 26)) (yoff_le i) I.d2 = xcols 2048 (by decide) I.d2 := xcols_congr (by omega) _ _ _
    simp only [stepY, e']
    exact val_y4 c i h6 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 I.d2 I.d3 I.d4 I.d5 I.d6 I.d7 I.d8 I.d9 I.d10 I.d11 I.d12 I.d13 b.d14 b.d15 b.d16 b.d17 b.d18 b.d19 b.d20 b.d21 b.d22 b.d23 b.d24 b.d25 b.d26 b.d27 b.d28 b.d29 K
  · have e' : xcols (512 * ((i 1).val - 26)) (yoff_le i) I.d2 = xcols 2560 (by decide) I.d2 := xcols_congr (by omega) _ _ _
    simp only [stepY, e']
    exact val_y5 c i h6 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 I.d2 I.d3 I.d4 I.d5 I.d6 I.d7 I.d8 I.d9 I.d10 I.d11 I.d12 I.d13 b.d14 b.d15 b.d16 b.d17 b.d18 b.d19 b.d20 b.d21 b.d22 b.d23 b.d24 b.d25 b.d26 b.d27 b.d28 b.d29 K

end Cert.KernelIdeal.Hand
-- ==== Proof.KWin.lean ====
/- Where the kernel's windows lie: the block index of each at each point, when each is written back, and each input
   window's block read off its array. -/
module

public import proofs.«01_k».proof.Proof.Gen.KernelIdeal.Frame
public import Idealize.ShloMosaic.Lib.Pipeline.Value
public import Idealize.ShloMosaic.Lib.Pointwise.Index

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F] [Named F]

theorem coords_val : ∀ t : Fin grid0.N, ((grid0.coords t) 0).val = t.val / 32 ∧ ((grid0.coords t) 1).val = t.val % 32 := by decide +kernel

theorem idx0 : ∀ t : Fin grid0.N, win0_0.index t 0 = t.val / 32 ∧ win0_0.index t 1 = 0 := by decide +kernel
theorem idx1 : ∀ t : Fin grid0.N, win0_1.index t 0 = t.val / 32 ∧ win0_1.index t 1 = 0 ∧ win0_1.index t 2 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = min 9 (t.val % 32 - 16) := by decide +kernel
theorem idx5 : ∀ t : Fin grid0.N, win0_5.index t 0 = 0 ∧ win0_5.index t 1 = 10 + min 15 (t.val % 32) := by decide +kernel
theorem idx6 : ∀ t : Fin grid0.N, win0_6.index t 0 = 0 ∧ win0_6.index t 1 = 26 + min 15 (t.val % 32) := by decide +kernel
theorem idx7 : ∀ t : Fin grid0.N, win0_7.index t 0 = 0 ∧ win0_7.index t 1 = min 5 (t.val % 32 - 26) := by decide +kernel
theorem idx8 : ∀ t : Fin grid0.N, win0_8.index t 0 = 0 ∧ win0_8.index t 1 = min 9 (t.val % 32 - 16) := by decide +kernel
theorem idx9 : ∀ t : Fin grid0.N, win0_9.index t 0 = 0 ∧ win0_9.index t 1 = 10 + min 15 (t.val % 32) := by decide +kernel
theorem idx10 : ∀ t : Fin grid0.N, win0_10.index t 0 = 0 ∧ win0_10.index t 1 = 26 + min 15 (t.val % 32) := by decide +kernel
theorem idx11 : ∀ t : Fin grid0.N, win0_11.index t 0 = 0 ∧ win0_11.index t 1 = min 5 (t.val % 32 - 26) := by decide +kernel
theorem idx12 : ∀ t : Fin grid0.N, win0_12.index t 0 = t.val / 32 ∧ win0_12.index t 1 = min 5 (t.val % 32 - 16) := by decide +kernel
theorem idx13 : ∀ t : Fin grid0.N, win0_13.index t 0 = t.val / 32 ∧ win0_13.index t 1 = min 5 (t.val % 32 - 26) := by decide +kernel
theorem idx14 : ∀ t : Fin grid0.N, win0_14.index t 0 = t.val / 32 ∧ win0_14.index t 1 = 0 := by decide +kernel
theorem idx15 : ∀ t : Fin grid0.N, win0_15.index t 0 = t.val / 32 ∧ win0_15.index t 1 = 0 ∧ win0_15.index t 2 = 0 := by decide +kernel
theorem idx16 : ∀ t : Fin grid0.N, win0_16.index t 0 = t.val / 32 ∧ win0_16.index t 1 = min 1 (t.val % 32 - 22) := by decide +kernel
theorem idx17 : ∀ t : Fin grid0.N, win0_17.index t 0 = t.val / 32 ∧ win0_17.index t 1 = 0 := by decide +kernel
theorem idx18 : ∀ t : Fin grid0.N, win0_18.index t 0 = t.val / 32 ∧ win0_18.index t 1 = min 1 (t.val % 32 - 24) := by decide +kernel
theorem idx19 : ∀ t : Fin grid0.N, win0_19.index t 0 = t.val / 32 ∧ win0_19.index t 1 = 0 := by decide +kernel
theorem idx20 : ∀ t : Fin grid0.N, win0_20.index t 0 = t.val / 32 ∧ win0_20.index t 1 = 0 := by decide +kernel
theorem idx21 : ∀ t : Fin grid0.N, win0_21.index t 0 = t.val / 32 ∧ win0_21.index t 1 = 0 ∧ win0_21.index t 2 = 0 := by decide +kernel

theorem fl12 : ∀ t : Fin grid0.N, win0_12.flush t = decide ((16 ≤ t.val % 32 ∧ t.val % 32 < 21) ∨ t.val % 32 = 31) := by decide +kernel
theorem fl13 : ∀ t : Fin grid0.N, win0_13.flush t = decide (26 ≤ t.val % 32) := by decide +kernel
theorem fl14 : ∀ t : Fin grid0.N, win0_14.flush t = decide (t.val % 32 = 31) := by decide +kernel
theorem fl15 : ∀ t : Fin grid0.N, win0_15.flush t = decide (t.val % 32 = 31) := by decide +kernel
theorem fl16 : ∀ t : Fin grid0.N, win0_16.flush t = decide (t.val % 32 = 22 ∨ t.val % 32 = 31) := by decide +kernel
theorem fl17 : ∀ t : Fin grid0.N, win0_17.flush t = decide (t.val % 32 = 31) := by decide +kernel
theorem fl18 : ∀ t : Fin grid0.N, win0_18.flush t = decide (t.val % 32 = 24 ∨ t.val % 32 = 31) := by decide +kernel
theorem fl19 : ∀ t : Fin grid0.N, win0_19.flush t = decide (t.val % 32 = 31) := by decide +kernel
theorem fl20 : ∀ t : Fin grid0.N, win0_20.flush t = decide (t.val % 32 = 31) := by decide +kernel
theorem fl21 : ∀ t : Fin grid0.N, win0_21.flush t = decide (t.val % 32 = 31) := by decide +kernel

section Blocks

variable (m : (ℓ : Loc nD τ sig) → Buf (Elt F) ℓ) (c : Dev nD) (t : Fin cfg0.N)

theorem iblk0_at (a : Fin 512) (b : Fin 3072) (h0 : 512 * (t.val / 32) + a.val < 8192) :
    (iblk m c 0 t : S512x3072.Idx → F .bf16) (ix2 a b) = (V m c main_v10 : S8192x3072.Idx → F .bf16) (ix2 ⟨512 * (t.val / 32) + a.val, h0⟩ b) := by
  refine congrArg (V m c main_v10 : S8192x3072.Idx → F .bf16) (funext fun x => Fin.ext ?_)
  match x with
  | ⟨0, _⟩ => show win0_0.index t 0 * 512 + 1 * a.val = 512 * (t.val / 32) + a.val; rw [(idx0 t).1]; omega
  | ⟨1, _⟩ => show win0_0.index t 1 * 3072 + 1 * b.val = b.val; rw [(idx0 t).2]; omega

theorem iblk1_at (a : Fin 1) (b : Fin 1) (e : Fin 512) (h0 : t.val / 32 < 16) :
    (iblk m c 1 t : S1x1x512.Idx → BitVec 32) (ix3 a b e) = (V m c main_v11 : S16x1x512.Idx → BitVec 32) (ix3 ⟨t.val / 32, h0⟩ b e) := by
  refine congrArg (V m c main_v11 : S16x1x512.Idx → BitVec 32) (funext fun x => Fin.ext ?_)
  match x with
  | ⟨0, _⟩ => show win0_1.index t 0 * 1 + 1 * a.val = t.val / 32; rw [(idx1 t).1]; omega
  | ⟨1, _⟩ => show win0_1.index t 1 * 1 + 1 * b.val = b.val; rw [(idx1 t).2.1]; omega
  | ⟨2, _⟩ => show win0_1.index t 2 * 512 + 1 * e.val = e.val; rw [(idx1 t).2.2]; omega

theorem iblk2_at (a : Fin 1) (b : Fin 128) :
    (iblk m c 2 t : S1x128.Idx → F .f32) (ix2 a b) = (V m c main_v9 : S1x128.Idx → F .f32) (ix2 a b) := by
  refine congrArg (V m c main_v9 : S1x128.Idx → F .f32) (funext fun x => Fin.ext ?_)
  match x with
  | ⟨0, _⟩ => show win0_2.index t 0 * 1 + 1 * a.val = a.val; rw [(idx2 t).1]; omega
  | ⟨1, _⟩ => show win0_2.index t 1 * 128 + 1 * b.val = b.val; rw [(idx2 t).2]; omega

theorem iblk3_at (a : Fin 1) (b : Fin 3072) :
    (iblk m c 3 t : S1x3072.Idx → F .f32) (ix2 a b) = (V m c main_v14 : S1x3072.Idx → F .f32) (ix2 a b) := by
  refine congrArg (V m c main_v14 : S1x3072.Idx → F .f32) (funext fun x => Fin.ext ?_)
  match x with
  | ⟨0, _⟩ => show win0_3.index t 0 * 1 + 1 * a.val = a.val; rw [(idx3 t).1]; omega
  | ⟨1, _⟩ => show win0_3.index t 1 * 3072 + 1 * b.val = b.val; rw [(idx3 t).2]; omega

theorem iblk4_at (a : Fin 3072) (b : Fin 512) (h0 : 512 * (min 9 (t.val % 32 - 16)) + b.val < 21504) :
    (iblk m c 4 t : S3072x512.Idx → F .fp8e4m3) (ix2 a b) = (V m c main_arg3 : S3072x21504.Idx → F .fp8e4m3) (ix2 a ⟨512 * (min 9 (t.val % 32 - 16)) + b.val, h0⟩) := by
  refine congrArg (V m c main_arg3 : S3072x21504.Idx → F .fp8e4m3) (funext fun x => Fin.ext ?_)
  match x with
  | ⟨0, _⟩ => show win0_4.index t 0 * 3072 + 1 * a.val = a.val; rw [(idx4 t).1]; omega
  | ⟨1, _⟩ => show win0_4.index t 1 * 512 + 1 * b.val = 512 * (min 9 (t.val % 32 - 16)) + b.val; rw [(idx4 t).2]; omega

theorem iblk5_at (a : Fin 3072) (b : Fin 512) (h0 : 512 * ((10 + min 15 (t.val % 32))) + b.val < 21504) :
    (iblk m c 5 t : S3072x512.Idx → F .fp8e4m3) (ix2 a b) = (V m c main_arg3 : S3072x21504.Idx → F .fp8e4m3) (ix2 a ⟨512 * ((10 + min 15 (t.val % 32))) + b.val, h0⟩) := by
  refine congrArg (V m c main_arg3 : S3072x21504.Idx → F .fp8e4m3) (funext fun x => Fin.ext ?_)
  match x with
  | ⟨0, _⟩ => show win0_5.index t 0 * 3072 + 1 * a.val = a.val; rw [(idx5 t).1]; omega
  | ⟨1, _⟩ => show win0_5.index t 1 * 512 + 1 * b.val = 512 * ((10 + min 15 (t.val % 32))) + b.val; rw [(idx5 t).2]; omega

theorem iblk6_at (a : Fin 3072) (b : Fin 512) (h0 : 512 * ((26 + min 15 (t.val % 32))) + b.val < 21504) :
    (iblk m c 6 t : S3072x512.Idx → F .fp8e4m3) (ix2 a b) = (V m c main_arg3 : S3072x21504.Idx → F .fp8e4m3) (ix2 a ⟨512 * ((26 + min 15 (t.val % 32))) + b.val, h0⟩) := by
  refine congrArg (V m c main_arg3 : S3072x21504.Idx → F .fp8e4m3) (funext fun x => Fin.ext ?_)
  match x with
  | ⟨0, _⟩ => show win0_6.index t 0 * 3072 + 1 * a.val = a.val; rw [(idx6 t).1]; omega
  | ⟨1, _⟩ => show win0_6.index t 1 * 512 + 1 * b.val = 512 * ((26 + min 15 (t.val % 32))) + b.val; rw [(idx6 t).2]; omega

theorem iblk7_at (a : Fin 8192) (b : Fin 512) (h0 : 512 * (min 5 (t.val % 32 - 26)) + b.val < 3072) :
    (iblk m c 7 t : S8192x512.Idx → F .fp8e4m3) (ix2 a b) = (V m c main_arg5 : S8192x3072.Idx → F .fp8e4m3) (ix2 a ⟨512 * (min 5 (t.val % 32 - 26)) + b.val, h0⟩) := by
  refine congrArg (V m c main_arg5 : S8192x3072.Idx → F .fp8e4m3) (funext fun x => Fin.ext ?_)
  match x with
  | ⟨0, _⟩ => show win0_7.index t 0 * 8192 + 1 * a.val = a.val; rw [(idx7 t).1]; omega
  | ⟨1, _⟩ => show win0_7.index t 1 * 512 + 1 * b.val = 512 * (min 5 (t.val % 32 - 26)) + b.val; rw [(idx7 t).2]; omega

theorem iblk8_at (a : Fin 1) (b : Fin 512) (h0 : 512 * (min 9 (t.val % 32 - 16)) + b.val < 21504) :
    (iblk m c 8 t : S1x512.Idx → F .f32) (ix2 a b) = (V m c main_v12 : S1x21504.Idx → F .f32) (ix2 a ⟨512 * (min 9 (t.val % 32 - 16)) + b.val, h0⟩) := by
  refine congrArg (V m c main_v12 : S1x21504.Idx → F .f32) (funext fun x => Fin.ext ?_)
  match x with
  | ⟨0, _⟩ => show win0_8.index t 0 * 1 + 1 * a.val = a.val; rw [(idx8 t).1]; omega
  | ⟨1, _⟩ => show win0_8.index t 1 * 512 + 1 * b.val = 512 * (min 9 (t.val % 32 - 16)) + b.val; rw [(idx8 t).2]; omega

theorem iblk9_at (a : Fin 1) (b : Fin 512) (h0 : 512 * ((10 + min 15 (t.val % 32))) + b.val < 21504) :
    (iblk m c 9 t : S1x512.Idx → F .f32) (ix2 a b) = (V m c main_v12 : S1x21504.Idx → F .f32) (ix2 a ⟨512 * ((10 + min 15 (t.val % 32))) + b.val, h0⟩) := by
  refine congrArg (V m c main_v12 : S1x21504.Idx → F .f32) (funext fun x => Fin.ext ?_)
  match x with
  | ⟨0, _⟩ => show win0_9.index t 0 * 1 + 1 * a.val = a.val; rw [(idx9 t).1]; omega
  | ⟨1, _⟩ => show win0_9.index t 1 * 512 + 1 * b.val = 512 * ((10 + min 15 (t.val % 32))) + b.val; rw [(idx9 t).2]; omega

theorem iblk10_at (a : Fin 1) (b : Fin 512) (h0 : 512 * ((26 + min 15 (t.val % 32))) + b.val < 21504) :
    (iblk m c 10 t : S1x512.Idx → F .f32) (ix2 a b) = (V m c main_v12 : S1x21504.Idx → F .f32) (ix2 a ⟨512 * ((26 + min 15 (t.val % 32))) + b.val, h0⟩) := by
  refine congrArg (V m c main_v12 : S1x21504.Idx → F .f32) (funext fun x => Fin.ext ?_)
  match x with
  | ⟨0, _⟩ => show win0_10.index t 0 * 1 + 1 * a.val = a.val; rw [(idx10 t).1]; omega
  | ⟨1, _⟩ => show win0_10.index t 1 * 512 + 1 * b.val = 512 * ((26 + min 15 (t.val % 32))) + b.val; rw [(idx10 t).2]; omega

theorem iblk11_at (a : Fin 1) (b : Fin 512) (h0 : 512 * (min 5 (t.val % 32 - 26)) + b.val < 3072) :
    (iblk m c 11 t : S1x512.Idx → F .f32) (ix2 a b) = (V m c main_v13 : S1x3072.Idx → F .f32) (ix2 a ⟨512 * (min 5 (t.val % 32 - 26)) + b.val, h0⟩) := by
  refine congrArg (V m c main_v13 : S1x3072.Idx → F .f32) (funext fun x => Fin.ext ?_)
  match x with
  | ⟨0, _⟩ => show win0_11.index t 0 * 1 + 1 * a.val = a.val; rw [(idx11 t).1]; omega
  | ⟨1, _⟩ => show win0_11.index t 1 * 512 + 1 * b.val = 512 * (min 5 (t.val % 32 - 26)) + b.val; rw [(idx11 t).2]; omega

theorem emb12_at (a : Fin 512) (b : Fin 512) (h0 : 512 * (t.val / 32) + a.val < 8192) (h1 : 512 * (min 5 (t.val % 32 - 16)) + b.val < 3072) :
    (((cfg0.win 12).blk t).view.emb (ix2 a b : S512x512.Idx) : S8192x3072.Idx) = ix2 ⟨512 * (t.val / 32) + a.val, h0⟩ ⟨512 * (min 5 (t.val % 32 - 16)) + b.val, h1⟩ := by
  refine funext fun x => Fin.ext ?_
  match x with
  | ⟨0, _⟩ => show win0_12.index t 0 * 512 + 1 * a.val = 512 * (t.val / 32) + a.val; rw [(idx12 t).1]; omega
  | ⟨1, _⟩ => show win0_12.index t 1 * 512 + 1 * b.val = 512 * (min 5 (t.val % 32 - 16)) + b.val; rw [(idx12 t).2]; omega

theorem emb13_at (a : Fin 512) (b : Fin 512) (h0 : 512 * (t.val / 32) + a.val < 8192) (h1 : 512 * (min 5 (t.val % 32 - 26)) + b.val < 3072) :
    (((cfg0.win 13).blk t).view.emb (ix2 a b : S512x512.Idx) : S8192x3072.Idx) = ix2 ⟨512 * (t.val / 32) + a.val, h0⟩ ⟨512 * (min 5 (t.val % 32 - 26)) + b.val, h1⟩ := by
  refine funext fun x => Fin.ext ?_
  match x with
  | ⟨0, _⟩ => show win0_13.index t 0 * 512 + 1 * a.val = 512 * (t.val / 32) + a.val; rw [(idx13 t).1]; omega
  | ⟨1, _⟩ => show win0_13.index t 1 * 512 + 1 * b.val = 512 * (min 5 (t.val % 32 - 26)) + b.val; rw [(idx13 t).2]; omega

theorem emb14_at (a : Fin 512) (b : Fin 3072) (h0 : 512 * (t.val / 32) + a.val < 8192) :
    (((cfg0.win 14).blk t).view.emb (ix2 a b : S512x3072.Idx) : S8192x3072.Idx) = ix2 ⟨512 * (t.val / 32) + a.val, h0⟩ b := by
  refine funext fun x => Fin.ext ?_
  match x with
  | ⟨0, _⟩ => show win0_14.index t 0 * 512 + 1 * a.val = 512 * (t.val / 32) + a.val; rw [(idx14 t).1]; omega
  | ⟨1, _⟩ => show win0_14.index t 1 * 3072 + 1 * b.val = b.val; rw [(idx14 t).2]; omega

theorem emb15_at (a : Fin 1) (b : Fin 1) (e : Fin 512) (h0 : t.val / 32 < 16) :
    (((cfg0.win 15).blk t).view.emb (ix3 a b e : S1x1x512.Idx) : S16x1x512.Idx) = ix3 ⟨t.val / 32, h0⟩ b e := by
  refine funext fun x => Fin.ext ?_
  match x with
  | ⟨0, _⟩ => show win0_15.index t 0 * 1 + 1 * a.val = t.val / 32; rw [(idx15 t).1]; omega
  | ⟨1, _⟩ => show win0_15.index t 1 * 1 + 1 * b.val = b.val; rw [(idx15 t).2.1]; omega
  | ⟨2, _⟩ => show win0_15.index t 2 * 512 + 1 * e.val = e.val; rw [(idx15 t).2.2]; omega

theorem emb16_at (a : Fin 512) (b : Fin 512) (h0 : 512 * (t.val / 32) + a.val < 8192) (h1 : 512 * (min 1 (t.val % 32 - 22)) + b.val < 1024) :
    (((cfg0.win 16).blk t).view.emb (ix2 a b : S512x512.Idx) : S8192x1024.Idx) = ix2 ⟨512 * (t.val / 32) + a.val, h0⟩ ⟨512 * (min 1 (t.val % 32 - 22)) + b.val, h1⟩ := by
  refine funext fun x => Fin.ext ?_
  match x with
  | ⟨0, _⟩ => show win0_16.index t 0 * 512 + 1 * a.val = 512 * (t.val / 32) + a.val; rw [(idx16 t).1]; omega
  | ⟨1, _⟩ => show win0_16.index t 1 * 512 + 1 * b.val = 512 * (min 1 (t.val % 32 - 22)) + b.val; rw [(idx16 t).2]; omega

theorem emb17_at (a : Fin 512) (b : Fin 8) (h0 : 512 * (t.val / 32) + a.val < 8192) :
    (((cfg0.win 17).blk t).view.emb (ix2 a b : S512x8.Idx) : S8192x8.Idx) = ix2 ⟨512 * (t.val / 32) + a.val, h0⟩ b := by
  refine funext fun x => Fin.ext ?_
  match x with
  | ⟨0, _⟩ => show win0_17.index t 0 * 512 + 1 * a.val = 512 * (t.val / 32) + a.val; rw [(idx17 t).1]; omega
  | ⟨1, _⟩ => show win0_17.index t 1 * 8 + 1 * b.val = b.val; rw [(idx17 t).2]; omega

theorem emb18_at (a : Fin 512) (b : Fin 512) (h0 : 512 * (t.val / 32) + a.val < 8192) (h1 : 512 * (min 1 (t.val % 32 - 24)) + b.val < 1024) :
    (((cfg0.win 18).blk t).view.emb (ix2 a b : S512x512.Idx) : S8192x1024.Idx) = ix2 ⟨512 * (t.val / 32) + a.val, h0⟩ ⟨512 * (min 1 (t.val % 32 - 24)) + b.val, h1⟩ := by
  refine funext fun x => Fin.ext ?_
  match x with
  | ⟨0, _⟩ => show win0_18.index t 0 * 512 + 1 * a.val = 512 * (t.val / 32) + a.val; rw [(idx18 t).1]; omega
  | ⟨1, _⟩ => show win0_18.index t 1 * 512 + 1 * b.val = 512 * (min 1 (t.val % 32 - 24)) + b.val; rw [(idx18 t).2]; omega

theorem emb19_at (a : Fin 512) (b : Fin 8) (h0 : 512 * (t.val / 32) + a.val < 8192) :
    (((cfg0.win 19).blk t).view.emb (ix2 a b : S512x8.Idx) : S8192x8.Idx) = ix2 ⟨512 * (t.val / 32) + a.val, h0⟩ b := by
  refine funext fun x => Fin.ext ?_
  match x with
  | ⟨0, _⟩ => show win0_19.index t 0 * 512 + 1 * a.val = 512 * (t.val / 32) + a.val; rw [(idx19 t).1]; omega
  | ⟨1, _⟩ => show win0_19.index t 1 * 8 + 1 * b.val = b.val; rw [(idx19 t).2]; omega

theorem emb20_at (a : Fin 512) (b : Fin 8192) (h0 : 512 * (t.val / 32) + a.val < 8192) :
    (((cfg0.win 20).blk t).view.emb (ix2 a b : S512x8192.Idx) : S8192x8192.Idx) = ix2 ⟨512 * (t.val / 32) + a.val, h0⟩ b := by
  refine funext fun x => Fin.ext ?_
  match x with
  | ⟨0, _⟩ => show win0_20.index t 0 * 512 + 1 * a.val = 512 * (t.val / 32) + a.val; rw [(idx20 t).1]; omega
  | ⟨1, _⟩ => show win0_20.index t 1 * 8192 + 1 * b.val = b.val; rw [(idx20 t).2]; omega

theorem emb21_at (a : Fin 1) (b : Fin 1) (e : Fin 512) (h0 : t.val / 32 < 16) :
    (((cfg0.win 21).blk t).view.emb (ix3 a b e : S1x1x512.Idx) : S16x1x512.Idx) = ix3 ⟨t.val / 32, h0⟩ b e := by
  refine funext fun x => Fin.ext ?_
  match x with
  | ⟨0, _⟩ => show win0_21.index t 0 * 1 + 1 * a.val = t.val / 32; rw [(idx21 t).1]; omega
  | ⟨1, _⟩ => show win0_21.index t 1 * 1 + 1 * b.val = b.val; rw [(idx21 t).2.1]; omega
  | ⟨2, _⟩ => show win0_21.index t 2 * 512 + 1 * e.val = e.val; rw [(idx21 t).2.2]; omega

end Blocks

end Cert.KernelIdeal.Hand
-- ==== Proof.QScal.lean ====
/- The scale of a row of values: the exponent searched bit by bit against the greatest exponent that fits. -/
module

public import Idealize.ShloMosaic.PureOps.Ideal
public import Idealize.ShloMosaic.PureOps.Ideal.Laws
public import Idealize.ShloMosaic.Lib.IdealHost
public import Idealize.ShloMosaic.Lib.ValueIdx

@[expose] public section

set_option maxRecDepth 16384

noncomputable section

namespace Cert.Spec

open Idealize.ShloMosaic Idealize.ShloMosaic.ValueIdx

theorem cge1 {a b : EReal} (h : b ≤ a) : Scalar.cmpf (F := Ideal) (φ := .f32) .oge a b = 1#1 := by
  show BitVec.ofBool (decide (b ≤ a)) = 1#1
  rw [decide_eq_true h]; rfl
theorem cge0 {a b : EReal} (h : ¬ b ≤ a) : Scalar.cmpf (F := Ideal) (φ := .f32) .oge a b = 0#1 := by
  show BitVec.ofBool (decide (b ≤ a)) = 0#1
  rw [decide_eq_false h]; rfl
theorem cle1 {a b : EReal} (h : a ≤ b) : Scalar.cmpf (F := Ideal) (φ := .f32) .ole a b = 1#1 := by
  show BitVec.ofBool (decide (a ≤ b)) = 1#1
  rw [decide_eq_true h]; rfl
theorem cle0 {a b : EReal} (h : ¬ a ≤ b) : Scalar.cmpf (F := Ideal) (φ := .f32) .ole a b = 0#1 := by
  show BitVec.ofBool (decide (a ≤ b)) = 0#1
  rw [decide_eq_false h]; rfl
theorem clt1 {a b : EReal} (h : a < b) : Scalar.cmpf (F := Ideal) (φ := .f32) .olt a b = 1#1 := by
  show BitVec.ofBool (decide (a < b)) = 1#1
  rw [decide_eq_true h]; rfl
theorem clt0 {a b : EReal} (h : ¬ a < b) : Scalar.cmpf (F := Ideal) (φ := .f32) .olt a b = 0#1 := by
  show BitVec.ofBool (decide (a < b)) = 0#1
  rw [decide_eq_false h]; rfl
theorem sel1 {α : Type} (a b : α) : Scalar.select 1#1 a b = a := rfl
theorem sel0 {α : Type} (a b : α) : Scalar.select 0#1 a b = b := rfl

/-- The exponent field `k` as a word. -/
def fw (k : ℕ) : BitVec 32 := BitVec.ofNat 32 (k * 8388608)

/-- The number an exponent field denotes. -/
def fv (k : ℕ) : EReal := Ideal.ofBits .f32 (fw k)

theorem fw_ex : ∀ k < 256, (fw k).extractLsb' 23 8 = BitVec.ofNat 8 k ∧ (fw k).extractLsb' 0 23 = 0#23 ∧ (fw k).extractLsb' 31 1 = 0#1 := by
  decide +kernel

theorem fv_mid (k : ℕ) (h1 : 1 ≤ k) (h2 : k < 255) : fv k = (((2 : ℝ) ^ ((k : ℤ) - 127) : ℝ) : EReal) := by
  obtain ⟨a, b, c⟩ := fw_ex k (by omega)
  have hk : (BitVec.ofNat 8 k).toNat = k := by rw [BitVec.toNat_ofNat]; omega
  unfold fv
  show Ideal.ieee 8 23 (fw k) = _
  unfold Ideal.ieee
  simp only [show (8 + 23 : ℕ) = 31 from rfl, a, b, c, hk]
  rw [if_neg (by omega), if_neg (by omega)]
  norm_num
  rw [show ((k : ℤ) - 127 - 23) = ((k : ℤ) - 127) + (-23) by ring, zpow_add₀ (by norm_num)]
  have : (8388608 : ℝ) * (2 : ℝ) ^ (-23 : ℤ) = 1 := by norm_num
  exact_mod_cast (by rw [mul_comm ((2:ℝ)^((k:ℤ)-127)), ← mul_assoc, this, one_mul] :
    (8388608 : ℝ) * ((2 : ℝ) ^ ((k : ℤ) - 127) * (2 : ℝ) ^ (-23 : ℤ)) = (2 : ℝ) ^ ((k : ℤ) - 127))

theorem fv_top : fv 255 = ⊤ := by
  obtain ⟨a, b, c⟩ := fw_ex 255 (by omega)
  unfold fv
  show Ideal.ieee 8 23 (fw 255) = _
  unfold Ideal.ieee
  simp only [show (8 + 23 : ℕ) = 31 from rfl, a, b, c]
  norm_num

theorem fv_mono {j k : ℕ} (h1 : 1 ≤ j) (hjk : j ≤ k) (h2 : k ≤ 255) : fv j ≤ fv k := by
  by_cases hk : k = 255
  · subst hk; rw [fv_top]; exact le_top
  · rw [fv_mid j h1 (by omega), fv_mid k (by omega) (by omega)]
    exact EReal.coe_le_coe_iff.2 (zpow_le_zpow_right₀ (by norm_num) (by omega))

/-- The greatest exponent field whose number `t` reaches. -/
def efld (t : EReal) : ℕ := by
  classical exact Nat.findGreatest (fun k => fv k ≤ t) 255

theorem efld_le (t : EReal) : efld t ≤ 255 := Nat.findGreatest_le _

theorem efld_iff (t : EReal) (k : ℕ) (h1 : 1 ≤ k) (h2 : k ≤ 255) : fv k ≤ t ↔ k ≤ efld t := by
  classical
  constructor
  · intro h; exact Nat.le_findGreatest (P := fun k => fv k ≤ t) h2 h
  · intro h
    have h0 : efld t ≠ 0 := by omega
    have := Nat.findGreatest_of_ne_zero (P := fun k => fv k ≤ t) (n := 255) (m := efld t) rfl h0
    exact (fv_mono h1 h (efld_le t)).trans this

/-- One bit of the search. -/
def qstepS (t : EReal) (c b : BitVec 32) : BitVec 32 :=
  Scalar.select (Scalar.cmpf (F := Ideal) (φ := .f32) .oge t (Ideal.ofBits .f32 (b ||| c))) (b ||| c) b

theorem fw_or : ∀ b < 8, ∀ k < 256, k % 2 ^ (b + 1) = 0 → fw k ||| fw (2 ^ b) = fw (k + 2 ^ b) := by decide +kernel

theorem qstepS_inv (t : EReal) (b : ℕ) (hb : b < 8) (c w : BitVec 32) (hc : c = fw (2 ^ b)) (k : ℕ) (hw : w = fw k) (hk : k % 2 ^ (b + 1) = 0)
    (h1 : k ≤ efld t) (h2 : efld t < k + 2 ^ (b + 1)) :
    ∃ k', qstepS t c w = fw k' ∧ k' % 2 ^ b = 0 ∧ k' ≤ efld t ∧ efld t < k' + 2 ^ b := by
  subst hc hw
  have hE := efld_le t
  have hp : 2 ^ (b + 1) = 2 * 2 ^ b := by rw [pow_succ]; ring
  have hpos : 1 ≤ 2 ^ b := Nat.one_le_two_pow
  have hk2 : k % 2 ^ b = 0 := Nat.mod_eq_zero_of_dvd ((Dvd.intro_left 2 hp.symm).trans (Nat.dvd_of_mod_eq_zero hk))
  have hkb : k + 2 ^ b ≤ 255 := by
    have h8 : b = 0 ∨ b = 1 ∨ b = 2 ∨ b = 3 ∨ b = 4 ∨ b = 5 ∨ b = 6 ∨ b = 7 := by omega
    rcases h8 with rfl | rfl | rfl | rfl | rfl | rfl | rfl | rfl <;> norm_num at hk ⊢ <;> omega
  unfold qstepS
  rw [fw_or b hb k (by omega) hk]
  by_cases h : k + 2 ^ b ≤ efld t
  · refine ⟨k + 2 ^ b, ?_, ?_, h, by omega⟩
    · have := (efld_iff t (k + 2 ^ b) (by omega) hkb).2 h
      have e : Scalar.cmpf (F := Ideal) (φ := .f32) .oge t (Ideal.ofBits .f32 (fw (k + 2 ^ b))) = 1#1 := by exact cge1 (show fv (k + 2 ^ b) ≤ t from this)
      rw [e]; first | exact sel1 _ _ | exact sel0 _ _
    · rw [Nat.add_mod, hk2]; simp
  · refine ⟨k, ?_, hk2, h1, by omega⟩
    have := fun q => h ((efld_iff t (k + 2 ^ b) (by omega) hkb).1 q)
    have e : Scalar.cmpf (F := Ideal) (φ := .f32) .oge t (Ideal.ofBits .f32 (fw (k + 2 ^ b))) = 0#1 := by exact cge0 (show ¬ fv (k + 2 ^ b) ≤ t from this)
    rw [e]; first | exact sel1 _ _ | exact sel0 _ _

/-- The eight bits, from the top. -/
def qbitsS (t : EReal) : BitVec 32 :=
  qstepS t 8388608#32 (qstepS t 16777216#32 (qstepS t 33554432#32 (qstepS t 67108864#32 (qstepS t 134217728#32
    (qstepS t 268435456#32 (qstepS t 536870912#32 (qstepS t 1073741824#32 0#32)))))))

theorem qbitsS_eq (t : EReal) : qbitsS t = fw (efld t) := by
  have hE := efld_le t
  obtain ⟨k7, e7, m7, a7, b7⟩ := qstepS_inv t 7 (by omega) 1073741824#32 0#32 (by decide) 0 (by decide) rfl (by omega) (by omega)
  obtain ⟨k6, e6, m6, a6, b6⟩ := qstepS_inv t 6 (by omega) 536870912#32 _ (by decide) k7 e7 m7 a7 b7
  obtain ⟨k5, e5, m5, a5, b5⟩ := qstepS_inv t 5 (by omega) 268435456#32 _ (by decide) k6 e6 m6 a6 b6
  obtain ⟨k4, e4, m4, a4, b4⟩ := qstepS_inv t 4 (by omega) 134217728#32 _ (by decide) k5 e5 m5 a5 b5
  obtain ⟨k3, e3, m3, a3, b3⟩ := qstepS_inv t 3 (by omega) 67108864#32 _ (by decide) k4 e4 m4 a4 b4
  obtain ⟨k2, e2, m2, a2, b2⟩ := qstepS_inv t 2 (by omega) 33554432#32 _ (by decide) k3 e3 m3 a3 b3
  obtain ⟨k1, e1, m1, a1, b1⟩ := qstepS_inv t 1 (by omega) 16777216#32 _ (by decide) k2 e2 m2 a2 b2
  obtain ⟨k0, e0, m0, a0, b0⟩ := qstepS_inv t 0 (by omega) 8388608#32 _ (by decide) k1 e1 m1 a1 b1
  have : k0 = efld t := by norm_num at b0; omega
  subst this
  exact e0

/-- The field as the program keeps it. -/
def qfldS (t : EReal) : BitVec 32 :=
  Scalar.select (Scalar.cmpf (F := Ideal) (φ := .f32) .olt t (Ideal.ofBits .f32 0x7E800000#32)) (qbitsS t) 2139095040#32

def qspecS (t : EReal) : BitVec 1 := IntOp.ori (IntOp.cmpi .eq (qfldS t) 0#32) (IntOp.cmpi .eq (qfldS t) 2139095040#32)

def qscaleS (t : EReal) : EReal := Ideal.ofBits .f32 (Scalar.select (qspecS t) 1065353216#32 (IntOp.addi (qfldS t) 8388608#32))

def qinvS (t : EReal) : EReal := Ideal.ofBits .f32 (Scalar.select (qspecS t) 1065353216#32 (IntOp.subi 2122317824#32 (qfldS t)))

/-- Whether the exponent is in range. -/
def inR (t : EReal) : Prop := 1 ≤ efld t ∧ efld t ≤ 252

theorem lt_top_iff (t : EReal) : t < Ideal.ofBits .f32 0x7E800000#32 ↔ efld t ≤ 252 := by
  have h : Ideal.ofBits .f32 0x7E800000#32 = fv 253 := by unfold fv; congr 1
  rw [h, ← not_le, efld_iff t 253 (by omega) (by omega)]; omega

theorem fw_facts : (∀ k < 253, (fw k = 0#32 ↔ k = 0) ∧ fw k ≠ 2139095040#32) ∧ (∀ k < 254, fw k + 8388608#32 = fw (k + 1)) ∧ ∀ k < 253, 2122317824#32 - fw k = fw (253 - k) := by
  decide +kernel

theorem q_in (t : EReal) (h : inR t) : qscaleS t = fv (efld t + 1) ∧ qinvS t = fv (253 - efld t) := by
  obtain ⟨h1, h2⟩ := h
  have hf : qfldS t = fw (efld t) := by
    unfold qfldS
    have e : Scalar.cmpf (F := Ideal) (φ := .f32) .olt t (Ideal.ofBits .f32 0x7E800000#32) = 1#1 := by exact clt1 ((lt_top_iff t).2 h2)
    rw [e, qbitsS_eq]; exact sel1 _ _
  obtain ⟨f1, f2⟩ := fw_facts.1 (efld t) (by omega)
  have hs : qspecS t = 0#1 := by
    unfold qspecS
    rw [hf]
    show BitVec.ofBool (fw (efld t) == 0#32) ||| BitVec.ofBool (fw (efld t) == 2139095040#32) = 0#1
    rw [beq_false_of_ne (fun q => by have := f1.1 q; omega), beq_false_of_ne f2]; rfl
  unfold qscaleS qinvS
  rw [hs, hf]
  exact ⟨congrArg (Ideal.ofBits .f32) (fw_facts.2.1 (efld t) (by omega)), congrArg (Ideal.ofBits .f32) (fw_facts.2.2 (efld t) (by omega))⟩

theorem q_out (t : EReal) (h : ¬ inR t) : qscaleS t = 1 ∧ qinvS t = 1 := by
  have hs : qspecS t = 1#1 := by
    unfold qspecS
    by_cases h2 : efld t ≤ 252
    · have h0 : efld t = 0 := by unfold inR at h; omega
      have hf : qfldS t = 0#32 := by
        unfold qfldS
        have e : Scalar.cmpf (F := Ideal) (φ := .f32) .olt t (Ideal.ofBits .f32 0x7E800000#32) = 1#1 := by exact clt1 ((lt_top_iff t).2 h2)
        rw [e, qbitsS_eq, h0, sel1]; decide
      rw [hf]; decide
    · have hf : qfldS t = 2139095040#32 := by
        unfold qfldS
        have e : Scalar.cmpf (F := Ideal) (φ := .f32) .olt t (Ideal.ofBits .f32 0x7E800000#32) = 0#1 := by exact clt0 (fun q => h2 ((lt_top_iff t).1 q))
        rw [e]; first | exact sel1 _ _ | exact sel0 _ _
      rw [hf]; decide
  unfold qscaleS qinvS
  rw [hs]
  exact ⟨Ideal.ofBits_one_f32, Ideal.ofBits_one_f32⟩

/-! ## The greatest exponent that fits -/

/-- One candidate. -/
def cand (t : EReal) (k : ℕ) : EReal :=
  Scalar.select (Scalar.cmpf (F := Ideal) (φ := .f32) .ole (Ideal.exp2 ((((BitVec.ofNat 32 k).toInt : ℝ) : EReal) - Ideal.ofBits .f32 0x42FC0000#32)) t)
    ((((BitVec.ofNat 32 k).toInt : ℝ) : EReal) - Ideal.ofBits .f32 0x42FC0000#32 + Ideal.ofBits .f32 0x3F800000#32) (Ideal.ofBits .f32 0xC2FC0000#32)

/-- The exponent. -/
def expo (t : EReal) : EReal :=
  Scalar.select (IntOp.andi (Scalar.cmpf (F := Ideal) (φ := .f32) .oge t (Ideal.ofBits .f32 0x00800000#32)) (Scalar.cmpf (F := Ideal) (φ := .f32) .olt t (Ideal.ofBits .f32 0x7E800000#32)))
    ((Finset.univ : Finset (Fin 252)).fold max (Ideal.ofBits .f32 0xFF800000#32) (fun k => cand t k.val)) (Ideal.ofBits .f32 0x00000000#32)

theorem c126 : Ideal.ofBits .f32 0x42FC0000#32 = ((126 : ℝ) : EReal) := by
  simp [Ideal.ofBits, Ideal.ieee]; rw [← EReal.coe_mul]; norm_num
theorem cm126 : Ideal.ofBits .f32 0xC2FC0000#32 = ((-126 : ℝ) : EReal) := by
  simp [Ideal.ofBits, Ideal.ieee]; rw [← EReal.coe_mul]; norm_num
theorem cbot : Ideal.ofBits .f32 0xFF800000#32 = ⊥ := by
  simp [Ideal.ofBits, Ideal.ieee]

theorem toInt_small (k : ℕ) (h : k < 252) : (((BitVec.ofNat 32 k).toInt : ℝ) : EReal) = ((k : ℝ) : EReal) := by
  have : (BitVec.ofNat 32 k).toInt = (k : ℤ) := by
    rw [BitVec.toInt_eq_toNat_of_lt (by rw [BitVec.toNat_ofNat]; omega), BitVec.toNat_ofNat]; omega
  rw [this]; norm_cast

theorem cand_eq (t : EReal) (k : ℕ) (hk : k < 252) : cand t k = if k + 1 ≤ efld t then (((k : ℝ) - 125 : ℝ) : EReal) else ((-126 : ℝ) : EReal) := by
  unfold cand
  rw [toInt_small k hk, c126, cm126, Ideal.ofBits_one_f32, ← EReal.coe_sub]
  have hexp : Ideal.exp2 (((k : ℝ) - 126 : ℝ) : EReal) = fv (k + 1) := by
    rw [fv_mid (k + 1) (by omega) (by omega)]
    show ((Real.rpow 2 ((k : ℝ) - 126) : ℝ) : EReal) = _
    congr 1
    show (2 : ℝ) ^ ((k : ℝ) - 126) = _
    rw [← Real.rpow_intCast]; congr 1; push_cast; ring
  rw [hexp]
  by_cases h : k + 1 ≤ efld t
  · rw [if_pos h]
    have e : Scalar.cmpf (F := Ideal) (φ := .f32) .ole (fv (k + 1)) t = 1#1 := by exact cle1 ((efld_iff t (k + 1) (by omega) (by omega)).2 h)
    rw [e, sel1]
    rw [← EReal.coe_one, ← EReal.coe_add]; congr 1; ring
  · rw [if_neg h]
    have e : Scalar.cmpf (F := Ideal) (φ := .f32) .ole (fv (k + 1)) t = 0#1 := by exact cle0 (fun q => h ((efld_iff t (k + 1) (by omega) (by omega)).1 q))
    rw [e]; first | exact sel1 _ _ | exact sel0 _ _

theorem expo_in (t : EReal) (h : inR t) : expo t = (((efld t : ℝ) - 126 : ℝ) : EReal) := by
  obtain ⟨h1, h2⟩ := h
  have hlo : Ideal.ofBits .f32 0x00800000#32 = fv 1 := by unfold fv; congr 1
  unfold expo
  have e1 : Scalar.cmpf (F := Ideal) (φ := .f32) .oge t (Ideal.ofBits .f32 0x00800000#32) = 1#1 := by rw [hlo]; exact cge1 (show fv 1 ≤ t from (efld_iff t 1 (by omega) (by omega)).2 h1)
  have e2 : Scalar.cmpf (F := Ideal) (φ := .f32) .olt t (Ideal.ofBits .f32 0x7E800000#32) = 1#1 := by exact clt1 ((lt_top_iff t).2 h2)
  rw [e1, e2, cbot]
  rw [show IntOp.andi 1#1 1#1 = 1#1 by decide, sel1]
  show (Finset.univ : Finset (Fin 252)).fold max ⊥ (fun k => cand t k.val) = _
  apply le_antisymm
  · rw [Finset.fold_max_le]
    refine ⟨bot_le, fun k _ => ?_⟩
    rw [cand_eq t k.val k.isLt]
    have h1' : (1 : ℝ) ≤ efld t := by exact_mod_cast h1
    split
    · next q => exact EReal.coe_le_coe_iff.2 (by have : ((k.val : ℝ) + 1) ≤ efld t := by exact_mod_cast q
                                                 linarith)
    · exact EReal.coe_le_coe_iff.2 (by linarith)
  · rw [Finset.le_fold_max]
    right
    refine ⟨⟨efld t - 1, by omega⟩, Finset.mem_univ _, ?_⟩
    rw [cand_eq t _ (by omega), if_pos (by show efld t - 1 + 1 ≤ efld t; omega)]
    refine EReal.coe_le_coe_iff.2 ?_
    show (efld t : ℝ) - 126 ≤ ((efld t - 1 : ℕ) : ℝ) - 125
    rw [Nat.cast_sub h1]; push_cast; linarith

theorem expo_out (t : EReal) (h : ¬ inR t) : expo t = 0 := by
  have hlo : Ideal.ofBits .f32 0x00800000#32 = fv 1 := by unfold fv; congr 1
  have ez : Ideal.ofBits .f32 0x00000000#32 = 0 := Ideal.ofBits_zero_f32
  unfold expo
  by_cases h2 : efld t ≤ 252
  · have h0 : ¬ 1 ≤ efld t := by unfold inR at h; omega
    have e1 : Scalar.cmpf (F := Ideal) (φ := .f32) .oge t (Ideal.ofBits .f32 0x00800000#32) = 0#1 := by rw [hlo]; exact cge0 (show ¬ fv 1 ≤ t from fun q => h0 ((efld_iff t 1 (by omega) (by omega)).1 q))
    rw [e1, ez]
    have : ∀ b : BitVec 1, IntOp.andi 0#1 b = 0#1 := by decide
    rw [this, sel0]
  · have e2 : Scalar.cmpf (F := Ideal) (φ := .f32) .olt t (Ideal.ofBits .f32 0x7E800000#32) = 0#1 := by exact clt0 (fun q => h2 ((lt_top_iff t).1 q))
    rw [e2, ez]
    have : ∀ b : BitVec 1, IntOp.andi b 0#1 = 0#1 := by decide
    rw [this, sel0]

theorem exp2_zero : Ideal.exp2 0 = 1 := by
  show ((Real.rpow 2 0 : ℝ) : EReal) = 1
  rw [show Real.rpow 2 0 = (2 : ℝ) ^ (0 : ℝ) from rfl, Real.rpow_zero]; rfl

theorem exp2_int (n : ℤ) (r : ℝ) (h : r = n) : Ideal.exp2 (r : EReal) = (((2 : ℝ) ^ n : ℝ) : EReal) := by
  subst h
  show ((Real.rpow 2 (n : ℝ) : ℝ) : EReal) = _
  congr 1
  exact Real.rpow_intCast 2 n

/-- The searched scale is two to the exponent. -/
theorem qscaleS_eq (t : EReal) : qscaleS t = Ideal.exp2 (expo t) := by
  by_cases h : inR t
  · obtain ⟨h1, h2⟩ := id h
    rw [(q_in t h).1, expo_in t h, fv_mid _ (by omega) (by omega), exp2_int ((efld t : ℤ) - 126) _ (by push_cast; ring)]
    congr 2; push_cast; ring
  · rw [(q_out t h).1, expo_out t h, exp2_zero]

/-- The searched factor is two to minus the exponent. -/
theorem qinvS_eq (t : EReal) : qinvS t = Ideal.exp2 (Ideal.ofBits .f32 0x00000000#32 - expo t) := by
  rw [Ideal.ofBits_zero_f32]
  by_cases h : inR t
  · obtain ⟨h1, h2⟩ := id h
    rw [(q_in t h).2, expo_in t h, fv_mid _ (by omega) (by omega), ← EReal.coe_zero, ← EReal.coe_sub,
      exp2_int (126 - (efld t : ℤ)) _ (by push_cast; ring)]
    congr 2; omega
  · rw [(q_out t h).2, expo_out t h, sub_zero, exp2_zero]

end Cert.Spec

end
-- ==== Proof.Spec.lean ====
/- The numbers the claim is about, as plain functions of row and column: what each result holds as a function of the
   inputs. Both programs are read against these. -/
module

public import proofs.«01_k».proof.Proof.QScal

@[expose] public section

noncomputable section

namespace Cert.Spec

open Idealize.ShloMosaic

/-- The inputs, by row and column. -/
structure In where
  x : ℕ → ℕ → EReal
  pos : ℕ → EReal
  fr : ℕ → EReal
  g : ℕ → EReal
  w : ℕ → ℕ → EReal
  sw : ℕ → EReal
  d : ℕ → ℕ → EReal
  sd : ℕ → EReal

/-- The largest magnitude of a row of `n` entries. -/
def amax (n : ℕ) (u : ℕ → EReal) : EReal :=
  Finset.univ.fold max (Ideal.ofBits .f32 0xFF800000#32) (fun k : Fin n => max (u k.val) (-(u k.val)))

/-- The row's exponent. -/
def rexp (n : ℕ) (u : ℕ → EReal) : EReal := expo (amax n u * Ideal.ofBits .f32 0x3B124925#32)

/-- The row's scale. -/
def sc (n : ℕ) (u : ℕ → EReal) : EReal := Ideal.exp2 (rexp n u)

/-- What the row is multiplied by. -/
def iv (n : ℕ) (u : ℕ → EReal) : EReal := Ideal.exp2 (Ideal.ofBits .f32 0x00000000#32 - rexp n u)

/-- An entry held in the eight-bit range. -/
def clampS (v : EReal) : EReal := min (Ideal.ofBits .f32 0x43E00000#32) (max (Ideal.ofBits .f32 0xC3E00000#32) v)

/-- The row's eight-bit values. -/
def code (n : ℕ) (u : ℕ → EReal) (k : ℕ) : EReal := clampS (u k * iv n u)

/-- A row normalised. -/
def xnS (x g : ℕ → EReal) (k : ℕ) : EReal :=
  x k * Ideal.rsqrt ((∑ k : Fin 3072, x k.val * x k.val) * ((1 / 3072 : ℝ) : EReal) + Ideal.ofBits .f32 0x358637BD#32) * g k

/-- One entry of a product, scaled on both sides. -/
def dotS (n : ℕ) (a w : ℕ → EReal) (s t : EReal) : EReal := (∑ k : Fin n, a k.val * w k.val) * s * t

/-- One entry of the rotary turn of a head. -/
def ropeS (u ang : ℕ → EReal) (l : ℕ) : EReal :=
  u l * Ideal.cos (ang l) + u ((l + 64) % 128) * (if l < 64 then 0 - Ideal.sin (ang l) else Ideal.sin (ang l))

/-- The gate. -/
def gateS (a b : EReal) : EReal := a * Ideal.logistic a * b

variable (I : In)

def xn (r : ℕ) : ℕ → EReal := xnS (I.x r) I.g
def xc (r k : ℕ) : EReal := code 3072 (xn I r) k
def xs (r : ℕ) : EReal := sc 3072 (xn I r)
def z (r c : ℕ) : EReal := dotS 3072 (xc I r) (fun k => I.w k c) (xs I r) (I.sw c)
def ang (r l : ℕ) : EReal := I.pos r * I.fr (l % 64)
def q (r c : ℕ) : EReal := ropeS (fun l => z I r (128 * (c / 128) + l)) (ang I r) (c % 128)
def kh (r n : ℕ) : ℕ → EReal := ropeS (fun l => z I r (3072 + 128 * n + l)) (ang I r)
def kc (r c : ℕ) : EReal := code 128 (kh I r (c / 128)) (c % 128)
def ks (r n : ℕ) : EReal := sc 128 (kh I r n)
def vh (r n : ℕ) : ℕ → EReal := fun l => z I r (4096 + 128 * n + l)
def vc (r c : ℕ) : EReal := code 128 (vh I r (c / 128)) (c % 128)
def vs (r n : ℕ) : EReal := sc 128 (vh I r n)
def h (r c : ℕ) : EReal := gateS (z I r (5120 + c)) (z I r (13312 + c))
def hc (r c : ℕ) : EReal := code 8192 (h I r) c
def hs (r : ℕ) : EReal := sc 8192 (h I r)
def y (r c : ℕ) : EReal := I.x r c + dotS 8192 (hc I r) (fun k => I.d k c) (hs I r) (I.sd c)

end Cert.Spec
-- ==== Proof.KPoint.lean ====
/- The kernel's vector operations read entry by entry over the reals, as the functions of Spec.lean. -/
module

public import proofs.«01_k».proof.Proof.Spec
public import proofs.«01_k».proof.Proof.KIRun
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe
open Cert.Spec (amax rexp sc iv clampS code xnS dotS ropeS gateS qscaleS qinvS)

section Folds

variable {F : FTy → Type} [FloatOps F] [Named F]

theorem pay25_eq (v : FVec F S64x3072 .f32) (x : Vec F S64x3072 .bf16) (g : Vec F S1x3072 .f32) :
    k0_pay25 v (k0_pay20 x g) (k0_pay21 x g) = clampC (mulf v (broadcastTo S64x3072 (qinv (k0_pay20 x g)) broadcasts_S64x1_S64x3072)) := rfl

theorem pay24_eq (x : Vec F S64x3072 .bf16) (g : Vec F S1x3072 .f32) :
    k0_pay24 (k0_pay20 x g) (k0_pay21 x g) = qscale (k0_pay20 x g) := rfl

theorem pay124_eq (x : Vec F S512x128 .f32) :
    k0_pay124 (k0_pay120 x) (k0_pay121 x) (Scalar.ofBits .f32 0x7E800000#32) =
      shapeCast S512x128 (broadcastTo S512x128 (shapeCast S512x1 (qscale (k0_pay120 x)) shapeCasts_S512x1_S512x1) broadcasts_S512x1_S512x128) shapeCasts_S512x128_S512x128 := rfl

theorem pay125_eq (x : Vec F S512x128 .f32) :
    k0_pay125 (k0_pay120 x) (k0_pay121 x) (Scalar.ofBits .f32 0x7E800000#32) =
      shapeCast S512x128 (broadcastTo S512x128 (shapeCast S512x1 (qinv (k0_pay120 x)) shapeCasts_S512x1_S512x1) broadcasts_S512x1_S512x128) shapeCasts_S512x128_S512x128 := rfl

theorem pay127_eq (x : Vec F S1x512x512 .f32) (v : Vec F S512x1 .f32) :
    k0_pay127 x v = clampC (mulf (shapeCast S512x512 x shapeCasts_S1x512x512_S512x512) (broadcastTo S512x512 v broadcasts_S512x1_S512x512)) := rfl

end Folds

theorem bix1 {n0 : ℕ} (a : Fin n0) : ValueIdx.ix1 a = ix1 a := rfl
theorem bix2 {n0 n1 : ℕ} (a : Fin n0) (b : Fin n1) : ValueIdx.ix2 a b = ix2 a b := rfl
theorem bix3 {n0 n1 n2 : ℕ} (a : Fin n0) (b : Fin n1) (e : Fin n2) : ValueIdx.ix3 a b e = ix3 a b e := rfl

theorem absf_at {φ : FTy} (x : Ideal φ) : FloatOps.absf x = max (x : EReal) (-(x : EReal)) := rfl

/-! ## Scaling -/

theorem qstep_at {s : Shape} (t : FVec Ideal s .f32) (c : BitVec 32) (b : IVec s 32) (y : s.Idx) :
    qstep t c b y = Spec.qstepS (t y) c (b y) := rfl

theorem qbits_at {s : Shape} (t : FVec Ideal s .f32) (y : s.Idx) : qbits t y = Spec.qbitsS (t y) := by
  simp only [qbits, qstep_at, Spec.qbitsS]; rfl

theorem qfld_at {s : Shape} (t : FVec Ideal s .f32) (y : s.Idx) : qfld t y = Spec.qfldS (t y) := by
  have h := qbits_at t y
  unfold qfld Spec.qfldS
  rw [← h]; rfl

theorem qspec_at {s : Shape} (t : FVec Ideal s .f32) (y : s.Idx) : qspec t y = Spec.qspecS (t y) := by
  have h := qfld_at t y
  unfold qspec Spec.qspecS
  rw [← h]; rfl

theorem qscale_at {s : Shape} (t : FVec Ideal s .f32) (y : s.Idx) : qscale t y = qscaleS (t y) := by
  have h := qfld_at t y
  have h2 := qspec_at t y
  unfold qscale qscaleS
  rw [← h, ← h2]; rfl

theorem qinv_at {s : Shape} (t : FVec Ideal s .f32) (y : s.Idx) : qinv t y = qinvS (t y) := by
  have h := qfld_at t y
  have h2 := qspec_at t y
  unfold qinv qinvS
  rw [← h, ← h2]; rfl

theorem clampC_at {s : Shape} (t : FVec Ideal s .f32) (y : s.Idx) : clampC t y = clampS (t y) := rfl

theorem sc_eq (n : ℕ) (u : ℕ → EReal) : qscaleS (amax n u * Ideal.ofBits .f32 0x3B124925#32) = sc n u := Spec.qscaleS_eq _
theorem iv_eq (n : ℕ) (u : ℕ → EReal) : qinvS (amax n u * Ideal.ofBits .f32 0x3B124925#32) = iv n u := Spec.qinvS_eq _

/-! ## The first step -/

section Trip

variable {x : Vec Ideal S64x3072 .bf16} {g : Vec Ideal S1x3072 .f32} {X G : ℕ → EReal} {a : Fin 64}

theorem pay19_at (hx : ∀ k : Fin 3072, x (ix2 a k) = X k.val) (hg : ∀ k : Fin 3072, g (ix2 0 k) = G k.val) (b : Fin 3072) :
    k0_pay19 x g (ix2 a b) = xnS X G b.val := by
  pointwise [k0_pay19, hx, hg]
  rfl

theorem pay20_at (hx : ∀ k : Fin 3072, x (ix2 a k) = X k.val) (hg : ∀ k : Fin 3072, g (ix2 0 k) = G k.val) (b : Fin 1) :
    k0_pay20 x g (ix2 a b) = amax 3072 (xnS X G) * Ideal.ofBits .f32 0x3B124925#32 := by
  pointwise [k0_pay20, absf_at, pay19_at hx hg]
  rfl

theorem tripCodes_at (hx : ∀ k : Fin 3072, x (ix2 a k) = X k.val) (hg : ∀ k : Fin 3072, g (ix2 0 k) = G k.val) (b : Fin 3072) :
    tripCodes (F := Ideal) x g (ix2 a b) = code 3072 (xnS X G) b.val := by
  pointwise [tripCodes, pay25_eq, clampC_at, qinv_at, pay20_at hx hg, pay19_at hx hg, iv_eq]
  rfl

theorem tripScale_at (hx : ∀ k : Fin 3072, x (ix2 a k) = X k.val) (hg : ∀ k : Fin 3072, g (ix2 0 k) = G k.val) (b : Fin 128) :
    tripScale (F := Ideal) x g (ix2 a b) = sc 3072 (xnS X G) := by
  pointwise [tripScale, k0_pay26, pay24_eq, qscale_at, pay20_at hx hg, sc_eq]

end Trip

theorem pay27_at (x : Vec Ideal S512x128 .f32) (b : Fin 512) : k0_pay27 x (ix3 0 0 b) = x (ix2 b 0) := by
  pointwise [k0_pay27]
  have hb := b.isLt
  split_ifs <;> first | rfl | (congr 2; apply Fin.ext; simp only []; omega)

theorem pay126_at (x : Vec Ideal S512x128 .f32) (b : Fin 512) : k0_pay126 x (ix3 0 0 b) = x (ix2 b 0) := by
  pointwise [k0_pay126]
  have hb := b.isLt
  split_ifs <;> first | rfl | (congr 2; apply Fin.ext; simp only []; omega)

/-- The sine with the sign of the lane's half. -/
def sgn (l : ℕ) (s : EReal) : EReal := if l < 64 then 0 - s else s

theorem sgn_eq (b : Fin 128) (s : EReal) :
    Scalar.select (IntOp.cmpi .slt (BitVec.ofNat 32 b.val) 64#32) (0 - s) s = sgn b.val s := by
  have h : ∀ b : Fin 128, IntOp.cmpi .slt (BitVec.ofNat 32 b.val) 64#32 = if b.val < 64 then 1#1 else 0#1 := by decide
  unfold sgn
  rw [h]
  split_ifs <;> rfl

section Tables

variable {p : Vec Ideal S1x1x512 .i32} {f : Vec Ideal S1x128 .f32} {P A : ℕ → EReal}

theorem cos_tab (hp : ∀ k : Fin 512, (FloatOps.sitofp .f32 (p (ix3 0 0 k)) : Ideal .f32) = P k.val) (hf : ∀ l : Fin 128, f (ix2 0 l) = A l.val) (a : Fin 512) (l : Fin 128) :
    rows4 ![k0_pay30 p f, k0_pay34 (k0_pay28 p) f, k0_pay38 (k0_pay28 p) f, k0_pay3 (k0_pay28 p) f] (ix2 a l) = Ideal.cos (P a.val * A l.val) := by
  have ha := a.isLt
  have h : a.val / 128 < 4 := by omega
  have e : ∀ (w : Fin 4 → S128x128.Idx → Ideal .f32), rows4 w (ix2 a l) = w ⟨a.val / 128, h⟩ (ix2 ⟨a.val % 128, Nat.mod_lt _ (by decide)⟩ l) := fun _ => rfl
  rw [e]
  obtain h0 | h0 | h0 | h0 : a.val / 128 = 0 ∨ a.val / 128 = 1 ∨ a.val / 128 = 2 ∨ a.val / 128 = 3 := by omega
  · have : (⟨a.val / 128, h⟩ : Fin 4) = 0 := Fin.ext h0
    rw [this]
    pointwise [k0_pay30, k0_pay29, k0_pay28, hp, hf]
    congr 3; omega
  · have : (⟨a.val / 128, h⟩ : Fin 4) = 1 := Fin.ext h0
    rw [this]
    pointwise [k0_pay34, k0_pay33, k0_pay28, hp, hf]
    congr 3; omega
  · have : (⟨a.val / 128, h⟩ : Fin 4) = 2 := Fin.ext h0
    rw [this]
    pointwise [k0_pay38, k0_pay36, k0_pay28, hp, hf]
    congr 3; omega
  · have : (⟨a.val / 128, h⟩ : Fin 4) = 3 := Fin.ext h0
    rw [this]
    pointwise [k0_pay3, k0_pay2, k0_pay28, hp, hf]
    congr 3; omega

theorem sin_tab (hp : ∀ k : Fin 512, (FloatOps.sitofp .f32 (p (ix3 0 0 k)) : Ideal .f32) = P k.val) (hf : ∀ l : Fin 128, f (ix2 0 l) = A l.val) (a : Fin 512) (l : Fin 128) :
    rows4 ![k0_pay32 (k0_pay31 p f), k0_pay35 (k0_pay28 p) f, k0_pay1 (k0_pay37 (k0_pay28 p) f) k0_pay39, k0_pay4 (k0_pay28 p) f] (ix2 a l)
      = sgn l.val (Ideal.sin (P a.val * A l.val)) := by
  have ha := a.isLt
  have h : a.val / 128 < 4 := by omega
  have e : ∀ (w : Fin 4 → S128x128.Idx → Ideal .f32), rows4 w (ix2 a l) = w ⟨a.val / 128, h⟩ (ix2 ⟨a.val % 128, Nat.mod_lt _ (by decide)⟩ l) := fun _ => rfl
  rw [e]
  obtain h0 | h0 | h0 | h0 : a.val / 128 = 0 ∨ a.val / 128 = 1 ∨ a.val / 128 = 2 ∨ a.val / 128 = 3 := by omega
  · have : (⟨a.val / 128, h⟩ : Fin 4) = 0 := Fin.ext h0
    rw [this]
    pointwise [k0_pay32, k0_pay31, k0_pay29, k0_pay28, hp, hf, sgn_eq]
    congr 4; omega
  · have : (⟨a.val / 128, h⟩ : Fin 4) = 1 := Fin.ext h0
    rw [this]
    pointwise [k0_pay35, k0_pay33, k0_pay28, hp, hf, sgn_eq]
    congr 4; omega
  · have : (⟨a.val / 128, h⟩ : Fin 4) = 2 := Fin.ext h0
    rw [this]
    pointwise [k0_pay1, k0_pay37, k0_pay39, k0_pay36, k0_pay28, hp, hf, sgn_eq]
    congr 4; omega
  · have : (⟨a.val / 128, h⟩ : Fin 4) = 3 := Fin.ext h0
    rw [this]
    pointwise [k0_pay4, k0_pay2, k0_pay28, hp, hf, sgn_eq]
    congr 4; omega

end Tables

/-! ## Products -/

theorem pay44_at {u : Vec Ideal S512x3072 .fp8e4m3} {w : Vec Ideal S3072x512 .fp8e4m3} {c : Vec Ideal S512x1 .f32} {s : Vec Ideal S1x512 .f32}
    {a b : Fin 512} {U W : ℕ → EReal} {C S : EReal} (hu : ∀ k : Fin 3072, u (ix2 a k) = U k.val) (hw : ∀ k : Fin 3072, w (ix2 k b) = W k.val)
    (hc : c (ix2 a 0) = C) (hs : s (ix2 0 b) = S) : k0_pay44 u w c s (ix2 a b) = dotS 3072 U W C S := by
  pointwise [k0_pay44, hu, hw, hc, hs]
  rfl

theorem pay40_at {u v : Vec Ideal S512x3072 .fp8e4m3} {w w' : Vec Ideal S3072x512 .fp8e4m3} {c c' : Vec Ideal S512x1 .f32} {s s' : Vec Ideal S1x512 .f32}
    {a b : Fin 512} {U V W W' : ℕ → EReal} {C S C' S' : EReal} (hu : ∀ k : Fin 3072, u (ix2 a k) = U k.val) (hw : ∀ k : Fin 3072, w (ix2 k b) = W k.val)
    (hc : c (ix2 a 0) = C) (hs : s (ix2 0 b) = S) (hv : ∀ k : Fin 3072, v (ix2 a k) = V k.val) (hw' : ∀ k : Fin 3072, w' (ix2 k b) = W' k.val)
    (hc' : c' (ix2 a 0) = C') (hs' : s' (ix2 0 b) = S') :
    k0_pay40 u w c s v w' c' s' (ix2 a b) = gateS (dotS 3072 U W C S) (dotS 3072 V W' C' S') := by
  pointwise [k0_pay40, hu, hw, hc, hs, hv, hw', hc', hs']
  rfl

theorem pay41_at (u v w w' c c' s s') (a b : Fin 512) :
    k0_pay41 (F := Ideal) u w c s v w' c' s' (ix3 0 a b) = k0_pay40 u w c s v w' c' s' (ix2 a b) := by
  pointwise [k0_pay41]

theorem pay13_at {u : Vec Ideal S512x8192 .fp8e4m3} {w : Vec Ideal S8192x512 .fp8e4m3} {c : Vec Ideal S512x1 .f32} {s : Vec Ideal S1x512 .f32} {x : Vec Ideal S512x512 .bf16}
    {a b : Fin 512} {U W : ℕ → EReal} {C S X : EReal} (hu : ∀ k : Fin 8192, u (ix2 a k) = U k.val) (hw : ∀ k : Fin 8192, w (ix2 k b) = W k.val)
    (hc : c (ix2 a 0) = C) (hs : s (ix2 0 b) = S) (hx : x (ix2 a b) = X) : k0_pay13 u w c s x (ix2 a b) = X + dotS 8192 U W C S := by
  pointwise [k0_pay13, k0_pay12, hu, hw, hc, hs, hx]
  rfl

/-! ## Heads -/

theorem headOf_at (n : Fin 4) (z : FVec Ideal S512x512 .f32) (a : Fin 512) (l : Fin 128) :
    headOf n z (ix2 a l) = z (ix2 a ⟨128 * n.val + l.val, by have := n.isLt; have := l.isLt; omega⟩) := by
  fin_cases n <;> pointwise [headOf] <;> rfl

theorem ropeC_at {u cs sn : FVec Ideal S512x128 .f32} {U A : ℕ → EReal} {a : Fin 512} (hu : ∀ l : Fin 128, u (ix2 a l) = U l.val)
    (hcs : ∀ l : Fin 128, cs (ix2 a l) = Ideal.cos (A l.val)) (hsn : ∀ l : Fin 128, sn (ix2 a l) = sgn l.val (Ideal.sin (A l.val))) (l : Fin 128) :
    ropeC u cs sn (ix2 a l) = ropeS U A l.val := by
  pointwise [ropeC, hu, hcs, hsn]
  have e : l.val + 128 - 64 = l.val + 64 := by omega
  rw [e]; rfl

theorem tHead_at {u : FVec Ideal S512x128 .f32} {U : ℕ → EReal} {a : Fin 512} (hu : ∀ l : Fin 128, u (ix2 a l) = U l.val) :
    tHead u (ix2 a 0) = amax 128 U * Ideal.ofBits .f32 0x3B124925#32 := by
  pointwise [tHead, absf_at, hu]
  rfl

theorem headCodes_at {u : FVec Ideal S512x128 .f32} {U : ℕ → EReal} {a : Fin 512} (hu : ∀ l : Fin 128, u (ix2 a l) = U l.val) (l : Fin 128) :
    headCodes u (ix2 a l) = code 128 U l.val := by
  pointwise [headCodes, clampC_at, qinv_at, tHead_at hu, hu, iv_eq]
  rfl

theorem headScale_at {u : FVec Ideal S512x128 .f32} {U : ℕ → EReal} {a : Fin 512} (hu : ∀ l : Fin 128, u (ix2 a l) = U l.val) :
    qscale (tHead u) (ix2 a 0) = sc 128 U := by
  rw [qscale_at, tHead_at hu, sc_eq]

theorem laneSet_at (hd : BitVec 32) (s : FVec Ideal S512x1 .f32) (o : FVec Ideal S512x8 .f32) (a : Fin 512) (l : Fin 8) :
    laneSet hd s o (ix2 a l) = if BitVec.ofNat 32 l.val = hd then s (ix2 a 0) else o (ix2 a l) := by
  pointwise [laneSet]
  by_cases h : BitVec.ofNat 32 l.val = hd
  · rw [if_pos h]
    have : IntOp.cmpi .eq (BitVec.ofNat 32 l.val) hd = 1#1 := by simp [IntOp.cmpi, h]
    rw [this]; rfl
  · rw [if_neg h]
    have : IntOp.cmpi .eq (BitVec.ofNat 32 l.val) hd = 0#1 := by
      show BitVec.ofBool (BitVec.ofNat 32 l.val == hd) = 0#1
      rw [beq_false_of_ne h]; rfl
    rw [this]; rfl

theorem cols4_at {α : Type} (w : Fin 4 → S512x128.Idx → α) (a b : Fin 512) :
    cols4 w (ix2 a b) = w ⟨b.val / 128, by have := b.isLt; omega⟩ (ix2 a ⟨b.val % 128, Nat.mod_lt _ (by decide)⟩) := rfl

theorem cols16_at {α : Type} (w : Fin 16 → S512x512.Idx → α) (a : Fin 512) (b : Fin 8192) :
    cols16 w (ix2 a b) = w ⟨b.val / 512, by have := b.isLt; omega⟩ (ix2 a ⟨b.val % 512, Nat.mod_lt _ (by decide)⟩) := rfl

theorem rows8_at {α : Type} (w : Fin 8 → S64x3072.Idx → α) (a : Fin 512) (b : Fin 3072) :
    rows8 w (ix2 a b) = w ⟨a.val / 64, by have := a.isLt; omega⟩ (ix2 ⟨a.val % 64, Nat.mod_lt _ (by decide)⟩ b) := rfl

theorem rows8b_at {α : Type} (w : Fin 8 → S64x128.Idx → α) (a : Fin 512) (b : Fin 128) :
    rows8b w (ix2 a b) = w ⟨a.val / 64, by have := a.isLt; omega⟩ (ix2 ⟨a.val % 64, Nat.mod_lt _ (by decide)⟩ b) := rfl

/-! ## The hidden values -/

theorem hmax_at (z : FVec Ideal S512x512 .f32) (m : FVec Ideal S512x128 .f32) (a : Fin 512) (l : Fin 128) :
    hmax z m (ix2 a l) = max (max (max (max (m (ix2 a l)) (FloatOps.absf (headOf 0 z (ix2 a l)))) (FloatOps.absf (headOf 1 z (ix2 a l)))) (FloatOps.absf (headOf 2 z (ix2 a l)))) (FloatOps.absf (headOf 3 z (ix2 a l))) := rfl

theorem pay5_at (y : S512x128.Idx) : (k0_pay5 (F := Ideal)) y = 0 := by
  show Ideal.ofBits .f32 0x00000000#32 = 0
  exact Ideal.ofBits_zero_f32

theorem pay120_at {m : Vec Ideal S512x128 .f32} {a : Fin 512} {T : EReal} (hm : Finset.univ.fold max (Ideal.ofBits .f32 0xFF800000#32) (fun l : Fin 128 => m (ix2 a l)) = T) :
    k0_pay120 m (ix2 a 0) = T * Ideal.ofBits .f32 0x3B124925#32 := by
  pointwise [k0_pay120, hm]

theorem pay124_at {m : Vec Ideal S512x128 .f32} {a : Fin 512} {U : ℕ → EReal} (hm : Finset.univ.fold max (Ideal.ofBits .f32 0xFF800000#32) (fun l : Fin 128 => m (ix2 a l)) = amax 8192 U) (l : Fin 128) :
    k0_pay124 (k0_pay120 m) (k0_pay121 m) (Scalar.ofBits .f32 0x7E800000#32) (ix2 a l) = sc 8192 U := by
  rw [pay124_eq]
  pointwise [qscale_at, pay120_at hm, sc_eq]

theorem pay125_at {m : Vec Ideal S512x128 .f32} {a : Fin 512} {U : ℕ → EReal} (hm : Finset.univ.fold max (Ideal.ofBits .f32 0xFF800000#32) (fun l : Fin 128 => m (ix2 a l)) = amax 8192 U) (l : Fin 128) :
    k0_pay125 (k0_pay120 m) (k0_pay121 m) (Scalar.ofBits .f32 0x7E800000#32) (ix2 a l) = iv 8192 U := by
  rw [pay125_eq]
  pointwise [qinv_at, pay120_at hm, iv_eq]

theorem pay127_at (x : Vec Ideal S1x512x512 .f32) (v : Vec Ideal S512x1 .f32) (a b : Fin 512) :
    k0_pay127 x v (ix2 a b) = clampS (x (ix3 0 a b) * v (ix2 a 0)) := by
  rw [pay127_eq]
  pointwise [clampC_at]

end Cert.KernelIdeal.Hand
-- ==== Proof.KInv.lean ====
/- What the kernel's blocks hold after each of a tile's steps, and that every step keeps it. -/
module

public import proofs.«01_k».proof.Proof.KPoint
public import proofs.«01_k».proof.Proof.KBufs

@[expose] public section

set_option maxRecDepth 16384

noncomputable section

namespace Cert.KernelIdeal.Hand

open Cert.KernelIdeal Cert.KernelIdeal.Gen
open Idealize.ShloMosaic Idealize.ShloMosaic.TcCoe
open Cert.Spec (In amax rexp sc iv clampS code xnS dotS ropeS gateS)

variable (J : In) (i n : ℕ)

/-- The input blocks of tile `i` at step `j`. -/
structure InsOK (j : ℕ) (I : Ins Ideal) : Prop where
  x : ∀ (a : Fin 512) (k : Fin 3072), I.d2 (ix2 a k) = J.x (512 * i + a.val) k.val
  p : ∀ a : Fin 512, (FloatOps.sitofp .f32 (I.d3 (ix3 0 0 a)) : Ideal .f32) = J.pos (512 * i + a.val)
  f : ∀ l : Fin 128, I.d4 (ix2 0 l) = J.fr (l.val % 64)
  g : ∀ k : Fin 3072, I.d5 (ix2 0 k) = J.g k.val
  wq : 16 ≤ j → j < 26 → ∀ (k : Fin 3072) (b : Fin 512), I.d6 (ix2 k b) = J.w k.val (512 * (j - 16) + b.val)
  sq : 16 ≤ j → j < 26 → ∀ b : Fin 512, I.d10 (ix2 0 b) = J.sw (512 * (j - 16) + b.val)
  wg : j < 16 → ∀ (k : Fin 3072) (b : Fin 512), I.d7 (ix2 k b) = J.w k.val (5120 + (512 * j + b.val))
  sg : j < 16 → ∀ b : Fin 512, I.d11 (ix2 0 b) = J.sw (5120 + (512 * j + b.val))
  wu : j < 16 → ∀ (k : Fin 3072) (b : Fin 512), I.d8 (ix2 k b) = J.w k.val (13312 + (512 * j + b.val))
  su : j < 16 → ∀ b : Fin 512, I.d12 (ix2 0 b) = J.sw (13312 + (512 * j + b.val))
  wd : 26 ≤ j → ∀ (k : Fin 8192) (b : Fin 512), I.d9 (ix2 k b) = J.d k.val (512 * (j - 26) + b.val)
  sd : 26 ≤ j → ∀ b : Fin 512, I.d13 (ix2 0 b) = J.sd (512 * (j - 26) + b.val)

/-- The largest magnitudes of the first `n` hidden blocks at a lane. -/
def hrun (r : ℕ) : ℕ → ℕ → EReal
  | 0, _ => 0
  | n + 1, l =>
    let A := fun c => max (Spec.h J r (512 * n + c)) (-(Spec.h J r (512 * n + c)))
    max (max (max (max (hrun r n l) (A (128 * 0 + l))) (A (128 * 1 + l))) (A (128 * 2 + l))) (A (128 * 3 + l))

def R14 (x : S512x512.Idx → EReal) : Prop := 16 < n → ∀ a c : Fin 512, x (ix2 a c) = Spec.q J (512 * i + a.val) (512 * (min (n - 17) 5) + c.val)
def R15 (x : S512x512.Idx → EReal) : Prop := 26 < n → ∀ a c : Fin 512, x (ix2 a c) = Spec.y J (512 * i + a.val) (512 * (n - 27) + c.val)
def R16 (x : S512x3072.Idx → EReal) : Prop := 0 < n → ∀ (a : Fin 512) (k : Fin 3072), x (ix2 a k) = Spec.xc J (512 * i + a.val) k.val
def R17 (x : S1x1x512.Idx → EReal) : Prop := 0 < n → ∀ a : Fin 512, x (ix3 0 0 a) = Spec.xs J (512 * i + a.val)
def R18 (x : S512x512.Idx → EReal) : Prop := 22 < n → ∀ a c : Fin 512, x (ix2 a c) = Spec.kc J (512 * i + a.val) (512 * (min (n - 23) 1) + c.val)
def R19 (x : S512x8.Idx → EReal) : Prop := 22 < n → ∀ (a : Fin 512) (l : Fin 8), l.val < 4 * (n - 22) → x (ix2 a l) = Spec.ks J (512 * i + a.val) l.val
def R20 (x : S512x512.Idx → EReal) : Prop := 24 < n → ∀ a c : Fin 512, x (ix2 a c) = Spec.vc J (512 * i + a.val) (512 * (min (n - 25) 1) + c.val)
def R21 (x : S512x8.Idx → EReal) : Prop := 24 < n → ∀ (a : Fin 512) (l : Fin 8), l.val < 4 * (n - 24) → x (ix2 a l) = Spec.vs J (512 * i + a.val) l.val
def R22 (x : S512x8192.Idx → EReal) : Prop := 16 < n → ∀ (a : Fin 512) (k : Fin 8192), x (ix2 a k) = Spec.hc J (512 * i + a.val) k.val
def R23 (x : S1x1x512.Idx → EReal) : Prop := 16 < n → ∀ a : Fin 512, x (ix3 0 0 a) = Spec.hs J (512 * i + a.val)
def R24 (x : S16x512x512.Idx → EReal) : Prop := ∀ (p : Fin 16) (a c : Fin 512), p.val < n → x (ix3 p a c) = Spec.h J (512 * i + a.val) (512 * p.val + c.val)
def R25 (x : S512x128.Idx → EReal) : Prop := 0 < n → n ≤ 16 → ∀ (a : Fin 512) (l : Fin 128), x (ix2 a l) = hrun J (512 * i + a.val) n l.val
def R26 (x : S512x128.Idx → EReal) : Prop := 0 < n → ∀ (a : Fin 512) (l : Fin 128), x (ix2 a l) = Spec.xs J (512 * i + a.val)
def R27 (x : S512x128.Idx → EReal) : Prop := 16 < n → ∀ (a : Fin 512) (l : Fin 128), x (ix2 a l) = Spec.hs J (512 * i + a.val)
def R28 (x : S512x128.Idx → EReal) : Prop := 0 < n → ∀ (a : Fin 512) (l : Fin 128), x (ix2 a l) = Ideal.cos (Spec.ang J (512 * i + a.val) l.val)
def R29 (x : S512x128.Idx → EReal) : Prop := 0 < n → ∀ (a : Fin 512) (l : Fin 128), x (ix2 a l) = sgn l.val (Ideal.sin (Spec.ang J (512 * i + a.val) l.val))

/-- What holds after `n` steps of tile `i`. -/
structure After (b : Bufs Ideal) : Prop where
  r14 : R14 J i n b.d14
  r15 : R15 J i n b.d15
  r16 : R16 J i n b.d16
  r17 : R17 J i n b.d17
  r18 : R18 J i n b.d18
  r19 : R19 J i n b.d19
  r20 : R20 J i n b.d20
  r21 : R21 J i n b.d21
  r22 : R22 J i n b.d22
  r23 : R23 J i n b.d23
  r24 : R24 J i n b.d24
  r25 : R25 J i n b.d25
  r26 : R26 J i n b.d26
  r27 : R27 J i n b.d27
  r28 : R28 J i n b.d28
  r29 : R29 J i n b.d29

/-- What is known before step `n` of tile `i`: nothing at its first step, and nothing of a block just written back. -/
structure Before (b : Bufs Ideal) : Prop where
  r14 : 22 ≤ n → R14 J i n b.d14
  r16 : 0 < n → R16 J i n b.d16
  r17 : 0 < n → R17 J i n b.d17
  r18 : 24 ≤ n → R18 J i n b.d18
  r19 : 0 < n → R19 J i n b.d19
  r20 : 26 ≤ n → R20 J i n b.d20
  r21 : 0 < n → R21 J i n b.d21
  r22 : 0 < n → R22 J i n b.d22
  r23 : 0 < n → R23 J i n b.d23
  r24 : 0 < n → R24 J i n b.d24
  r25 : 0 < n → R25 J i n b.d25
  r26 : 0 < n → R26 J i n b.d26
  r27 : 0 < n → R27 J i n b.d27
  r28 : 0 < n → R28 J i n b.d28
  r29 : 0 < n → R29 J i n b.d29

/-! ## The running maxima -/

theorem abs_nonneg' (x : EReal) : 0 ≤ max x (-x) := by
  rcases le_total 0 x with h | h
  · exact le_max_of_le_left h
  · exact le_max_of_le_right (EReal.neg_nonneg.2 h)

theorem hrun_le {r : ℕ} {T : EReal} (h0 : 0 ≤ T) : ∀ {n l : ℕ}, l < 128 →
    (∀ c, c < 512 * n → max (Spec.h J r c) (-(Spec.h J r c)) ≤ T) → hrun J r n l ≤ T
  | 0, _, _, _ => h0
  | n + 1, l, hl, h => by
    have ih : hrun J r n l ≤ T := hrun_le h0 hl fun c hc => h c (by omega)
    exact max_le (max_le (max_le (max_le ih (h _ (by omega))) (h _ (by omega))) (h _ (by omega))) (h _ (by omega))

theorem le_hrun {r : ℕ} : ∀ {n : ℕ} (c : ℕ), c < 512 * n → max (Spec.h J r c) (-(Spec.h J r c)) ≤ hrun J r n (c % 128)
  | 0, c, hc => absurd hc (by omega)
  | n + 1, c, hc => by
    rcases Nat.lt_or_ge c (512 * n) with h | h
    · exact (le_hrun c h).trans (((le_max_left _ _).trans (le_max_left _ _)).trans ((le_max_left _ _).trans (le_max_left _ _)))
    · obtain h4 | h4 | h4 | h4 : c = 512 * n + (128 * 0 + c % 128) ∨ c = 512 * n + (128 * 1 + c % 128) ∨ c = 512 * n + (128 * 2 + c % 128) ∨ c = 512 * n + (128 * 3 + c % 128) := by omega
      · exact le_trans (le_of_eq (congrArg (fun c => max (Spec.h J r c) (-(Spec.h J r c))) h4)) ((le_max_right _ _).trans ((le_max_left _ _).trans ((le_max_left _ _).trans (le_max_left _ _))))
      · exact le_trans (le_of_eq (congrArg (fun c => max (Spec.h J r c) (-(Spec.h J r c))) h4)) ((le_max_right _ _).trans ((le_max_left _ _).trans (le_max_left _ _)))
      · exact le_trans (le_of_eq (congrArg (fun c => max (Spec.h J r c) (-(Spec.h J r c))) h4)) ((le_max_right _ _).trans (le_max_left _ _))
      · exact le_trans (le_of_eq (congrArg (fun c => max (Spec.h J r c) (-(Spec.h J r c))) h4)) (le_max_right _ _)

theorem hrun_all (r : ℕ) :
    Finset.univ.fold max (Ideal.ofBits .f32 0xFF800000#32) (fun l : Fin 128 => hrun J r 16 l.val) = amax 8192 (Spec.h J r) := by
  have hle : ∀ c : Fin 8192, max (Spec.h J r c.val) (-(Spec.h J r c.val)) ≤ amax 8192 (Spec.h J r) := fun c =>
    (Finset.le_fold_max _).2 (.inr ⟨c, Finset.mem_univ _, le_rfl⟩)
  apply le_antisymm
  · refine (Finset.fold_max_le _).2 ⟨(Finset.le_fold_max _).2 (.inl le_rfl), fun l _ => ?_⟩
    exact hrun_le J ((abs_nonneg' _).trans (hle 0)) l.isLt fun c hc => hle ⟨c, by omega⟩
  · refine (Finset.fold_max_le _).2 ⟨(Finset.le_fold_max _).2 (.inl le_rfl), fun c _ => ?_⟩
    exact (le_hrun J c.val (by omega : c.val < 512 * 16)).trans
      ((Finset.le_fold_max _).2 (.inr ⟨⟨c.val % 128, Nat.mod_lt _ (by decide)⟩, Finset.mem_univ _, le_rfl⟩))

theorem col0_at {α : Type} (x : S512x128.Idx → α) (a : Fin 512) (z : Fin 1) : col0 x (ix2 a z) = x (ix2 a 0) := rfl

theorem xcols_at {α : Type} (o : ℕ) (ho : o + 512 ≤ 3072) (x : S512x3072.Idx → α) (a b : Fin 512) :
    xcols o ho x (ix2 a b) = x (ix2 a ⟨o + b.val, by have := b.isLt; omega⟩) := rfl

/-! ## The first step -/

section First

variable {J i} {I : Ins Ideal} {j : ℕ} (hI : InsOK J i j I)
include hI

theorem codes0_at (a : Fin 512) (k : Fin 3072) : codes0 I (ix2 a k) = Spec.xc J (512 * i + a.val) k.val := by
  unfold codes0
  rw [rows8_at]
  refine (tripCodes_at (X := J.x (512 * i + a.val)) (G := J.g) (fun k => ?_) hI.g k).trans rfl
  refine Eq.trans (congrArg I.d2 (?_ : _ = ix2 a k)) (hI.x a k)
  show ix2 (n0 := 512) (n1 := 3072) ⟨64 * (a.val / 64) + a.val % 64, _⟩ k = ix2 a k
  congr 1
  exact Fin.ext (by show 64 * (a.val / 64) + a.val % 64 = a.val; omega)

theorem scales0_at (a : Fin 512) (l : Fin 128) : scales0 I (ix2 a l) = Spec.xs J (512 * i + a.val) := by
  unfold scales0
  rw [rows8b_at]
  refine (tripScale_at (X := J.x (512 * i + a.val)) (G := J.g) (fun k => ?_) hI.g _).trans rfl
  refine Eq.trans (congrArg I.d2 (?_ : _ = ix2 a k)) (hI.x a k)
  show ix2 (n0 := 512) (n1 := 3072) ⟨64 * (a.val / 64) + a.val % 64, _⟩ k = ix2 a k
  congr 1
  exact Fin.ext (by show 64 * (a.val / 64) + a.val % 64 = a.val; omega)

theorem cos0_at (a : Fin 512) (l : Fin 128) : cos0 I (ix2 a l) = Ideal.cos (Spec.ang J (512 * i + a.val) l.val) :=
  cos_tab (P := fun k => J.pos (512 * i + k)) (A := fun l => J.fr (l % 64)) hI.p hI.f a l

theorem sin0_at (a : Fin 512) (l : Fin 128) : sin0 I (ix2 a l) = sgn l.val (Ideal.sin (Spec.ang J (512 * i + a.val) l.val)) :=
  sin_tab (P := fun k => J.pos (512 * i + k)) (A := fun l => J.fr (l % 64)) hI.p hI.f a l

/-- A hidden block. -/
theorem hblk_at (hj : j < 16) {u : Vec Ideal S512x3072 .fp8e4m3} {s : Vec Ideal S512x128 .f32} {a : Fin 512}
    (hu : ∀ k : Fin 3072, u (ix2 a k) = Spec.xc J (512 * i + a.val) k.val) (hs : s (ix2 a 0) = Spec.xs J (512 * i + a.val)) (c : Fin 512) :
    k0_pay40 u I.d7 (col0 s) I.d11 u I.d8 (col0 s) I.d12 (ix2 a c) = Spec.h J (512 * i + a.val) (512 * j + c.val) :=
  pay40_at (U := Spec.xc J (512 * i + a.val)) (V := Spec.xc J (512 * i + a.val)) (W := fun k => J.w k (5120 + (512 * j + c.val)))
    (W' := fun k => J.w k (13312 + (512 * j + c.val))) hu (fun k => hI.wg hj k c) hs (hI.sg hj c) hu (fun k => hI.wu hj k c) hs (hI.su hj c)

theorem hmax_run (hj : j < 16) {u : Vec Ideal S512x3072 .fp8e4m3} {s : Vec Ideal S512x128 .f32} {m : Vec Ideal S512x128 .f32} {a : Fin 512} {l : Fin 128}
    (hu : ∀ k : Fin 3072, u (ix2 a k) = Spec.xc J (512 * i + a.val) k.val) (hs : s (ix2 a 0) = Spec.xs J (512 * i + a.val))
    (hm : m (ix2 a l) = hrun J (512 * i + a.val) j l.val) :
    hmax (k0_pay40 u I.d7 (col0 s) I.d11 u I.d8 (col0 s) I.d12) m (ix2 a l) = hrun J (512 * i + a.val) (j + 1) l.val := by
  rw [hmax_at, headOf_at, headOf_at, headOf_at, headOf_at, hblk_at hI hj hu hs, hblk_at hI hj hu hs, hblk_at hI hj hu hs, hblk_at hI hj hu hs, hm]
  rfl

theorem hput_at (hj : j < 16) {u : Vec Ideal S512x3072 .fp8e4m3} {s : Vec Ideal S512x128 .f32} {o : S16x512x512.Idx → EReal}
    (hu : ∀ (a : Fin 512) (k : Fin 3072), u (ix2 a k) = Spec.xc J (512 * i + a.val) k.val) (hs : ∀ a : Fin 512, s (ix2 a 0) = Spec.xs J (512 * i + a.val))
    (ho : ∀ (p : Fin 16) (a c : Fin 512), p.val < j → o (ix3 p a c) = Spec.h J (512 * i + a.val) (512 * p.val + c.val)) :
    R24 J i (j + 1) (hput j (k0_pay41 u I.d7 (col0 s) I.d11 u I.d8 (col0 s) I.d12) o) := by
  intro p a c hp
  unfold hput
  by_cases h : p.val = j
  · refine (if_pos h).trans ?_
    refine (pay41_at _ _ _ _ _ _ _ _ a c).trans ?_
    rw [hblk_at hI hj (hu a) (hs a), h]
  · exact (if_neg h).trans (ho p a c (by omega))

theorem zblk_at (hj : 16 ≤ j) (hj' : j < 26) {b : Bufs Ideal} (h16 : ∀ (a : Fin 512) (k : Fin 3072), b.d16 (ix2 a k) = Spec.xc J (512 * i + a.val) k.val)
    (h26 : ∀ (a : Fin 512) (l : Fin 128), b.d26 (ix2 a l) = Spec.xs J (512 * i + a.val)) (a c : Fin 512) :
    zblk I b (ix2 a c) = Spec.z J (512 * i + a.val) (512 * (j - 16) + c.val) :=
  pay44_at (U := Spec.xc J (512 * i + a.val)) (W := fun k => J.w k (512 * (j - 16) + c.val)) (h16 a) (fun k => hI.wq hj hj' k c) (h26 a 0) (hI.sq hj hj' c)

theorem zhead_at (hj : 16 ≤ j) (hj' : j < 26) {b : Bufs Ideal} (h16 : ∀ (a : Fin 512) (k : Fin 3072), b.d16 (ix2 a k) = Spec.xc J (512 * i + a.val) k.val)
    (h26 : ∀ (a : Fin 512) (l : Fin 128), b.d26 (ix2 a l) = Spec.xs J (512 * i + a.val)) (n : Fin 4) (a : Fin 512) (l : Fin 128) :
    headOf n (zblk I b) (ix2 a l) = Spec.z J (512 * i + a.val) (512 * (j - 16) + 128 * n.val + l.val) := by
  rw [headOf_at, zblk_at hI hj hj' h16 h26, Nat.add_assoc]

theorem zrope_at (hj : 16 ≤ j) (hj' : j < 26) {b : Bufs Ideal} (h16 : ∀ (a : Fin 512) (k : Fin 3072), b.d16 (ix2 a k) = Spec.xc J (512 * i + a.val) k.val)
    (h26 : ∀ (a : Fin 512) (l : Fin 128), b.d26 (ix2 a l) = Spec.xs J (512 * i + a.val))
    (h28 : ∀ (a : Fin 512) (l : Fin 128), b.d28 (ix2 a l) = Ideal.cos (Spec.ang J (512 * i + a.val) l.val))
    (h29 : ∀ (a : Fin 512) (l : Fin 128), b.d29 (ix2 a l) = sgn l.val (Ideal.sin (Spec.ang J (512 * i + a.val) l.val))) (n : Fin 4) (a : Fin 512) (l : Fin 128) :
    ropeC (headOf n (zblk I b)) b.d28 b.d29 (ix2 a l)
      = ropeS (fun l => Spec.z J (512 * i + a.val) (512 * (j - 16) + 128 * n.val + l)) (Spec.ang J (512 * i + a.val)) l.val :=
  ropeC_at (U := fun l => Spec.z J (512 * i + a.val) (512 * (j - 16) + 128 * n.val + l)) (zhead_at hI hj hj' h16 h26 n a) (h28 a) (h29 a) l

end First

theorem headWord22 (ic : grid0.Coords) (h : 22 ≤ (ic 1).val) (l : Fin 8) (n : Fin 4) :
    (BitVec.ofNat 32 l.val = headWord ic 22#32 (BitVec.ofNat 32 n.val)) ↔ l.val = 4 * ((ic 1).val - 22) + n.val := by
  have h32 : (ic 1).val < 32 := (ic 1).isLt
  unfold headWord
  have key : ∀ (j : Fin 32) (l : Fin 8) (n : Fin 4), 22 ≤ j.val →
      ((BitVec.ofNat 32 l.val = Scalar.addi (Scalar.muli (Scalar.subi (BitVec.ofNat 32 j.val) 22#32) 4#32) (BitVec.ofNat 32 n.val)) ↔ l.val = 4 * (j.val - 22) + n.val) := by decide +kernel
  exact key ⟨(ic 1).val, h32⟩ l n h

theorem headWord24 (ic : grid0.Coords) (h : 24 ≤ (ic 1).val) (l : Fin 8) (n : Fin 4) :
    (BitVec.ofNat 32 l.val = headWord ic 24#32 (BitVec.ofNat 32 n.val)) ↔ l.val = 4 * ((ic 1).val - 24) + n.val := by
  have h32 : (ic 1).val < 32 := (ic 1).isLt
  unfold headWord
  have key : ∀ (j : Fin 32) (l : Fin 8) (n : Fin 4), 24 ≤ j.val →
      ((BitVec.ofNat 32 l.val = Scalar.addi (Scalar.muli (Scalar.subi (BitVec.ofNat 32 j.val) 24#32) 4#32) (BitVec.ofNat 32 n.val)) ↔ l.val = 4 * (j.val - 24) + n.val) := by decide +kernel
  exact key ⟨(ic 1).val, h32⟩ l n h

/-- Four lanes set, the ones below kept. -/
theorem lanes4_at {ic : grid0.Coords} {w : BitVec 32} {m : ℕ} (hw : ∀ (l : Fin 8) (n : Fin 4), (BitVec.ofNat 32 l.val = headWord ic w (BitVec.ofNat 32 n.val)) ↔ l.val = 4 * m + n.val)
    {u : Fin 4 → Vec Ideal S512x128 .f32} {o : Vec Ideal S512x8 .f32} {S : ℕ → EReal} {a : Fin 512}
    (hu : ∀ n : Fin 4, qscale (F := Ideal) (tHead (u n)) (ix2 a 0) = S (4 * m + n.val)) (ho : ∀ l : Fin 8, l.val < 4 * m → o (ix2 a l) = S l.val) (l : Fin 8)
    (hl : l.val < 4 * (m + 1)) : lanes4 (F := Ideal) ic w u o (ix2 a l) = S l.val := by
  have w0 : BitVec.ofNat 32 l.val = headWord ic w 0#32 ↔ l.val = 4 * m + 0 := hw l 0
  have w1 : BitVec.ofNat 32 l.val = headWord ic w 1#32 ↔ l.val = 4 * m + 1 := hw l 1
  have w2 : BitVec.ofNat 32 l.val = headWord ic w 2#32 ↔ l.val = 4 * m + 2 := hw l 2
  have w3 : BitVec.ofNat 32 l.val = headWord ic w 3#32 ↔ l.val = 4 * m + 3 := hw l 3
  have u0 := hu 0
  have u1 := hu 1
  have u2 := hu 2
  have u3 := hu 3
  unfold lanes4
  rw [laneSet_at, laneSet_at, laneSet_at, laneSet_at]
  by_cases h3 : l.val = 4 * m + 3
  · exact (if_pos (w3.2 h3)).trans (u3.trans (congrArg S h3.symm))
  rw [if_neg (fun h => h3 (w3.1 h))]
  by_cases h2 : l.val = 4 * m + 2
  · exact (if_pos (w2.2 h2)).trans (u2.trans (congrArg S h2.symm))
  rw [if_neg (fun h => h2 (w2.1 h))]
  by_cases h1 : l.val = 4 * m + 1
  · exact (if_pos (w1.2 h1)).trans (u1.trans (congrArg S h1.symm))
  rw [if_neg (fun h => h1 (w1.1 h))]
  by_cases h0 : l.val = 4 * m + 0
  · exact (if_pos (w0.2 h0)).trans (u0.trans (congrArg S h0.symm))
  rw [if_neg (fun h => h0 (w0.1 h))]
  exact ho l (by omega)

/-! ## Every step keeps the invariant -/

section Steps

variable {J i} {ic : grid0.Coords} {I : Ins Ideal} {b : Bufs Ideal} (hI : InsOK J i (ic 1).val I) (hB : Before J i (ic 1).val b)
include hI

theorem step_first (hj : (ic 1).val = 0) : After J i ((ic 1).val + 1) (stepFirst ic I b) where
  r14 := fun h => absurd h (by omega)
  r15 := fun h => absurd h (by omega)
  r16 := fun _ => codes0_at hI
  r17 := fun _ a => (pay27_at _ a).trans (scales0_at hI a 0)
  r18 := fun h => absurd h (by omega)
  r19 := fun h => absurd h (by omega)
  r20 := fun h => absurd h (by omega)
  r21 := fun h => absurd h (by omega)
  r22 := fun h => absurd h (by omega)
  r23 := fun h => absurd h (by omega)
  r24 := hput_at hI (by omega) (codes0_at hI) (fun a => scales0_at hI a 0) (fun p a c h => absurd h (by omega))
  r25 := fun _ _ a l => hmax_run hI (by omega) (codes0_at hI a) (scales0_at hI a 0) ((pay5_at _).trans (by rw [hj]; rfl))
  r26 := fun _ => scales0_at hI
  r27 := fun h => absurd h (by omega)
  r28 := fun _ => cos0_at hI
  r29 := fun _ => sin0_at hI

include hB

theorem step_mlp (h0 : 0 < (ic 1).val) (hj : (ic 1).val < 16) : After J i ((ic 1).val + 1) (stepMlp ic I b) where
  r14 := fun h => absurd h (by omega)
  r15 := fun h => absurd h (by omega)
  r16 := fun _ => hB.r16 h0 h0
  r17 := fun _ => hB.r17 h0 h0
  r18 := fun h => absurd h (by omega)
  r19 := fun h => absurd h (by omega)
  r20 := fun h => absurd h (by omega)
  r21 := fun h => absurd h (by omega)
  r22 := fun h => absurd h (by omega)
  r23 := fun h => absurd h (by omega)
  r24 := hput_at hI hj (hB.r16 h0 h0) (fun a => hB.r26 h0 h0 a 0) (hB.r24 h0)
  r25 := fun _ _ a l => hmax_run hI hj (hB.r16 h0 h0 a) (hB.r26 h0 h0 a 0) (hB.r25 h0 h0 hj.le a l)
  r26 := fun _ => hB.r26 h0 h0
  r27 := fun h => absurd h (by omega)
  r28 := fun _ => hB.r28 h0 h0
  r29 := fun _ => hB.r29 h0 h0

omit hI in
theorem keep24 (h0 : 0 < (ic 1).val) (hj : 16 ≤ (ic 1).val) : R24 J i ((ic 1).val + 1) b.d24 :=
  fun p a c _ => hB.r24 h0 p a c (by have := p.isLt; omega)

theorem q_at (hj : 16 ≤ (ic 1).val) (hj' : (ic 1).val < 22) :
    R14 J i ((ic 1).val + 1) (cols4 (fun n => truncf .bf16 (ropeC (headOf n (zblk I b)) b.d28 b.d29) bitsLt_bf16_f32)) := by
  intro _ a c
  have h0 : 0 < (ic 1).val := by omega
  have hc := c.isLt
  rw [cols4_at]
  refine (zrope_at hI hj (by omega) (hB.r16 h0 h0) (hB.r26 h0 h0) (hB.r28 h0 h0) (hB.r29 h0 h0) _ a _).trans ?_
  unfold Spec.q
  have e1 : min ((ic 1).val + 1 - 17) 5 = (ic 1).val - 16 := by omega
  have e2 : (512 * ((ic 1).val - 16) + c.val) % 128 = c.val % 128 := by omega
  have e3 : 128 * ((512 * ((ic 1).val - 16) + c.val) / 128) = 512 * ((ic 1).val - 16) + 128 * (c.val / 128) := by omega
  rw [e1, e2, e3]

theorem step_q (h0 : 16 < (ic 1).val) (hj : (ic 1).val < 22) : After J i ((ic 1).val + 1) (stepQ ic I b) :=
  have p : 0 < (ic 1).val := by omega
  { r14 := q_at hI hB h0.le hj
    r15 := fun h => absurd h (by omega)
    r16 := fun _ => hB.r16 p p
    r17 := fun _ => hB.r17 p p
    r18 := fun h => absurd h (by omega)
    r19 := fun h => absurd h (by omega)
    r20 := fun h => absurd h (by omega)
    r21 := fun h => absurd h (by omega)
    r22 := fun _ => hB.r22 p h0
    r23 := fun _ => hB.r23 p h0
    r24 := keep24 (b := b) hB p h0.le
    r25 := fun _ h => absurd h (by omega)
    r26 := fun _ => hB.r26 p p
    r27 := fun _ => hB.r27 p h0
    r28 := fun _ => hB.r28 p p
    r29 := fun _ => hB.r29 p p }

theorem hm_all (hj : (ic 1).val = 16) (a : Fin 512) :
    Finset.univ.fold max (Ideal.ofBits .f32 0xFF800000#32) (fun l : Fin 128 => (b.d25 (ix2 a l) : EReal)) = amax 8192 (Spec.h J (512 * i + a.val)) := by
  have h0 : 0 < (ic 1).val := by omega
  rw [← hrun_all]
  refine congrArg (fun f => Finset.univ.fold max (Ideal.ofBits .f32 0xFF800000#32) f) (funext fun l => ?_)
  rw [hB.r25 h0 h0 hj.le a l, hj]

theorem hscl_at (hj : (ic 1).val = 16) (a : Fin 512) (l : Fin 128) : hscl b (ix2 a l) = Spec.hs J (512 * i + a.val) :=
  pay124_at (hm_all hI hB hj a) l

theorem hinv_at (hj : (ic 1).val = 16) (a : Fin 512) (l : Fin 128) : hinv b (ix2 a l) = iv 8192 (Spec.h J (512 * i + a.val)) :=
  pay125_at (hm_all hI hB hj a) l

theorem step_quant (hj : (ic 1).val = 16) : After J i ((ic 1).val + 1) (stepQuant ic I b) :=
  have p : 0 < (ic 1).val := by omega
  { r14 := q_at hI hB hj.ge (by omega)
    r15 := fun h => absurd h (by omega)
    r16 := fun _ => hB.r16 p p
    r17 := fun _ => hB.r17 p p
    r18 := fun h => absurd h (by omega)
    r19 := fun h => absurd h (by omega)
    r20 := fun h => absurd h (by omega)
    r21 := fun h => absurd h (by omega)
    r22 := fun _ a k => by
      have hk := k.isLt
      show cols16 (fun n => k0_pay127 (slotV n b.d24) (col0 (hinv b))) (ix2 a k) = _
      rw [cols16_at]
      refine (pay127_at _ _ a _).trans ?_
      rw [col0_at, hinv_at hI hB hj]
      have e := hB.r24 p ⟨k.val / 512, by omega⟩ a ⟨k.val % 512, Nat.mod_lt _ (by decide)⟩ (by show k.val / 512 < _; omega)
      have e2 : 512 * (k.val / 512) + k.val % 512 = k.val := by omega
      refine congrArg (fun v => clampS (v * iv 8192 (Spec.h J (512 * i + a.val)))) (e.trans ?_)
      show Spec.h J (512 * i + a.val) (512 * (k.val / 512) + k.val % 512) = _
      rw [e2]
    r23 := fun _ a => (pay126_at _ a).trans (hscl_at hI hB hj a 0)
    r24 := keep24 (b := b) hB p hj.ge
    r25 := fun _ h => absurd h (by omega)
    r26 := fun _ => hB.r26 p p
    r27 := fun _ => hscl_at hI hB hj
    r28 := fun _ => hB.r28 p p
    r29 := fun _ => hB.r29 p p }

theorem kh_at (h0 : 22 ≤ (ic 1).val) (hj : (ic 1).val < 24) (n : Fin 4) (a : Fin 512) (l : Fin 128) :
    ropeC (headOf n (zblk I b)) b.d28 b.d29 (ix2 a l) = Spec.kh J (512 * i + a.val) (4 * ((ic 1).val - 22) + n.val) l.val := by
  have p : 0 < (ic 1).val := by omega
  refine (zrope_at hI (by omega) (by omega) (hB.r16 p p) (hB.r26 p p) (hB.r28 p p) (hB.r29 p p) n a l).trans ?_
  have e : 512 * ((ic 1).val - 16) + 128 * n.val = 3072 + 128 * (4 * ((ic 1).val - 22) + n.val) := by omega
  rw [e]; rfl

theorem step_k (h0 : 22 ≤ (ic 1).val) (hj : (ic 1).val < 24) : After J i ((ic 1).val + 1) (stepK ic I b) :=
  have p : 0 < (ic 1).val := by omega
  { r14 := fun _ a c => by
      have e := hB.r14 h0 (by omega) a c
      have e1 : min ((ic 1).val + 1 - 17) 5 = min ((ic 1).val - 17) 5 := by omega
      rw [e1]; exact e
    r15 := fun h => absurd h (by omega)
    r16 := fun _ => hB.r16 p p
    r17 := fun _ => hB.r17 p p
    r18 := fun _ a c => by
      have hc := c.isLt
      show cols4 (fun n => headCodes (ropeC (headOf n (zblk I b)) b.d28 b.d29)) (ix2 a c) = _
      rw [cols4_at]
      refine (headCodes_at (fun l => kh_at hI hB h0 hj _ a l) _).trans ?_
      unfold Spec.kc
      have e1 : min ((ic 1).val + 1 - 23) 1 = (ic 1).val - 22 := by omega
      have e2 : (512 * ((ic 1).val - 22) + c.val) % 128 = c.val % 128 := by omega
      have e3 : (512 * ((ic 1).val - 22) + c.val) / 128 = 4 * ((ic 1).val - 22) + c.val / 128 := by omega
      rw [e1, e2, e3]
    r19 := fun _ a l hl => lanes4_at (headWord22 ic h0) (S := Spec.ks J (512 * i + a.val))
      (fun n => headScale_at (fun l => kh_at hI hB h0 hj n a l))
      (fun l h => hB.r19 p (by omega) a l h) l (by omega)
    r20 := fun h => absurd h (by omega)
    r21 := fun h => absurd h (by omega)
    r22 := fun _ => hB.r22 p (by omega)
    r23 := fun _ => hB.r23 p (by omega)
    r24 := keep24 (b := b) hB p (by omega)
    r25 := fun _ h => absurd h (by omega)
    r26 := fun _ => hB.r26 p p
    r27 := fun _ => hB.r27 p (by omega)
    r28 := fun _ => hB.r28 p p
    r29 := fun _ => hB.r29 p p }

theorem vh_at (h0 : 24 ≤ (ic 1).val) (hj : (ic 1).val < 26) (n : Fin 4) (a : Fin 512) (l : Fin 128) :
    headOf n (zblk I b) (ix2 a l) = Spec.vh J (512 * i + a.val) (4 * ((ic 1).val - 24) + n.val) l.val := by
  have p : 0 < (ic 1).val := by omega
  refine (zhead_at hI (by omega) (by omega) (hB.r16 p p) (hB.r26 p p) n a l).trans ?_
  have e : 512 * ((ic 1).val - 16) + 128 * n.val = 4096 + 128 * (4 * ((ic 1).val - 24) + n.val) := by omega
  rw [e]; rfl

omit hI in
theorem keep14 (h0 : 22 ≤ (ic 1).val) : R14 J i ((ic 1).val + 1) b.d14 := fun _ a c => by
  have e := hB.r14 h0 (by omega) a c
  have e1 : min ((ic 1).val + 1 - 17) 5 = min ((ic 1).val - 17) 5 := by omega
  rw [e1]; exact e

omit hI in
theorem keep18 (h0 : 24 ≤ (ic 1).val) : R18 J i ((ic 1).val + 1) b.d18 := fun _ a c => by
  have e := hB.r18 h0 (by omega) a c
  have e1 : min ((ic 1).val + 1 - 23) 1 = min ((ic 1).val - 23) 1 := by omega
  rw [e1]; exact e

omit hI in
theorem keep20 (h0 : 26 ≤ (ic 1).val) : R20 J i ((ic 1).val + 1) b.d20 := fun _ a c => by
  have e := hB.r20 h0 (by omega) a c
  have e1 : min ((ic 1).val + 1 - 25) 1 = min ((ic 1).val - 25) 1 := by omega
  rw [e1]; exact e

theorem step_v (h0 : 24 ≤ (ic 1).val) (hj : (ic 1).val < 26) : After J i ((ic 1).val + 1) (stepV ic I b) :=
  have p : 0 < (ic 1).val := by omega
  { r14 := keep14 (b := b) hB (by omega)
    r15 := fun h => absurd h (by omega)
    r16 := fun _ => hB.r16 p p
    r17 := fun _ => hB.r17 p p
    r18 := keep18 (b := b) hB h0
    r19 := fun _ a l hl => hB.r19 p (by omega) a l (by have := l.isLt; omega)
    r20 := fun _ a c => by
      have hc := c.isLt
      show cols4 (fun n => headCodes (headOf n (zblk I b))) (ix2 a c) = _
      rw [cols4_at]
      refine (headCodes_at (fun l => vh_at hI hB h0 hj _ a l) _).trans ?_
      unfold Spec.vc
      have e1 : min ((ic 1).val + 1 - 25) 1 = (ic 1).val - 24 := by omega
      have e2 : (512 * ((ic 1).val - 24) + c.val) % 128 = c.val % 128 := by omega
      have e3 : (512 * ((ic 1).val - 24) + c.val) / 128 = 4 * ((ic 1).val - 24) + c.val / 128 := by omega
      rw [e1, e2, e3]
    r21 := fun _ a l hl => lanes4_at (headWord24 ic h0) (S := Spec.vs J (512 * i + a.val))
      (fun n => headScale_at (fun l => vh_at hI hB h0 hj n a l))
      (fun l h => hB.r21 p (by omega) a l h) l (by omega)
    r22 := fun _ => hB.r22 p (by omega)
    r23 := fun _ => hB.r23 p (by omega)
    r24 := keep24 (b := b) hB p (by omega)
    r25 := fun _ h => absurd h (by omega)
    r26 := fun _ => hB.r26 p p
    r27 := fun _ => hB.r27 p (by omega)
    r28 := fun _ => hB.r28 p p
    r29 := fun _ => hB.r29 p p }

theorem step_y (h0 : 26 ≤ (ic 1).val) : After J i ((ic 1).val + 1) (stepY ic I b) :=
  have p : 0 < (ic 1).val := by omega
  { r14 := keep14 (b := b) hB (by omega)
    r15 := fun _ a c => by
      have e1 : (ic 1).val + 1 - 27 = (ic 1).val - 26 := by omega
      rw [e1]
      exact pay13_at (U := Spec.hc J (512 * i + a.val)) (W := fun k => J.d k (512 * ((ic 1).val - 26) + c.val))
        (hB.r22 p (by omega) a) (fun k => hI.wd h0 k c) (hB.r27 p (by omega) a 0) (hI.sd h0 c) (hI.x a _)
    r16 := fun _ => hB.r16 p p
    r17 := fun _ => hB.r17 p p
    r18 := keep18 (b := b) hB (by omega)
    r19 := fun _ a l hl => hB.r19 p (by omega) a l (by have := l.isLt; omega)
    r20 := keep20 (b := b) hB h0
    r21 := fun _ a l hl => hB.r21 p (by omega) a l (by have := l.isLt; omega)
    r22 := fun _ => hB.r22 p (by omega)
    r23 := fun _ => hB.r23 p (by omega)
    r24 := keep24 (b := b) hB p (by omega)
    r25 := fun _ h => absurd h (by omega)
    r26 := fun _ => hB.r26 p p
    r27 := fun _ => hB.r27 p (by omega)
    r28 := fun _ => hB.r28 p p
    r29 := fun _ => hB.r29 p p }

theorem step_of : After J i ((ic 1).val + 1) (stepOf ic I b) := by
  unfold stepOf
  split_ifs with h0 h1 h2 h3 h4 h5
  · exact step_first hI h0
  · exact step_mlp hI hB (by omega) h1
  · exact step_quant hI hB h2
  · exact step_q hI hB (by omega) h3
  · exact step_k hI hB (by omega) h4
  · exact step_v hI hB (by omega) h5
  · exact step_y hI hB (by omega)

end Steps

end Cert.KernelIdeal.Hand
-- ==== Proof.KHost.lean ====
/- The arguments as the problem's inputs, and the kernel's arrays at the region read off them. -/
module

public import proofs.«01_k».proof.Proof.KWin
public import proofs.«01_k».proof.Proof.KInv
public import proofs.«01_k».proof.Proof.Spec
public import Idealize.ShloMosaic.Lib.StableHlo.ReadAt
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe
open Cert.Spec (In)

/-- A function of a row and a column, at numbers. -/
def at2 {n k : ℕ} (f : Fin n → Fin k → EReal) (r c : ℕ) : EReal := if h : r < n ∧ c < k then f ⟨r, h.1⟩ ⟨c, h.2⟩ else 0
/-- A function of a column, at numbers. -/
def at1 {n : ℕ} (f : Fin n → EReal) (r : ℕ) : EReal := if h : r < n then f ⟨r, h⟩ else 0

theorem at2_mk {n k : ℕ} (f : Fin n → Fin k → EReal) {r c : ℕ} (hr : r < n) (hc : c < k) : at2 f r c = f ⟨r, hr⟩ ⟨c, hc⟩ := dif_pos ⟨hr, hc⟩
theorem at1_mk {n : ℕ} (f : Fin n → EReal) {r : ℕ} (hr : r < n) : at1 f r = f ⟨r, hr⟩ := dif_pos hr

/-- The rotation's frequency at a lane. -/
def freq (l : Fin 64) : EReal :=
  FloatOps.powf (F := Ideal) (φ := .f32) (FloatOps.ofBits .f32 0x48F42400#32)
    (FloatOps.negf (FloatOps.divf (FloatOps.mulf (FloatOps.sitofp (w := 32) .f32 (BitVec.ofNat 32 l.val)) (FloatOps.ofBits .f32 0x40000000#32)) (FloatOps.ofBits .f32 0x43000000#32)))

/-- The problem's inputs from the arguments' arrays. -/
def inOf (a0 : S16x512x3072.Idx → EReal) (a1 : S16x512.Idx → BitVec 32) (a2 : S3072.Idx → EReal) (a3 : S3072x21504.Idx → EReal)
    (a4 : S21504.Idx → EReal) (a5 : S8192x3072.Idx → EReal) (a6 : S3072.Idx → EReal) : In where
  x := at2 fun (r : Fin 8192) (k : Fin 3072) => a0 (ix3 ⟨r.val / 512, by omega⟩ ⟨r.val % 512, by omega⟩ k)
  pos := at1 fun r : Fin 8192 => (FloatOps.sitofp .f32 (a1 (ix2 ⟨r.val / 512, by omega⟩ ⟨r.val % 512, by omega⟩)) : Ideal .f32)
  fr := at1 freq
  g := at1 fun k : Fin 3072 => a2 (ix1 k)
  w := at2 fun (k : Fin 3072) (n : Fin 21504) => a3 (ix2 k n)
  sw := at1 fun n : Fin 21504 => a4 (ix1 n)
  d := at2 fun (k : Fin 8192) (n : Fin 3072) => a5 (ix2 k n)
  sd := at1 fun n : Fin 3072 => a6 (ix1 n)

section

variable (m : (ℓ : Loc nD τ sig) → Buf (Elt Ideal) ℓ) (c : Dev nD)

/-- The problem's inputs on a device. -/
def J : In := inOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

theorem J_x {r k : ℕ} (hr : r < 8192) (hk : k < 3072) :
    (J m c).x r k = (m ((c.tc : Thread nD τ).loc main_arg0) : S16x512x3072.Idx → EReal) (ix3 ⟨r / 512, by omega⟩ ⟨r % 512, by omega⟩ ⟨k, hk⟩) := dif_pos ⟨hr, hk⟩
theorem J_pos {r : ℕ} (hr : r < 8192) :
    (J m c).pos r = (FloatOps.sitofp .f32 ((m ((c.tc : Thread nD τ).loc main_arg1) : S16x512.Idx → BitVec 32) (ix2 ⟨r / 512, by omega⟩ ⟨r % 512, by omega⟩)) : Ideal .f32) := dif_pos hr
theorem J_fr {l : ℕ} (hl : l < 64) : (J m c).fr l = freq ⟨l, hl⟩ := dif_pos hl
theorem J_g {k : ℕ} (hk : k < 3072) : (J m c).g k = (m ((c.tc : Thread nD τ).loc main_arg2) : S3072.Idx → EReal) (ix1 ⟨k, hk⟩) := dif_pos hk
theorem J_w {k n : ℕ} (hk : k < 3072) (hn : n < 21504) :
    (J m c).w k n = (m ((c.tc : Thread nD τ).loc main_arg3) : S3072x21504.Idx → EReal) (ix2 ⟨k, hk⟩ ⟨n, hn⟩) := dif_pos ⟨hk, hn⟩
theorem J_sw {n : ℕ} (hn : n < 21504) : (J m c).sw n = (m ((c.tc : Thread nD τ).loc main_arg4) : S21504.Idx → EReal) (ix1 ⟨n, hn⟩) := dif_pos hn
theorem J_d {k n : ℕ} (hk : k < 8192) (hn : n < 3072) :
    (J m c).d k n = (m ((c.tc : Thread nD τ).loc main_arg5) : S8192x3072.Idx → EReal) (ix2 ⟨k, hk⟩ ⟨n, hn⟩) := dif_pos ⟨hk, hn⟩
theorem J_sd {n : ℕ} (hn : n < 3072) : (J m c).sd n = (m ((c.tc : Thread nD τ).loc main_arg6) : S3072.Idx → EReal) (ix1 ⟨n, hn⟩) := dif_pos hn

theorem V_v10 (r : Fin 8192) (k : Fin 3072) : (V m c main_v10 : S8192x3072.Idx → EReal) (ix2 r k) = (J m c).x r.val k.val := by
  rw [J_x m c r.isLt k.isLt]
  unfold V
  after_reads_at
  try rfl

theorem V_v11 (i : Fin 16) (a : Fin 512) :
    (FloatOps.sitofp .f32 ((V m c main_v11 : S16x1x512.Idx → BitVec 32) (ix3 i 0 a)) : Ideal .f32) = (J m c).pos (512 * i.val + a.val) := by
  rw [J_pos m c (by omega : 512 * i.val + a.val < 8192)]
  refine congrArg (FloatOps.sitofp (F := Ideal) .f32) ?_
  have e : ix2 (n0 := 16) (n1 := 512) ⟨(512 * i.val + a.val) / 512, by omega⟩ ⟨(512 * i.val + a.val) % 512, by omega⟩ = ix2 i a := by
    congr 1 <;> exact Fin.ext (by simp only []; omega)
  refine Eq.trans ?_ (congrArg (m ((c.tc : Thread nD τ).loc main_arg1) : S16x512.Idx → BitVec 32) e.symm)
  unfold V
  after_reads_at
  try rfl

theorem V_v9 (l : Fin 128) : (V m c main_v9 : S1x128.Idx → EReal) (ix2 0 l) = (J m c).fr (l.val % 64) := by
  rw [J_fr m c (Nat.mod_lt _ (by decide))]
  have e : (⟨l.val % 64, Nat.mod_lt _ (by decide)⟩ : Fin 64) = if h : l.val < 64 then ⟨l.val, h⟩ else ⟨l.val - 64, by omega⟩ := by
    split_ifs with h
    · exact Fin.ext (by simp only []; omega)
    · exact Fin.ext (by simp only []; omega)
  rw [e]
  unfold V
  after_reads_at
  split_ifs <;> first | exact absurd rfl (by assumption) | (after_reads_at; rfl)

theorem V_v14 (k : Fin 3072) : (V m c main_v14 : S1x3072.Idx → EReal) (ix2 0 k) = (J m c).g k.val := by
  rw [J_g m c k.isLt]
  unfold V
  after_reads_at
  try rfl

theorem V_v12 (k : Fin 21504) : (V m c main_v12 : S1x21504.Idx → EReal) (ix2 0 k) = (J m c).sw k.val := by
  rw [J_sw m c k.isLt]
  unfold V
  after_reads_at
  try rfl

theorem V_v13 (k : Fin 3072) : (V m c main_v13 : S1x3072.Idx → EReal) (ix2 0 k) = (J m c).sd k.val := by
  rw [J_sd m c k.isLt]
  unfold V
  after_reads_at
  try rfl

theorem V_w (k : Fin 3072) (n : Fin 21504) : (V m c main_arg3 : S3072x21504.Idx → EReal) (ix2 k n) = (J m c).w k.val n.val := by
  rw [J_w m c k.isLt n.isLt]
  exact congrFun (V_main_arg3 m c) _

theorem V_d (k : Fin 8192) (n : Fin 3072) : (V m c main_arg5 : S8192x3072.Idx → EReal) (ix2 k n) = (J m c).d k.val n.val := by
  rw [J_d m c k.isLt n.isLt]
  exact congrFun (V_main_arg5 m c) _

/-- The input windows' blocks at a point. -/
def insAt (t : Fin cfg0.N) : Ins Ideal :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t⟩

variable (t : Fin cfg0.N)

theorem t_lt : t.val < 512 := lt_of_lt_of_eq t.isLt N_0
theorem row_lt (a : Fin 512) : 512 * (t.val / 32) + a.val < 8192 := by have := t_lt t; have := a.isLt; omega
theorem c4_lt (b : Fin 512) : 512 * min 9 (t.val % 32 - 16) + b.val < 21504 := by have := b.isLt; omega
theorem c5_lt (b : Fin 512) : 512 * (10 + min 15 (t.val % 32)) + b.val < 21504 := by have := b.isLt; omega
theorem c6_lt (b : Fin 512) : 512 * (26 + min 15 (t.val % 32)) + b.val < 21504 := by have := b.isLt; omega
theorem c7_lt (b : Fin 512) : 512 * min 5 (t.val % 32 - 26) + b.val < 3072 := by have := b.isLt; omega

theorem c4_eq {j : ℕ} (h : 16 ≤ j) (h' : j < 26) (b : ℕ) : 512 * min 9 (j - 16) + b = 512 * (j - 16) + b := by omega
theorem c5_eq {j : ℕ} (h : j < 16) (b : ℕ) : 512 * (10 + min 15 j) + b = 5120 + (512 * j + b) := by omega
theorem c6_eq {j : ℕ} (h : j < 16) (b : ℕ) : 512 * (26 + min 15 j) + b = 13312 + (512 * j + b) := by omega
theorem c7_eq {j : ℕ} (h : 26 ≤ j) (h' : j < 32) (b : ℕ) : 512 * min 5 (j - 26) + b = 512 * (j - 26) + b := by omega

theorem ok_x (a : Fin 512) (k : Fin 3072) : (iblk m c 0 t : S512x3072.Idx → EReal) (ix2 a k) = (J m c).x (512 * (t.val / 32) + a.val) k.val :=
  (iblk0_at m c t a k (row_lt t a)).trans (V_v10 m c _ _)
theorem ok_p (a : Fin 512) : (FloatOps.sitofp .f32 ((iblk m c 1 t : S1x1x512.Idx → BitVec 32) (ix3 0 0 a)) : Ideal .f32) = (J m c).pos (512 * (t.val / 32) + a.val) :=
  (congrArg (FloatOps.sitofp (F := Ideal) .f32) (iblk1_at m c t 0 0 a (by have := t_lt t; omega))).trans (V_v11 m c ⟨t.val / 32, by have := t_lt t; omega⟩ a)
theorem ok_f (l : Fin 128) : (iblk m c 2 t : S1x128.Idx → EReal) (ix2 0 l) = (J m c).fr (l.val % 64) := (iblk2_at m c t 0 l).trans (V_v9 m c l)
theorem ok_g (k : Fin 3072) : (iblk m c 3 t : S1x3072.Idx → EReal) (ix2 0 k) = (J m c).g k.val := (iblk3_at m c t 0 k).trans (V_v14 m c k)
theorem ok_wq (h : 16 ≤ t.val % 32) (h' : t.val % 32 < 26) (k : Fin 3072) (b : Fin 512) :
    (iblk m c 4 t : S3072x512.Idx → EReal) (ix2 k b) = (J m c).w k.val (512 * (t.val % 32 - 16) + b.val) :=
  ((iblk4_at m c t k b (c4_lt t b)).trans (V_w m c _ _)).trans (congrArg ((J m c).w k.val) (c4_eq h h' _))
theorem ok_sq (h : 16 ≤ t.val % 32) (h' : t.val % 32 < 26) (b : Fin 512) :
    (iblk m c 8 t : S1x512.Idx → EReal) (ix2 0 b) = (J m c).sw (512 * (t.val % 32 - 16) + b.val) :=
  ((iblk8_at m c t 0 b (c4_lt t b)).trans (V_v12 m c _)).trans (congrArg (J m c).sw (c4_eq h h' _))
theorem ok_wg (h : t.val % 32 < 16) (k : Fin 3072) (b : Fin 512) :
    (iblk m c 5 t : S3072x512.Idx → EReal) (ix2 k b) = (J m c).w k.val (5120 + (512 * (t.val % 32) + b.val)) :=
  ((iblk5_at m c t k b (c5_lt t b)).trans (V_w m c _ _)).trans (congrArg ((J m c).w k.val) (c5_eq h _))
theorem ok_sg (h : t.val % 32 < 16) (b : Fin 512) :
    (iblk m c 9 t : S1x512.Idx → EReal) (ix2 0 b) = (J m c).sw (5120 + (512 * (t.val % 32) + b.val)) :=
  ((iblk9_at m c t 0 b (c5_lt t b)).trans (V_v12 m c _)).trans (congrArg (J m c).sw (c5_eq h _))
theorem ok_wu (h : t.val % 32 < 16) (k : Fin 3072) (b : Fin 512) :
    (iblk m c 6 t : S3072x512.Idx → EReal) (ix2 k b) = (J m c).w k.val (13312 + (512 * (t.val % 32) + b.val)) :=
  ((iblk6_at m c t k b (c6_lt t b)).trans (V_w m c _ _)).trans (congrArg ((J m c).w k.val) (c6_eq h _))
theorem ok_su (h : t.val % 32 < 16) (b : Fin 512) :
    (iblk m c 10 t : S1x512.Idx → EReal) (ix2 0 b) = (J m c).sw (13312 + (512 * (t.val % 32) + b.val)) :=
  ((iblk10_at m c t 0 b (c6_lt t b)).trans (V_v12 m c _)).trans (congrArg (J m c).sw (c6_eq h _))
theorem ok_wd (h : 26 ≤ t.val % 32) (k : Fin 8192) (b : Fin 512) :
    (iblk m c 7 t : S8192x512.Idx → EReal) (ix2 k b) = (J m c).d k.val (512 * (t.val % 32 - 26) + b.val) :=
  ((iblk7_at m c t k b (c7_lt t b)).trans (V_d m c _ _)).trans (congrArg ((J m c).d k.val) (c7_eq h (Nat.mod_lt _ (by decide)) _))
theorem ok_sd (h : 26 ≤ t.val % 32) (b : Fin 512) :
    (iblk m c 11 t : S1x512.Idx → EReal) (ix2 0 b) = (J m c).sd (512 * (t.val % 32 - 26) + b.val) :=
  ((iblk11_at m c t 0 b (c7_lt t b)).trans (V_v13 m c _)).trans (congrArg (J m c).sd (c7_eq h (Nat.mod_lt _ (by decide)) _))

theorem insOK_mk {J : In} {i j : ℕ} {d2 : S512x3072.Idx → EReal} {d3 : S1x1x512.Idx → BitVec 32} {d4 : S1x128.Idx → EReal} {d5 : S1x3072.Idx → EReal}
    {d6 d7 d8 : S3072x512.Idx → EReal} {d9 : S8192x512.Idx → EReal} {d10 d11 d12 d13 : S1x512.Idx → EReal}
    (x : ∀ (a : Fin 512) (k : Fin 3072), d2 (ix2 a k) = J.x (512 * i + a.val) k.val)
    (p : ∀ a : Fin 512, (FloatOps.sitofp .f32 (d3 (ix3 0 0 a)) : Ideal .f32) = J.pos (512 * i + a.val))
    (f : ∀ l : Fin 128, d4 (ix2 0 l) = J.fr (l.val % 64))
    (g : ∀ k : Fin 3072, d5 (ix2 0 k) = J.g k.val)
    (wq : 16 ≤ j → j < 26 → ∀ (k : Fin 3072) (b : Fin 512), d6 (ix2 k b) = J.w k.val (512 * (j - 16) + b.val))
    (sq : 16 ≤ j → j < 26 → ∀ b : Fin 512, d10 (ix2 0 b) = J.sw (512 * (j - 16) + b.val))
    (wg : j < 16 → ∀ (k : Fin 3072) (b : Fin 512), d7 (ix2 k b) = J.w k.val (5120 + (512 * j + b.val)))
    (sg : j < 16 → ∀ b : Fin 512, d11 (ix2 0 b) = J.sw (5120 + (512 * j + b.val)))
    (wu : j < 16 → ∀ (k : Fin 3072) (b : Fin 512), d8 (ix2 k b) = J.w k.val (13312 + (512 * j + b.val)))
    (su : j < 16 → ∀ b : Fin 512, d12 (ix2 0 b) = J.sw (13312 + (512 * j + b.val)))
    (wd : 26 ≤ j → ∀ (k : Fin 8192) (b : Fin 512), d9 (ix2 k b) = J.d k.val (512 * (j - 26) + b.val))
    (sd : 26 ≤ j → ∀ b : Fin 512, d13 (ix2 0 b) = J.sd (512 * (j - 26) + b.val)) :
    InsOK J i j ⟨d2, d3, d4, d5, d6, d7, d8, d9, d10, d11, d12, d13⟩ :=
  ⟨x, p, f, g, wq, sq, wg, sg, wu, su, wd, sd⟩

theorem ins_ok : InsOK (J m c) (t.val / 32) (t.val % 32) (insAt m c t) := by
  have hx := ok_x m c t
  have hp := ok_p m c t
  have hf := ok_f m c t
  have hg := ok_g m c t
  have hwq := ok_wq m c t
  have hsq := ok_sq m c t
  have hwg := ok_wg m c t
  have hsg := ok_sg m c t
  have hwu := ok_wu m c t
  have hsu := ok_su m c t
  have hwd := ok_wd m c t
  have hsd := ok_sd m c t
  unfold insAt
  generalize iblk m c 0 t = b0 at hx ⊢
  generalize iblk m c 1 t = b1 at hp ⊢
  generalize iblk m c 2 t = b2 at hf ⊢
  generalize iblk m c 3 t = b3 at hg ⊢
  generalize iblk m c 4 t = b4 at hwq ⊢
  generalize iblk m c 5 t = b5 at hwg ⊢
  generalize iblk m c 6 t = b6 at hwu ⊢
  generalize iblk m c 7 t = b7 at hwd ⊢
  generalize iblk m c 8 t = b8 at hsq ⊢
  generalize iblk m c 9 t = b9 at hsg ⊢
  generalize iblk m c 10 t = b10 at hsu ⊢
  generalize iblk m c 11 t = b11 at hsd ⊢
  exact insOK_mk hx hp hf hg hwq hsq hwg hsg hwu hsu hwd hsd

end

end Cert.KernelIdeal.Hand
-- ==== Proof.KIValue.lean ====
/- The run of `KernelIdeal` with what its results hold: the launch from the body's steps and the tile's invariant. -/
module

public import proofs.«01_k».proof.Proof.Gen.KernelIdeal.Frame
public import proofs.«01_k».proof.Proof.KAny
public import proofs.«01_k».proof.Proof.KHost
public import Idealize.ShloMosaic.Lib.Pipeline.Frame
public import Idealize.ShloMosaic.Lib.Pipeline.DatRel
public import Idealize.ShloMosaic.Lib.Pipeline.ArrRel
public import Idealize.ShloMosaic.Lib.Tactic

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationRel)

local notation "𝕄" => MT nD τ sig Unit (Elt Ideal) ℕ (UR sig nD τ) ℕ

variable (m : (ℓ : Loc nD τ sig) → Buf (Elt Ideal) ℓ) (ρ : Dev nD → PrngReg)

def forgets0 : Fin 22 → Bool := fun | 0 => false | 1 => false | 2 => false | 3 => false | 4 => false | 5 => false | 6 => false | 7 => false | 8 => false | 9 => false | 10 => false | 11 => false | 12 => true | 13 => true | 14 => true | 15 => true | 16 => true | 17 => true | 18 => true | 19 => true | 20 => true | 21 => true | ⟨_ + 22, h⟩ => absurd h (Nat.not_lt.2 (Nat.le_add_left _ _))

abbrev scM0 : Memref sig .tc .vmem S16x512x512 .f32 := Memref.whole cc0_scratch0
abbrev scM1 : Memref sig .tc .vmem S512x128 .f32 := Memref.whole cc0_scratch1
abbrev scM2 : Memref sig .tc .vmem S512x128 .f32 := Memref.whole cc0_scratch2
abbrev scM3 : Memref sig .tc .vmem S512x128 .f32 := Memref.whole cc0_scratch3
abbrev scM4 : Memref sig .tc .vmem S512x128 .f32 := Memref.whole cc0_scratch4
abbrev scM5 : Memref sig .tc .vmem S512x128 .f32 := Memref.whole cc0_scratch5

theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d)) ∗ (∃ r, prngReg c r)) := by
  unfold Pipeline.ΦA; rw [scopedRest0_eq]; simp only [scM0, scM1, scM2, scM3, scM4, scM5, owns_whole]; try rfl

/-- The scratch between two points: nothing known where a tile begins. -/
def PhiV (c : Dev nD) (n : ℕ) : sProp 𝕄 :=
  iprop(iprop((∃ d, ⌜n % 32 ≠ 0 → R24 (J m c) (n / 32) (n % 32) d⌝ ∗ owns (c : Thread nD τ) scM0 fullShare d) ∗ (∃ d, ⌜n % 32 ≠ 0 → R25 (J m c) (n / 32) (n % 32) d⌝ ∗ owns (c : Thread nD τ) scM1 fullShare d) ∗ (∃ d, ⌜n % 32 ≠ 0 → R26 (J m c) (n / 32) (n % 32) d⌝ ∗ owns (c : Thread nD τ) scM2 fullShare d) ∗ (∃ d, ⌜n % 32 ≠ 0 → R27 (J m c) (n / 32) (n % 32) d⌝ ∗ owns (c : Thread nD τ) scM3 fullShare d) ∗ (∃ d, ⌜n % 32 ≠ 0 → R28 (J m c) (n / 32) (n % 32) d⌝ ∗ owns (c : Thread nD τ) scM4 fullShare d) ∗ (∃ d, ⌜n % 32 ≠ 0 → R29 (J m c) (n / 32) (n % 32) d⌝ ∗ owns (c : Thread nD τ) scM5 fullShare d)) ∗ (∃ r, prngReg c r))

/-- What the body leaves in a result's window at a point. -/
def Rl (c : Dev nD) (w : Fin cfg0.W) (t : Fin cfg0.N) (X : (cfg0.win w).block.Idx → Elt Ideal (cfg0.win w).elt) : Prop :=
  match w, X with
  | 0, _ => True
  | 1, _ => True
  | 2, _ => True
  | 3, _ => True
  | 4, _ => True
  | 5, _ => True
  | 6, _ => True
  | 7, _ => True
  | 8, _ => True
  | 9, _ => True
  | 10, _ => True
  | 11, _ => True
  | 12, X => R14 (J m c) (t.val / 32) (t.val % 32 + 1) X
  | 13, X => R15 (J m c) (t.val / 32) (t.val % 32 + 1) X
  | 14, X => R16 (J m c) (t.val / 32) (t.val % 32 + 1) X
  | 15, X => R17 (J m c) (t.val / 32) (t.val % 32 + 1) X
  | 16, X => R18 (J m c) (t.val / 32) (t.val % 32 + 1) X
  | 17, X => R19 (J m c) (t.val / 32) (t.val % 32 + 1) X
  | 18, X => R20 (J m c) (t.val / 32) (t.val % 32 + 1) X
  | 19, X => R21 (J m c) (t.val / 32) (t.val % 32 + 1) X
  | 20, X => R22 (J m c) (t.val / 32) (t.val % 32 + 1) X
  | 21, X => R23 (J m c) (t.val / 32) (t.val % 32 + 1) X
  | ⟨_ + 22, h⟩, _ => absurd h (Nat.not_lt.2 (Nat.le_add_left _ _))

def dats (_ : Fin 1) (c : Dev nD) : Dat τ (Elt Ideal) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => iblk m c 9 t
    | 10 => iblk m c 10 t
    | 11 => iblk m c 11 t
    | 12 => Pipeline.Dat.unnamed (cfg := cfg0) 12 t
    | 13 => Pipeline.Dat.unnamed (cfg := cfg0) 13 t
    | 14 => Pipeline.Dat.unnamed (cfg := cfg0) 14 t
    | 15 => Pipeline.Dat.unnamed (cfg := cfg0) 15 t
    | 16 => Pipeline.Dat.unnamed (cfg := cfg0) 16 t
    | 17 => Pipeline.Dat.unnamed (cfg := cfg0) 17 t
    | 18 => Pipeline.Dat.unnamed (cfg := cfg0) 18 t
    | 19 => Pipeline.Dat.unnamed (cfg := cfg0) 19 t
    | 20 => Pipeline.Dat.unnamed (cfg := cfg0) 20 t
    | 21 => Pipeline.Dat.unnamed (cfg := cfg0) 21 t
    | ⟨_ + 22, h⟩ => absurd h (Nat.not_lt.2 (Nat.le_add_left _ _))
  Φ t := PhiV m c t.val
  q := Pipeline.shareOf spec0
  owed _ := 0

theorem A_eq (c : Dev nD) (w : Fin cfg0.W) : (dats m 0 c).A w = V m c (Pipeline.arrRef spec0 w) := by dsimp only [dats]

/-- The run's data: the results' windows by what holds of them. -/
abbrev rdat (c : Dev nD) := (dats m 0 c).toRRel forgets0 (Rl m c)

def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ Y, ⌜(rdat m c).Finds 12 t Y⌝ ∗ owns (c : Thread nD τ) (st0_12 t) fullShare Y) ∗ (∃ Y, ⌜(rdat m c).Finds 13 t Y⌝ ∗ owns (c : Thread nD τ) (st0_13 t) fullShare Y) ∗ (∃ Y, ⌜(rdat m c).Finds 14 t Y⌝ ∗ owns (c : Thread nD τ) (st0_14 t) fullShare Y) ∗ (∃ Y, ⌜(rdat m c).Finds 15 t Y⌝ ∗ owns (c : Thread nD τ) (st0_15 t) fullShare Y) ∗ (∃ Y, ⌜(rdat m c).Finds 16 t Y⌝ ∗ owns (c : Thread nD τ) (st0_16 t) fullShare Y) ∗ (∃ Y, ⌜(rdat m c).Finds 17 t Y⌝ ∗ owns (c : Thread nD τ) (st0_17 t) fullShare Y) ∗ (∃ Y, ⌜(rdat m c).Finds 18 t Y⌝ ∗ owns (c : Thread nD τ) (st0_18 t) fullShare Y) ∗ (∃ Y, ⌜(rdat m c).Finds 19 t Y⌝ ∗ owns (c : Thread nD τ) (st0_19 t) fullShare Y) ∗ (∃ Y, ⌜(rdat m c).Finds 20 t Y⌝ ∗ owns (c : Thread nD τ) (st0_20 t) fullShare Y) ∗ (∃ Y, ⌜(rdat m c).Finds 21 t Y⌝ ∗ owns (c : Thread nD τ) (st0_21 t) fullShare Y))

def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ (∃ X, ⌜Rl m c 12 t X⌝ ∗ owns (c : Thread nD τ) (st0_12 t) fullShare X) ∗ (∃ X, ⌜Rl m c 13 t X⌝ ∗ owns (c : Thread nD τ) (st0_13 t) fullShare X) ∗ (∃ X, ⌜Rl m c 14 t X⌝ ∗ owns (c : Thread nD τ) (st0_14 t) fullShare X) ∗ (∃ X, ⌜Rl m c 15 t X⌝ ∗ owns (c : Thread nD τ) (st0_15 t) fullShare X) ∗ (∃ X, ⌜Rl m c 16 t X⌝ ∗ owns (c : Thread nD τ) (st0_16 t) fullShare X) ∗ (∃ X, ⌜Rl m c 17 t X⌝ ∗ owns (c : Thread nD τ) (st0_17 t) fullShare X) ∗ (∃ X, ⌜Rl m c 18 t X⌝ ∗ owns (c : Thread nD τ) (st0_18 t) fullShare X) ∗ (∃ X, ⌜Rl m c 19 t X⌝ ∗ owns (c : Thread nD τ) (st0_19 t) fullShare X) ∗ (∃ X, ⌜Rl m c 20 t X⌝ ∗ owns (c : Thread nD τ) (st0_20 t) fullShare X) ∗ (∃ X, ⌜Rl m c 21 t X⌝ ∗ owns (c : Thread nD τ) (st0_21 t) fullShare X))

theorem finds_prev {c : Dev nD} {t : Fin cfg0.N} {w : Fin cfg0.W} (hw : forgets0 w = true) (hf : (cfg0.win w).fetch t = false) (ht : t.val ≠ 0)
    (hfl : (cfg0.win w).flush ⟨t.val - 1, Nat.lt_of_le_of_lt (Nat.sub_le _ _) t.isLt⟩ = false)
    {Y : (cfg0.win w).block.Idx → Elt Ideal (cfg0.win w).elt} (h : (rdat m c).Finds w t Y) :
    Rl m c w ⟨t.val - 1, Nat.lt_of_le_of_lt (Nat.sub_le _ _) t.isLt⟩ Y := by
  rcases ((rdat m c).finds_of_pos hf ht Y).1 h with h | h
  · rw [hfl] at h; exact absurd h Bool.false_ne_true
  · exact (dats m 0 c).toRRel_leaves hw h

theorem prev_div {n : ℕ} (h : n % 32 ≠ 0) : (n - 1) / 32 = n / 32 := by omega
theorem prev_mod {n : ℕ} (h : n % 32 ≠ 0) : (n - 1) % 32 + 1 = n % 32 := by omega

theorem find12 {c : Dev nD} {t : Fin cfg0.N} {Y : (cfg0.win 12).block.Idx → Elt Ideal (cfg0.win 12).elt} (h : (rdat m c).Finds 12 t Y)
    (hn : 22 ≤ t.val % 32) : R14 (J m c) (t.val / 32) (t.val % 32) Y := by
  have h0 : t.val % 32 ≠ 0 := by omega
  have hp : R14 (J m c) ((t.val - 1) / 32) ((t.val - 1) % 32 + 1) Y :=
    finds_prev m (w := 12) rfl rfl (by omega) ((fl12 _).trans (decide_eq_false (by show ¬ _; simp only []; omega))) h
  rwa [prev_div h0, prev_mod h0] at hp

theorem find14 {c : Dev nD} {t : Fin cfg0.N} {Y : (cfg0.win 14).block.Idx → Elt Ideal (cfg0.win 14).elt} (h : (rdat m c).Finds 14 t Y)
    (hn : 0 < t.val % 32) : R16 (J m c) (t.val / 32) (t.val % 32) Y := by
  have h0 : t.val % 32 ≠ 0 := by omega
  have hp : R16 (J m c) ((t.val - 1) / 32) ((t.val - 1) % 32 + 1) Y :=
    finds_prev m (w := 14) rfl rfl (by omega) ((fl14 _).trans (decide_eq_false (by show ¬ _; simp only []; omega))) h
  rwa [prev_div h0, prev_mod h0] at hp

theorem find15 {c : Dev nD} {t : Fin cfg0.N} {Y : (cfg0.win 15).block.Idx → Elt Ideal (cfg0.win 15).elt} (h : (rdat m c).Finds 15 t Y)
    (hn : 0 < t.val % 32) : R17 (J m c) (t.val / 32) (t.val % 32) Y := by
  have h0 : t.val % 32 ≠ 0 := by omega
  have hp : R17 (J m c) ((t.val - 1) / 32) ((t.val - 1) % 32 + 1) Y :=
    finds_prev m (w := 15) rfl rfl (by omega) ((fl15 _).trans (decide_eq_false (by show ¬ _; simp only []; omega))) h
  rwa [prev_div h0, prev_mod h0] at hp

theorem find16 {c : Dev nD} {t : Fin cfg0.N} {Y : (cfg0.win 16).block.Idx → Elt Ideal (cfg0.win 16).elt} (h : (rdat m c).Finds 16 t Y)
    (hn : 24 ≤ t.val % 32) : R18 (J m c) (t.val / 32) (t.val % 32) Y := by
  have h0 : t.val % 32 ≠ 0 := by omega
  have hp : R18 (J m c) ((t.val - 1) / 32) ((t.val - 1) % 32 + 1) Y :=
    finds_prev m (w := 16) rfl rfl (by omega) ((fl16 _).trans (decide_eq_false (by show ¬ _; simp only []; omega))) h
  rwa [prev_div h0, prev_mod h0] at hp

theorem find17 {c : Dev nD} {t : Fin cfg0.N} {Y : (cfg0.win 17).block.Idx → Elt Ideal (cfg0.win 17).elt} (h : (rdat m c).Finds 17 t Y)
    (hn : 0 < t.val % 32) : R19 (J m c) (t.val / 32) (t.val % 32) Y := by
  have h0 : t.val % 32 ≠ 0 := by omega
  have hp : R19 (J m c) ((t.val - 1) / 32) ((t.val - 1) % 32 + 1) Y :=
    finds_prev m (w := 17) rfl rfl (by omega) ((fl17 _).trans (decide_eq_false (by show ¬ _; simp only []; omega))) h
  rwa [prev_div h0, prev_mod h0] at hp

theorem find18 {c : Dev nD} {t : Fin cfg0.N} {Y : (cfg0.win 18).block.Idx → Elt Ideal (cfg0.win 18).elt} (h : (rdat m c).Finds 18 t Y)
    (hn : 26 ≤ t.val % 32) : R20 (J m c) (t.val / 32) (t.val % 32) Y := by
  have h0 : t.val % 32 ≠ 0 := by omega
  have hp : R20 (J m c) ((t.val - 1) / 32) ((t.val - 1) % 32 + 1) Y :=
    finds_prev m (w := 18) rfl rfl (by omega) ((fl18 _).trans (decide_eq_false (by show ¬ _; simp only []; omega))) h
  rwa [prev_div h0, prev_mod h0] at hp

theorem find19 {c : Dev nD} {t : Fin cfg0.N} {Y : (cfg0.win 19).block.Idx → Elt Ideal (cfg0.win 19).elt} (h : (rdat m c).Finds 19 t Y)
    (hn : 0 < t.val % 32) : R21 (J m c) (t.val / 32) (t.val % 32) Y := by
  have h0 : t.val % 32 ≠ 0 := by omega
  have hp : R21 (J m c) ((t.val - 1) / 32) ((t.val - 1) % 32 + 1) Y :=
    finds_prev m (w := 19) rfl rfl (by omega) ((fl19 _).trans (decide_eq_false (by show ¬ _; simp only []; omega))) h
  rwa [prev_div h0, prev_mod h0] at hp

theorem find20 {c : Dev nD} {t : Fin cfg0.N} {Y : (cfg0.win 20).block.Idx → Elt Ideal (cfg0.win 20).elt} (h : (rdat m c).Finds 20 t Y)
    (hn : 0 < t.val % 32) : R22 (J m c) (t.val / 32) (t.val % 32) Y := by
  have h0 : t.val % 32 ≠ 0 := by omega
  have hp : R22 (J m c) ((t.val - 1) / 32) ((t.val - 1) % 32 + 1) Y :=
    finds_prev m (w := 20) rfl rfl (by omega) ((fl20 _).trans (decide_eq_false (by show ¬ _; simp only []; omega))) h
  rwa [prev_div h0, prev_mod h0] at hp

theorem find21 {c : Dev nD} {t : Fin cfg0.N} {Y : (cfg0.win 21).block.Idx → Elt Ideal (cfg0.win 21).elt} (h : (rdat m c).Finds 21 t Y)
    (hn : 0 < t.val % 32) : R23 (J m c) (t.val / 32) (t.val % 32) Y := by
  have h0 : t.val % 32 ≠ 0 := by omega
  have hp : R23 (J m c) ((t.val - 1) / 32) ((t.val - 1) % 32 + 1) Y :=
    finds_prev m (w := 21) rfl rfl (by omega) ((fl21 _).trans (decide_eq_false (by show ¬ _; simp only []; omega))) h
  rwa [prev_div h0, prev_mod h0] at hp

/-- What is known of the blocks before the body runs. -/
theorem before_at {c : Dev nD} {t : Fin cfg0.N} {Y12 : (cfg0.win 12).block.Idx → Elt Ideal (cfg0.win 12).elt} {Y13 : (cfg0.win 13).block.Idx → Elt Ideal (cfg0.win 13).elt} {Y14 : (cfg0.win 14).block.Idx → Elt Ideal (cfg0.win 14).elt} {Y15 : (cfg0.win 15).block.Idx → Elt Ideal (cfg0.win 15).elt} {Y16 : (cfg0.win 16).block.Idx → Elt Ideal (cfg0.win 16).elt} {Y17 : (cfg0.win 17).block.Idx → Elt Ideal (cfg0.win 17).elt} {Y18 : (cfg0.win 18).block.Idx → Elt Ideal (cfg0.win 18).elt} {Y19 : (cfg0.win 19).block.Idx → Elt Ideal (cfg0.win 19).elt} {Y20 : (cfg0.win 20).block.Idx → Elt Ideal (cfg0.win 20).elt} {Y21 : (cfg0.win 21).block.Idx → Elt Ideal (cfg0.win 21).elt} {S0 : S16x512x512.Idx → EReal} {S1 : S512x128.Idx → EReal} {S2 : S512x128.Idx → EReal} {S3 : S512x128.Idx → EReal} {S4 : S512x128.Idx → EReal} {S5 : S512x128.Idx → EReal}
    (F12 : (rdat m c).Finds 12 t Y12) (F13 : (rdat m c).Finds 13 t Y13) (F14 : (rdat m c).Finds 14 t Y14) (F15 : (rdat m c).Finds 15 t Y15) (F16 : (rdat m c).Finds 16 t Y16) (F17 : (rdat m c).Finds 17 t Y17) (F18 : (rdat m c).Finds 18 t Y18) (F19 : (rdat m c).Finds 19 t Y19) (F20 : (rdat m c).Finds 20 t Y20) (F21 : (rdat m c).Finds 21 t Y21) (P0 : t.val % 32 ≠ 0 → R24 (J m c) (t.val / 32) (t.val % 32) S0) (P1 : t.val % 32 ≠ 0 → R25 (J m c) (t.val / 32) (t.val % 32) S1) (P2 : t.val % 32 ≠ 0 → R26 (J m c) (t.val / 32) (t.val % 32) S2) (P3 : t.val % 32 ≠ 0 → R27 (J m c) (t.val / 32) (t.val % 32) S3) (P4 : t.val % 32 ≠ 0 → R28 (J m c) (t.val / 32) (t.val % 32) S4) (P5 : t.val % 32 ≠ 0 → R29 (J m c) (t.val / 32) (t.val % 32) S5) :
    Before (J m c) (t.val / 32) (t.val % 32) ⟨Y12, Y13, Y14, Y15, Y16, Y17, Y18, Y19, Y20, Y21, S0, S1, S2, S3, S4, S5⟩ where
  r14 h := find12 m F12 h
  r16 h := find14 m F14 h
  r17 h := find15 m F15 h
  r18 h := find16 m F16 h
  r19 h := find17 m F17 h
  r20 h := find18 m F18 h
  r21 h := find19 m F19 h
  r22 h := find20 m F20 h
  r23 h := find21 m F21 h
  r24 h := P0 (Nat.ne_of_gt h)
  r25 h := P1 (Nat.ne_of_gt h)
  r26 h := P2 (Nat.ne_of_gt h)
  r27 h := P3 (Nat.ne_of_gt h)
  r28 h := P4 (Nat.ne_of_gt h)
  r29 h := P5 (Nat.ne_of_gt h)

theorem step_at {c : Dev nD} {t : Fin cfg0.N} {b : Bufs Ideal} (hB : Before (J m c) (t.val / 32) (t.val % 32) b) :
    After (J m c) (t.val / 32) (t.val % 32 + 1) (stepOf (grid0.coords t) (insAt m c t) b) := by
  have hc : ((grid0.coords t) 1).val = t.val % 32 := (coords_val t).2
  have hs := step_of (J := J m c) (i := t.val / 32) (ic := grid0.coords t) (I := insAt m c t) (b := b)
    (by rw [hc]; exact ins_ok m c t) (by rw [hc]; exact hB)
  rwa [hc] at hs

theorem next_div {n : ℕ} (h : (n + 1) % 32 ≠ 0) : (n + 1) / 32 = n / 32 := by omega
theorem next_mod {n : ℕ} (h : (n + 1) % 32 ≠ 0) : (n + 1) % 32 = n % 32 + 1 := by omega

theorem keep0 {c : Dev nD} {n : ℕ} {d : S16x512x512.Idx → EReal} (h : R24 (J m c) (n / 32) (n % 32 + 1) d) : (n + 1) % 32 ≠ 0 → R24 (J m c) ((n + 1) / 32) ((n + 1) % 32) d :=
  fun h0 => by rw [next_div h0, next_mod h0]; exact h

theorem keep1 {c : Dev nD} {n : ℕ} {d : S512x128.Idx → EReal} (h : R25 (J m c) (n / 32) (n % 32 + 1) d) : (n + 1) % 32 ≠ 0 → R25 (J m c) ((n + 1) / 32) ((n + 1) % 32) d :=
  fun h0 => by rw [next_div h0, next_mod h0]; exact h

theorem keep2 {c : Dev nD} {n : ℕ} {d : S512x128.Idx → EReal} (h : R26 (J m c) (n / 32) (n % 32 + 1) d) : (n + 1) % 32 ≠ 0 → R26 (J m c) ((n + 1) / 32) ((n + 1) % 32) d :=
  fun h0 => by rw [next_div h0, next_mod h0]; exact h

theorem keep3 {c : Dev nD} {n : ℕ} {d : S512x128.Idx → EReal} (h : R27 (J m c) (n / 32) (n % 32 + 1) d) : (n + 1) % 32 ≠ 0 → R27 (J m c) ((n + 1) / 32) ((n + 1) % 32) d :=
  fun h0 => by rw [next_div h0, next_mod h0]; exact h

theorem keep4 {c : Dev nD} {n : ℕ} {d : S512x128.Idx → EReal} (h : R28 (J m c) (n / 32) (n % 32 + 1) d) : (n + 1) % 32 ≠ 0 → R28 (J m c) ((n + 1) / 32) ((n + 1) % 32) d :=
  fun h0 => by rw [next_div h0, next_mod h0]; exact h

theorem keep5 {c : Dev nD} {n : ℕ} {d : S512x128.Idx → EReal} (h : R29 (J m c) (n / 32) (n % 32 + 1) d) : (n + 1) % 32 ≠ 0 → R29 (J m c) ((n + 1) / 32) ((n + 1) % 32) d :=
  fun h0 => by rw [next_div h0, next_mod h0]; exact h

set_option maxHeartbeats 2000000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = PhiV m c (t.val + 1) from rfl,
    show (dats m 0 c).owesAt () t.succ = (dats m 0 c).owesAt () t.castSucc from rfl,
    show (dats m 0 c).Φ t.castSucc = PhiV m c t.val from rfl]
  unfold PhiV
  have hb0 : ∀ d, (dats m 0 c).before 0 t d = iblk m c 0 t := fun d => before0_0_of m (dats m 0 c) (A_eq m c 0) (fun _ => rfl) t d
  have hb1 : ∀ d, (dats m 0 c).before 1 t d = iblk m c 1 t := fun d => before0_1_of m (dats m 0 c) (A_eq m c 1) (fun _ => rfl) t d
  have hb2 : ∀ d, (dats m 0 c).before 2 t d = iblk m c 2 t := fun d => before0_2_of m (dats m 0 c) (A_eq m c 2) (fun _ => rfl) t d
  have hb3 : ∀ d, (dats m 0 c).before 3 t d = iblk m c 3 t := fun d => before0_3_of m (dats m 0 c) (A_eq m c 3) (fun _ => rfl) t d
  have hb4 : ∀ d, (dats m 0 c).before 4 t d = iblk m c 4 t := fun d => before0_4_of m (dats m 0 c) (A_eq m c 4) (fun _ => rfl) t d
  have hb5 : ∀ d, (dats m 0 c).before 5 t d = iblk m c 5 t := fun d => before0_5_of m (dats m 0 c) (A_eq m c 5) (fun _ => rfl) t d
  have hb6 : ∀ d, (dats m 0 c).before 6 t d = iblk m c 6 t := fun d => before0_6_of m (dats m 0 c) (A_eq m c 6) (fun _ => rfl) t d
  have hb7 : ∀ d, (dats m 0 c).before 7 t d = iblk m c 7 t := fun d => before0_7_of m (dats m 0 c) (A_eq m c 7) (fun _ => rfl) t d
  have hb8 : ∀ d, (dats m 0 c).before 8 t d = iblk m c 8 t := fun d => before0_8_of m (dats m 0 c) (A_eq m c 8) (fun _ => rfl) t d
  have hb9 : ∀ d, (dats m 0 c).before 9 t d = iblk m c 9 t := fun d => before0_9_of m (dats m 0 c) (A_eq m c 9) (fun _ => rfl) t d
  have hb10 : ∀ d, (dats m 0 c).before 10 t d = iblk m c 10 t := fun d => before0_10_of m (dats m 0 c) (A_eq m c 10) (fun _ => rfl) t d
  have hb11 : ∀ d, (dats m 0 c).before 11 t d = iblk m c 11 t := fun d => before0_11_of m (dats m 0 c) (A_eq m c 11) (fun _ => rfl) t d
  have ha0 : (dats m 0 c).after 0 t = iblk m c 0 t := rfl
  have ha1 : (dats m 0 c).after 1 t = iblk m c 1 t := rfl
  have ha2 : (dats m 0 c).after 2 t = iblk m c 2 t := rfl
  have ha3 : (dats m 0 c).after 3 t = iblk m c 3 t := rfl
  have ha4 : (dats m 0 c).after 4 t = iblk m c 4 t := rfl
  have ha5 : (dats m 0 c).after 5 t = iblk m c 5 t := rfl
  have ha6 : (dats m 0 c).after 6 t = iblk m c 6 t := rfl
  have ha7 : (dats m 0 c).after 7 t = iblk m c 7 t := rfl
  have ha8 : (dats m 0 c).after 8 t = iblk m c 8 t := rfl
  have ha9 : (dats m 0 c).after 9 t = iblk m c 9 t := rfl
  have ha10 : (dats m 0 c).after 10 t = iblk m c 10 t := rfl
  have ha11 : (dats m 0 c).after 11 t = iblk m c 11 t := rfl
  simp only [hb0, hb1, hb2, hb3, hb4, hb5, hb6, hb7, hb8, hb9, hb10, hb11, ha0, ha1, ha2, ha3, ha4, ha5, ha6, ha7, ha8, ha9, ha10, ha11]
  iintro ⟨⟨⟨⟨%S0, %P0, HS0⟩, ⟨%S1, %P1, HS1⟩, ⟨%S2, %P2, HS2⟩, ⟨%S3, %P3, HS3⟩, ⟨%S4, %P4, HS4⟩, ⟨%S5, %P5, HS5⟩⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%Y12, %F12, H12⟩, ⟨%Y13, %F13, H13⟩, ⟨%Y14, %F14, H14⟩, ⟨%Y15, %F15, H15⟩, ⟨%Y16, %F16, H16⟩, ⟨%Y17, %F17, H17⟩, ⟨%Y18, %F18, H18⟩, ⟨%Y19, %F19, H19⟩, ⟨%Y20, %F20, H20⟩, ⟨%Y21, %F21, H21⟩⟩
  have hA := step_at m (before_at m F12 F13 F14 F15 F16 F17 F18 F19 F20 F21 P0 P1 P2 P3 P4 P5)
  iapply (val_any (F := Ideal) c (grid0.coords t) _ _ _ _ _ _ _ _ _ _ _ _ _ _ _ _ _ _ _ _ _ _ _ _ _ _ _ _ _ _ _ _ _ _ _ _ _ _ _ _ _ _ _ _ _ _ _ _ _ _ _ _ _ _ _ _ (insAt m c t) ⟨Y12, Y13, Y14, Y15, Y16, Y17, Y18, Y19, Y20, Y21, S0, S1, S2, S3, S4, S5⟩ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [HS0]; · iexact HS0
  isplitl [HS1]; · iexact HS1
  isplitl [HS2]; · iexact HS2
  isplitl [HS3]; · iexact HS3
  isplitl [HS4]; · iexact HS4
  isplitl [HS5]; · iexact HS5
  generalize stepOf (grid0.coords t) (insAt m c t) ⟨Y12, Y13, Y14, Y15, Y16, Y17, Y18, Y19, Y20, Y21, S0, S1, S2, S3, S4, S5⟩ = b at hA ⊢
  iintro ⟨H0, H1, H2, H3, H4, H5, H6, H7, H8, H9, H10, H11, H12, H13, H14, H15, H16, H17, H18, H19, H20, H21, HS0, HS1, HS2, HS3, HS4, HS5⟩
  isplitl [HS0 HS1 HS2 HS3 HS4 HS5 Hg]
  · isplitr [Hg]; swap; · iexact Hg
    isplitl [HS0]
    · iexists b.d24; isplitr
      · ipureintro; exact keep0 m hA.r24
      iexact HS0
    isplitl [HS1]
    · iexists b.d25; isplitr
      · ipureintro; exact keep1 m hA.r25
      iexact HS1
    isplitl [HS2]
    · iexists b.d26; isplitr
      · ipureintro; exact keep2 m hA.r26
      iexact HS2
    isplitl [HS3]
    · iexists b.d27; isplitr
      · ipureintro; exact keep3 m hA.r27
      iexact HS3
    isplitl [HS4]
    · iexists b.d28; isplitr
      · ipureintro; exact keep4 m hA.r28
      iexact HS4
    iexists b.d29; isplitr
    · ipureintro; exact keep5 m hA.r29
    iexact HS5
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iexists b.d14; isplitr
    · ipureintro; exact hA.r14
    iexact H12
  isplitl [H13]
  · iexists b.d15; isplitr
    · ipureintro; exact hA.r15
    iexact H13
  isplitl [H14]
  · iexists b.d16; isplitr
    · ipureintro; exact hA.r16
    iexact H14
  isplitl [H15]
  · iexists b.d17; isplitr
    · ipureintro; exact hA.r17
    iexact H15
  isplitl [H16]
  · iexists b.d18; isplitr
    · ipureintro; exact hA.r18
    iexact H16
  isplitl [H17]
  · iexists b.d19; isplitr
    · ipureintro; exact hA.r19
    iexact H17
  isplitl [H18]
  · iexists b.d20; isplitr
    · ipureintro; exact hA.r20
    iexact H18
  isplitl [H19]
  · iexists b.d21; isplitr
    · ipureintro; exact hA.r21
    iexact H19
  isplitl [H20]
  · iexists b.d22; isplitr
    · ipureintro; exact hA.r22
    iexact H20
  iexists b.d23; isplitr
  · ipureintro; exact hA.r23
  iexact H21

theorem defs₀_row (t : Fin cfg0.N) : defs₀ (F := Ideal) .tc cfg0.body (cfg0.bodyArgs t (cfg0.slots t)) = bodyAt0 t := by
  unfold defs₀; rw [Defs.onTc_tc]

theorem body_obligation (c : Dev nD) :
    BodyObligationRel (dats m 0 c) (defs₀ (F := Ideal)) Variants.none () Set.univ forgets0 (Rl m c) := fun t => by
  rw [bigSep_W0, bigSep_W0, defs₀_row]
  exact triple_restated (sound_body m c t) rfl .rfl fun _ => .rfl

theorem phi_in (c : Dev nD) : Pipeline.ΦA spec0 c ⊢ (PhiV m c 0 : sProp 𝕄) := by
  rw [PhiA0_eq]
  unfold PhiV
  iintro ⟨⟨⟨%S0, HS0⟩, ⟨%S1, HS1⟩, ⟨%S2, HS2⟩, ⟨%S3, HS3⟩, ⟨%S4, HS4⟩, ⟨%S5, HS5⟩⟩, Hg⟩
  isplitr [Hg]; swap; · iexact Hg
  isplitl [HS0]
  · iexists S0; isplitr
    · ipureintro; exact fun h => absurd rfl h
    iexact HS0
  isplitl [HS1]
  · iexists S1; isplitr
    · ipureintro; exact fun h => absurd rfl h
    iexact HS1
  isplitl [HS2]
  · iexists S2; isplitr
    · ipureintro; exact fun h => absurd rfl h
    iexact HS2
  isplitl [HS3]
  · iexists S3; isplitr
    · ipureintro; exact fun h => absurd rfl h
    iexact HS3
  isplitl [HS4]
  · iexists S4; isplitr
    · ipureintro; exact fun h => absurd rfl h
    iexact HS4
  iexists S5; isplitr
  · ipureintro; exact fun h => absurd rfl h
  iexact HS5

theorem phi_out (c : Dev nD) (n : ℕ) : (PhiV m c n : sProp 𝕄) ⊢ Pipeline.ΦA spec0 c := by
  rw [PhiA0_eq]
  unfold PhiV
  iintro ⟨⟨⟨%S0, %P0, HS0⟩, ⟨%S1, %P1, HS1⟩, ⟨%S2, %P2, HS2⟩, ⟨%S3, %P3, HS3⟩, ⟨%S4, %P4, HS4⟩, ⟨%S5, %P5, HS5⟩⟩, Hg⟩
  isplitr [Hg]; swap; · iexact Hg
  isplitl [HS0]
  · iexists S0; iexact HS0
  isplitl [HS1]
  · iexists S1; iexact HS1
  isplitl [HS2]
  · iexists S2; iexact HS2
  isplitl [HS3]
  · iexists S3; iexact HS3
  isplitl [HS4]
  · iexists S4; iexact HS4
  iexists S5; iexact HS5

set_option backward.isDefEq.respectTransparency.types false in
theorem run_main :
    θ_run defs (onTc (τ := τ) (main (F := Ideal))) (s₀ m ρ)
      (fun r => Pipeline.RDat.FramePost (cfgs 0) (fun c => rdat m c) (V m) r ∧ r.2.sem = fun _ => 0) :=
  Pipeline.RDat.θ_run_frame_track_shared (Q' := _) cfgs (0 : Fin 1) launch₀0 defs₀ Variants.none (fun c => rdat m c) m ρ main
    (hbody := fun c => (body_obligation m c).toRRel) (hq := fun _ _ _ => rfl)
    (howed := fun _ _ => rfl) (V := V m) (hmain := hmain m Variants.none) (hA := A_eq m)
    (hin := fun c => phi_in m c) (hout := fun c => phi_out m c _)

end Cert.KernelIdeal.Val
-- ==== Proof.KIFinal.lean ====
/- What the kernel's results hold after the run: each array is the problem's function of the inputs. -/
module

public import proofs.«01_k».proof.Proof.KIValue
public import Idealize.ShloMosaic.Lib.Pipeline.ValueKit.Geometry

@[expose] public section

set_option maxRecDepth 16384

noncomputable section

namespace Cert.KernelIdeal.Val

open Cert.KernelIdeal Cert.KernelIdeal.Gen Cert.KernelIdeal.Hand
open Idealize.ShloMosaic Idealize.ShloMosaic.TcCoe
open Cert.Spec (In)

/-- Result 1. -/
def G12 (I : In) : S8192x3072.Idx → EReal := fun i => Cert.Spec.q I (i 0).val (i 1).val
/-- Result 2. -/
def G13 (I : In) : S8192x3072.Idx → EReal := fun i => Cert.Spec.y I (i 0).val (i 1).val
/-- Result 3. -/
def G14 (I : In) : S8192x3072.Idx → EReal := fun i => Cert.Spec.xc I (i 0).val (i 1).val
/-- Result 4. -/
def G15 (I : In) : S16x1x512.Idx → EReal := fun i => Cert.Spec.xs I (512 * (i 0).val + (i 2).val)
/-- Result 5. -/
def G16 (I : In) : S8192x1024.Idx → EReal := fun i => Cert.Spec.kc I (i 0).val (i 1).val
/-- Result 6. -/
def G17 (I : In) : S8192x8.Idx → EReal := fun i => Cert.Spec.ks I (i 0).val (i 1).val
/-- Result 7. -/
def G18 (I : In) : S8192x1024.Idx → EReal := fun i => Cert.Spec.vc I (i 0).val (i 1).val
/-- Result 8. -/
def G19 (I : In) : S8192x8.Idx → EReal := fun i => Cert.Spec.vs I (i 0).val (i 1).val
/-- Result 9. -/
def G20 (I : In) : S8192x8192.Idx → EReal := fun i => Cert.Spec.hc I (i 0).val (i 1).val
/-- Result 10. -/
def G21 (I : In) : S16x1x512.Idx → EReal := fun i => Cert.Spec.hs I (512 * (i 0).val + (i 2).val)

theorem etaS16x1x512 (y : S16x1x512.Idx) : ∃ (a : Fin 16) (b : Fin 1) (e : Fin 512), y = (ix3 a b e : S16x1x512.Idx) := ⟨y 0, y 1, y 2, funext fun x => match x with | ⟨0, _⟩ => rfl | ⟨1, _⟩ => rfl | ⟨2, _⟩ => rfl⟩
theorem etaS1x1x512 (y : S1x1x512.Idx) : ∃ (a : Fin 1) (b : Fin 1) (e : Fin 512), y = (ix3 a b e : S1x1x512.Idx) := ⟨y 0, y 1, y 2, funext fun x => match x with | ⟨0, _⟩ => rfl | ⟨1, _⟩ => rfl | ⟨2, _⟩ => rfl⟩
theorem etaS512x3072 (y : S512x3072.Idx) : ∃ (a : Fin 512) (b : Fin 3072), y = (ix2 a b : S512x3072.Idx) := ⟨y 0, y 1, funext fun x => match x with | ⟨0, _⟩ => rfl | ⟨1, _⟩ => rfl⟩
theorem etaS512x512 (y : S512x512.Idx) : ∃ (a : Fin 512) (b : Fin 512), y = (ix2 a b : S512x512.Idx) := ⟨y 0, y 1, funext fun x => match x with | ⟨0, _⟩ => rfl | ⟨1, _⟩ => rfl⟩
theorem etaS512x8 (y : S512x8.Idx) : ∃ (a : Fin 512) (b : Fin 8), y = (ix2 a b : S512x8.Idx) := ⟨y 0, y 1, funext fun x => match x with | ⟨0, _⟩ => rfl | ⟨1, _⟩ => rfl⟩
theorem etaS512x8192 (y : S512x8192.Idx) : ∃ (a : Fin 512) (b : Fin 8192), y = (ix2 a b : S512x8192.Idx) := ⟨y 0, y 1, funext fun x => match x with | ⟨0, _⟩ => rfl | ⟨1, _⟩ => rfl⟩
theorem etaS8192x1024 (y : S8192x1024.Idx) : ∃ (a : Fin 8192) (b : Fin 1024), y = (ix2 a b : S8192x1024.Idx) := ⟨y 0, y 1, funext fun x => match x with | ⟨0, _⟩ => rfl | ⟨1, _⟩ => rfl⟩
theorem etaS8192x3072 (y : S8192x3072.Idx) : ∃ (a : Fin 8192) (b : Fin 3072), y = (ix2 a b : S8192x3072.Idx) := ⟨y 0, y 1, funext fun x => match x with | ⟨0, _⟩ => rfl | ⟨1, _⟩ => rfl⟩
theorem etaS8192x8 (y : S8192x8.Idx) : ∃ (a : Fin 8192) (b : Fin 8), y = (ix2 a b : S8192x8.Idx) := ⟨y 0, y 1, funext fun x => match x with | ⟨0, _⟩ => rfl | ⟨1, _⟩ => rfl⟩
theorem etaS8192x8192 (y : S8192x8192.Idx) : ∃ (a : Fin 8192) (b : Fin 8192), y = (ix2 a b : S8192x8192.Idx) := ⟨y 0, y 1, funext fun x => match x with | ⟨0, _⟩ => rfl | ⟨1, _⟩ => rfl⟩

section

variable (m : (ℓ : Loc nD τ sig) → Buf (Elt Ideal) ℓ) (c : Dev nD)
  (after : (w' : Fin cfg0.W) → Fin cfg0.N → (cfg0.win w').block.Idx → Elt Ideal (cfg0.win w').elt)
  (hL : ∀ (w : Fin cfg0.W) (u : Fin cfg0.N), (cfg0.win w).flush u = true → (rdat m c).Leaves w u (after w u))
include hL

theorem left12 (t : Fin cfg0.N) (hf : (cfg0.win 12).flush t = true) (y : S512x512.Idx) :
    (after 12 t : S512x512.Idx → EReal) y = G12 (J m c) (((cfg0.win 12).blk t).view.emb y) := by
  have hr : R14 (J m c) (t.val / 32) (t.val % 32 + 1) (after 12 t) := (dats m 0 c).toRRel_leaves (Rl := Rl m c) (w := 12) rfl (hL 12 t hf)
  have hd := of_decide_eq_true ((fl12 t).symm.trans hf)
  have ht : t.val < 512 := t.isLt
  generalize (after 12 t : S512x512.Idx → EReal) = X at hr ⊢
  obtain ⟨a, b, rfl⟩ := etaS512x512 y
  refine ((hr (by omega) a b).trans ?_).trans (congrArg (G12 (J m c)) (emb12_at t a b (by omega) (by omega))).symm
  show Cert.Spec.q (J m c) (512 * (t.val / 32) + a.val) (512 * (min (t.val % 32 + 1 - 17) 5) + b.val) = Cert.Spec.q (J m c) (512 * (t.val / 32) + a.val) (512 * (min 5 (t.val % 32 - 16)) + b.val)
  rw [show min (t.val % 32 + 1 - 17) 5 = min 5 (t.val % 32 - 16) by omega]

theorem left13 (t : Fin cfg0.N) (hf : (cfg0.win 13).flush t = true) (y : S512x512.Idx) :
    (after 13 t : S512x512.Idx → EReal) y = G13 (J m c) (((cfg0.win 13).blk t).view.emb y) := by
  have hr : R15 (J m c) (t.val / 32) (t.val % 32 + 1) (after 13 t) := (dats m 0 c).toRRel_leaves (Rl := Rl m c) (w := 13) rfl (hL 13 t hf)
  have hd := of_decide_eq_true ((fl13 t).symm.trans hf)
  have ht : t.val < 512 := t.isLt
  generalize (after 13 t : S512x512.Idx → EReal) = X at hr ⊢
  obtain ⟨a, b, rfl⟩ := etaS512x512 y
  refine ((hr (by omega) a b).trans ?_).trans (congrArg (G13 (J m c)) (emb13_at t a b (by omega) (by omega))).symm
  show Cert.Spec.y (J m c) (512 * (t.val / 32) + a.val) (512 * (t.val % 32 + 1 - 27) + b.val) = Cert.Spec.y (J m c) (512 * (t.val / 32) + a.val) (512 * (min 5 (t.val % 32 - 26)) + b.val)
  rw [show t.val % 32 + 1 - 27 = min 5 (t.val % 32 - 26) by omega]

theorem left14 (t : Fin cfg0.N) (hf : (cfg0.win 14).flush t = true) (y : S512x3072.Idx) :
    (after 14 t : S512x3072.Idx → EReal) y = G14 (J m c) (((cfg0.win 14).blk t).view.emb y) := by
  have hr : R16 (J m c) (t.val / 32) (t.val % 32 + 1) (after 14 t) := (dats m 0 c).toRRel_leaves (Rl := Rl m c) (w := 14) rfl (hL 14 t hf)
  have hd := of_decide_eq_true ((fl14 t).symm.trans hf)
  have ht : t.val < 512 := t.isLt
  generalize (after 14 t : S512x3072.Idx → EReal) = X at hr ⊢
  obtain ⟨a, b, rfl⟩ := etaS512x3072 y
  exact (hr (by omega) a b).trans (congrArg (G14 (J m c)) (emb14_at t a b (by omega))).symm

theorem left15 (t : Fin cfg0.N) (hf : (cfg0.win 15).flush t = true) (y : S1x1x512.Idx) :
    (after 15 t : S1x1x512.Idx → EReal) y = G15 (J m c) (((cfg0.win 15).blk t).view.emb y) := by
  have hr : R17 (J m c) (t.val / 32) (t.val % 32 + 1) (after 15 t) := (dats m 0 c).toRRel_leaves (Rl := Rl m c) (w := 15) rfl (hL 15 t hf)
  have hd := of_decide_eq_true ((fl15 t).symm.trans hf)
  have ht : t.val < 512 := t.isLt
  generalize (after 15 t : S1x1x512.Idx → EReal) = X at hr ⊢
  obtain ⟨a, b, e, rfl⟩ := etaS1x1x512 y
  obtain rfl : a = 0 := Subsingleton.elim _ _
  obtain rfl : b = 0 := Subsingleton.elim _ _
  exact (hr (by omega) e).trans (congrArg (G15 (J m c)) (emb15_at t 0 0 e (by omega))).symm

theorem left16 (t : Fin cfg0.N) (hf : (cfg0.win 16).flush t = true) (y : S512x512.Idx) :
    (after 16 t : S512x512.Idx → EReal) y = G16 (J m c) (((cfg0.win 16).blk t).view.emb y) := by
  have hr : R18 (J m c) (t.val / 32) (t.val % 32 + 1) (after 16 t) := (dats m 0 c).toRRel_leaves (Rl := Rl m c) (w := 16) rfl (hL 16 t hf)
  have hd := of_decide_eq_true ((fl16 t).symm.trans hf)
  have ht : t.val < 512 := t.isLt
  generalize (after 16 t : S512x512.Idx → EReal) = X at hr ⊢
  obtain ⟨a, b, rfl⟩ := etaS512x512 y
  refine ((hr (by omega) a b).trans ?_).trans (congrArg (G16 (J m c)) (emb16_at t a b (by omega) (by omega))).symm
  show Cert.Spec.kc (J m c) (512 * (t.val / 32) + a.val) (512 * (min (t.val % 32 + 1 - 23) 1) + b.val) = Cert.Spec.kc (J m c) (512 * (t.val / 32) + a.val) (512 * (min 1 (t.val % 32 - 22)) + b.val)
  rw [show min (t.val % 32 + 1 - 23) 1 = min 1 (t.val % 32 - 22) by omega]

theorem left17 (t : Fin cfg0.N) (hf : (cfg0.win 17).flush t = true) (y : S512x8.Idx) :
    (after 17 t : S512x8.Idx → EReal) y = G17 (J m c) (((cfg0.win 17).blk t).view.emb y) := by
  have hr : R19 (J m c) (t.val / 32) (t.val % 32 + 1) (after 17 t) := (dats m 0 c).toRRel_leaves (Rl := Rl m c) (w := 17) rfl (hL 17 t hf)
  have hd := of_decide_eq_true ((fl17 t).symm.trans hf)
  have ht : t.val < 512 := t.isLt
  generalize (after 17 t : S512x8.Idx → EReal) = X at hr ⊢
  obtain ⟨a, b, rfl⟩ := etaS512x8 y
  exact (hr (by omega) a b (by omega)).trans (congrArg (G17 (J m c)) (emb17_at t a b (by omega))).symm

theorem left18 (t : Fin cfg0.N) (hf : (cfg0.win 18).flush t = true) (y : S512x512.Idx) :
    (after 18 t : S512x512.Idx → EReal) y = G18 (J m c) (((cfg0.win 18).blk t).view.emb y) := by
  have hr : R20 (J m c) (t.val / 32) (t.val % 32 + 1) (after 18 t) := (dats m 0 c).toRRel_leaves (Rl := Rl m c) (w := 18) rfl (hL 18 t hf)
  have hd := of_decide_eq_true ((fl18 t).symm.trans hf)
  have ht : t.val < 512 := t.isLt
  generalize (after 18 t : S512x512.Idx → EReal) = X at hr ⊢
  obtain ⟨a, b, rfl⟩ := etaS512x512 y
  refine ((hr (by omega) a b).trans ?_).trans (congrArg (G18 (J m c)) (emb18_at t a b (by omega) (by omega))).symm
  show Cert.Spec.vc (J m c) (512 * (t.val / 32) + a.val) (512 * (min (t.val % 32 + 1 - 25) 1) + b.val) = Cert.Spec.vc (J m c) (512 * (t.val / 32) + a.val) (512 * (min 1 (t.val % 32 - 24)) + b.val)
  rw [show min (t.val % 32 + 1 - 25) 1 = min 1 (t.val % 32 - 24) by omega]

theorem left19 (t : Fin cfg0.N) (hf : (cfg0.win 19).flush t = true) (y : S512x8.Idx) :
    (after 19 t : S512x8.Idx → EReal) y = G19 (J m c) (((cfg0.win 19).blk t).view.emb y) := by
  have hr : R21 (J m c) (t.val / 32) (t.val % 32 + 1) (after 19 t) := (dats m 0 c).toRRel_leaves (Rl := Rl m c) (w := 19) rfl (hL 19 t hf)
  have hd := of_decide_eq_true ((fl19 t).symm.trans hf)
  have ht : t.val < 512 := t.isLt
  generalize (after 19 t : S512x8.Idx → EReal) = X at hr ⊢
  obtain ⟨a, b, rfl⟩ := etaS512x8 y
  exact (hr (by omega) a b (by omega)).trans (congrArg (G19 (J m c)) (emb19_at t a b (by omega))).symm

theorem left20 (t : Fin cfg0.N) (hf : (cfg0.win 20).flush t = true) (y : S512x8192.Idx) :
    (after 20 t : S512x8192.Idx → EReal) y = G20 (J m c) (((cfg0.win 20).blk t).view.emb y) := by
  have hr : R22 (J m c) (t.val / 32) (t.val % 32 + 1) (after 20 t) := (dats m 0 c).toRRel_leaves (Rl := Rl m c) (w := 20) rfl (hL 20 t hf)
  have hd := of_decide_eq_true ((fl20 t).symm.trans hf)
  have ht : t.val < 512 := t.isLt
  generalize (after 20 t : S512x8192.Idx → EReal) = X at hr ⊢
  obtain ⟨a, b, rfl⟩ := etaS512x8192 y
  exact (hr (by omega) a b).trans (congrArg (G20 (J m c)) (emb20_at t a b (by omega))).symm

theorem left21 (t : Fin cfg0.N) (hf : (cfg0.win 21).flush t = true) (y : S1x1x512.Idx) :
    (after 21 t : S1x1x512.Idx → EReal) y = G21 (J m c) (((cfg0.win 21).blk t).view.emb y) := by
  have hr : R23 (J m c) (t.val / 32) (t.val % 32 + 1) (after 21 t) := (dats m 0 c).toRRel_leaves (Rl := Rl m c) (w := 21) rfl (hL 21 t hf)
  have hd := of_decide_eq_true ((fl21 t).symm.trans hf)
  have ht : t.val < 512 := t.isLt
  generalize (after 21 t : S1x1x512.Idx → EReal) = X at hr ⊢
  obtain ⟨a, b, e, rfl⟩ := etaS1x1x512 y
  obtain rfl : a = 0 := Subsingleton.elim _ _
  obtain rfl : b = 0 := Subsingleton.elim _ _
  exact (hr (by omega) e).trans (congrArg (G21 (J m c)) (emb21_at t 0 0 e (by omega))).symm

omit hL

theorem cover12 (i : S8192x3072.Idx) : ∃ t : Fin cfg0.N, (cfg0.win 12).flush t = true ∧ i ∈ ((cfg0.win 12).blk t).view.set := by
  obtain ⟨a, b, rfl⟩ := etaS8192x3072 i
  have ha := a.isLt
  have hb := b.isLt
  obtain ⟨p, hp⟩ : ∃ p : ℕ, p = (if b.val / 512 < 5 then 16 + b.val / 512 else 31) := ⟨_, rfl⟩
  have hp' : p < 32 := by (try split_ifs at hp) <;> omega
  obtain ⟨t, ht⟩ : ∃ t : Fin cfg0.N, t.val = 32 * (a.val / 512) + p := ⟨⟨32 * (a.val / 512) + p, show 32 * (a.val / 512) + p < 512 by omega⟩, rfl⟩
  have hq : t.val % 32 = p := by omega
  have hr : t.val / 32 = a.val / 512 := by omega
  refine ⟨t, (fl12 t).trans (decide_eq_true (by rw [hq]; (try split_ifs at hp) <;> omega)), ?_⟩
  have hm := ((cfg0.win 12).blk t).view.emb_mem_set (ix2 ⟨a.val % 512, by omega⟩ ⟨b.val % 512, by omega⟩ : S512x512.Idx)
  have h0 : 512 * (t.val / 32) + a.val % 512 < 8192 := by omega
  have hc : min 5 (t.val % 32 - 16) = b.val / 512 := by rw [hq]; (try split_ifs at hp) <;> omega
  have h1 : 512 * (min 5 (t.val % 32 - 16)) + b.val % 512 < 3072 := by omega
  have he := emb12_at t ⟨a.val % 512, by omega⟩ ⟨b.val % 512, by omega⟩ h0 h1
  have e2 : (⟨512 * (t.val / 32) + a.val % 512, h0⟩ : Fin 8192) = a := Fin.ext (by show 512 * (t.val / 32) + a.val % 512 = a.val; omega)
  have e3 : (⟨512 * (min 5 (t.val % 32 - 16)) + b.val % 512, h1⟩ : Fin 3072) = b := Fin.ext (by show 512 * (min 5 (t.val % 32 - 16)) + b.val % 512 = b.val; omega)
  rw [e2, e3] at he
  exact he ▸ hm

theorem cover13 (i : S8192x3072.Idx) : ∃ t : Fin cfg0.N, (cfg0.win 13).flush t = true ∧ i ∈ ((cfg0.win 13).blk t).view.set := by
  obtain ⟨a, b, rfl⟩ := etaS8192x3072 i
  have ha := a.isLt
  have hb := b.isLt
  obtain ⟨p, hp⟩ : ∃ p : ℕ, p = (26 + b.val / 512) := ⟨_, rfl⟩
  have hp' : p < 32 := by (try split_ifs at hp) <;> omega
  obtain ⟨t, ht⟩ : ∃ t : Fin cfg0.N, t.val = 32 * (a.val / 512) + p := ⟨⟨32 * (a.val / 512) + p, show 32 * (a.val / 512) + p < 512 by omega⟩, rfl⟩
  have hq : t.val % 32 = p := by omega
  have hr : t.val / 32 = a.val / 512 := by omega
  refine ⟨t, (fl13 t).trans (decide_eq_true (by rw [hq]; (try split_ifs at hp) <;> omega)), ?_⟩
  have hm := ((cfg0.win 13).blk t).view.emb_mem_set (ix2 ⟨a.val % 512, by omega⟩ ⟨b.val % 512, by omega⟩ : S512x512.Idx)
  have h0 : 512 * (t.val / 32) + a.val % 512 < 8192 := by omega
  have hc : min 5 (t.val % 32 - 26) = b.val / 512 := by rw [hq]; (try split_ifs at hp) <;> omega
  have h1 : 512 * (min 5 (t.val % 32 - 26)) + b.val % 512 < 3072 := by omega
  have he := emb13_at t ⟨a.val % 512, by omega⟩ ⟨b.val % 512, by omega⟩ h0 h1
  have e2 : (⟨512 * (t.val / 32) + a.val % 512, h0⟩ : Fin 8192) = a := Fin.ext (by show 512 * (t.val / 32) + a.val % 512 = a.val; omega)
  have e3 : (⟨512 * (min 5 (t.val % 32 - 26)) + b.val % 512, h1⟩ : Fin 3072) = b := Fin.ext (by show 512 * (min 5 (t.val % 32 - 26)) + b.val % 512 = b.val; omega)
  rw [e2, e3] at he
  exact he ▸ hm

theorem cover14 (i : S8192x3072.Idx) : ∃ t : Fin cfg0.N, (cfg0.win 14).flush t = true ∧ i ∈ ((cfg0.win 14).blk t).view.set := by
  obtain ⟨a, b, rfl⟩ := etaS8192x3072 i
  have ha := a.isLt
  have hb := b.isLt
  obtain ⟨p, hp⟩ : ∃ p : ℕ, p = 31 := ⟨_, rfl⟩
  have hp' : p < 32 := by (try split_ifs at hp) <;> omega
  obtain ⟨t, ht⟩ : ∃ t : Fin cfg0.N, t.val = 32 * (a.val / 512) + p := ⟨⟨32 * (a.val / 512) + p, show 32 * (a.val / 512) + p < 512 by omega⟩, rfl⟩
  have hq : t.val % 32 = p := by omega
  have hr : t.val / 32 = a.val / 512 := by omega
  refine ⟨t, (fl14 t).trans (decide_eq_true (by rw [hq]; (try split_ifs at hp) <;> omega)), ?_⟩
  have hm := ((cfg0.win 14).blk t).view.emb_mem_set (ix2 ⟨a.val % 512, by omega⟩ b : S512x3072.Idx)
  have h0 : 512 * (t.val / 32) + a.val % 512 < 8192 := by omega
  have he := emb14_at t ⟨a.val % 512, by omega⟩ b h0
  have e2 : (⟨512 * (t.val / 32) + a.val % 512, h0⟩ : Fin 8192) = a := Fin.ext (by show 512 * (t.val / 32) + a.val % 512 = a.val; omega)
  rw [e2] at he
  exact he ▸ hm

theorem cover15 (i : S16x1x512.Idx) : ∃ t : Fin cfg0.N, (cfg0.win 15).flush t = true ∧ i ∈ ((cfg0.win 15).blk t).view.set := by
  obtain ⟨a, b, e, rfl⟩ := etaS16x1x512 i
  have ha := a.isLt
  obtain ⟨t, ht⟩ : ∃ t : Fin cfg0.N, t.val = 32 * a.val + 31 := ⟨⟨32 * a.val + 31, show 32 * a.val + 31 < 512 by omega⟩, rfl⟩
  refine ⟨t, (fl15 t).trans (decide_eq_true (by omega)), ?_⟩
  have h0 : t.val / 32 < 16 := by omega
  have hm := ((cfg0.win 15).blk t).view.emb_mem_set (ix3 0 b e : S1x1x512.Idx)
  have he := emb15_at t 0 b e h0
  have e2 : (⟨t.val / 32, h0⟩ : Fin 16) = a := Fin.ext (by show t.val / 32 = a.val; omega)
  rw [e2] at he
  exact he ▸ hm

theorem cover16 (i : S8192x1024.Idx) : ∃ t : Fin cfg0.N, (cfg0.win 16).flush t = true ∧ i ∈ ((cfg0.win 16).blk t).view.set := by
  obtain ⟨a, b, rfl⟩ := etaS8192x1024 i
  have ha := a.isLt
  have hb := b.isLt
  obtain ⟨p, hp⟩ : ∃ p : ℕ, p = (if b.val / 512 < 1 then 22 else 31) := ⟨_, rfl⟩
  have hp' : p < 32 := by (try split_ifs at hp) <;> omega
  obtain ⟨t, ht⟩ : ∃ t : Fin cfg0.N, t.val = 32 * (a.val / 512) + p := ⟨⟨32 * (a.val / 512) + p, show 32 * (a.val / 512) + p < 512 by omega⟩, rfl⟩
  have hq : t.val % 32 = p := by omega
  have hr : t.val / 32 = a.val / 512 := by omega
  refine ⟨t, (fl16 t).trans (decide_eq_true (by rw [hq]; (try split_ifs at hp) <;> omega)), ?_⟩
  have hm := ((cfg0.win 16).blk t).view.emb_mem_set (ix2 ⟨a.val % 512, by omega⟩ ⟨b.val % 512, by omega⟩ : S512x512.Idx)
  have h0 : 512 * (t.val / 32) + a.val % 512 < 8192 := by omega
  have hc : min 1 (t.val % 32 - 22) = b.val / 512 := by rw [hq]; (try split_ifs at hp) <;> omega
  have h1 : 512 * (min 1 (t.val % 32 - 22)) + b.val % 512 < 1024 := by omega
  have he := emb16_at t ⟨a.val % 512, by omega⟩ ⟨b.val % 512, by omega⟩ h0 h1
  have e2 : (⟨512 * (t.val / 32) + a.val % 512, h0⟩ : Fin 8192) = a := Fin.ext (by show 512 * (t.val / 32) + a.val % 512 = a.val; omega)
  have e3 : (⟨512 * (min 1 (t.val % 32 - 22)) + b.val % 512, h1⟩ : Fin 1024) = b := Fin.ext (by show 512 * (min 1 (t.val % 32 - 22)) + b.val % 512 = b.val; omega)
  rw [e2, e3] at he
  exact he ▸ hm

theorem cover17 (i : S8192x8.Idx) : ∃ t : Fin cfg0.N, (cfg0.win 17).flush t = true ∧ i ∈ ((cfg0.win 17).blk t).view.set := by
  obtain ⟨a, b, rfl⟩ := etaS8192x8 i
  have ha := a.isLt
  have hb := b.isLt
  obtain ⟨p, hp⟩ : ∃ p : ℕ, p = 31 := ⟨_, rfl⟩
  have hp' : p < 32 := by (try split_ifs at hp) <;> omega
  obtain ⟨t, ht⟩ : ∃ t : Fin cfg0.N, t.val = 32 * (a.val / 512) + p := ⟨⟨32 * (a.val / 512) + p, show 32 * (a.val / 512) + p < 512 by omega⟩, rfl⟩
  have hq : t.val % 32 = p := by omega
  have hr : t.val / 32 = a.val / 512 := by omega
  refine ⟨t, (fl17 t).trans (decide_eq_true (by rw [hq]; (try split_ifs at hp) <;> omega)), ?_⟩
  have hm := ((cfg0.win 17).blk t).view.emb_mem_set (ix2 ⟨a.val % 512, by omega⟩ b : S512x8.Idx)
  have h0 : 512 * (t.val / 32) + a.val % 512 < 8192 := by omega
  have he := emb17_at t ⟨a.val % 512, by omega⟩ b h0
  have e2 : (⟨512 * (t.val / 32) + a.val % 512, h0⟩ : Fin 8192) = a := Fin.ext (by show 512 * (t.val / 32) + a.val % 512 = a.val; omega)
  rw [e2] at he
  exact he ▸ hm

theorem cover18 (i : S8192x1024.Idx) : ∃ t : Fin cfg0.N, (cfg0.win 18).flush t = true ∧ i ∈ ((cfg0.win 18).blk t).view.set := by
  obtain ⟨a, b, rfl⟩ := etaS8192x1024 i
  have ha := a.isLt
  have hb := b.isLt
  obtain ⟨p, hp⟩ : ∃ p : ℕ, p = (if b.val / 512 < 1 then 24 else 31) := ⟨_, rfl⟩
  have hp' : p < 32 := by (try split_ifs at hp) <;> omega
  obtain ⟨t, ht⟩ : ∃ t : Fin cfg0.N, t.val = 32 * (a.val / 512) + p := ⟨⟨32 * (a.val / 512) + p, show 32 * (a.val / 512) + p < 512 by omega⟩, rfl⟩
  have hq : t.val % 32 = p := by omega
  have hr : t.val / 32 = a.val / 512 := by omega
  refine ⟨t, (fl18 t).trans (decide_eq_true (by rw [hq]; (try split_ifs at hp) <;> omega)), ?_⟩
  have hm := ((cfg0.win 18).blk t).view.emb_mem_set (ix2 ⟨a.val % 512, by omega⟩ ⟨b.val % 512, by omega⟩ : S512x512.Idx)
  have h0 : 512 * (t.val / 32) + a.val % 512 < 8192 := by omega
  have hc : min 1 (t.val % 32 - 24) = b.val / 512 := by rw [hq]; (try split_ifs at hp) <;> omega
  have h1 : 512 * (min 1 (t.val % 32 - 24)) + b.val % 512 < 1024 := by omega
  have he := emb18_at t ⟨a.val % 512, by omega⟩ ⟨b.val % 512, by omega⟩ h0 h1
  have e2 : (⟨512 * (t.val / 32) + a.val % 512, h0⟩ : Fin 8192) = a := Fin.ext (by show 512 * (t.val / 32) + a.val % 512 = a.val; omega)
  have e3 : (⟨512 * (min 1 (t.val % 32 - 24)) + b.val % 512, h1⟩ : Fin 1024) = b := Fin.ext (by show 512 * (min 1 (t.val % 32 - 24)) + b.val % 512 = b.val; omega)
  rw [e2, e3] at he
  exact he ▸ hm

theorem cover19 (i : S8192x8.Idx) : ∃ t : Fin cfg0.N, (cfg0.win 19).flush t = true ∧ i ∈ ((cfg0.win 19).blk t).view.set := by
  obtain ⟨a, b, rfl⟩ := etaS8192x8 i
  have ha := a.isLt
  have hb := b.isLt
  obtain ⟨p, hp⟩ : ∃ p : ℕ, p = 31 := ⟨_, rfl⟩
  have hp' : p < 32 := by (try split_ifs at hp) <;> omega
  obtain ⟨t, ht⟩ : ∃ t : Fin cfg0.N, t.val = 32 * (a.val / 512) + p := ⟨⟨32 * (a.val / 512) + p, show 32 * (a.val / 512) + p < 512 by omega⟩, rfl⟩
  have hq : t.val % 32 = p := by omega
  have hr : t.val / 32 = a.val / 512 := by omega
  refine ⟨t, (fl19 t).trans (decide_eq_true (by rw [hq]; (try split_ifs at hp) <;> omega)), ?_⟩
  have hm := ((cfg0.win 19).blk t).view.emb_mem_set (ix2 ⟨a.val % 512, by omega⟩ b : S512x8.Idx)
  have h0 : 512 * (t.val / 32) + a.val % 512 < 8192 := by omega
  have he := emb19_at t ⟨a.val % 512, by omega⟩ b h0
  have e2 : (⟨512 * (t.val / 32) + a.val % 512, h0⟩ : Fin 8192) = a := Fin.ext (by show 512 * (t.val / 32) + a.val % 512 = a.val; omega)
  rw [e2] at he
  exact he ▸ hm

theorem cover20 (i : S8192x8192.Idx) : ∃ t : Fin cfg0.N, (cfg0.win 20).flush t = true ∧ i ∈ ((cfg0.win 20).blk t).view.set := by
  obtain ⟨a, b, rfl⟩ := etaS8192x8192 i
  have ha := a.isLt
  have hb := b.isLt
  obtain ⟨p, hp⟩ : ∃ p : ℕ, p = 31 := ⟨_, rfl⟩
  have hp' : p < 32 := by (try split_ifs at hp) <;> omega
  obtain ⟨t, ht⟩ : ∃ t : Fin cfg0.N, t.val = 32 * (a.val / 512) + p := ⟨⟨32 * (a.val / 512) + p, show 32 * (a.val / 512) + p < 512 by omega⟩, rfl⟩
  have hq : t.val % 32 = p := by omega
  have hr : t.val / 32 = a.val / 512 := by omega
  refine ⟨t, (fl20 t).trans (decide_eq_true (by rw [hq]; (try split_ifs at hp) <;> omega)), ?_⟩
  have hm := ((cfg0.win 20).blk t).view.emb_mem_set (ix2 ⟨a.val % 512, by omega⟩ b : S512x8192.Idx)
  have h0 : 512 * (t.val / 32) + a.val % 512 < 8192 := by omega
  have he := emb20_at t ⟨a.val % 512, by omega⟩ b h0
  have e2 : (⟨512 * (t.val / 32) + a.val % 512, h0⟩ : Fin 8192) = a := Fin.ext (by show 512 * (t.val / 32) + a.val % 512 = a.val; omega)
  rw [e2] at he
  exact he ▸ hm

theorem cover21 (i : S16x1x512.Idx) : ∃ t : Fin cfg0.N, (cfg0.win 21).flush t = true ∧ i ∈ ((cfg0.win 21).blk t).view.set := by
  obtain ⟨a, b, e, rfl⟩ := etaS16x1x512 i
  have ha := a.isLt
  obtain ⟨t, ht⟩ : ∃ t : Fin cfg0.N, t.val = 32 * a.val + 31 := ⟨⟨32 * a.val + 31, show 32 * a.val + 31 < 512 by omega⟩, rfl⟩
  refine ⟨t, (fl21 t).trans (decide_eq_true (by omega)), ?_⟩
  have h0 : t.val / 32 < 16 := by omega
  have hm := ((cfg0.win 21).blk t).view.emb_mem_set (ix3 0 b e : S1x1x512.Idx)
  have he := emb21_at t 0 b e h0
  have e2 : (⟨t.val / 32, h0⟩ : Fin 16) = a := Fin.ext (by show t.val / 32 = a.val; omega)
  rw [e2] at he
  exact he ▸ hm

include hL

theorem arr12 : ((rdat m c).withAfter after).arrAt 12 cfg0.N = G12 (J m c) :=
  Pipeline.Dat.arrAt_eq_of_emb ((rdat m c).withAfter after) 12 (G12 (J m c)) (fun t hf y => left12 m c after hL t hf y) cover12

theorem arr13 : ((rdat m c).withAfter after).arrAt 13 cfg0.N = G13 (J m c) :=
  Pipeline.Dat.arrAt_eq_of_emb ((rdat m c).withAfter after) 13 (G13 (J m c)) (fun t hf y => left13 m c after hL t hf y) cover13

theorem arr14 : ((rdat m c).withAfter after).arrAt 14 cfg0.N = G14 (J m c) :=
  Pipeline.Dat.arrAt_eq_of_emb ((rdat m c).withAfter after) 14 (G14 (J m c)) (fun t hf y => left14 m c after hL t hf y) cover14

theorem arr15 : ((rdat m c).withAfter after).arrAt 15 cfg0.N = G15 (J m c) :=
  Pipeline.Dat.arrAt_eq_of_emb ((rdat m c).withAfter after) 15 (G15 (J m c)) (fun t hf y => left15 m c after hL t hf y) cover15

theorem arr16 : ((rdat m c).withAfter after).arrAt 16 cfg0.N = G16 (J m c) :=
  Pipeline.Dat.arrAt_eq_of_emb ((rdat m c).withAfter after) 16 (G16 (J m c)) (fun t hf y => left16 m c after hL t hf y) cover16

theorem arr17 : ((rdat m c).withAfter after).arrAt 17 cfg0.N = G17 (J m c) :=
  Pipeline.Dat.arrAt_eq_of_emb ((rdat m c).withAfter after) 17 (G17 (J m c)) (fun t hf y => left17 m c after hL t hf y) cover17

theorem arr18 : ((rdat m c).withAfter after).arrAt 18 cfg0.N = G18 (J m c) :=
  Pipeline.Dat.arrAt_eq_of_emb ((rdat m c).withAfter after) 18 (G18 (J m c)) (fun t hf y => left18 m c after hL t hf y) cover18

theorem arr19 : ((rdat m c).withAfter after).arrAt 19 cfg0.N = G19 (J m c) :=
  Pipeline.Dat.arrAt_eq_of_emb ((rdat m c).withAfter after) 19 (G19 (J m c)) (fun t hf y => left19 m c after hL t hf y) cover19

theorem arr20 : ((rdat m c).withAfter after).arrAt 20 cfg0.N = G20 (J m c) :=
  Pipeline.Dat.arrAt_eq_of_emb ((rdat m c).withAfter after) 20 (G20 (J m c)) (fun t hf y => left20 m c after hL t hf y) cover20

theorem arr21 : ((rdat m c).withAfter after).arrAt 21 cfg0.N = G21 (J m c) :=
  Pipeline.Dat.arrAt_eq_of_emb ((rdat m c).withAfter after) 21 (G21 (J m c)) (fun t hf y => left21 m c after hL t hf y) cover21

end

variable (m : (ℓ : Loc nD τ sig) → Buf (Elt Ideal) ℓ) (ρ : Dev nD → PrngReg)

section

variable {r : PUnit × MemSt nD τ sig (Elt Ideal)} (h : Pipeline.RDat.FramePost (cfgs 0) (fun c => rdat m c) (V m) r) (c : Dev nD)
include h

theorem res12 : r.2.mem ((c.tc : Thread nD τ).loc main_v15_0) = (G12 (J m c) : Buf (Elt Ideal) ((c.tc : Thread nD τ).loc main_v15_0)) := by
  obtain ⟨after, hL, hA⟩ := Pipeline.RDat.FramePost.exists_exact h c
  exact (hA 12).trans (arr12 m c after hL)

theorem res13 : r.2.mem ((c.tc : Thread nD τ).loc main_v15_1) = (G13 (J m c) : Buf (Elt Ideal) ((c.tc : Thread nD τ).loc main_v15_1)) := by
  obtain ⟨after, hL, hA⟩ := Pipeline.RDat.FramePost.exists_exact h c
  exact (hA 13).trans (arr13 m c after hL)

theorem res14 : r.2.mem ((c.tc : Thread nD τ).loc main_v15_2) = (G14 (J m c) : Buf (Elt Ideal) ((c.tc : Thread nD τ).loc main_v15_2)) := by
  obtain ⟨after, hL, hA⟩ := Pipeline.RDat.FramePost.exists_exact h c
  exact (hA 14).trans (arr14 m c after hL)

theorem res15 : r.2.mem ((c.tc : Thread nD τ).loc main_v15_3) = (G15 (J m c) : Buf (Elt Ideal) ((c.tc : Thread nD τ).loc main_v15_3)) := by
  obtain ⟨after, hL, hA⟩ := Pipeline.RDat.FramePost.exists_exact h c
  exact (hA 15).trans (arr15 m c after hL)

theorem res16 : r.2.mem ((c.tc : Thread nD τ).loc main_v15_4) = (G16 (J m c) : Buf (Elt Ideal) ((c.tc : Thread nD τ).loc main_v15_4)) := by
  obtain ⟨after, hL, hA⟩ := Pipeline.RDat.FramePost.exists_exact h c
  exact (hA 16).trans (arr16 m c after hL)

theorem res17 : r.2.mem ((c.tc : Thread nD τ).loc main_v15_5) = (G17 (J m c) : Buf (Elt Ideal) ((c.tc : Thread nD τ).loc main_v15_5)) := by
  obtain ⟨after, hL, hA⟩ := Pipeline.RDat.FramePost.exists_exact h c
  exact (hA 17).trans (arr17 m c after hL)

theorem res18 : r.2.mem ((c.tc : Thread nD τ).loc main_v15_6) = (G18 (J m c) : Buf (Elt Ideal) ((c.tc : Thread nD τ).loc main_v15_6)) := by
  obtain ⟨after, hL, hA⟩ := Pipeline.RDat.FramePost.exists_exact h c
  exact (hA 18).trans (arr18 m c after hL)

theorem res19 : r.2.mem ((c.tc : Thread nD τ).loc main_v15_7) = (G19 (J m c) : Buf (Elt Ideal) ((c.tc : Thread nD τ).loc main_v15_7)) := by
  obtain ⟨after, hL, hA⟩ := Pipeline.RDat.FramePost.exists_exact h c
  exact (hA 19).trans (arr19 m c after hL)

theorem res20 : r.2.mem ((c.tc : Thread nD τ).loc main_v15_8) = (G20 (J m c) : Buf (Elt Ideal) ((c.tc : Thread nD τ).loc main_v15_8)) := by
  obtain ⟨after, hL, hA⟩ := Pipeline.RDat.FramePost.exists_exact h c
  exact (hA 20).trans (arr20 m c after hL)

theorem res21 : r.2.mem ((c.tc : Thread nD τ).loc main_v15_9) = (G21 (J m c) : Buf (Elt Ideal) ((c.tc : Thread nD τ).loc main_v15_9)) := by
  obtain ⟨after, hL, hA⟩ := Pipeline.RDat.FramePost.exists_exact h c
  exact (hA 21).trans (arr21 m c after hL)

theorem same0 : r.2.mem ((c.tc : Thread nD τ).loc main_arg0) = m ((c.tc : Thread nD τ).loc main_arg0) :=
  ((h c).2 main_arg0 (Pipeline.mem_restRefs_of main_arg0 (by decide) (by decide))).trans (V_main_arg0 m c)

theorem same1 : r.2.mem ((c.tc : Thread nD τ).loc main_arg1) = m ((c.tc : Thread nD τ).loc main_arg1) :=
  ((h c).2 main_arg1 (Pipeline.mem_restRefs_of main_arg1 (by decide) (by decide))).trans (V_main_arg1 m c)

theorem same2 : r.2.mem ((c.tc : Thread nD τ).loc main_arg2) = m ((c.tc : Thread nD τ).loc main_arg2) :=
  ((h c).2 main_arg2 (Pipeline.mem_restRefs_of main_arg2 (by decide) (by decide))).trans (V_main_arg2 m c)

theorem same3 : r.2.mem ((c.tc : Thread nD τ).loc main_arg3) = m ((c.tc : Thread nD τ).loc main_arg3) :=
  (Pipeline.RDat.FramePost.arr_in h c 6 rfl).trans ((A_eq m c 6).trans (V_main_arg3 m c))

theorem same4 : r.2.mem ((c.tc : Thread nD τ).loc main_arg4) = m ((c.tc : Thread nD τ).loc main_arg4) :=
  ((h c).2 main_arg4 (Pipeline.mem_restRefs_of main_arg4 (by decide) (by decide))).trans (V_main_arg4 m c)

theorem same5 : r.2.mem ((c.tc : Thread nD τ).loc main_arg5) = m ((c.tc : Thread nD τ).loc main_arg5) :=
  (Pipeline.RDat.FramePost.arr_in h c 7 rfl).trans ((A_eq m c 7).trans (V_main_arg5 m c))

theorem same6 : r.2.mem ((c.tc : Thread nD τ).loc main_arg6) = m ((c.tc : Thread nD τ).loc main_arg6) :=
  ((h c).2 main_arg6 (Pipeline.mem_restRefs_of main_arg6 (by decide) (by decide))).trans (V_main_arg6 m c)

end

end Cert.KernelIdeal.Val
-- ==== Proof.RIPoint.lean ====
/- The reference's vector operations read entry by entry over the reals, as the functions of Spec.lean. -/
module

public import proofs.«01_k».proof.Proof.Spec
public import proofs.«01_k».proof.Proof.Gen.ReferenceIdeal.Frame
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe
open Cert.Spec (amax rexp sc iv clampS code xnS dotS ropeS gateS expo)

/-! ## The layers -/

theorem c3072 : Ideal.ofBits .f32 0x45400000#32 = ((3072 : ℝ) : EReal) := by
  simp [Ideal.ofBits, Ideal.ieee]; rw [← EReal.coe_mul]; norm_num
theorem div3072 (s : EReal) : Ideal.div s (Ideal.ofBits .f32 0x45400000#32) = s * ((1 / 3072 : ℝ) : EReal) := by
  rw [c3072]; exact Ideal.div_coe (by norm_num) s

theorem pay9_at {x : Vec Ideal S8192x3072 .bf16} {g : Vec Ideal S1x3072 .f32} {X G : ℕ → EReal} {a : Fin 8192}
    (hx : ∀ k : Fin 3072, x (ix2 a k) = X k.val) (hg : ∀ k : Fin 3072, g (ix2 0 k) = G k.val) (b : Fin 3072) :
    k0_pay9 (F := Ideal) x g (ix2 a b) = xnS X G b.val := by
  pointwise [k0_pay9, k0_pay8, hx, hg]
  rw [div3072]; rfl

theorem pay8_at (x : Vec Ideal S8192x3072 .bf16) (a : Fin 8192) (b : Fin 3072) : k0_pay8 (F := Ideal) x (ix2 a b) = x (ix2 a b) := by
  pointwise [k0_pay8]

theorem pay12_at {u : FVec Ideal S8192x3072 .f32} {e : FVec Ideal S8192x1 .f32} {U : ℕ → EReal} {a : Fin 8192}
    (hu : ∀ k : Fin 3072, u (ix2 a k) = U k.val) (he : e (ix2 a 0) = rexp 3072 U) (b : Fin 3072) :
    k0_pay12 (F := Ideal) u e k0_pay11 (ix2 a b) = code 3072 U b.val := by
  pointwise [k0_pay12, k0_pay11, hu, he, code, clampS, iv]
  all_goals rfl

theorem pay13_at {e : FVec Ideal S8192x1 .f32} {U : ℕ → EReal} {a : Fin 8192} (he : e (ix2 a 0) = rexp 3072 U) :
    k0_pay13 (F := Ideal) e (ix2 a 0) = sc 3072 U := by
  pointwise [k0_pay13, he]; rfl

theorem pay14_at {u : FVec Ideal S8192x3072 .f32} {e z : FVec Ideal S8192x1 .f32} {w : Vec Ideal S3072x21504 .fp8e4m3} {s : Vec Ideal S1x21504 .f32}
    {A W : ℕ → EReal} {S T : EReal} {a : Fin 8192} {b : Fin 21504} (hA : ∀ k : Fin 3072, k0_pay12 (F := Ideal) u e z (ix2 a k) = A k.val)
    (hS : k0_pay13 (F := Ideal) e (ix2 a 0) = S) (hw : ∀ k : Fin 3072, w (ix2 k b) = W k.val) (hs : s (ix2 0 b) = T) :
    k0_pay14 (F := Ideal) u e z w s (ix2 a b) = dotS 3072 A W S T := by
  pointwise [k0_pay14, hA, hS, hw, hs]; rfl

section Slices

variable {u : FVec Ideal S8192x3072 .f32} {e z : FVec Ideal S8192x1 .f32} {w : Vec Ideal S3072x21504 .fp8e4m3} {s : Vec Ideal S1x21504 .f32}
  {Z : ℕ → EReal} {a : Fin 8192} (hZ : ∀ b : Fin 21504, k0_pay14 (F := Ideal) u e z w s (ix2 a b) = Z b.val)
include hZ

theorem pay15_at (n : Fin 24) (l : Fin 128) : k0_pay15 (F := Ideal) u e z w s (ix3 a n l) = Z (n.val * 128 + l.val) := by
  pointwise [k0_pay15, hZ]
theorem pay16_at (n : Fin 8) (l : Fin 128) : k0_pay16 (F := Ideal) u e z w s (ix3 a n l) = Z (3072 + (n.val * 128 + l.val)) := by
  pointwise [k0_pay16, hZ]
theorem pay17_at (n : Fin 8) (l : Fin 128) : k0_pay17 (F := Ideal) u e z w s (ix3 a n l) = Z (4096 + (n.val * 128 + l.val)) := by
  pointwise [k0_pay17, hZ]
theorem pay18_at (b : Fin 8192) : k0_pay18 (F := Ideal) u e z w s (ix2 a b) = Z (5120 + b.val) := by
  pointwise [k0_pay18, hZ]
theorem pay19_at (b : Fin 8192) : k0_pay19 (F := Ideal) u e z w s (ix2 a b) = Z (13312 + b.val) := by
  pointwise [k0_pay19, hZ]

end Slices

section Rope

variable {p : Vec Ideal S8192x1 .i32} {f : Vec Ideal S1x64 .f32} {P : EReal} {Fr : ℕ → EReal} {a : Fin 8192}

theorem pay21_at (hp : (FloatOps.sitofp (F := Ideal) .f32 (p (ix2 a 0)) : EReal) = P) (hf : ∀ l : Fin 64, f (ix2 0 l) = Fr l.val) (l : Fin 64) :
    k0_pay21 (F := Ideal) p f (ix3 a 0 l) = Ideal.cos (P * Fr l.val) := by
  pointwise [k0_pay21, k0_pay20, hp, hf]
theorem pay22_at (hp : (FloatOps.sitofp (F := Ideal) .f32 (p (ix2 a 0)) : EReal) = P) (hf : ∀ l : Fin 64, f (ix2 0 l) = Fr l.val) (l : Fin 64) :
    k0_pay22 (F := Ideal) p f (ix3 a 0 l) = Ideal.sin (P * Fr l.val) := by
  pointwise [k0_pay22, k0_pay20, hp, hf]

theorem ropeS_lo (u A : ℕ → EReal) (l : ℕ) (h : l < 64) :
    ropeS u (fun l => A (l % 64)) l = u l * Ideal.cos (A l) - u (64 + l) * Ideal.sin (A l) := by
  unfold ropeS
  rw [if_pos h]
  show u l * Ideal.cos (A (l % 64)) + u ((l + 64) % 128) * (0 - Ideal.sin (A (l % 64))) = _
  rw [Nat.mod_eq_of_lt h, Nat.mod_eq_of_lt (show l + 64 < 128 by omega), zero_sub, mul_neg, ← sub_eq_add_neg, Nat.add_comm l 64]
theorem ropeS_hi (u A : ℕ → EReal) (l : ℕ) (h : ¬ l < 64) (h' : l < 128) :
    ropeS u (fun l => A (l % 64)) l = u l * Ideal.cos (A (l - 64)) + u (l - 64) * Ideal.sin (A (l - 64)) := by
  unfold ropeS
  rw [if_neg h]
  show u l * Ideal.cos (A (l % 64)) + u ((l + 64) % 128) * Ideal.sin (A (l % 64)) = _
  rw [show l % 64 = l - 64 by omega, show (l + 64) % 128 = l - 64 by omega]

section K

variable {u : FVec Ideal S8192x3072 .f32} {e z : FVec Ideal S8192x1 .f32} {w : Vec Ideal S3072x21504 .fp8e4m3} {s : Vec Ideal S1x21504 .f32}
  {K : ℕ → ℕ → EReal} {A : ℕ → EReal}

theorem pay25_at (hk : ∀ (n : Fin 8) (l : Fin 128), k0_pay16 (F := Ideal) u e z w s (ix3 a n l) = K n.val l.val)
    (hc : ∀ l : Fin 64, k0_pay21 (F := Ideal) p f (ix3 a 0 l) = Ideal.cos (A l.val)) (hs : ∀ l : Fin 64, k0_pay22 (F := Ideal) p f (ix3 a 0 l) = Ideal.sin (A l.val)) (n : Fin 8) (l : Fin 64) :
    k0_pay25 (F := Ideal) u e z w s p f (ix3 a n l) = K n.val l.val * Ideal.cos (A l.val) - K n.val (64 + l.val) * Ideal.sin (A l.val) := by
  pointwise [k0_pay25, k0_pay23, k0_pay24, hk, hc, hs]
theorem pay26_at (hk : ∀ (n : Fin 8) (l : Fin 128), k0_pay16 (F := Ideal) u e z w s (ix3 a n l) = K n.val l.val)
    (hc : ∀ l : Fin 64, k0_pay21 (F := Ideal) p f (ix3 a 0 l) = Ideal.cos (A l.val)) (n : Fin 8) (l : Fin 64) :
    k0_pay26 (F := Ideal) u e z w s p f (ix3 a n l) = K n.val (64 + l.val) * Ideal.cos (A l.val) := by
  pointwise [k0_pay26, k0_pay24, hk, hc]
theorem pay27_at (hk : ∀ (n : Fin 8) (l : Fin 128), k0_pay16 (F := Ideal) u e z w s (ix3 a n l) = K n.val l.val)
    (hs : ∀ l : Fin 64, k0_pay22 (F := Ideal) p f (ix3 a 0 l) = Ideal.sin (A l.val)) (n : Fin 8) (l : Fin 64) :
    k0_pay27 (F := Ideal) u e z w s p f (ix3 a n l) = K n.val l.val * Ideal.sin (A l.val) := by
  pointwise [k0_pay27, k0_pay23, hk, hs]

theorem pay28_raw (x y v : FVec Ideal S8192x8x64 .f32) (n : Fin 8) (l : Fin 128) :
    k0_pay28 (F := Ideal) x y v (ix3 a n l) = if h : l.val < 64 then x (ix3 a n ⟨l.val, h⟩) else (y (ix3 a n ⟨l.val - 64, by omega⟩) + v (ix3 a n ⟨l.val - 64, by omega⟩) : EReal) := by
  pointwise [k0_pay28]

theorem pay28_at (hk : ∀ (n : Fin 8) (l : Fin 128), k0_pay16 (F := Ideal) u e z w s (ix3 a n l) = K n.val l.val)
    (hc : ∀ l : Fin 64, k0_pay21 (F := Ideal) p f (ix3 a 0 l) = Ideal.cos (A l.val)) (hs : ∀ l : Fin 64, k0_pay22 (F := Ideal) p f (ix3 a 0 l) = Ideal.sin (A l.val)) (n : Fin 8) (l : Fin 128) :
    k0_pay28 (F := Ideal) (k0_pay25 u e z w s p f) (k0_pay26 u e z w s p f) (k0_pay27 u e z w s p f) (ix3 a n l) = ropeS (K n.val) (fun l => A (l % 64)) l.val := by
  rw [pay28_raw]
  by_cases h : l.val < 64
  · rw [dif_pos h, pay25_at hk hc hs, ropeS_lo _ _ _ h]
  · rw [dif_neg h, pay26_at hk hc, pay27_at hk hs, ropeS_hi _ _ _ h l.isLt]
    show K n.val (64 + (l.val - 64)) * _ + _ = _
    rw [show 64 + (l.val - 64) = l.val by omega]

end K

theorem pay46_raw (v : FVec Ideal S8192x24x128 .f32) (x y : FVec Ideal S8192x1x64 .f32) (l : Fin 3072) :
    k0_pay46 (F := Ideal) v x y (ix2 a l) =
      if h : l.val % 128 < 64 then
        (v (ix3 a ⟨l.val / 128, by omega⟩ ⟨l.val % 128, by omega⟩) * x (ix3 a 0 ⟨l.val % 128, h⟩) - v (ix3 a ⟨l.val / 128, by omega⟩ ⟨64 + l.val % 128, by omega⟩) * y (ix3 a 0 ⟨l.val % 128, h⟩) : EReal)
      else v (ix3 a ⟨l.val / 128, by omega⟩ ⟨64 + (l.val % 128 - 64), by omega⟩) * x (ix3 a 0 ⟨l.val % 128 - 64, by omega⟩) + v (ix3 a ⟨l.val / 128, by omega⟩ ⟨l.val % 128 - 64, by omega⟩) * y (ix3 a 0 ⟨l.val % 128 - 64, by omega⟩) := by
  pointwise [k0_pay46]

theorem pay46_at {v : FVec Ideal S8192x24x128 .f32} {x y : FVec Ideal S8192x1x64 .f32} {K : ℕ → ℕ → EReal} {A : ℕ → EReal}
    (hk : ∀ (n : Fin 24) (l : Fin 128), v (ix3 a n l) = K n.val l.val)
    (hc : ∀ l : Fin 64, x (ix3 a 0 l) = Ideal.cos (A l.val)) (hs : ∀ l : Fin 64, y (ix3 a 0 l) = Ideal.sin (A l.val)) (l : Fin 3072) :
    k0_pay46 (F := Ideal) v x y (ix2 a l) = ropeS (K (l.val / 128)) (fun l => A (l % 64)) (l.val % 128) := by
  rw [pay46_raw]
  by_cases h : l.val % 128 < 64
  · rw [dif_pos h, hk, hk, hc, hs, ropeS_lo _ _ _ h]
  · rw [dif_neg h, hk, hk, hc, hs, ropeS_hi _ _ _ h (Nat.mod_lt _ (by norm_num))]
    show K (l.val / 128) (64 + (l.val % 128 - 64)) * _ + _ = _
    rw [show 64 + (l.val % 128 - 64) = l.val % 128 by omega]

end Rope

section Codes

variable {F : FTy → Type} [FloatOps F]

/-- The heads' eight-bit values from their exponents. -/
def code3 (u : FVec F S8192x8x128 .f32) (e : FVec F S8192x8x1 .f32) : FVec F S8192x8x128 .fp8e4m3 :=
  truncf .fp8e4m3 (minimumf (broadcast S8192x8x128 (Scalar.ofBits .f32 0x43E00000#32)) (maximumf (broadcast S8192x8x128 (Scalar.ofBits .f32 0xC3E00000#32))
    (mulf u (broadcastTo S8192x8x128 (exp2 (subf (broadcast S8192x8x1 (Scalar.ofBits .f32 0x00000000#32)) e)) broadcasts_S8192x8x1_S8192x8x128)))) bitsLt_fp8e4m3_f32

theorem pay30_eq (x y v : FVec F S8192x8x64 .f32) : k0_pay30 x y v = code3 (k0_pay28 x y v) (k0_pay29 x y v) := rfl
theorem pay31_eq (x y v : FVec F S8192x8x64 .f32) : k0_pay31 x y v = exp2 (k0_pay29 x y v) := rfl

end Codes

theorem code3_at {u : FVec Ideal S8192x8x128 .f32} {e : FVec Ideal S8192x8x1 .f32} {U : ℕ → EReal} {a : Fin 8192} {n : Fin 8}
    (hu : ∀ k : Fin 128, u (ix3 a n k) = U k.val) (he : e (ix3 a n 0) = rexp 128 U) (b : Fin 128) :
    code3 (F := Ideal) u e (ix3 a n b) = code 128 U b.val := by
  pointwise [code3, hu, he, code, clampS, iv]
  all_goals rfl
theorem exp3_at {e : FVec Ideal S8192x8x1 .f32} {U : ℕ → EReal} {a : Fin 8192} {n : Fin 8} (he : e (ix3 a n 0) = rexp 128 U) :
    exp2 (F := Ideal) e (ix3 a n 0) = sc 128 U := congrArg Ideal.exp2 he
theorem pay30_at {x y v : FVec Ideal S8192x8x64 .f32} {U : ℕ → EReal} {a : Fin 8192} {n : Fin 8}
    (hu : ∀ k : Fin 128, k0_pay28 (F := Ideal) x y v (ix3 a n k) = U k.val) (he : k0_pay29 (F := Ideal) x y v (ix3 a n 0) = rexp 128 U) (b : Fin 128) :
    k0_pay30 (F := Ideal) x y v (ix3 a n b) = code 128 U b.val := by
  rw [pay30_eq]; exact code3_at hu he b
theorem pay31_at {x y v : FVec Ideal S8192x8x64 .f32} {U : ℕ → EReal} {a : Fin 8192} {n : Fin 8} (he : k0_pay29 (F := Ideal) x y v (ix3 a n 0) = rexp 128 U) :
    k0_pay31 (F := Ideal) x y v (ix3 a n 0) = sc 128 U := by
  rw [pay31_eq]; exact exp3_at he
theorem pay35_at {u : FVec Ideal S8192x8x128 .f32} {t : FVec Ideal S8192x8x1 .f32} {i : FVec Ideal S8192x8x252 .f32} {c : EReal} {U : ℕ → EReal} {a : Fin 8192} {n : Fin 8}
    (hu : ∀ k : Fin 128, u (ix3 a n k) = U k.val) (he : k0_pay34 (F := Ideal) t i c (ix3 a n 0) = rexp 128 U) (b : Fin 128) :
    k0_pay35 (F := Ideal) u t i c (ix3 a n b) = code 128 U b.val := by
  pointwise [k0_pay35, hu, he, code, clampS, iv]
  all_goals rfl
theorem pay36_at {t : FVec Ideal S8192x8x1 .f32} {i : FVec Ideal S8192x8x252 .f32} {c : EReal} {U : ℕ → EReal} {a : Fin 8192} {n : Fin 8}
    (he : k0_pay34 (F := Ideal) t i c (ix3 a n 0) = rexp 128 U) : k0_pay36 (F := Ideal) t i c (ix3 a n 0) = sc 128 U := by
  pointwise [k0_pay36, he]; rfl
theorem pay37_at {u v : FVec Ideal S8192x8192 .f32} {U V : EReal} {a b : Fin 8192} (hu : u (ix2 a b) = U) (hv : v (ix2 a b) = V) :
    k0_pay37 (F := Ideal) u v (ix2 a b) = gateS U V := by
  pointwise [k0_pay37, hu, hv]; rfl
theorem pay43_at {u : FVec Ideal S8192x8192 .f32} {t : FVec Ideal S8192x1 .f32} {i : IVec S8192x252 1} {j : FVec Ideal S8192x252 .f32} {c : EReal} {U : ℕ → EReal} {a : Fin 8192}
    (hu : ∀ k : Fin 8192, u (ix2 a k) = U k.val) (he : k0_pay42 (F := Ideal) t i j c (ix2 a 0) = rexp 8192 U) (b : Fin 8192) :
    k0_pay43 (F := Ideal) u t i j c (ix2 a b) = code 8192 U b.val := by
  pointwise [k0_pay43, hu, he, code, clampS, iv]
  all_goals rfl
theorem pay44_at {t : FVec Ideal S8192x1 .f32} {i : IVec S8192x252 1} {j : FVec Ideal S8192x252 .f32} {c : EReal} {U : ℕ → EReal} {a : Fin 8192}
    (he : k0_pay42 (F := Ideal) t i j c (ix2 a 0) = rexp 8192 U) : k0_pay44 (F := Ideal) t i j c (ix2 a 0) = sc 8192 U := by
  pointwise [k0_pay44, he]; rfl
theorem pay45_at {u : FVec Ideal S8192x8192 .f32} {t : FVec Ideal S8192x1 .f32} {i : IVec S8192x252 1} {j : FVec Ideal S8192x252 .f32} {c : EReal}
    {w : Vec Ideal S8192x3072 .fp8e4m3} {s : Vec Ideal S1x3072 .f32} {A W : ℕ → EReal} {S T : EReal} {a : Fin 8192} {b : Fin 3072}
    (hA : ∀ k : Fin 8192, k0_pay43 (F := Ideal) u t i j c (ix2 a k) = A k.val) (hS : k0_pay44 (F := Ideal) t i j c (ix2 a 0) = S)
    (hw : ∀ k : Fin 8192, w (ix2 k b) = W k.val) (hs : s (ix2 0 b) = T) :
    k0_pay45 (F := Ideal) u t i j c w s (ix2 a b) = dotS 8192 A W S T := by
  pointwise [k0_pay45, hA, hS, hw, hs]; rfl
theorem pay1_at (x y : FVec Ideal S8192x3072 .f32) (a : Fin 8192) (b : Fin 3072) : k0_pay1 (F := Ideal) x y (ix2 a b) = ((x (ix2 a b) : EReal) + y (ix2 a b)) := by
  pointwise [k0_pay1]
theorem pay2_at (v : FVec Ideal S8192x1 .f32) (a : Fin 16) (b : Fin 512) : k0_pay2 (F := Ideal) v (ix3 a 0 b) = v (ix2 ⟨a.val * 512 + b.val, by omega⟩ 0) := by
  pointwise [k0_pay2]
theorem pay7_at (v : FVec Ideal S8192x1 .f32) (a : Fin 16) (b : Fin 512) : k0_pay7 (F := Ideal) v (ix3 a 0 b) = v (ix2 ⟨a.val * 512 + b.val, by omega⟩ 0) := by
  pointwise [k0_pay7]
theorem pay3_at (v : FVec Ideal S8192x8x128 .fp8e4m3) (a : Fin 8192) (b : Fin 1024) : k0_pay3 (F := Ideal) v (ix2 a b) = v (ix3 a ⟨b.val / 128, by omega⟩ ⟨b.val % 128, by omega⟩) := by
  pointwise [k0_pay3]
theorem pay5_at (v : FVec Ideal S8192x8x128 .fp8e4m3) (a : Fin 8192) (b : Fin 1024) : k0_pay5 (F := Ideal) v (ix2 a b) = v (ix3 a ⟨b.val / 128, by omega⟩ ⟨b.val % 128, by omega⟩) := by
  pointwise [k0_pay5]
theorem pay4_at (v : FVec Ideal S8192x8x1 .f32) (a : Fin 8192) (b : Fin 8) : k0_pay4 (F := Ideal) v (ix2 a b) = v (ix3 a b 0) := by
  pointwise [k0_pay4]
theorem pay6_at (v : FVec Ideal S8192x8x1 .f32) (a : Fin 8192) (b : Fin 8) : k0_pay6 (F := Ideal) v (ix2 a b) = v (ix3 a b 0) := by
  pointwise [k0_pay6]

end Cert.ReferenceIdeal.Hand
-- ==== Proof.RIQuant.lean ====
/- The reference's vector operations read entry by entry over the reals, as the functions of Spec.lean. -/
module

public import proofs.«01_k».proof.Proof.Spec
public import proofs.«01_k».proof.Proof.Gen.ReferenceIdeal.Frame
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe
open Cert.Spec (amax rexp sc iv clampS code xnS dotS ropeS gateS expo)

theorem absf_at {φ : FTy} (x : Ideal φ) : FloatOps.absf x = max (x : EReal) (-(x : EReal)) := rfl

/-! ## The exponent of a scale -/

section Defs

variable {F : FTy → Type} [FloatOps F]

/-- The 252 candidates of each row. -/
def cand2 (t : FVec F S8192x1 .f32) : FVec F S8192x252 .f32 :=
  select (cmpf .ole (exp2 (subf (sitofp .f32 (iota .tc S8192x252 32 [1] iota_S8192x252_d1_w32)) (broadcast S8192x252 (Scalar.ofBits .f32 0x42FC0000#32)))) (broadcastTo S8192x252 t broadcasts_S8192x1_S8192x252))
    (addf (subf (sitofp .f32 (iota .tc S8192x252 32 [1] iota_S8192x252_d1_w32)) (broadcast S8192x252 (Scalar.ofBits .f32 0x42FC0000#32))) (broadcast S8192x252 (Scalar.ofBits .f32 0x3F800000#32)))
    (broadcast S8192x252 (Scalar.ofBits .f32 0xC2FC0000#32))

/-- The exponents of the rows. -/
def expo2 (t : FVec F S8192x1 .f32) : FVec F S8192x1 .f32 :=
  select (andi (cmpf .oge t (broadcast S8192x1 (Scalar.ofBits .f32 0x00800000#32))) (cmpf .olt t (broadcast S8192x1 (Scalar.ofBits .f32 0x7E800000#32))))
    (shapeCast S8192x1 (multiReduction .maximumf [1] S8192 (cand2 t) 0xFF800000#32 reduces_S8192x252_S8192 (.inl rfl) rfl) shapeCasts_S8192_S8192x1)
    (broadcast S8192x1 (Scalar.ofBits .f32 0x00000000#32))

/-- The 252 candidates of each row and head. -/
def cand3 (t : FVec F S8192x8x1 .f32) : FVec F S8192x8x252 .f32 :=
  select (cmpf .ole (exp2 (subf (sitofp .f32 (iota .tc S8192x8x252 32 [2] iota_S8192x8x252_d2_w32)) (broadcast S8192x8x252 (Scalar.ofBits .f32 0x42FC0000#32)))) (broadcastTo S8192x8x252 t broadcasts_S8192x8x1_S8192x8x252))
    (addf (subf (sitofp .f32 (iota .tc S8192x8x252 32 [2] iota_S8192x8x252_d2_w32)) (broadcast S8192x8x252 (Scalar.ofBits .f32 0x42FC0000#32))) (broadcast S8192x8x252 (Scalar.ofBits .f32 0x3F800000#32)))
    (broadcast S8192x8x252 (Scalar.ofBits .f32 0xC2FC0000#32))

/-- The exponents of the rows and heads. -/
def expo3 (t : FVec F S8192x8x1 .f32) : FVec F S8192x8x1 .f32 :=
  select (andi (cmpf .oge t (broadcast S8192x8x1 (Scalar.ofBits .f32 0x00800000#32))) (cmpf .olt t (broadcast S8192x8x1 (Scalar.ofBits .f32 0x7E800000#32))))
    (shapeCast S8192x8x1 (multiReduction .maximumf [2] S8192x8 (cand3 t) 0xFF800000#32 reduces_S8192x8x252_S8192x8 (.inl rfl) rfl) shapeCasts_S8192x8_S8192x8x1)
    (broadcast S8192x8x1 (Scalar.ofBits .f32 0x00000000#32))

/-- What the rows of the input are divided by, before it is made a power of two. -/
def t3072 (u : FVec F S8192x3072 .f32) : FVec F S8192x1 .f32 :=
  mulf (shapeCast S8192x1 (multiReduction .maximumf [1] S8192 (absf u) 0xFF800000#32 reduces_S8192x3072_S8192 (.inl rfl) rfl) shapeCasts_S8192_S8192x1) (broadcast S8192x1 (Scalar.ofBits .f32 0x3B124925#32))

/-- The same, of the hidden rows. -/
def t8192 (u : FVec F S8192x8192 .f32) : FVec F S8192x1 .f32 :=
  mulf (shapeCast S8192x1 (multiReduction .maximumf [1] S8192 (absf u) 0xFF800000#32 reduces_S8192x8192_S8192 (.inl rfl) rfl) shapeCasts_S8192_S8192x1) (broadcast S8192x1 (Scalar.ofBits .f32 0x3B124925#32))

/-- The same, of the heads. -/
def t128 (u : FVec F S8192x8x128 .f32) : FVec F S8192x8x1 .f32 :=
  mulf (shapeCast S8192x8x1 (multiReduction .maximumf [2] S8192x8 (absf u) 0xFF800000#32 reduces_S8192x8x128_S8192x8 (.inl rfl) rfl) shapeCasts_S8192x8_S8192x8x1) (broadcast S8192x8x1 (Scalar.ofBits .f32 0x3B124925#32))

theorem pay10_eq (x : Vec F S8192x3072 .bf16) (g : Vec F S1x3072 .f32) : k0_pay10 x g = expo2 (t3072 (k0_pay9 x g)) := rfl
theorem pay29_eq (a b e : FVec F S8192x8x64 .f32) : k0_pay29 a b e = expo3 (t128 (k0_pay28 a b e)) := rfl
theorem pay32_eq (v : FVec F S8192x8x128 .f32) : k0_pay32 v = t128 v := rfl
theorem pay34_eq (t : FVec F S8192x8x1 .f32) : k0_pay34 t k0_pay33 (Scalar.ofBits .f32 0x42FC0000#32) = expo3 t := rfl
theorem pay38_eq (a b : FVec F S8192x8192 .f32) : k0_pay38 a b = t8192 (k0_pay37 a b) := rfl
theorem pay42_eq (a b : FVec F S8192x8192 .f32) : k0_pay42 (k0_pay38 a b) (k0_pay40 a b) k0_pay41 (Scalar.ofBits .f32 0xC2FC0000#32) = expo2 (k0_pay38 a b) := rfl

theorem t3072_gen (u : FVec F S8192x3072 .f32) (i : S8192x1.Idx) :
    t3072 u i = FloatOps.mulf (((shapeCast S8192x1 (multiReduction (F := F) .maximumf [1] S8192 (absf u) 0xFF800000#32 reduces_S8192x3072_S8192 (.inl rfl) rfl) shapeCasts_S8192_S8192x1 : FVec F S8192x1 .f32) i)) (FloatOps.ofBits .f32 0x3B124925#32) := rfl
theorem t8192_gen (u : FVec F S8192x8192 .f32) (i : S8192x1.Idx) :
    t8192 u i = FloatOps.mulf (((shapeCast S8192x1 (multiReduction (F := F) .maximumf [1] S8192 (absf u) 0xFF800000#32 reduces_S8192x8192_S8192 (.inl rfl) rfl) shapeCasts_S8192_S8192x1 : FVec F S8192x1 .f32) i)) (FloatOps.ofBits .f32 0x3B124925#32) := rfl
theorem t128_gen (u : FVec F S8192x8x128 .f32) (i : S8192x8x1.Idx) :
    t128 u i = FloatOps.mulf (((shapeCast S8192x8x1 (multiReduction (F := F) .maximumf [2] S8192x8 (absf u) 0xFF800000#32 reduces_S8192x8x128_S8192x8 (.inl rfl) rfl) shapeCasts_S8192x8_S8192x8x1 : FVec F S8192x8x1 .f32) i)) (FloatOps.ofBits .f32 0x3B124925#32) := rfl

end Defs

theorem iota2_at (a : Fin 8192) (k : Fin 252) : iota .tc S8192x252 32 [1] iota_S8192x252_d1_w32 (ix2 a k) = BitVec.ofNat 32 k.val := by
  pointwise []
theorem iota3_at (a : Fin 8192) (n : Fin 8) (k : Fin 252) : iota .tc S8192x8x252 32 [2] iota_S8192x8x252_d2_w32 (ix3 a n k) = BitVec.ofNat 32 k.val := by
  pointwise []
theorem bc2_at (t : FVec Ideal S8192x1 .f32) (a : Fin 8192) (k : Fin 252) : (broadcastTo S8192x252 t broadcasts_S8192x1_S8192x252 : FVec Ideal S8192x252 .f32) (ix2 a k) = t (ix2 a 0) := by
  pointwise []
theorem bc3_at (t : FVec Ideal S8192x8x1 .f32) (a : Fin 8192) (n : Fin 8) (k : Fin 252) : (broadcastTo S8192x8x252 t broadcasts_S8192x8x1_S8192x8x252 : FVec Ideal S8192x8x252 .f32) (ix3 a n k) = t (ix3 a n 0) := by
  pointwise []
theorem max2 {N K : ℕ} (v : FVec Ideal (⟨2, ![N, K]⟩ : Shape) .f32) (b : BitVec 32) (h : Shape.Reduces (⟨2, ![N, K]⟩ : Shape) [1] (⟨1, ![N]⟩ : Shape)) (h1) (h2) (a : Fin N) :
    multiReduction (F := Ideal) .maximumf [1] (⟨1, ![N]⟩ : Shape) v b h h1 h2 (ix1 a) = (Finset.univ : Finset (Fin K)).fold max (Ideal.ofBits .f32 b) (fun k => v (ix2 a k)) := by
  pointwise []
theorem max3 {N M K : ℕ} (v : FVec Ideal (⟨3, ![N, M, K]⟩ : Shape) .f32) (b : BitVec 32) (h : Shape.Reduces (⟨3, ![N, M, K]⟩ : Shape) [2] (⟨2, ![N, M]⟩ : Shape)) (h1) (h2) (a : Fin N) (n : Fin M) :
    multiReduction (F := Ideal) .maximumf [2] (⟨2, ![N, M]⟩ : Shape) v b h h1 h2 (ix2 a n) = (Finset.univ : Finset (Fin K)).fold max (Ideal.ofBits .f32 b) (fun k => v (ix3 a n k)) := by
  pointwise []
theorem sc2_at (v : FVec Ideal S8192 .f32) (a : Fin 8192) : (shapeCast S8192x1 v shapeCasts_S8192_S8192x1 : FVec Ideal S8192x1 .f32) (ix2 a 0) = v (ix1 a) := by
  pointwise []
theorem sc3_at (v : FVec Ideal S8192x8 .f32) (a : Fin 8192) (n : Fin 8) : (shapeCast S8192x8x1 v shapeCasts_S8192x8_S8192x8x1 : FVec Ideal S8192x8x1 .f32) (ix3 a n 0) = v (ix2 a n) := by
  pointwise []

/-- One candidate from the number and the scale. -/
def candS (t n : EReal) : EReal :=
  Scalar.select (Scalar.cmpf (F := Ideal) (φ := .f32) .ole (Ideal.exp2 (n - Ideal.ofBits .f32 0x42FC0000#32)) t)
    (n - Ideal.ofBits .f32 0x42FC0000#32 + Ideal.ofBits .f32 0x3F800000#32) (Ideal.ofBits .f32 0xC2FC0000#32)

/-- The exponent from the candidates' greatest. -/
def expoS (t m : EReal) : EReal :=
  Scalar.select (IntOp.andi (Scalar.cmpf (F := Ideal) (φ := .f32) .oge t (Ideal.ofBits .f32 0x00800000#32)) (Scalar.cmpf (F := Ideal) (φ := .f32) .olt t (Ideal.ofBits .f32 0x7E800000#32)))
    m (Ideal.ofBits .f32 0x00000000#32)

theorem cand2_def (t : FVec Ideal S8192x1 .f32) (i : S8192x252.Idx) :
    cand2 (F := Ideal) t i = candS ((broadcastTo S8192x252 t broadcasts_S8192x1_S8192x252 : FVec Ideal S8192x252 .f32) i) (((iota .tc S8192x252 32 [1] iota_S8192x252_d1_w32 i).toInt : ℝ) : EReal) := rfl
theorem cand3_def (t : FVec Ideal S8192x8x1 .f32) (i : S8192x8x252.Idx) :
    cand3 (F := Ideal) t i = candS ((broadcastTo S8192x8x252 t broadcasts_S8192x8x1_S8192x8x252 : FVec Ideal S8192x8x252 .f32) i) (((iota .tc S8192x8x252 32 [2] iota_S8192x8x252_d2_w32 i).toInt : ℝ) : EReal) := rfl
theorem expo2_def (t : FVec Ideal S8192x1 .f32) (i : S8192x1.Idx) :
    expo2 (F := Ideal) t i = expoS (t i) ((shapeCast S8192x1 (multiReduction (F := Ideal) .maximumf [1] S8192 (cand2 t) 0xFF800000#32 reduces_S8192x252_S8192 (.inl rfl) rfl) shapeCasts_S8192_S8192x1 : FVec Ideal S8192x1 .f32) i) := rfl
theorem expo3_def (t : FVec Ideal S8192x8x1 .f32) (i : S8192x8x1.Idx) :
    expo3 (F := Ideal) t i = expoS (t i) ((shapeCast S8192x8x1 (multiReduction (F := Ideal) .maximumf [2] S8192x8 (cand3 t) 0xFF800000#32 reduces_S8192x8x252_S8192x8 (.inl rfl) rfl) shapeCasts_S8192x8_S8192x8x1 : FVec Ideal S8192x8x1 .f32) i) := rfl

theorem expo_eq (t : EReal) : expo t = expoS t ((Finset.univ : Finset (Fin 252)).fold max (Ideal.ofBits .f32 0xFF800000#32) (fun k => candS t (((BitVec.ofNat 32 k.val).toInt : ℝ) : EReal))) := by
  unfold expo expoS Cert.Spec.cand candS; rfl

theorem expo2_at (t : FVec Ideal S8192x1 .f32) (a : Fin 8192) : expo2 (F := Ideal) t (ix2 a 0) = expo (t (ix2 a 0)) := by
  rw [expo2_def, sc2_at, expo_eq]
  refine congrArg (expoS _) ((max2 (cand2 t) _ _ _ _ a).trans ?_)
  have e : (fun k : Fin 252 => cand2 (F := Ideal) t (ix2 a k)) = fun k => candS (t (ix2 a 0)) (((BitVec.ofNat 32 k.val).toInt : ℝ) : EReal) :=
    funext fun k => by rw [cand2_def, bc2_at, iota2_at]
  rw [e]
theorem expo3_at (t : FVec Ideal S8192x8x1 .f32) (a : Fin 8192) (n : Fin 8) : expo3 (F := Ideal) t (ix3 a n 0) = expo (t (ix3 a n 0)) := by
  rw [expo3_def, sc3_at, expo_eq]
  refine congrArg (expoS _) ((max3 (cand3 t) _ _ _ _ a n).trans ?_)
  have e : (fun k : Fin 252 => cand3 (F := Ideal) t (ix3 a n k)) = fun k => candS (t (ix3 a n 0)) (((BitVec.ofNat 32 k.val).toInt : ℝ) : EReal) :=
    funext fun k => by rw [cand3_def, bc3_at, iota3_at]
  rw [e]

/-- A row's greatest value divided by 448, as the product it is spelled. -/
def tS (z : EReal) : EReal := FloatOps.mulf (F := Ideal) (φ := .f32) z (FloatOps.ofBits .f32 0x3B124925#32)

theorem tS_eq (z : EReal) : tS z = z * Ideal.ofBits .f32 0x3B124925#32 := rfl

theorem abs_def {s : Shape} (u : FVec Ideal s .f32) (i : s.Idx) : absf (F := Ideal) u i = max (u i : EReal) (-(u i : EReal)) := rfl

theorem t3072_def (u : FVec Ideal S8192x3072 .f32) (i : S8192x1.Idx) :
    t3072 (F := Ideal) u i = tS ((shapeCast S8192x1 (multiReduction (F := Ideal) .maximumf [1] S8192 (absf u) 0xFF800000#32 reduces_S8192x3072_S8192 (.inl rfl) rfl) shapeCasts_S8192_S8192x1 : FVec Ideal S8192x1 .f32) i) := t3072_gen u i
theorem t3072_at {u : FVec Ideal S8192x3072 .f32} {U : ℕ → EReal} {a : Fin 8192} (h : ∀ k : Fin 3072, u (ix2 a k) = U k.val) :
    t3072 (F := Ideal) u (ix2 a 0) = tS (amax 3072 U) := by
  rw [t3072_def, sc2_at]
  refine congrArg tS ((max2 (absf u) _ _ _ _ a).trans ?_)
  unfold amax
  have e : (fun k : Fin 3072 => absf (F := Ideal) u (ix2 a k)) = fun k : Fin 3072 => max (U k.val) (-(U k.val)) :=
    funext fun k => by rw [abs_def, h k]
  rw [e]

theorem t8192_def (u : FVec Ideal S8192x8192 .f32) (i : S8192x1.Idx) :
    t8192 (F := Ideal) u i = tS ((shapeCast S8192x1 (multiReduction (F := Ideal) .maximumf [1] S8192 (absf u) 0xFF800000#32 reduces_S8192x8192_S8192 (.inl rfl) rfl) shapeCasts_S8192_S8192x1 : FVec Ideal S8192x1 .f32) i) := t8192_gen u i
theorem t8192_at {u : FVec Ideal S8192x8192 .f32} {U : ℕ → EReal} {a : Fin 8192} (h : ∀ k : Fin 8192, u (ix2 a k) = U k.val) :
    t8192 (F := Ideal) u (ix2 a 0) = tS (amax 8192 U) := by
  rw [t8192_def, sc2_at]
  refine congrArg tS ((max2 (absf u) _ _ _ _ a).trans ?_)
  unfold amax
  have e : (fun k : Fin 8192 => absf (F := Ideal) u (ix2 a k)) = fun k : Fin 8192 => max (U k.val) (-(U k.val)) :=
    funext fun k => by rw [abs_def, h k]
  rw [e]

theorem t128_def (u : FVec Ideal S8192x8x128 .f32) (i : S8192x8x1.Idx) :
    t128 (F := Ideal) u i = tS ((shapeCast S8192x8x1 (multiReduction (F := Ideal) .maximumf [2] S8192x8 (absf u) 0xFF800000#32 reduces_S8192x8x128_S8192x8 (.inl rfl) rfl) shapeCasts_S8192x8_S8192x8x1 : FVec Ideal S8192x8x1 .f32) i) := t128_gen u i
theorem t128_at {u : FVec Ideal S8192x8x128 .f32} {U : ℕ → EReal} {a : Fin 8192} {n : Fin 8} (h : ∀ k : Fin 128, u (ix3 a n k) = U k.val) :
    t128 (F := Ideal) u (ix3 a n 0) = tS (amax 128 U) := by
  rw [t128_def, sc3_at]
  refine congrArg tS ((max3 (absf u) _ _ _ _ a n).trans ?_)
  unfold amax
  have e : (fun k : Fin 128 => absf (F := Ideal) u (ix3 a n k)) = fun k : Fin 128 => max (U k.val) (-(U k.val)) :=
    funext fun k => by rw [abs_def, h k]
  rw [e]

theorem e3072_at {u : FVec Ideal S8192x3072 .f32} {U : ℕ → EReal} {a : Fin 8192} (h : ∀ k : Fin 3072, u (ix2 a k) = U k.val) :
    expo2 (F := Ideal) (t3072 u) (ix2 a 0) = rexp 3072 U := by rw [expo2_at, t3072_at h, tS_eq]; rfl
theorem e8192_at {u : FVec Ideal S8192x8192 .f32} {U : ℕ → EReal} {a : Fin 8192} (h : ∀ k : Fin 8192, u (ix2 a k) = U k.val) :
    expo2 (F := Ideal) (t8192 u) (ix2 a 0) = rexp 8192 U := by rw [expo2_at, t8192_at h, tS_eq]; rfl
theorem e128_at {u : FVec Ideal S8192x8x128 .f32} {U : ℕ → EReal} {a : Fin 8192} {n : Fin 8} (h : ∀ k : Fin 128, u (ix3 a n k) = U k.val) :
    expo3 (F := Ideal) (t128 u) (ix3 a n 0) = rexp 128 U := by rw [expo3_at, t128_at h, tS_eq]; rfl

end Cert.ReferenceIdeal.Hand
-- ==== Proof.RIOut.lean ====
/- What the reference's body leaves in each result, entry by entry, as the functions of Spec.lean. -/
module

public import proofs.«01_k».proof.Proof.RIPoint
public import proofs.«01_k».proof.Proof.RIQuant
public import proofs.«01_k».proof.Proof.Gen.ReferenceIdeal.Frame
public import Idealize.ShloMosaic.Lib.Pipeline.ValueKit.Basic

@[expose] public section

set_option maxRecDepth 16384

noncomputable section

namespace Cert.ReferenceIdeal.Hand

open Cert.ReferenceIdeal Cert.ReferenceIdeal.Gen
open Idealize.ShloMosaic Idealize.ShloMosaic.TcCoe
open Cert.Spec (In amax rexp sc iv clampS code xnS dotS ropeS gateS expo)

/-- The body's blocks hold the inputs. -/
structure Ok (I : In) (x0 : Vec Ideal S8192x3072 .bf16) (x1 : Vec Ideal S8192x1 .i32) (x2 : Vec Ideal S1x64 .f32) (x3 : Vec Ideal S1x3072 .f32) (x4 : Vec Ideal S3072x21504 .fp8e4m3) (x5 : Vec Ideal S1x21504 .f32) (x6 : Vec Ideal S8192x3072 .fp8e4m3) (x7 : Vec Ideal S1x3072 .f32) : Prop where
  x (r : Fin 8192) (k : Fin 3072) : (x0 (ix2 r k) : EReal) = I.x r.val k.val
  p (r : Fin 8192) : (FloatOps.sitofp (F := Ideal) .f32 (x1 (ix2 r 0)) : EReal) = I.pos r.val
  f (l : Fin 64) : (x2 (ix2 0 l) : EReal) = I.fr l.val
  g (k : Fin 3072) : (x3 (ix2 0 k) : EReal) = I.g k.val
  w (k : Fin 3072) (n : Fin 21504) : (x4 (ix2 k n) : EReal) = I.w k.val n.val
  sw (n : Fin 21504) : (x5 (ix2 0 n) : EReal) = I.sw n.val
  d (k : Fin 8192) (n : Fin 3072) : (x6 (ix2 k n) : EReal) = I.d k.val n.val
  sd (n : Fin 3072) : (x7 (ix2 0 n) : EReal) = I.sd n.val

section

variable (x0 : Vec Ideal S8192x3072 .bf16) (x1 : Vec Ideal S8192x1 .i32) (x2 : Vec Ideal S1x64 .f32) (x3 : Vec Ideal S1x3072 .f32) (x4 : Vec Ideal S3072x21504 .fp8e4m3) (x5 : Vec Ideal S1x21504 .f32) (x6 : Vec Ideal S8192x3072 .fp8e4m3) (x7 : Vec Ideal S1x3072 .f32)

theorem ld0 : View.ld x0 r0_0 = x0 := View.ld_unit_lit _ _ (by decide)
theorem ld6 : View.ld x6 r0_0 = x6 := View.ld_unit_lit _ _ (by decide)
theorem ld3 : View.ld x3 r0_1 = x3 := View.ld_unit_lit _ _ (by decide)
theorem ld4 : View.ld x4 r0_2 = x4 := View.ld_unit_lit _ _ (by decide)
theorem ld5 : View.ld x5 r0_3 = x5 := View.ld_unit_lit _ _ (by decide)
theorem ld1 : View.ld x1 r0_4 = x1 := View.ld_unit_lit _ _ (by decide)
theorem ld2 : View.ld x2 r0_5 = x2 := View.ld_unit_lit _ _ (by decide)

theorem e47 : (k0_pay47 (F := Ideal) x0 x1 x2 x3 x4 x5 x6 x7) = k0_pay9 x0 x3 := by
  unfold k0_pay47
  rw [ld0, ld3]
theorem e48 : (k0_pay48 (F := Ideal) x0 x1 x2 x3 x4 x5 x6 x7) = k0_pay10 x0 x3 := by
  unfold k0_pay48
  rw [ld0, ld3]
theorem e49 : (k0_pay49 (F := Ideal) x0 x1 x2 x3 x4 x5 x6 x7) = k0_pay11 := rfl
theorem e50 : (k0_pay50 (F := Ideal) x0 x1 x2 x3 x4 x5 x6 x7) = k0_pay17 (k0_pay47 (F := Ideal) x0 x1 x2 x3 x4 x5 x6 x7) (k0_pay48 (F := Ideal) x0 x1 x2 x3 x4 x5 x6 x7) (k0_pay49 (F := Ideal) x0 x1 x2 x3 x4 x5 x6 x7) x4 x5 := by
  unfold k0_pay50
  rw [ld4, ld5]
theorem e51 : (k0_pay51 (F := Ideal) x0 x1 x2 x3 x4 x5 x6 x7) = k0_pay18 (k0_pay47 (F := Ideal) x0 x1 x2 x3 x4 x5 x6 x7) (k0_pay48 (F := Ideal) x0 x1 x2 x3 x4 x5 x6 x7) (k0_pay49 (F := Ideal) x0 x1 x2 x3 x4 x5 x6 x7) x4 x5 := by
  unfold k0_pay51
  rw [ld4, ld5]
theorem e52 : (k0_pay52 (F := Ideal) x0 x1 x2 x3 x4 x5 x6 x7) = k0_pay19 (k0_pay47 (F := Ideal) x0 x1 x2 x3 x4 x5 x6 x7) (k0_pay48 (F := Ideal) x0 x1 x2 x3 x4 x5 x6 x7) (k0_pay49 (F := Ideal) x0 x1 x2 x3 x4 x5 x6 x7) x4 x5 := by
  unfold k0_pay52
  rw [ld4, ld5]
theorem e53 : (k0_pay53 (F := Ideal) x0 x1 x2 x3 x4 x5 x6 x7) = k0_pay25 (k0_pay47 (F := Ideal) x0 x1 x2 x3 x4 x5 x6 x7) (k0_pay48 (F := Ideal) x0 x1 x2 x3 x4 x5 x6 x7) (k0_pay49 (F := Ideal) x0 x1 x2 x3 x4 x5 x6 x7) x4 x5 x1 x2 := by
  unfold k0_pay53
  rw [ld4, ld5, ld1, ld2]
theorem e54 : (k0_pay54 (F := Ideal) x0 x1 x2 x3 x4 x5 x6 x7) = k0_pay26 (k0_pay47 (F := Ideal) x0 x1 x2 x3 x4 x5 x6 x7) (k0_pay48 (F := Ideal) x0 x1 x2 x3 x4 x5 x6 x7) (k0_pay49 (F := Ideal) x0 x1 x2 x3 x4 x5 x6 x7) x4 x5 x1 x2 := by
  unfold k0_pay54
  rw [ld4, ld5, ld1, ld2]
theorem e55 : (k0_pay55 (F := Ideal) x0 x1 x2 x3 x4 x5 x6 x7) = k0_pay27 (k0_pay47 (F := Ideal) x0 x1 x2 x3 x4 x5 x6 x7) (k0_pay48 (F := Ideal) x0 x1 x2 x3 x4 x5 x6 x7) (k0_pay49 (F := Ideal) x0 x1 x2 x3 x4 x5 x6 x7) x4 x5 x1 x2 := by
  unfold k0_pay55
  rw [ld4, ld5, ld1, ld2]
theorem e56 : (k0_pay56 (F := Ideal) x0 x1 x2 x3 x4 x5 x6 x7) = k0_pay32 (k0_pay50 (F := Ideal) x0 x1 x2 x3 x4 x5 x6 x7) := rfl
theorem e57 : (k0_pay57 (F := Ideal) x0 x1 x2 x3 x4 x5 x6 x7) = k0_pay33 := rfl
theorem e58 : (k0_pay58 (F := Ideal) x0 x1 x2 x3 x4 x5 x6 x7) = k0_pay37 (k0_pay51 (F := Ideal) x0 x1 x2 x3 x4 x5 x6 x7) (k0_pay52 (F := Ideal) x0 x1 x2 x3 x4 x5 x6 x7) := rfl
theorem e59 : (k0_pay59 (F := Ideal) x0 x1 x2 x3 x4 x5 x6 x7) = k0_pay38 (k0_pay51 (F := Ideal) x0 x1 x2 x3 x4 x5 x6 x7) (k0_pay52 (F := Ideal) x0 x1 x2 x3 x4 x5 x6 x7) := rfl
theorem e60 : (k0_pay60 (F := Ideal) x0 x1 x2 x3 x4 x5 x6 x7) = k0_pay40 (k0_pay51 (F := Ideal) x0 x1 x2 x3 x4 x5 x6 x7) (k0_pay52 (F := Ideal) x0 x1 x2 x3 x4 x5 x6 x7) := rfl
theorem e61 : (k0_pay61 (F := Ideal) x0 x1 x2 x3 x4 x5 x6 x7) = k0_pay41 := rfl

end

section

variable {I : In} {x0 : Vec Ideal S8192x3072 .bf16} {x1 : Vec Ideal S8192x1 .i32} {x2 : Vec Ideal S1x64 .f32} {x3 : Vec Ideal S1x3072 .f32} {x4 : Vec Ideal S3072x21504 .fp8e4m3} {x5 : Vec Ideal S1x21504 .f32} {x6 : Vec Ideal S8192x3072 .fp8e4m3} {x7 : Vec Ideal S1x3072 .f32}
  (ok : Ok I x0 x1 x2 x3 x4 x5 x6 x7) (a : Fin 8192)
include ok

theorem xn_at (b : Fin 3072) : (k0_pay47 (F := Ideal) x0 x1 x2 x3 x4 x5 x6 x7) (ix2 a b) = Cert.Spec.xn I a.val b.val := by
  rw [e47]; exact pay9_at (X := I.x a.val) (G := I.g) (fun k => ok.x a k) (fun k => ok.g k) b
theorem e_at : (k0_pay48 (F := Ideal) x0 x1 x2 x3 x4 x5 x6 x7) (ix2 a 0) = rexp 3072 (Cert.Spec.xn I a.val) := by
  rw [e48, pay10_eq]; exact e3072_at (U := Cert.Spec.xn I a.val) (fun b => pay9_at (X := I.x a.val) (G := I.g) (fun k => ok.x a k) (fun k => ok.g k) b)
theorem xc_at (b : Fin 3072) : k0_pay12 (F := Ideal) (k0_pay47 (F := Ideal) x0 x1 x2 x3 x4 x5 x6 x7) (k0_pay48 (F := Ideal) x0 x1 x2 x3 x4 x5 x6 x7) (k0_pay49 (F := Ideal) x0 x1 x2 x3 x4 x5 x6 x7) (ix2 a b) = Cert.Spec.xc I a.val b.val := by
  rw [e49]; exact pay12_at (xn_at ok a) (e_at ok a) b
theorem xs_at : k0_pay13 (F := Ideal) (k0_pay48 (F := Ideal) x0 x1 x2 x3 x4 x5 x6 x7) (ix2 a 0) = Cert.Spec.xs I a.val := pay13_at (e_at ok a)
theorem z_at (b : Fin 21504) : k0_pay14 (F := Ideal) (k0_pay47 (F := Ideal) x0 x1 x2 x3 x4 x5 x6 x7) (k0_pay48 (F := Ideal) x0 x1 x2 x3 x4 x5 x6 x7) (k0_pay49 (F := Ideal) x0 x1 x2 x3 x4 x5 x6 x7) x4 x5 (ix2 a b) = Cert.Spec.z I a.val b.val :=
  pay14_at (A := Cert.Spec.xc I a.val) (W := fun k => I.w k b.val) (xc_at ok a) (xs_at ok a) (fun k => ok.w k b) (ok.sw b)
theorem cos_at (l : Fin 64) : k0_pay21 (F := Ideal) x1 x2 (ix3 a 0 l) = Ideal.cos ((fun l => I.pos a.val * I.fr l) l.val) := pay21_at (Fr := I.fr) (ok.p a) ok.f l
theorem sin_at (l : Fin 64) : k0_pay22 (F := Ideal) x1 x2 (ix3 a 0 l) = Ideal.sin ((fun l => I.pos a.val * I.fr l) l.val) := pay22_at (Fr := I.fr) (ok.p a) ok.f l
theorem q3_at (n : Fin 24) (l : Fin 128) : k0_pay15 (F := Ideal) (k0_pay47 (F := Ideal) x0 x1 x2 x3 x4 x5 x6 x7) (k0_pay48 (F := Ideal) x0 x1 x2 x3 x4 x5 x6 x7) (k0_pay49 (F := Ideal) x0 x1 x2 x3 x4 x5 x6 x7) x4 x5 (ix3 a n l) = (fun n l => Cert.Spec.z I a.val (128 * n + l)) n.val l.val :=
  (pay15_at (Z := Cert.Spec.z I a.val) (z_at ok a) n l).trans (congrArg (Cert.Spec.z I a.val) (by omega))
theorem q_at (l : Fin 3072) : k0_pay46 (F := Ideal) (k0_pay15 (k0_pay47 (F := Ideal) x0 x1 x2 x3 x4 x5 x6 x7) (k0_pay48 (F := Ideal) x0 x1 x2 x3 x4 x5 x6 x7) (k0_pay49 (F := Ideal) x0 x1 x2 x3 x4 x5 x6 x7) x4 x5) (k0_pay21 x1 x2) (k0_pay22 x1 x2) (ix2 a l) = Cert.Spec.q I a.val l.val :=
  pay46_at (K := fun n l => Cert.Spec.z I a.val (128 * n + l)) (A := fun l => I.pos a.val * I.fr l) (q3_at ok a) (cos_at ok a) (sin_at ok a) l
theorem k3_at (n : Fin 8) (l : Fin 128) : k0_pay16 (F := Ideal) (k0_pay47 (F := Ideal) x0 x1 x2 x3 x4 x5 x6 x7) (k0_pay48 (F := Ideal) x0 x1 x2 x3 x4 x5 x6 x7) (k0_pay49 (F := Ideal) x0 x1 x2 x3 x4 x5 x6 x7) x4 x5 (ix3 a n l) = (fun n l => Cert.Spec.z I a.val (3072 + 128 * n + l)) n.val l.val :=
  (pay16_at (Z := Cert.Spec.z I a.val) (z_at ok a) n l).trans (congrArg (Cert.Spec.z I a.val) (by omega))
theorem kh_at (n : Fin 8) (l : Fin 128) : k0_pay28 (F := Ideal) (k0_pay53 (F := Ideal) x0 x1 x2 x3 x4 x5 x6 x7) (k0_pay54 (F := Ideal) x0 x1 x2 x3 x4 x5 x6 x7) (k0_pay55 (F := Ideal) x0 x1 x2 x3 x4 x5 x6 x7) (ix3 a n l) = Cert.Spec.kh I a.val n.val l.val := by
  rw [e53, e54, e55]
  exact pay28_at (K := fun n l => Cert.Spec.z I a.val (3072 + 128 * n + l)) (A := fun l => I.pos a.val * I.fr l) (k3_at ok a) (cos_at ok a) (sin_at ok a) n l
theorem ke_at (n : Fin 8) : k0_pay29 (F := Ideal) (k0_pay53 (F := Ideal) x0 x1 x2 x3 x4 x5 x6 x7) (k0_pay54 (F := Ideal) x0 x1 x2 x3 x4 x5 x6 x7) (k0_pay55 (F := Ideal) x0 x1 x2 x3 x4 x5 x6 x7) (ix3 a n 0) = rexp 128 (Cert.Spec.kh I a.val n.val) := by
  rw [pay29_eq]; exact e128_at (kh_at ok a n)
theorem kc_at (n : Fin 8) (l : Fin 128) : k0_pay30 (F := Ideal) (k0_pay53 (F := Ideal) x0 x1 x2 x3 x4 x5 x6 x7) (k0_pay54 (F := Ideal) x0 x1 x2 x3 x4 x5 x6 x7) (k0_pay55 (F := Ideal) x0 x1 x2 x3 x4 x5 x6 x7) (ix3 a n l) = code 128 (Cert.Spec.kh I a.val n.val) l.val := pay30_at (kh_at ok a n) (ke_at ok a n) l
theorem ks_at (n : Fin 8) : k0_pay31 (F := Ideal) (k0_pay53 (F := Ideal) x0 x1 x2 x3 x4 x5 x6 x7) (k0_pay54 (F := Ideal) x0 x1 x2 x3 x4 x5 x6 x7) (k0_pay55 (F := Ideal) x0 x1 x2 x3 x4 x5 x6 x7) (ix3 a n 0) = Cert.Spec.ks I a.val n.val := pay31_at (ke_at ok a n)
theorem vh_at (n : Fin 8) (l : Fin 128) : (k0_pay50 (F := Ideal) x0 x1 x2 x3 x4 x5 x6 x7) (ix3 a n l) = Cert.Spec.vh I a.val n.val l.val := by
  rw [e50]
  exact (pay17_at (Z := Cert.Spec.z I a.val) (z_at ok a) n l).trans (congrArg (Cert.Spec.z I a.val) (show 4096 + (n.val * 128 + l.val) = 4096 + 128 * n.val + l.val by omega))
theorem ve_at (n : Fin 8) : k0_pay34 (F := Ideal) (k0_pay56 (F := Ideal) x0 x1 x2 x3 x4 x5 x6 x7) (k0_pay57 (F := Ideal) x0 x1 x2 x3 x4 x5 x6 x7) (Scalar.ofBits .f32 0x42FC0000#32) (ix3 a n 0) = rexp 128 (Cert.Spec.vh I a.val n.val) := by
  rw [e57, pay34_eq, e56, pay32_eq]; exact e128_at (vh_at ok a n)
theorem vc_at (n : Fin 8) (l : Fin 128) : k0_pay35 (F := Ideal) (k0_pay50 (F := Ideal) x0 x1 x2 x3 x4 x5 x6 x7) (k0_pay56 (F := Ideal) x0 x1 x2 x3 x4 x5 x6 x7) (k0_pay57 (F := Ideal) x0 x1 x2 x3 x4 x5 x6 x7) (Scalar.ofBits .f32 0x42FC0000#32) (ix3 a n l) = code 128 (Cert.Spec.vh I a.val n.val) l.val := pay35_at (vh_at ok a n) (ve_at ok a n) l
theorem vs_at (n : Fin 8) : k0_pay36 (F := Ideal) (k0_pay56 (F := Ideal) x0 x1 x2 x3 x4 x5 x6 x7) (k0_pay57 (F := Ideal) x0 x1 x2 x3 x4 x5 x6 x7) (Scalar.ofBits .f32 0x42FC0000#32) (ix3 a n 0) = Cert.Spec.vs I a.val n.val := pay36_at (ve_at ok a n)
theorem u_at (b : Fin 8192) : (k0_pay51 (F := Ideal) x0 x1 x2 x3 x4 x5 x6 x7) (ix2 a b) = Cert.Spec.z I a.val (5120 + b.val) := by
  rw [e51]; exact pay18_at (Z := Cert.Spec.z I a.val) (z_at ok a) b
theorem v_at (b : Fin 8192) : (k0_pay52 (F := Ideal) x0 x1 x2 x3 x4 x5 x6 x7) (ix2 a b) = Cert.Spec.z I a.val (13312 + b.val) := by
  rw [e52]; exact pay19_at (Z := Cert.Spec.z I a.val) (z_at ok a) b
theorem g_at (b : Fin 8192) : k0_pay37 (F := Ideal) (k0_pay51 (F := Ideal) x0 x1 x2 x3 x4 x5 x6 x7) (k0_pay52 (F := Ideal) x0 x1 x2 x3 x4 x5 x6 x7) (ix2 a b) = Cert.Spec.h I a.val b.val := pay37_at (u_at ok a b) (v_at ok a b)
theorem h_at (b : Fin 8192) : (k0_pay58 (F := Ideal) x0 x1 x2 x3 x4 x5 x6 x7) (ix2 a b) = Cert.Spec.h I a.val b.val := by
  rw [e58]; exact g_at ok a b
theorem he_at : k0_pay42 (F := Ideal) (k0_pay59 (F := Ideal) x0 x1 x2 x3 x4 x5 x6 x7) (k0_pay60 (F := Ideal) x0 x1 x2 x3 x4 x5 x6 x7) (k0_pay61 (F := Ideal) x0 x1 x2 x3 x4 x5 x6 x7) (Scalar.ofBits .f32 0xC2FC0000#32) (ix2 a 0) = rexp 8192 (Cert.Spec.h I a.val) := by
  rw [e59, e60, e61, pay42_eq, pay38_eq]; exact e8192_at (g_at ok a)
theorem hc_at (b : Fin 8192) : k0_pay43 (F := Ideal) (k0_pay58 (F := Ideal) x0 x1 x2 x3 x4 x5 x6 x7) (k0_pay59 (F := Ideal) x0 x1 x2 x3 x4 x5 x6 x7) (k0_pay60 (F := Ideal) x0 x1 x2 x3 x4 x5 x6 x7) (k0_pay61 (F := Ideal) x0 x1 x2 x3 x4 x5 x6 x7) (Scalar.ofBits .f32 0xC2FC0000#32) (ix2 a b) = Cert.Spec.hc I a.val b.val := pay43_at (h_at ok a) (he_at ok a) b
theorem hs_at : k0_pay44 (F := Ideal) (k0_pay59 (F := Ideal) x0 x1 x2 x3 x4 x5 x6 x7) (k0_pay60 (F := Ideal) x0 x1 x2 x3 x4 x5 x6 x7) (k0_pay61 (F := Ideal) x0 x1 x2 x3 x4 x5 x6 x7) (Scalar.ofBits .f32 0xC2FC0000#32) (ix2 a 0) = Cert.Spec.hs I a.val := pay44_at (he_at ok a)
theorem y_at (b : Fin 3072) : k0_pay1 (F := Ideal) (k0_pay8 x0) (k0_pay45 (k0_pay58 (F := Ideal) x0 x1 x2 x3 x4 x5 x6 x7) (k0_pay59 (F := Ideal) x0 x1 x2 x3 x4 x5 x6 x7) (k0_pay60 (F := Ideal) x0 x1 x2 x3 x4 x5 x6 x7) (k0_pay61 (F := Ideal) x0 x1 x2 x3 x4 x5 x6 x7) (Scalar.ofBits .f32 0xC2FC0000#32) x6 x7) (ix2 a b) = Cert.Spec.y I a.val b.val := by
  rw [pay1_at, pay8_at, ok.x]
  exact congrArg (I.x a.val b.val + ·) (pay45_at (A := Cert.Spec.hc I a.val) (W := fun k => I.d k b.val) (hc_at ok a) (hs_at ok a) (fun k => ok.d k b) (ok.sd b))

theorem o8 (b : Fin 3072) : (out0_8 (F := Ideal) x0 x1 x2 x3 x4 x5 x6 x7 : S8192x3072.Idx → EReal) (ix2 a b) = Cert.Spec.q I a.val b.val := by
  unfold out0_8
  rw [View.canon_cons_unit_lit _ _ _ (by decide), ld4, ld5, ld1, ld2]
  exact q_at ok a b
theorem o9 (b : Fin 3072) : (out0_9 (F := Ideal) x0 x1 x2 x3 x4 x5 x6 x7 : S8192x3072.Idx → EReal) (ix2 a b) = Cert.Spec.y I a.val b.val := by
  unfold out0_9
  rw [View.canon_cons_unit_lit _ _ _ (by decide), ld0, ld6, ld3]
  exact y_at ok a b
theorem o10 (b : Fin 3072) : (out0_10 (F := Ideal) x0 x1 x2 x3 x4 x5 x6 x7 : S8192x3072.Idx → EReal) (ix2 a b) = Cert.Spec.xc I a.val b.val := by
  unfold out0_10
  rw [View.canon_cons_unit_lit _ _ _ (by decide)]
  exact xc_at ok a b
theorem o11 (a : Fin 16) (b : Fin 512) : (out0_11 (F := Ideal) x0 x1 x2 x3 x4 x5 x6 x7 : S16x1x512.Idx → EReal) (ix3 a 0 b) = Cert.Spec.xs I (512 * a.val + b.val) := by
  unfold out0_11
  rw [View.canon_cons_unit_lit _ _ _ (by decide), pay2_at]
  exact (xs_at ok ⟨a.val * 512 + b.val, by omega⟩).trans (congrArg (Cert.Spec.xs I) (show a.val * 512 + b.val = 512 * a.val + b.val by omega))
theorem o17 (a : Fin 16) (b : Fin 512) : (out0_17 (F := Ideal) x0 x1 x2 x3 x4 x5 x6 x7 : S16x1x512.Idx → EReal) (ix3 a 0 b) = Cert.Spec.hs I (512 * a.val + b.val) := by
  unfold out0_17
  rw [View.canon_cons_unit_lit _ _ _ (by decide), pay7_at]
  exact (hs_at ok ⟨a.val * 512 + b.val, by omega⟩).trans (congrArg (Cert.Spec.hs I) (show a.val * 512 + b.val = 512 * a.val + b.val by omega))
theorem o12 (b : Fin 1024) : (out0_12 (F := Ideal) x0 x1 x2 x3 x4 x5 x6 x7 : S8192x1024.Idx → EReal) (ix2 a b) = Cert.Spec.kc I a.val b.val := by
  unfold out0_12
  rw [View.canon_cons_unit_lit _ _ _ (by decide), pay3_at]
  exact kc_at ok a ⟨b.val / 128, by omega⟩ ⟨b.val % 128, by omega⟩
theorem o14 (b : Fin 1024) : (out0_14 (F := Ideal) x0 x1 x2 x3 x4 x5 x6 x7 : S8192x1024.Idx → EReal) (ix2 a b) = Cert.Spec.vc I a.val b.val := by
  unfold out0_14
  rw [View.canon_cons_unit_lit _ _ _ (by decide), pay5_at]
  exact vc_at ok a ⟨b.val / 128, by omega⟩ ⟨b.val % 128, by omega⟩
theorem o13 (b : Fin 8) : (out0_13 (F := Ideal) x0 x1 x2 x3 x4 x5 x6 x7 : S8192x8.Idx → EReal) (ix2 a b) = Cert.Spec.ks I a.val b.val := by
  unfold out0_13
  rw [View.canon_cons_unit_lit _ _ _ (by decide), pay4_at]
  exact ks_at ok a b
theorem o15 (b : Fin 8) : (out0_15 (F := Ideal) x0 x1 x2 x3 x4 x5 x6 x7 : S8192x8.Idx → EReal) (ix2 a b) = Cert.Spec.vs I a.val b.val := by
  unfold out0_15
  rw [View.canon_cons_unit_lit _ _ _ (by decide), pay6_at]
  exact vs_at ok a b
theorem o16 (b : Fin 8192) : (out0_16 (F := Ideal) x0 x1 x2 x3 x4 x5 x6 x7 : S8192x8192.Idx → EReal) (ix2 a b) = Cert.Spec.hc I a.val b.val := by
  unfold out0_16
  rw [View.canon_cons_unit_lit _ _ _ (by decide)]
  exact hc_at ok a b

end

end Cert.ReferenceIdeal.Hand
-- ==== Proof.RIHost.lean ====
/- The reference's arrays at its one point, read off the arguments. -/
module

public import proofs.«01_k».proof.Proof.KHost
public import proofs.«01_k».proof.Proof.Gen.ReferenceIdeal.Frame
public import Idealize.ShloMosaic.Lib.StableHlo.ReadAt
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe
open Cert.Spec (In)

variable (m : (ℓ : Loc nD τ sig) → Buf (Elt Ideal) ℓ) (c : Dev nD)

/-- The problem's inputs on a device. -/
def J : In := Cert.KernelIdeal.Hand.inOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

theorem J_x {r k : ℕ} (hr : r < 8192) (hk : k < 3072) :
    (J m c).x r k = (m ((c.tc : Thread nD τ).loc main_arg0) : S16x512x3072.Idx → EReal) (ix3 ⟨r / 512, by omega⟩ ⟨r % 512, by omega⟩ ⟨k, hk⟩) := dif_pos ⟨hr, hk⟩
theorem J_pos {r : ℕ} (hr : r < 8192) :
    (J m c).pos r = (FloatOps.sitofp .f32 ((m ((c.tc : Thread nD τ).loc main_arg1) : S16x512.Idx → BitVec 32) (ix2 ⟨r / 512, by omega⟩ ⟨r % 512, by omega⟩)) : Ideal .f32) := dif_pos hr
theorem J_fr {l : ℕ} (hl : l < 64) : (J m c).fr l = Cert.KernelIdeal.Hand.freq ⟨l, hl⟩ := dif_pos hl
theorem J_g {k : ℕ} (hk : k < 3072) : (J m c).g k = (m ((c.tc : Thread nD τ).loc main_arg2) : S3072.Idx → EReal) (ix1 ⟨k, hk⟩) := dif_pos hk
theorem J_w {k n : ℕ} (hk : k < 3072) (hn : n < 21504) :
    (J m c).w k n = (m ((c.tc : Thread nD τ).loc main_arg3) : S3072x21504.Idx → EReal) (ix2 ⟨k, hk⟩ ⟨n, hn⟩) := dif_pos ⟨hk, hn⟩
theorem J_sw {n : ℕ} (hn : n < 21504) : (J m c).sw n = (m ((c.tc : Thread nD τ).loc main_arg4) : S21504.Idx → EReal) (ix1 ⟨n, hn⟩) := dif_pos hn
theorem J_d {k n : ℕ} (hk : k < 8192) (hn : n < 3072) :
    (J m c).d k n = (m ((c.tc : Thread nD τ).loc main_arg5) : S8192x3072.Idx → EReal) (ix2 ⟨k, hk⟩ ⟨n, hn⟩) := dif_pos ⟨hk, hn⟩
theorem J_sd {n : ℕ} (hn : n < 3072) : (J m c).sd n = (m ((c.tc : Thread nD τ).loc main_arg6) : S3072.Idx → EReal) (ix1 ⟨n, hn⟩) := dif_pos hn

theorem V_v8 (r : Fin 8192) (k : Fin 3072) : (V m c main_v8 : S8192x3072.Idx → EReal) (ix2 r k) = (J m c).x r.val k.val := by
  rw [J_x m c r.isLt k.isLt]
  unfold V
  after_reads_at
  try rfl

theorem V_v9 (r : Fin 8192) : (FloatOps.sitofp .f32 ((V m c main_v9 : S8192x1.Idx → BitVec 32) (ix2 r 0)) : Ideal .f32) = (J m c).pos r.val := by
  rw [J_pos m c r.isLt]
  refine congrArg (FloatOps.sitofp (F := Ideal) .f32) ?_
  unfold V
  after_reads_at
  try rfl

theorem V_v10 (l : Fin 64) : (V m c main_v10 : S1x64.Idx → EReal) (ix2 0 l) = (J m c).fr l.val := by
  rw [J_fr m c l.isLt]
  unfold V
  after_reads_at
  try rfl

theorem V_v11 (k : Fin 3072) : (V m c main_v11 : S1x3072.Idx → EReal) (ix2 0 k) = (J m c).g k.val := by
  rw [J_g m c k.isLt]
  unfold V
  after_reads_at
  try rfl

theorem V_v12 (k : Fin 21504) : (V m c main_v12 : S1x21504.Idx → EReal) (ix2 0 k) = (J m c).sw k.val := by
  rw [J_sw m c k.isLt]
  unfold V
  after_reads_at
  try rfl

theorem V_v13 (k : Fin 3072) : (V m c main_v13 : S1x3072.Idx → EReal) (ix2 0 k) = (J m c).sd k.val := by
  rw [J_sd m c k.isLt]
  unfold V
  after_reads_at
  try rfl

theorem V_w (k : Fin 3072) (n : Fin 21504) : (V m c main_arg3 : S3072x21504.Idx → EReal) (ix2 k n) = (J m c).w k.val n.val := by
  rw [J_w m c k.isLt n.isLt]
  exact congrFun (V_main_arg3 m c) _

theorem V_d (k : Fin 8192) (n : Fin 3072) : (V m c main_arg5 : S8192x3072.Idx → EReal) (ix2 k n) = (J m c).d k.val n.val := by
  rw [J_d m c k.isLt n.isLt]
  exact congrFun (V_main_arg5 m c) _

variable (t : Fin cfg0.N)

theorem idx0 : ∀ t : Fin grid0.N, win0_0.index t 0 = 0 ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = 0 := by decide +kernel
theorem idx7 : ∀ t : Fin grid0.N, win0_7.index t 0 = 0 ∧ win0_7.index t 1 = 0 := by decide +kernel
theorem idx8 : ∀ t : Fin grid0.N, win0_8.index t 0 = 0 ∧ win0_8.index t 1 = 0 := by decide +kernel
theorem idx9 : ∀ t : Fin grid0.N, win0_9.index t 0 = 0 ∧ win0_9.index t 1 = 0 := by decide +kernel
theorem idx10 : ∀ t : Fin grid0.N, win0_10.index t 0 = 0 ∧ win0_10.index t 1 = 0 := by decide +kernel
theorem idx11 : ∀ t : Fin grid0.N, win0_11.index t 0 = 0 ∧ win0_11.index t 1 = 0 ∧ win0_11.index t 2 = 0 := by decide +kernel
theorem idx12 : ∀ t : Fin grid0.N, win0_12.index t 0 = 0 ∧ win0_12.index t 1 = 0 := by decide +kernel
theorem idx13 : ∀ t : Fin grid0.N, win0_13.index t 0 = 0 ∧ win0_13.index t 1 = 0 := by decide +kernel
theorem idx14 : ∀ t : Fin grid0.N, win0_14.index t 0 = 0 ∧ win0_14.index t 1 = 0 := by decide +kernel
theorem idx15 : ∀ t : Fin grid0.N, win0_15.index t 0 = 0 ∧ win0_15.index t 1 = 0 := by decide +kernel
theorem idx16 : ∀ t : Fin grid0.N, win0_16.index t 0 = 0 ∧ win0_16.index t 1 = 0 := by decide +kernel
theorem idx17 : ∀ t : Fin grid0.N, win0_17.index t 0 = 0 ∧ win0_17.index t 1 = 0 ∧ win0_17.index t 2 = 0 := by decide +kernel
theorem iblk0_at (y : S8192x3072.Idx) : (iblk m c 0 t : S8192x3072.Idx → EReal) y = (V m c main_v8 : S8192x3072.Idx → EReal) y := by
  refine congrArg (V m c main_v8 : S8192x3072.Idx → EReal) (funext fun x => Fin.ext ?_)
  match x with
  | ⟨0, _⟩ => show win0_0.index t 0 * 8192 + 1 * (y 0).val = (y 0).val; rw [(idx0 t).1]; omega
  | ⟨1, _⟩ => show win0_0.index t 1 * 3072 + 1 * (y 1).val = (y 1).val; rw [(idx0 t).2]; omega

theorem iblk1_at (y : S8192x1.Idx) : (iblk m c 1 t : S8192x1.Idx → BitVec 32) y = (V m c main_v9 : S8192x1.Idx → BitVec 32) y := by
  refine congrArg (V m c main_v9 : S8192x1.Idx → BitVec 32) (funext fun x => Fin.ext ?_)
  match x with
  | ⟨0, _⟩ => show win0_1.index t 0 * 8192 + 1 * (y 0).val = (y 0).val; rw [(idx1 t).1]; omega
  | ⟨1, _⟩ => show win0_1.index t 1 * 1 + 1 * (y 1).val = (y 1).val; rw [(idx1 t).2]; omega

theorem iblk2_at (y : S1x64.Idx) : (iblk m c 2 t : S1x64.Idx → EReal) y = (V m c main_v10 : S1x64.Idx → EReal) y := by
  refine congrArg (V m c main_v10 : S1x64.Idx → EReal) (funext fun x => Fin.ext ?_)
  match x with
  | ⟨0, _⟩ => show win0_2.index t 0 * 1 + 1 * (y 0).val = (y 0).val; rw [(idx2 t).1]; omega
  | ⟨1, _⟩ => show win0_2.index t 1 * 64 + 1 * (y 1).val = (y 1).val; rw [(idx2 t).2]; omega

theorem iblk3_at (y : S1x3072.Idx) : (iblk m c 3 t : S1x3072.Idx → EReal) y = (V m c main_v11 : S1x3072.Idx → EReal) y := by
  refine congrArg (V m c main_v11 : S1x3072.Idx → EReal) (funext fun x => Fin.ext ?_)
  match x with
  | ⟨0, _⟩ => show win0_3.index t 0 * 1 + 1 * (y 0).val = (y 0).val; rw [(idx3 t).1]; omega
  | ⟨1, _⟩ => show win0_3.index t 1 * 3072 + 1 * (y 1).val = (y 1).val; rw [(idx3 t).2]; omega

theorem iblk4_at (y : S3072x21504.Idx) : (iblk m c 4 t : S3072x21504.Idx → EReal) y = (V m c main_arg3 : S3072x21504.Idx → EReal) y := by
  refine congrArg (V m c main_arg3 : S3072x21504.Idx → EReal) (funext fun x => Fin.ext ?_)
  match x with
  | ⟨0, _⟩ => show win0_4.index t 0 * 3072 + 1 * (y 0).val = (y 0).val; rw [(idx4 t).1]; omega
  | ⟨1, _⟩ => show win0_4.index t 1 * 21504 + 1 * (y 1).val = (y 1).val; rw [(idx4 t).2]; omega

theorem iblk5_at (y : S1x21504.Idx) : (iblk m c 5 t : S1x21504.Idx → EReal) y = (V m c main_v12 : S1x21504.Idx → EReal) y := by
  refine congrArg (V m c main_v12 : S1x21504.Idx → EReal) (funext fun x => Fin.ext ?_)
  match x with
  | ⟨0, _⟩ => show win0_5.index t 0 * 1 + 1 * (y 0).val = (y 0).val; rw [(idx5 t).1]; omega
  | ⟨1, _⟩ => show win0_5.index t 1 * 21504 + 1 * (y 1).val = (y 1).val; rw [(idx5 t).2]; omega

theorem iblk6_at (y : S8192x3072.Idx) : (iblk m c 6 t : S8192x3072.Idx → EReal) y = (V m c main_arg5 : S8192x3072.Idx → EReal) y := by
  refine congrArg (V m c main_arg5 : S8192x3072.Idx → EReal) (funext fun x => Fin.ext ?_)
  match x with
  | ⟨0, _⟩ => show win0_6.index t 0 * 8192 + 1 * (y 0).val = (y 0).val; rw [(idx6 t).1]; omega
  | ⟨1, _⟩ => show win0_6.index t 1 * 3072 + 1 * (y 1).val = (y 1).val; rw [(idx6 t).2]; omega

theorem iblk7_at (y : S1x3072.Idx) : (iblk m c 7 t : S1x3072.Idx → EReal) y = (V m c main_v13 : S1x3072.Idx → EReal) y := by
  refine congrArg (V m c main_v13 : S1x3072.Idx → EReal) (funext fun x => Fin.ext ?_)
  match x with
  | ⟨0, _⟩ => show win0_7.index t 0 * 1 + 1 * (y 0).val = (y 0).val; rw [(idx7 t).1]; omega
  | ⟨1, _⟩ => show win0_7.index t 1 * 3072 + 1 * (y 1).val = (y 1).val; rw [(idx7 t).2]; omega

theorem emb8_at (y : S8192x3072.Idx) : (((cfg0.win 8).blk t).view.emb y : S8192x3072.Idx) = y := by
  refine funext fun x => Fin.ext ?_
  match x with
  | ⟨0, _⟩ => show win0_8.index t 0 * 8192 + 1 * (y 0).val = (y 0).val; rw [(idx8 t).1]; omega
  | ⟨1, _⟩ => show win0_8.index t 1 * 3072 + 1 * (y 1).val = (y 1).val; rw [(idx8 t).2]; omega

theorem cover8 (i : S8192x3072.Idx) : ∃ t : Fin cfg0.N, (cfg0.win 8).flush t = true ∧ i ∈ ((cfg0.win 8).blk t).view.set :=
  ⟨⟨0, by decide⟩, by decide, (emb8_at ⟨0, by decide⟩ i) ▸ ((cfg0.win 8).blk ⟨0, by decide⟩).view.emb_mem_set i⟩

theorem emb9_at (y : S8192x3072.Idx) : (((cfg0.win 9).blk t).view.emb y : S8192x3072.Idx) = y := by
  refine funext fun x => Fin.ext ?_
  match x with
  | ⟨0, _⟩ => show win0_9.index t 0 * 8192 + 1 * (y 0).val = (y 0).val; rw [(idx9 t).1]; omega
  | ⟨1, _⟩ => show win0_9.index t 1 * 3072 + 1 * (y 1).val = (y 1).val; rw [(idx9 t).2]; omega

theorem cover9 (i : S8192x3072.Idx) : ∃ t : Fin cfg0.N, (cfg0.win 9).flush t = true ∧ i ∈ ((cfg0.win 9).blk t).view.set :=
  ⟨⟨0, by decide⟩, by decide, (emb9_at ⟨0, by decide⟩ i) ▸ ((cfg0.win 9).blk ⟨0, by decide⟩).view.emb_mem_set i⟩

theorem emb10_at (y : S8192x3072.Idx) : (((cfg0.win 10).blk t).view.emb y : S8192x3072.Idx) = y := by
  refine funext fun x => Fin.ext ?_
  match x with
  | ⟨0, _⟩ => show win0_10.index t 0 * 8192 + 1 * (y 0).val = (y 0).val; rw [(idx10 t).1]; omega
  | ⟨1, _⟩ => show win0_10.index t 1 * 3072 + 1 * (y 1).val = (y 1).val; rw [(idx10 t).2]; omega

theorem cover10 (i : S8192x3072.Idx) : ∃ t : Fin cfg0.N, (cfg0.win 10).flush t = true ∧ i ∈ ((cfg0.win 10).blk t).view.set :=
  ⟨⟨0, by decide⟩, by decide, (emb10_at ⟨0, by decide⟩ i) ▸ ((cfg0.win 10).blk ⟨0, by decide⟩).view.emb_mem_set i⟩

theorem emb11_at (y : S16x1x512.Idx) : (((cfg0.win 11).blk t).view.emb y : S16x1x512.Idx) = y := by
  refine funext fun x => Fin.ext ?_
  match x with
  | ⟨0, _⟩ => show win0_11.index t 0 * 16 + 1 * (y 0).val = (y 0).val; rw [(idx11 t).1]; omega
  | ⟨1, _⟩ => show win0_11.index t 1 * 1 + 1 * (y 1).val = (y 1).val; rw [(idx11 t).2.1]; omega
  | ⟨2, _⟩ => show win0_11.index t 2 * 512 + 1 * (y 2).val = (y 2).val; rw [(idx11 t).2.2]; omega

theorem cover11 (i : S16x1x512.Idx) : ∃ t : Fin cfg0.N, (cfg0.win 11).flush t = true ∧ i ∈ ((cfg0.win 11).blk t).view.set :=
  ⟨⟨0, by decide⟩, by decide, (emb11_at ⟨0, by decide⟩ i) ▸ ((cfg0.win 11).blk ⟨0, by decide⟩).view.emb_mem_set i⟩

theorem emb12_at (y : S8192x1024.Idx) : (((cfg0.win 12).blk t).view.emb y : S8192x1024.Idx) = y := by
  refine funext fun x => Fin.ext ?_
  match x with
  | ⟨0, _⟩ => show win0_12.index t 0 * 8192 + 1 * (y 0).val = (y 0).val; rw [(idx12 t).1]; omega
  | ⟨1, _⟩ => show win0_12.index t 1 * 1024 + 1 * (y 1).val = (y 1).val; rw [(idx12 t).2]; omega

theorem cover12 (i : S8192x1024.Idx) : ∃ t : Fin cfg0.N, (cfg0.win 12).flush t = true ∧ i ∈ ((cfg0.win 12).blk t).view.set :=
  ⟨⟨0, by decide⟩, by decide, (emb12_at ⟨0, by decide⟩ i) ▸ ((cfg0.win 12).blk ⟨0, by decide⟩).view.emb_mem_set i⟩

theorem emb13_at (y : S8192x8.Idx) : (((cfg0.win 13).blk t).view.emb y : S8192x8.Idx) = y := by
  refine funext fun x => Fin.ext ?_
  match x with
  | ⟨0, _⟩ => show win0_13.index t 0 * 8192 + 1 * (y 0).val = (y 0).val; rw [(idx13 t).1]; omega
  | ⟨1, _⟩ => show win0_13.index t 1 * 8 + 1 * (y 1).val = (y 1).val; rw [(idx13 t).2]; omega

theorem cover13 (i : S8192x8.Idx) : ∃ t : Fin cfg0.N, (cfg0.win 13).flush t = true ∧ i ∈ ((cfg0.win 13).blk t).view.set :=
  ⟨⟨0, by decide⟩, by decide, (emb13_at ⟨0, by decide⟩ i) ▸ ((cfg0.win 13).blk ⟨0, by decide⟩).view.emb_mem_set i⟩

theorem emb14_at (y : S8192x1024.Idx) : (((cfg0.win 14).blk t).view.emb y : S8192x1024.Idx) = y := by
  refine funext fun x => Fin.ext ?_
  match x with
  | ⟨0, _⟩ => show win0_14.index t 0 * 8192 + 1 * (y 0).val = (y 0).val; rw [(idx14 t).1]; omega
  | ⟨1, _⟩ => show win0_14.index t 1 * 1024 + 1 * (y 1).val = (y 1).val; rw [(idx14 t).2]; omega

theorem cover14 (i : S8192x1024.Idx) : ∃ t : Fin cfg0.N, (cfg0.win 14).flush t = true ∧ i ∈ ((cfg0.win 14).blk t).view.set :=
  ⟨⟨0, by decide⟩, by decide, (emb14_at ⟨0, by decide⟩ i) ▸ ((cfg0.win 14).blk ⟨0, by decide⟩).view.emb_mem_set i⟩

theorem emb15_at (y : S8192x8.Idx) : (((cfg0.win 15).blk t).view.emb y : S8192x8.Idx) = y := by
  refine funext fun x => Fin.ext ?_
  match x with
  | ⟨0, _⟩ => show win0_15.index t 0 * 8192 + 1 * (y 0).val = (y 0).val; rw [(idx15 t).1]; omega
  | ⟨1, _⟩ => show win0_15.index t 1 * 8 + 1 * (y 1).val = (y 1).val; rw [(idx15 t).2]; omega

theorem cover15 (i : S8192x8.Idx) : ∃ t : Fin cfg0.N, (cfg0.win 15).flush t = true ∧ i ∈ ((cfg0.win 15).blk t).view.set :=
  ⟨⟨0, by decide⟩, by decide, (emb15_at ⟨0, by decide⟩ i) ▸ ((cfg0.win 15).blk ⟨0, by decide⟩).view.emb_mem_set i⟩

theorem emb16_at (y : S8192x8192.Idx) : (((cfg0.win 16).blk t).view.emb y : S8192x8192.Idx) = y := by
  refine funext fun x => Fin.ext ?_
  match x with
  | ⟨0, _⟩ => show win0_16.index t 0 * 8192 + 1 * (y 0).val = (y 0).val; rw [(idx16 t).1]; omega
  | ⟨1, _⟩ => show win0_16.index t 1 * 8192 + 1 * (y 1).val = (y 1).val; rw [(idx16 t).2]; omega

theorem cover16 (i : S8192x8192.Idx) : ∃ t : Fin cfg0.N, (cfg0.win 16).flush t = true ∧ i ∈ ((cfg0.win 16).blk t).view.set :=
  ⟨⟨0, by decide⟩, by decide, (emb16_at ⟨0, by decide⟩ i) ▸ ((cfg0.win 16).blk ⟨0, by decide⟩).view.emb_mem_set i⟩

theorem emb17_at (y : S16x1x512.Idx) : (((cfg0.win 17).blk t).view.emb y : S16x1x512.Idx) = y := by
  refine funext fun x => Fin.ext ?_
  match x with
  | ⟨0, _⟩ => show win0_17.index t 0 * 16 + 1 * (y 0).val = (y 0).val; rw [(idx17 t).1]; omega
  | ⟨1, _⟩ => show win0_17.index t 1 * 1 + 1 * (y 1).val = (y 1).val; rw [(idx17 t).2.1]; omega
  | ⟨2, _⟩ => show win0_17.index t 2 * 512 + 1 * (y 2).val = (y 2).val; rw [(idx17 t).2.2]; omega

theorem cover17 (i : S16x1x512.Idx) : ∃ t : Fin cfg0.N, (cfg0.win 17).flush t = true ∧ i ∈ ((cfg0.win 17).blk t).view.set :=
  ⟨⟨0, by decide⟩, by decide, (emb17_at ⟨0, by decide⟩ i) ▸ ((cfg0.win 17).blk ⟨0, by decide⟩).view.emb_mem_set i⟩

end Cert.ReferenceIdeal.Hand
-- ==== Proof.RIFinal.lean ====
/- What the reference's results hold after its run: each array is the same function of the inputs. -/
module

public import proofs.«01_k».proof.Proof.RIOut
public import proofs.«01_k».proof.Proof.RIHost
public import proofs.«01_k».proof.Proof.KIFinal
public import Idealize.ShloMosaic.Lib.Pipeline.ValueKit.Geometry

@[expose] public section

set_option maxRecDepth 16384

noncomputable section

namespace Cert.ReferenceIdeal.Hand

open Cert.ReferenceIdeal Cert.ReferenceIdeal.Gen
open Idealize.ShloMosaic Idealize.ShloMosaic.TcCoe
open Cert.Spec (In)

section

variable (m : (ℓ : Loc nD τ sig) → Buf (Elt Ideal) ℓ) (c : Dev nD)

theorem blocks (t : Fin cfg0.N) : Ok (J m c) (iblk m c 0 t) (iblk m c 1 t) (iblk m c 2 t) (iblk m c 3 t) (iblk m c 4 t) (iblk m c 5 t) (iblk m c 6 t) (iblk m c 7 t) where
  x r k := (iblk0_at m c t _).trans (V_v8 m c r k)
  p r := (congrArg (FloatOps.sitofp (F := Ideal) .f32) (iblk1_at m c t _)).trans (V_v9 m c r)
  f l := (iblk2_at m c t _).trans (V_v10 m c l)
  g k := (iblk3_at m c t _).trans (V_v11 m c k)
  w k n := (iblk4_at m c t _).trans (V_w m c k n)
  sw n := (iblk5_at m c t _).trans (V_v12 m c n)
  d k n := (iblk6_at m c t _).trans (V_d m c k n)
  sd n := (iblk7_at m c t _).trans (V_v13 m c n)

theorem left8 (t : Fin cfg0.N) (y : S8192x3072.Idx) : ((dats m 0 c).after 8 t : S8192x3072.Idx → EReal) y = Cert.KernelIdeal.Val.G12 (J m c) (((cfg0.win 8).blk t).view.emb y) := by
  refine Eq.trans ?_ (congrArg (Cert.KernelIdeal.Val.G12 (J m c)) (emb8_at t y)).symm
  rw [after0_8]
  obtain ⟨a, b, rfl⟩ := Cert.KernelIdeal.Val.etaS8192x3072 y
  exact o8 (blocks m c t) a b
theorem arr8 : (dats m 0 c).arrAt 8 cfg0.N = Cert.KernelIdeal.Val.G12 (J m c) :=
  Pipeline.Dat.arrAt_eq_of_emb (dats m 0 c) 8 (Cert.KernelIdeal.Val.G12 (J m c)) (fun t hf y => left8 m c t y) cover8

theorem left9 (t : Fin cfg0.N) (y : S8192x3072.Idx) : ((dats m 0 c).after 9 t : S8192x3072.Idx → EReal) y = Cert.KernelIdeal.Val.G13 (J m c) (((cfg0.win 9).blk t).view.emb y) := by
  refine Eq.trans ?_ (congrArg (Cert.KernelIdeal.Val.G13 (J m c)) (emb9_at t y)).symm
  rw [after0_9]
  obtain ⟨a, b, rfl⟩ := Cert.KernelIdeal.Val.etaS8192x3072 y
  exact o9 (blocks m c t) a b
theorem arr9 : (dats m 0 c).arrAt 9 cfg0.N = Cert.KernelIdeal.Val.G13 (J m c) :=
  Pipeline.Dat.arrAt_eq_of_emb (dats m 0 c) 9 (Cert.KernelIdeal.Val.G13 (J m c)) (fun t hf y => left9 m c t y) cover9

theorem left10 (t : Fin cfg0.N) (y : S8192x3072.Idx) : ((dats m 0 c).after 10 t : S8192x3072.Idx → EReal) y = Cert.KernelIdeal.Val.G14 (J m c) (((cfg0.win 10).blk t).view.emb y) := by
  refine Eq.trans ?_ (congrArg (Cert.KernelIdeal.Val.G14 (J m c)) (emb10_at t y)).symm
  rw [after0_10]
  obtain ⟨a, b, rfl⟩ := Cert.KernelIdeal.Val.etaS8192x3072 y
  exact o10 (blocks m c t) a b
theorem arr10 : (dats m 0 c).arrAt 10 cfg0.N = Cert.KernelIdeal.Val.G14 (J m c) :=
  Pipeline.Dat.arrAt_eq_of_emb (dats m 0 c) 10 (Cert.KernelIdeal.Val.G14 (J m c)) (fun t hf y => left10 m c t y) cover10

theorem left11 (t : Fin cfg0.N) (y : S16x1x512.Idx) : ((dats m 0 c).after 11 t : S16x1x512.Idx → EReal) y = Cert.KernelIdeal.Val.G15 (J m c) (((cfg0.win 11).blk t).view.emb y) := by
  refine Eq.trans ?_ (congrArg (Cert.KernelIdeal.Val.G15 (J m c)) (emb11_at t y)).symm
  rw [after0_11]
  obtain ⟨a, b, e, rfl⟩ := Cert.KernelIdeal.Val.etaS16x1x512 y
  obtain rfl : b = 0 := Subsingleton.elim _ _
  exact o11 (blocks m c t) a e
theorem arr11 : (dats m 0 c).arrAt 11 cfg0.N = Cert.KernelIdeal.Val.G15 (J m c) :=
  Pipeline.Dat.arrAt_eq_of_emb (dats m 0 c) 11 (Cert.KernelIdeal.Val.G15 (J m c)) (fun t hf y => left11 m c t y) cover11

theorem left12 (t : Fin cfg0.N) (y : S8192x1024.Idx) : ((dats m 0 c).after 12 t : S8192x1024.Idx → EReal) y = Cert.KernelIdeal.Val.G16 (J m c) (((cfg0.win 12).blk t).view.emb y) := by
  refine Eq.trans ?_ (congrArg (Cert.KernelIdeal.Val.G16 (J m c)) (emb12_at t y)).symm
  rw [after0_12]
  obtain ⟨a, b, rfl⟩ := Cert.KernelIdeal.Val.etaS8192x1024 y
  exact o12 (blocks m c t) a b
theorem arr12 : (dats m 0 c).arrAt 12 cfg0.N = Cert.KernelIdeal.Val.G16 (J m c) :=
  Pipeline.Dat.arrAt_eq_of_emb (dats m 0 c) 12 (Cert.KernelIdeal.Val.G16 (J m c)) (fun t hf y => left12 m c t y) cover12

theorem left13 (t : Fin cfg0.N) (y : S8192x8.Idx) : ((dats m 0 c).after 13 t : S8192x8.Idx → EReal) y = Cert.KernelIdeal.Val.G17 (J m c) (((cfg0.win 13).blk t).view.emb y) := by
  refine Eq.trans ?_ (congrArg (Cert.KernelIdeal.Val.G17 (J m c)) (emb13_at t y)).symm
  rw [after0_13]
  obtain ⟨a, b, rfl⟩ := Cert.KernelIdeal.Val.etaS8192x8 y
  exact o13 (blocks m c t) a b
theorem arr13 : (dats m 0 c).arrAt 13 cfg0.N = Cert.KernelIdeal.Val.G17 (J m c) :=
  Pipeline.Dat.arrAt_eq_of_emb (dats m 0 c) 13 (Cert.KernelIdeal.Val.G17 (J m c)) (fun t hf y => left13 m c t y) cover13

theorem left14 (t : Fin cfg0.N) (y : S8192x1024.Idx) : ((dats m 0 c).after 14 t : S8192x1024.Idx → EReal) y = Cert.KernelIdeal.Val.G18 (J m c) (((cfg0.win 14).blk t).view.emb y) := by
  refine Eq.trans ?_ (congrArg (Cert.KernelIdeal.Val.G18 (J m c)) (emb14_at t y)).symm
  rw [after0_14]
  obtain ⟨a, b, rfl⟩ := Cert.KernelIdeal.Val.etaS8192x1024 y
  exact o14 (blocks m c t) a b
theorem arr14 : (dats m 0 c).arrAt 14 cfg0.N = Cert.KernelIdeal.Val.G18 (J m c) :=
  Pipeline.Dat.arrAt_eq_of_emb (dats m 0 c) 14 (Cert.KernelIdeal.Val.G18 (J m c)) (fun t hf y => left14 m c t y) cover14

theorem left15 (t : Fin cfg0.N) (y : S8192x8.Idx) : ((dats m 0 c).after 15 t : S8192x8.Idx → EReal) y = Cert.KernelIdeal.Val.G19 (J m c) (((cfg0.win 15).blk t).view.emb y) := by
  refine Eq.trans ?_ (congrArg (Cert.KernelIdeal.Val.G19 (J m c)) (emb15_at t y)).symm
  rw [after0_15]
  obtain ⟨a, b, rfl⟩ := Cert.KernelIdeal.Val.etaS8192x8 y
  exact o15 (blocks m c t) a b
theorem arr15 : (dats m 0 c).arrAt 15 cfg0.N = Cert.KernelIdeal.Val.G19 (J m c) :=
  Pipeline.Dat.arrAt_eq_of_emb (dats m 0 c) 15 (Cert.KernelIdeal.Val.G19 (J m c)) (fun t hf y => left15 m c t y) cover15

theorem left16 (t : Fin cfg0.N) (y : S8192x8192.Idx) : ((dats m 0 c).after 16 t : S8192x8192.Idx → EReal) y = Cert.KernelIdeal.Val.G20 (J m c) (((cfg0.win 16).blk t).view.emb y) := by
  refine Eq.trans ?_ (congrArg (Cert.KernelIdeal.Val.G20 (J m c)) (emb16_at t y)).symm
  rw [after0_16]
  obtain ⟨a, b, rfl⟩ := Cert.KernelIdeal.Val.etaS8192x8192 y
  exact o16 (blocks m c t) a b
theorem arr16 : (dats m 0 c).arrAt 16 cfg0.N = Cert.KernelIdeal.Val.G20 (J m c) :=
  Pipeline.Dat.arrAt_eq_of_emb (dats m 0 c) 16 (Cert.KernelIdeal.Val.G20 (J m c)) (fun t hf y => left16 m c t y) cover16

theorem left17 (t : Fin cfg0.N) (y : S16x1x512.Idx) : ((dats m 0 c).after 17 t : S16x1x512.Idx → EReal) y = Cert.KernelIdeal.Val.G21 (J m c) (((cfg0.win 17).blk t).view.emb y) := by
  refine Eq.trans ?_ (congrArg (Cert.KernelIdeal.Val.G21 (J m c)) (emb17_at t y)).symm
  rw [after0_17]
  obtain ⟨a, b, e, rfl⟩ := Cert.KernelIdeal.Val.etaS16x1x512 y
  obtain rfl : b = 0 := Subsingleton.elim _ _
  exact o17 (blocks m c t) a e
theorem arr17 : (dats m 0 c).arrAt 17 cfg0.N = Cert.KernelIdeal.Val.G21 (J m c) :=
  Pipeline.Dat.arrAt_eq_of_emb (dats m 0 c) 17 (Cert.KernelIdeal.Val.G21 (J m c)) (fun t hf y => left17 m c t y) cover17

end

variable (m : (ℓ : Loc nD τ sig) → Buf (Elt Ideal) ℓ) {r : PUnit × MemSt nD τ sig (Elt Ideal)}
  (h : Pipeline.FramePost cfgs (dats m) 0 (V m) r) (c : Dev nD)
include h

theorem res8 : r.2.mem ((c.tc : Thread nD τ).loc main_v14_0) = (Cert.KernelIdeal.Val.G12 (J m c) : Buf (Elt Ideal) ((c.tc : Thread nD τ).loc main_v14_0)) :=
  ((h c).1 8).trans (arr8 m c)

theorem res9 : r.2.mem ((c.tc : Thread nD τ).loc main_v14_1) = (Cert.KernelIdeal.Val.G13 (J m c) : Buf (Elt Ideal) ((c.tc : Thread nD τ).loc main_v14_1)) :=
  ((h c).1 9).trans (arr9 m c)

theorem res10 : r.2.mem ((c.tc : Thread nD τ).loc main_v14_2) = (Cert.KernelIdeal.Val.G14 (J m c) : Buf (Elt Ideal) ((c.tc : Thread nD τ).loc main_v14_2)) :=
  ((h c).1 10).trans (arr10 m c)

theorem res11 : r.2.mem ((c.tc : Thread nD τ).loc main_v14_3) = (Cert.KernelIdeal.Val.G15 (J m c) : Buf (Elt Ideal) ((c.tc : Thread nD τ).loc main_v14_3)) :=
  ((h c).1 11).trans (arr11 m c)

theorem res12 : r.2.mem ((c.tc : Thread nD τ).loc main_v14_4) = (Cert.KernelIdeal.Val.G16 (J m c) : Buf (Elt Ideal) ((c.tc : Thread nD τ).loc main_v14_4)) :=
  ((h c).1 12).trans (arr12 m c)

theorem res13 : r.2.mem ((c.tc : Thread nD τ).loc main_v14_5) = (Cert.KernelIdeal.Val.G17 (J m c) : Buf (Elt Ideal) ((c.tc : Thread nD τ).loc main_v14_5)) :=
  ((h c).1 13).trans (arr13 m c)

theorem res14 : r.2.mem ((c.tc : Thread nD τ).loc main_v14_6) = (Cert.KernelIdeal.Val.G18 (J m c) : Buf (Elt Ideal) ((c.tc : Thread nD τ).loc main_v14_6)) :=
  ((h c).1 14).trans (arr14 m c)

theorem res15 : r.2.mem ((c.tc : Thread nD τ).loc main_v14_7) = (Cert.KernelIdeal.Val.G19 (J m c) : Buf (Elt Ideal) ((c.tc : Thread nD τ).loc main_v14_7)) :=
  ((h c).1 15).trans (arr15 m c)

theorem res16 : r.2.mem ((c.tc : Thread nD τ).loc main_v14_8) = (Cert.KernelIdeal.Val.G20 (J m c) : Buf (Elt Ideal) ((c.tc : Thread nD τ).loc main_v14_8)) :=
  ((h c).1 16).trans (arr16 m c)

theorem res17 : r.2.mem ((c.tc : Thread nD τ).loc main_v14_9) = (Cert.KernelIdeal.Val.G21 (J m c) : Buf (Elt Ideal) ((c.tc : Thread nD τ).loc main_v14_9)) :=
  ((h c).1 17).trans (arr17 m c)

end Cert.ReferenceIdeal.Hand
-- ==== Proof.Alg.lean ====
/- Both programs' runs put together: the kernel and the reference end with the same ten results. -/
module

public import proofs.«01_k».proof.Defs
public import proofs.«01_k».proof.Proof.Gen.KernelIdeal
public import proofs.«01_k».proof.Proof.Gen.ReferenceIdeal
public import proofs.«01_k».proof.Proof.KIFinal
public import proofs.«01_k».proof.Proof.RIFinal

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Cert.Spec (In)

theorem inOf_congr {a0 b0 a1 b1 a2 b2 a3 b3 a4 b4 a5 b5 a6 b6} (h0 : a0 = b0) (h1 : a1 = b1) (h2 : a2 = b2) (h3 : a3 = b3) (h4 : a4 = b4) (h5 : a5 = b5) (h6 : a6 = b6) :
    inOf a0 a1 a2 a3 a4 a5 a6 = inOf b0 b1 b2 b3 b4 b5 b6 := by
  subst h0 h1 h2 h3 h4 h5 h6; rfl

theorem frame_args (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => ⟨same0 m h.1 c, same1 m h.1 c, same2 m h.1 c, same3 m h.1 c, same4 m h.1 c, same5 m h.1 c, same6 m h.1 c⟩, h.2⟩) (run_main m ρ)

end Cert.KernelIdeal.Val

namespace Cert.Proof

open Idealize.ShloMosaic Idealize.ShloMosaic.TcCoe Idealize.SL.Sem

theorem algebraic : Cert.algebraic_KernelIdeal_ReferenceIdeal (hKernelIdeal := Cert.KernelIdeal.Gen.facts) (hReferenceIdeal := Cert.ReferenceIdeal.Gen.facts) := by
  intro m g m' g' _ hag
  have hJ : ∀ c : Dev Cert.KernelIdeal.nD, Cert.ReferenceIdeal.Hand.J m' c = Cert.KernelIdeal.Hand.J m c := fun c =>
    Cert.KernelIdeal.Val.inOf_congr (hag c).1 (hag c).2.1 (hag c).2.2.1 (hag c).2.2.2.1 (hag c).2.2.2.2.1 (hag c).2.2.2.2.2.1 (hag c).2.2.2.2.2.2
  refine ⟨fun c => Cert.KernelIdeal.Val.G12 (Cert.KernelIdeal.Hand.J m c), fun c => Cert.KernelIdeal.Val.G13 (Cert.KernelIdeal.Hand.J m c), fun c => Cert.KernelIdeal.Val.G14 (Cert.KernelIdeal.Hand.J m c), fun c => Cert.KernelIdeal.Val.G15 (Cert.KernelIdeal.Hand.J m c), fun c => Cert.KernelIdeal.Val.G16 (Cert.KernelIdeal.Hand.J m c), fun c => Cert.KernelIdeal.Val.G17 (Cert.KernelIdeal.Hand.J m c), fun c => Cert.KernelIdeal.Val.G18 (Cert.KernelIdeal.Hand.J m c), fun c => Cert.KernelIdeal.Val.G19 (Cert.KernelIdeal.Hand.J m c), fun c => Cert.KernelIdeal.Val.G20 (Cert.KernelIdeal.Hand.J m c), fun c => Cert.KernelIdeal.Val.G21 (Cert.KernelIdeal.Hand.J m c), ?_, ?_⟩
  · refine (θ_run Cert.KernelIdeal.defs _ _).mono (fun r h c => ?_) (Cert.KernelIdeal.Val.run_main m g)
    exact ⟨Cert.KernelIdeal.Val.res12 m h.1 c, Cert.KernelIdeal.Val.res13 m h.1 c, Cert.KernelIdeal.Val.res14 m h.1 c, Cert.KernelIdeal.Val.res15 m h.1 c, Cert.KernelIdeal.Val.res16 m h.1 c, Cert.KernelIdeal.Val.res17 m h.1 c, Cert.KernelIdeal.Val.res18 m h.1 c, Cert.KernelIdeal.Val.res19 m h.1 c, Cert.KernelIdeal.Val.res20 m h.1 c, Cert.KernelIdeal.Val.res21 m h.1 c, Cert.KernelIdeal.Val.same0 m h.1 c, Cert.KernelIdeal.Val.same1 m h.1 c, Cert.KernelIdeal.Val.same2 m h.1 c, Cert.KernelIdeal.Val.same3 m h.1 c, Cert.KernelIdeal.Val.same4 m h.1 c, Cert.KernelIdeal.Val.same5 m h.1 c, Cert.KernelIdeal.Val.same6 m h.1 c⟩
  · refine (θ_run Cert.ReferenceIdeal.defs _ _).mono (fun r h c => ?_) (θ_run_and (Cert.ReferenceIdeal.Gen.run_main m' g') (Cert.ReferenceIdeal.Gen.unchanged m' g'))
    exact ⟨(Cert.ReferenceIdeal.Hand.res8 m' h.1 c).trans (congrArg Cert.KernelIdeal.Val.G12 (hJ c)), (Cert.ReferenceIdeal.Hand.res9 m' h.1 c).trans (congrArg Cert.KernelIdeal.Val.G13 (hJ c)), (Cert.ReferenceIdeal.Hand.res10 m' h.1 c).trans (congrArg Cert.KernelIdeal.Val.G14 (hJ c)), (Cert.ReferenceIdeal.Hand.res11 m' h.1 c).trans (congrArg Cert.KernelIdeal.Val.G15 (hJ c)), (Cert.ReferenceIdeal.Hand.res12 m' h.1 c).trans (congrArg Cert.KernelIdeal.Val.G16 (hJ c)), (Cert.ReferenceIdeal.Hand.res13 m' h.1 c).trans (congrArg Cert.KernelIdeal.Val.G17 (hJ c)), (Cert.ReferenceIdeal.Hand.res14 m' h.1 c).trans (congrArg Cert.KernelIdeal.Val.G18 (hJ c)), (Cert.ReferenceIdeal.Hand.res15 m' h.1 c).trans (congrArg Cert.KernelIdeal.Val.G19 (hJ c)), (Cert.ReferenceIdeal.Hand.res16 m' h.1 c).trans (congrArg Cert.KernelIdeal.Val.G20 (hJ c)), (Cert.ReferenceIdeal.Hand.res17 m' h.1 c).trans (congrArg Cert.KernelIdeal.Val.G21 (hJ c)), h.2 c⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KLaunch
public import proofs.«01_k».proof.Proof.Alg
public import Idealize.ShloMosaic.Adequacy
public import Idealize.ShloMosaic.Init

@[expose] public section

noncomputable section

namespace Cert.Proof

open Idealize.ShloMosaic Idealize.SL.Sem

/-- The one rewrite of the ideal pass: the constant 1/3072 read as itself. -/
theorem preserves : Cert.preserves_Kernel_KernelIdeal :=
  IdealRules.named_const.statement _ _ _ _ _ rfl

theorem claim : Cert.Claim := ⟨Cert.Kernel.Gen.facts, Cert.KernelIdeal.Gen.facts, Cert.ReferenceIdeal.Gen.facts,
  fun m g _ => Cert.Kernel.Hand.frame_args m g, fun m g _ => Cert.KernelIdeal.Val.frame_args m g,
  fun m g _ => Cert.ReferenceIdeal.Gen.frame m g, preserves, algebraic⟩

end Cert.Proof

end
